-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)) →
    ∃ (v0 : (c : Dev Cert.Kernel1Ideal.nD) → Buf (Elt Ideal) ((c.tc : Thread Cert.Kernel1Ideal.nD Cert.Kernel1Ideal.τ).loc Cert.Kernel1Ideal.main_v51)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v51) = v0 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v108) = v0 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel1 : Cert.Kernel1.Facts) (hKernel1Ideal : Cert.Kernel1Ideal.Facts) (hReference1Ideal : Cert.Reference1Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel1 (hKernel1 := hKernel1)
    ∧ quiescent_Kernel1Ideal (hKernel1Ideal := hKernel1Ideal)
    ∧ quiescent_Reference1Ideal (hReference1Ideal := hReference1Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel1_Kernel1Ideal
    ∧ algebraic_Kernel1Ideal_Reference1Ideal (hKernel1Ideal := hKernel1Ideal) (hReference1Ideal := hReference1Ideal)
-- ==== Pre_finite_scores.lean ====
abbrev S9216x4096 : Shape := ⟨2, ![9216, 4096]⟩
abbrev S4096x15360 : Shape := ⟨2, ![4096, 15360]⟩
abbrev S9216x3072 : Shape := ⟨2, ![9216, 3072]⟩
abbrev S16x128x8x64 : Shape := ⟨4, ![16, 128, 8, 64]⟩
abbrev S32 : Shape := ⟨1, ![32]⟩
abbrev S9216x2560 : Shape := ⟨2, ![9216, 2560]⟩
abbrev S23592960 : Shape := ⟨1, ![23592960]⟩
abbrev S1048576 : Shape := ⟨1, ![1048576]⟩
abbrev S24641568 : Shape := ⟨1, ![24641568]⟩
abbrev S_ : Shape := ⟨0, ![]⟩

class Facts : Prop where
  slices_S9216x3072_S9216x2560_0_0 : S9216x3072.Slices ![0, 0] S9216x2560
  shapeCasts_S9216x2560_S23592960 : S9216x2560.ShapeCasts S23592960
  shapeCasts_S16x128x8x64_S1048576 : S16x128x8x64.ShapeCasts S1048576
  concatenates_S23592960_S1048576_S32_S24641568_d0 : Shape.Concatenates [S23592960, S1048576, S32] S24641568 0
  bcast_S_S24641568 : S_.BroadcastsInDim S24641568 (![] : Fin 0 → Fin S24641568.rank)

variable [Facts]

def fn {F : FTy → Type} [FloatOps F] (main_arg0 : FVec F S9216x4096 .bf16) (main_arg1 : FVec F S4096x15360 .f32) (main_arg2 : FVec F S9216x3072 .f32) (main_arg3 : FVec F S16x128x8x64 .f32) (main_arg4 : FVec F S16x128x8x64 .f32) (main_arg5 : FVec F S32 .f32) : IVec S24641568 1 :=
  let main_v0 : FVec F S9216x2560 .f32 := (extractStridedSlice S9216x2560 ![0, 0] · slices_S9216x3072_S9216x2560_0_0) main_arg2
  let main_v1 : FVec F S23592960 .f32 := shapeCast S23592960 main_v0 shapeCasts_S9216x2560_S23592960
  let main_v2 : FVec F S1048576 .f32 := shapeCast S1048576 main_arg3 shapeCasts_S16x128x8x64_S1048576
  let main_v3 : FVec F S24641568 .f32 := concatenate S24641568 0 [⟨S23592960, main_v1⟩, ⟨S1048576, main_v2⟩, ⟨S32, main_arg5⟩] concatenates_S23592960_S1048576_S32_S24641568_d0
  let main_v4 : FVec F S24641568 .f32 := Host.absf main_v3
  let main_cst : FVec F S_ .f32 := constant S_ .f32 0x7F800000#32
  let main_v5 : FVec F S24641568 .f32 := broadcastInDim S24641568 ![] bcast_S_S24641568 main_cst
  let main_v6 : IVec S24641568 1 := cmpf .olt main_v4 main_v5
  main_v6
-- ==== Kernel.lean ====
abbrev S9216x4096 : Shape := ⟨2, ![9216, 4096]⟩
abbrev S4096x15360 : Shape := ⟨2, ![4096, 15360]⟩
abbrev S9216x3072 : Shape := ⟨2, ![9216, 3072]⟩
abbrev S16x128x8x64 : Shape := ⟨4, ![16, 128, 8, 64]⟩
abbrev S32 : Shape := ⟨1, ![32]⟩
abbrev S2048x512 : Shape := ⟨2, ![2048, 512]⟩
abbrev S1x32 : Shape := ⟨2, ![1, 32]⟩
abbrev S16x2x1 : Shape := ⟨3, ![16, 2, 1]⟩
abbrev S_ : Shape := ⟨0, ![]⟩
abbrev S16x2x192 : Shape := ⟨3, ![16, 2, 192]⟩
abbrev S16x2x63 : Shape := ⟨3, ![16, 2, 63]⟩
abbrev S16x2x256 : Shape := ⟨3, ![16, 2, 256]⟩
abbrev S16x512 : Shape := ⟨2, ![16, 512]⟩
abbrev S9216x2048 : Shape := ⟨2, ![9216, 2048]⟩
abbrev S1024x4096 : Shape := ⟨2, ![1024, 4096]⟩
abbrev S4096x512 : Shape := ⟨2, ![4096, 512]⟩
abbrev S128x2048 : Shape := ⟨2, ![128, 2048]⟩
abbrev S64x512 : Shape := ⟨2, ![64, 512]⟩
abbrev S256x512 : Shape := ⟨2, ![256, 512]⟩
abbrev S1024x512 : Shape := ⟨2, ![1024, 512]⟩
abbrev S2x8x128x512 : Shape := ⟨4, ![2, 8, 128, 512]⟩
abbrev S192x512 : Shape := ⟨2, ![192, 512]⟩
abbrev S1x512 : Shape := ⟨2, ![1, 512]⟩
abbrev S192x128 : Shape := ⟨2, ![192, 128]⟩
abbrev S64x128 : Shape := ⟨2, ![64, 128]⟩
abbrev S512x128 : Shape := ⟨2, ![512, 128]⟩
abbrev S128x128 : Shape := ⟨2, ![128, 128]⟩
abbrev S128x512 : Shape := ⟨2, ![128, 512]⟩
abbrev S1x1x128x512 : Shape := ⟨4, ![1, 1, 128, 512]⟩
abbrev S1x1x128x256 : Shape := ⟨4, ![1, 1, 128, 256]⟩
abbrev S128x256 : Shape := ⟨2, ![128, 256]⟩
abbrev S128 : Shape := ⟨1, ![128]⟩
abbrev S128x1 : Shape := ⟨2, ![128, 1]⟩
abbrev S512x256 : Shape := ⟨2, ![512, 256]⟩

abbrev nBuf : Space → Nat
  | .hbm => 18
  | .vmem => 34
  | .smem => 0
  | _ => 0

abbrev bufTy : (tb : Table) → Fin (tcTables nBuf tb) → BufTy
  | .hbm, ⟨0, _⟩ => ⟨S9216x4096, .bf16⟩
  | .hbm, ⟨1, _⟩ => ⟨S4096x15360, .f32⟩
  | .hbm, ⟨2, _⟩ => ⟨S9216x3072, .f32⟩
  | .hbm, ⟨3, _⟩ => ⟨S16x128x8x64, .f32⟩
  | .hbm, ⟨4, _⟩ => ⟨S16x128x8x64, .f32⟩
  | .hbm, ⟨5, _⟩ => ⟨S32, .f32⟩
  | .hbm, ⟨6, _⟩ => ⟨S2048x512, .f32⟩
  | .hbm, ⟨7, _⟩ => ⟨S2048x512, .f32⟩
  | .hbm, ⟨8, _⟩ => ⟨S1x32, .f32⟩
  | .hbm, ⟨9, _⟩ => ⟨S16x2x1, .f32⟩
  | .hbm, ⟨10, _⟩ => ⟨S_, .f32⟩
  | .hbm, ⟨11, _⟩ => ⟨S16x2x192, .f32⟩
  | .hbm, ⟨12, _⟩ => ⟨S_, .f32⟩
  | .hbm, ⟨13, _⟩ => ⟨S16x2x63, .f32⟩
  | .hbm, ⟨14, _⟩ => ⟨S16x2x256, .f32⟩
  | .hbm, ⟨15, _⟩ => ⟨S16x512, .f32⟩
  | .hbm, ⟨16, _⟩ => ⟨S9216x4096, .bf16⟩
  | .hbm, ⟨17, _⟩ => ⟨S9216x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S16x512, .f32⟩
  | .local _ .vmem, ⟨5, _⟩ => ⟨S128x2048, .f32⟩
  | .local _ .vmem, ⟨6, _⟩ => ⟨S128x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S64x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S1024x512, .bf16⟩
  | .local _ .vmem, ⟨28, _⟩ => ⟨S1024x512, .bf16⟩
  | .local _ .vmem, ⟨29, _⟩ => ⟨S128x2048, .bf16⟩
  | .local _ .vmem, ⟨30, _⟩ => ⟨S128x2048, .bf16⟩
  | .local _ .vmem, ⟨31, _⟩ => ⟨S4096x512, .bf16⟩
  | .local _ .vmem, ⟨32, _⟩ => ⟨S2x8x128x512, .f32⟩
  | .local _ .vmem, ⟨33, _⟩ => ⟨S2x8x128x512, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_6 : BitVec 32 := 0#32
  let c16_i32 : BitVec 32 := 16#32
  let v16 : BitVec 32 := Scalar.addi c0_i32_6 c16_i32
  let c1_i32 : BitVec 32 := 1#32
  ⟨c0_i32_6, v16, c1_i32⟩
def k0_mult1 (k0_t1 : Fin k0_t1_loop.trips) : BitVec 32 :=
  let c0_i32_6 : BitVec 32 := 0#32
  let c1_i32 : BitVec 32 := 1#32
  let arg21 : BitVec 32 := Scf.iv c0_i32_6 c1_i32 k0_t1
  let c256_i32 : BitVec 32 := 256#32
  let v17 : BitVec 32 := Scalar.muli arg21 c256_i32
  v17
def k0_off1 (k0_t1 : Fin k0_t1_loop.trips) : Fin 2 → Nat :=
  let c0_i32_6 : BitVec 32 := 0#32
  let c1_i32 : BitVec 32 := 1#32
  let arg21 : BitVec 32 := Scf.iv c0_i32_6 c1_i32 k0_t1
  let c256_i32 : BitVec 32 := 256#32
  let v17 : BitVec 32 := Scalar.muli arg21 c256_i32
  let v18 : BitVec 32 := v17
  let v19 : Index := Scalar.indexCast v18
  let c0 : Index := 0#32
  ![v19.toNat, 0]
def k0_cond2 (i : grid0.Coords) : BitVec 1 :=
  let arg0 : BitVec 32 := BitVec.ofNat 32 (i 0).val
  let c9_i32 : BitVec 32 := 9#32
  let v0 : BitVec 32 := Scalar.muli arg0 c9_i32
  let arg1 : BitVec 32 := BitVec.ofNat 32 (i 1).val
  let v1 : BitVec 32 := Scalar.addi v0 arg1
  let c64_i32 : BitVec 32 := 64#32
  let v5 : BitVec 1 := Scalar.cmpi .slt v1 c64_i32
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c9_i32 : BitVec 32 := 9#32
  let v0 : BitVec 32 := Scalar.muli arg0 c9_i32
  let arg1 : BitVec 32 := BitVec.ofNat 32 (i 1).val
  let v1 : BitVec 32 := Scalar.addi v0 arg1
  let c64_i32_2 : BitVec 32 := 64#32
  let v8 : BitVec 1 := Scalar.cmpi .sge v1 c64_i32_2
  let c72_i32 : BitVec 32 := 72#32
  let v9 : BitVec 1 := Scalar.cmpi .slt v1 c72_i32
  let v10 : BitVec 1 := Scalar.andi v8 v9
  let v11 : BitVec 32 := Scalar.extui v10
  let c0_i32_3 : BitVec 32 := 0#32
  let v12 : BitVec 1 := Scalar.cmpi .ne v11 c0_i32_3
  v12

def k0_cond4 (i : grid0.Coords) : BitVec 1 :=
  let arg0 : BitVec 32 := BitVec.ofNat 32 (i 0).val
  let c9_i32 : BitVec 32 := 9#32
  let v0 : BitVec 32 := Scalar.muli arg0 c9_i32
  let arg1 : BitVec 32 := BitVec.ofNat 32 (i 1).val
  let v1 : BitVec 32 := Scalar.addi v0 arg1
  let c72_i32_4 : BitVec 32 := 72#32
  let v13 : BitVec 1 := Scalar.cmpi .sge v1 c72_i32_4
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c2_i32 : BitVec 32 := 2#32
  let v2 : BitVec 32 := Scalar.muli c2_i32 v1
  let c2_i32_0 : BitVec 32 := 2#32
  let v3 : BitVec 32 := Scalar.subi v2 c2_i32_0
  let c0_i32 : BitVec 32 := 0#32
  let v4 : BitVec 32 := Scalar.maxsi v3 c0_i32
  let c4_i32 : BitVec 32 := 4#32
  let c0_i32_1 : BitVec 32 := 0#32
  ![v4.toNat, c4_i32.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c2_i32 : BitVec 32 := 2#32
  let v2 : BitVec 32 := Scalar.muli c2_i32 v1
  let c1_i32 : BitVec 32 := 1#32
  let v3 : BitVec 32 := Scalar.subi v2 c1_i32
  let c0_i32 : BitVec 32 := 0#32
  let v4 : BitVec 32 := Scalar.maxsi v3 c0_i32
  let c4_i32 : BitVec 32 := 4#32
  let c0_i32_0 : BitVec 32 := 0#32
  ![v4.toNat, c4_i32.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c2_i32 : BitVec 32 := 2#32
  let v2 : BitVec 32 := Scalar.muli c2_i32 v1
  let c0_i32 : BitVec 32 := 0#32
  let v3 : BitVec 32 := Scalar.subi v2 c0_i32
  let c0_i32_0 : BitVec 32 := 0#32
  let v4 : BitVec 32 := Scalar.maxsi v3 c0_i32_0
  let c4_i32 : BitVec 32 := 4#32
  let c0_i32_1 : BitVec 32 := 0#32
  ![v4.toNat, c4_i32.toNat]

def cc0_transform_7 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c2_i32 : BitVec 32 := 2#32
  let v2 : BitVec 32 := Scalar.muli c2_i32 v1
  let c_m1_i32 : BitVec 32 := 4294967295#32
  let v3 : BitVec 32 := Scalar.subi v2 c_m1_i32
  let c0_i32 : BitVec 32 := 0#32
  let v4 : BitVec 32 := Scalar.maxsi v3 c0_i32
  let c4_i32 : BitVec 32 := 4#32
  let c0_i32_0 : BitVec 32 := 0#32
  ![v4.toNat, c4_i32.toNat]

def cc0_transform_8 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c2_i32 : BitVec 32 := 2#32
  let v2 : BitVec 32 := Scalar.muli c2_i32 v1
  let c2_i32_0 : BitVec 32 := 2#32
  let v3 : BitVec 32 := Scalar.subi v2 c2_i32_0
  let c0_i32 : BitVec 32 := 0#32
  let v4 : BitVec 32 := Scalar.maxsi v3 c0_i32
  let c5_i32 : BitVec 32 := 5#32
  let c0_i32_1 : BitVec 32 := 0#32
  ![v4.toNat, c5_i32.toNat]

def cc0_transform_9 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c2_i32 : BitVec 32 := 2#32
  let v2 : BitVec 32 := Scalar.muli c2_i32 v1
  let c1_i32 : BitVec 32 := 1#32
  let v3 : BitVec 32 := Scalar.subi v2 c1_i32
  let c0_i32 : BitVec 32 := 0#32
  let v4 : BitVec 32 := Scalar.maxsi v3 c0_i32
  let c5_i32 : BitVec 32 := 5#32
  let c0_i32_0 : BitVec 32 := 0#32
  ![v4.toNat, c5_i32.toNat]

def cc0_transform_10 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c2_i32 : BitVec 32 := 2#32
  let v2 : BitVec 32 := Scalar.muli c2_i32 v1
  let c0_i32 : BitVec 32 := 0#32
  let v3 : BitVec 32 := Scalar.subi v2 c0_i32
  let c0_i32_0 : BitVec 32 := 0#32
  let v4 : BitVec 32 := Scalar.maxsi v3 c0_i32_0
  let c5_i32 : BitVec 32 := 5#32
  let c0_i32_1 : BitVec 32 := 0#32
  ![v4.toNat, c5_i32.toNat]

def cc0_transform_11 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c2_i32 : BitVec 32 := 2#32
  let v2 : BitVec 32 := Scalar.muli c2_i32 v1
  let c_m1_i32 : BitVec 32 := 4294967295#32
  let v3 : BitVec 32 := Scalar.subi v2 c_m1_i32
  let c0_i32 : BitVec 32 := 0#32
  let v4 : BitVec 32 := Scalar.maxsi v3 c0_i32
  let c5_i32 : BitVec 32 := 5#32
  let c0_i32_0 : BitVec 32 := 0#32
  ![v4.toNat, c5_i32.toNat]

def cc0_transform_12 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c64_i32 : BitVec 32 := 64#32
  let v2 : BitVec 32 := Scalar.subi v1 c64_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_13 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c64_i32 : BitVec 32 := 64#32
  let v2 : BitVec 32 := Scalar.subi v1 c64_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S9216x4096 : Shape := ⟨2, ![9216, 4096]⟩
abbrev S4096x15360 : Shape := ⟨2, ![4096, 15360]⟩
abbrev S9216x3072 : Shape := ⟨2, ![9216, 3072]⟩
abbrev S16x128x8x64 : Shape := ⟨4, ![16, 128, 8, 64]⟩
abbrev S32 : Shape := ⟨1, ![32]⟩
abbrev S4096x4096 : Shape := ⟨2, ![4096, 4096]⟩
abbrev S_ : Shape := ⟨0, ![]⟩
abbrev S9216x2048 : Shape := ⟨2, ![9216, 2048]⟩
abbrev S9216x512 : Shape := ⟨2, ![9216, 512]⟩
abbrev S8192x2048 : Shape := ⟨2, ![8192, 2048]⟩
abbrev S1x8192x32x64 : Shape := ⟨4, ![1, 8192, 32, 64]⟩
abbrev S8192x512 : Shape := ⟨2, ![8192, 512]⟩
abbrev S1x8192x8x64 : Shape := ⟨4, ![1, 8192, 8, 64]⟩
abbrev S1x8320x8x64 : Shape := ⟨4, ![1, 8320, 8, 64]⟩
abbrev S1x130x64x8x64 : Shape := ⟨5, ![1, 130, 64, 8, 64]⟩
abbrev S1x128x64x8x64 : Shape := ⟨5, ![1, 128, 64, 8, 64]⟩
abbrev S1x128x192x8x64 : Shape := ⟨5, ![1, 128, 192, 8, 64]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S128x1x192 : Shape := ⟨3, ![128, 1, 192]⟩
abbrev S128x64x192 : Shape := ⟨3, ![128, 64, 192]⟩
abbrev S1x128x64x32x64 : Shape := ⟨5, ![1, 128, 64, 32, 64]⟩
abbrev S1x128x64x8x4x64 : Shape := ⟨6, ![1, 128, 64, 8, 4, 64]⟩
abbrev S1x128x8x192x64x4 : Shape := ⟨6, ![1, 128, 8, 192, 64, 4]⟩
abbrev S1x128x8x4x64x192 : Shape := ⟨6, ![1, 128, 8, 4, 64, 192]⟩
abbrev S1x128x1x1x64x192 : Shape := ⟨6, ![1, 128, 1, 1, 64, 192]⟩
abbrev S8x4 : Shape := ⟨2, ![8, 4]⟩
abbrev S1x1x8x4x1x1 : Shape := ⟨6, ![1, 1, 8, 4, 1, 1]⟩
abbrev S1x128x8x4x64 : Shape := ⟨5, ![1, 128, 8, 4, 64]⟩
abbrev S1x128x8x4x64x1 : Shape := ⟨6, ![1, 128, 8, 4, 64, 1]⟩
abbrev S1x128x8x64x4x64 : Shape := ⟨6, ![1, 128, 8, 64, 4, 64]⟩
abbrev S1x8192x2048 : Shape := ⟨3, ![1, 8192, 2048]⟩
abbrev S1024x2048 : Shape := ⟨2, ![1024, 2048]⟩
abbrev S16x64x32x64 : Shape := ⟨4, ![16, 64, 32, 64]⟩
abbrev S1024x512 : Shape := ⟨2, ![1024, 512]⟩
abbrev S16x64x8x64 : Shape := ⟨4, ![16, 64, 8, 64]⟩
abbrev S16x192x8x64 : Shape := ⟨4, ![16, 192, 8, 64]⟩
abbrev S16x1x192x8x64 : Shape := ⟨5, ![16, 1, 192, 8, 64]⟩
abbrev S1x64x192 : Shape := ⟨3, ![1, 64, 192]⟩
abbrev S16x1x64x32x64 : Shape := ⟨5, ![16, 1, 64, 32, 64]⟩
abbrev S16x1x64x8x4x64 : Shape := ⟨6, ![16, 1, 64, 8, 4, 64]⟩
abbrev S16x1x8x192x64x4 : Shape := ⟨6, ![16, 1, 8, 192, 64, 4]⟩
abbrev S16x1x8x4x64x192 : Shape := ⟨6, ![16, 1, 8, 4, 64, 192]⟩
abbrev S1x1x1x1x64x192 : Shape := ⟨6, ![1, 1, 1, 1, 64, 192]⟩
abbrev S16x1x8x4x64 : Shape := ⟨5, ![16, 1, 8, 4, 64]⟩
abbrev S16x1x8x4x64x1 : Shape := ⟨6, ![16, 1, 8, 4, 64, 1]⟩
abbrev S16x1x8x64x4x64 : Shape := ⟨6, ![16, 1, 8, 64, 4, 64]⟩
abbrev S16x64x2048 : Shape := ⟨3, ![16, 64, 2048]⟩

abbrev nBuf : Space → Nat
  | .hbm => 156
  | .vmem => 0
  | .smem => 0
  | _ => 0

abbrev hbmTy0_0 (i : Nat) : BufTy := match i % 128 with
  | 0 => ⟨S9216x4096, .bf16⟩
  | 1 => ⟨S4096x15360, .f32⟩
  | 2 => ⟨S9216x3072, .f32⟩
  | 3 => ⟨S16x128x8x64, .f32⟩
  | 4 => ⟨S16x128x8x64, .f32⟩
  | 5 => ⟨S32, .f32⟩
  | 6 => ⟨S9216x4096, .f32⟩
  | 7 => ⟨S4096x4096, .f32⟩
  | 8 => ⟨S9216x4096, .f32⟩
  | 9 => ⟨S9216x4096, .f32⟩
  | 10 => ⟨S9216x4096, .f32⟩
  | 11 => ⟨S_, .f32⟩
  | 12 => ⟨S9216x4096, .f32⟩
  | 13 => ⟨S9216x4096, .f32⟩
  | 14 => ⟨S9216x4096, .f32⟩
  | 15 => ⟨S_, .f32⟩
  | 16 => ⟨S9216x4096, .f32⟩
  | 17 => ⟨S9216x4096, .f32⟩
  | 18 => ⟨S9216x4096, .f32⟩
  | 19 => ⟨S_, .f32⟩
  | 20 => ⟨S9216x4096, .f32⟩
  | 21 => ⟨S9216x4096, .f32⟩
  | 22 => ⟨S_, .f32⟩
  | 23 => ⟨S9216x4096, .f32⟩
  | 24 => ⟨S9216x4096, .f32⟩
  | 25 => ⟨S9216x4096, .f32⟩
  | 26 => ⟨S9216x2048, .f32⟩
  | 27 => ⟨S9216x512, .f32⟩
  | 28 => ⟨S9216x512, .f32⟩
  | 29 => ⟨S8192x2048, .f32⟩
  | 30 => ⟨S1x8192x32x64, .f32⟩
  | 31 => ⟨S8192x512, .f32⟩
  | 32 => ⟨S1x8192x8x64, .f32⟩
  | 33 => ⟨S8192x512, .f32⟩
  | 34 => ⟨S1x8192x8x64, .f32⟩
  | 35 => ⟨S_, .i32⟩
  | 36 => ⟨S_, .f32⟩
  | 37 => ⟨S1x8320x8x64, .f32⟩
  | 38 => ⟨S1x130x64x8x64, .f32⟩
  | 39 => ⟨S_, .i32⟩
  | 40 => ⟨S_, .f32⟩
  | 41 => ⟨S1x8320x8x64, .f32⟩
  | 42 => ⟨S1x130x64x8x64, .f32⟩
  | 43 => ⟨S1x128x64x8x64, .f32⟩
  | 44 => ⟨S1x128x64x8x64, .f32⟩
  | 45 => ⟨S1x128x64x8x64, .f32⟩
  | 46 => ⟨S1x128x192x8x64, .f32⟩
  | 47 => ⟨S1x128x64x8x64, .f32⟩
  | 48 => ⟨S1x128x64x8x64, .f32⟩
  | 49 => ⟨S1x128x64x8x64, .f32⟩
  | 50 => ⟨S1x128x192x8x64, .f32⟩
  | 51 => ⟨S128, .i32⟩
  | 52 => ⟨S_, .i32⟩
  | 53 => ⟨S128, .i32⟩
  | 54 => ⟨S128, .i32⟩
  | 55 => ⟨S128x1, .i32⟩
  | 56 => ⟨S_, .i32⟩
  | 57 => ⟨S128x1, .i32⟩
  | 58 => ⟨S128x1, .i32⟩
  | 59 => ⟨S192, .i32⟩
  | 60 => ⟨S1x192, .i32⟩
  | 61 => ⟨S128x192, .i32⟩
  | 62 => ⟨S128x192, .i32⟩
  | 63 => ⟨S128x192, .i32⟩
  | 64 => ⟨S_, .i32⟩
  | 65 => ⟨S128x192, .i32⟩
  | 66 => ⟨S128x192, .i1⟩
  | 67 => ⟨S128x1x192, .i1⟩
  | 68 => ⟨S128x64x192, .i1⟩
  | 69 => ⟨S1x128x64x32x64, .f32⟩
  | 70 => ⟨S1x128x64x8x4x64, .f32⟩
  | 71 => ⟨S1x128x8x192x64x4, .f32⟩
  | 72 => ⟨S1x128x8x4x64x192, .f32⟩
  | 73 => ⟨S_, .f32⟩
  | 74 => ⟨S1x128x8x4x64x192, .f32⟩
  | 75 => ⟨S1x128x8x4x64x192, .f32⟩
  | 76 => ⟨S1x128x1x1x64x192, .i1⟩
  | 77 => ⟨S_, .f32⟩
  | 78 => ⟨S_, .f32⟩
  | 79 => ⟨S1x128x8x4x64x192, .i1⟩
  | 80 => ⟨S1x128x8x4x64x192, .f32⟩
  | 81 => ⟨S1x128x8x4x64x192, .f32⟩
  | 82 => ⟨S8x4, .f32⟩
  | 83 => ⟨S1x1x8x4x1x1, .f32⟩
  | 84 => ⟨S_, .f32⟩
  | 85 => ⟨S1x128x8x4x64, .f32⟩
  | 86 => ⟨S1x128x8x4x64x1, .f32⟩
  | 87 => ⟨S1x128x8x4x64x1, .f32⟩
  | 88 => ⟨S1x128x8x4x64x1, .f32⟩
  | 89 => ⟨S1x128x8x4x64x192, .f32⟩
  | 90 => ⟨S1x128x8x4x64x192, .f32⟩
  | 91 => ⟨S1x128x8x4x64x192, .f32⟩
  | 92 => ⟨S_, .f32⟩
  | 93 => ⟨S1x128x8x4x64, .f32⟩
  | 94 => ⟨S1x128x8x4x64x1, .f32⟩
  | 95 => ⟨S1x128x8x4x64x1, .f32⟩
  | 96 => ⟨S1x128x8x4x64x1, .f32⟩
  | 97 => ⟨S1x128x8x4x64x1, .f32⟩
  | 98 => ⟨S1x128x8x4x64x1, .f32⟩
  | 99 => ⟨S1x128x8x4x64x192, .f32⟩
  | 100 => ⟨S1x128x8x4x64x192, .f32⟩
  | 101 => ⟨S1x128x8x64x4x64, .f32⟩
  | 102 => ⟨S1x128x64x8x4x64, .f32⟩
  | 103 => ⟨S1x8192x2048, .f32⟩
  | 104 => ⟨S1024x2048, .f32⟩
  | 105 => ⟨S16x64x32x64, .f32⟩
  | 106 => ⟨S1024x512, .f32⟩
  | 107 => ⟨S16x64x8x64, .f32⟩
  | 108 => ⟨S1024x512, .f32⟩
  | 109 => ⟨S16x64x8x64, .f32⟩
  | 110 => ⟨S16x192x8x64, .f32⟩
  | 111 => ⟨S16x1x192x8x64, .f32⟩
  | 112 => ⟨S16x192x8x64, .f32⟩
  | 113 => ⟨S16x1x192x8x64, .f32⟩
  | 114 => ⟨S_, .i1⟩
  | 115 => ⟨S1x64x192, .i1⟩
  | 116 => ⟨S16x1x64x32x64, .f32⟩
  | 117 => ⟨S16x1x64x8x4x64, .f32⟩
  | 118 => ⟨S16x1x8x192x64x4, .f32⟩
  | 119 => ⟨S16x1x8x4x64x192, .f32⟩
  | 120 => ⟨S_, .f32⟩
  | 121 => ⟨S16x1x8x4x64x192, .f32⟩
  | 122 => ⟨S16x1x8x4x64x192, .f32⟩
  | 123 => ⟨S1x1x1x1x64x192, .i1⟩
  | 124 => ⟨S_, .f32⟩
  | 125 => ⟨S_, .f32⟩
  | 126 => ⟨S16x1x8x4x64x192, .i1⟩
  | 127 => ⟨S16x1x8x4x64x192, .f32⟩
  | _ => ⟨S9216x4096, .bf16⟩

abbrev hbmTy0_1 (i : Nat) : BufTy := match i % 128 with
  | 0 => ⟨S16x1x8x4x64x192, .f32⟩
  | 1 => ⟨S8x4, .f32⟩
  | 2 => ⟨S1x1x8x4x1x1, .f32⟩
  | 3 => ⟨S_, .f32⟩
  | 4 => ⟨S16x1x8x4x64, .f32⟩
  | 5 => ⟨S16x1x8x4x64x1, .f32⟩
  | 6 => ⟨S16x1x8x4x64x1, .f32⟩
  | 7 => ⟨S16x1x8x4x64x1, .f32⟩
  | 8 => ⟨S16x1x8x4x64x192, .f32⟩
  | 9 => ⟨S16x1x8x4x64x192, .f32⟩
  | 10 => ⟨S16x1x8x4x64x192, .f32⟩
  | 11 => ⟨S_, .f32⟩
  | 12 => ⟨S16x1x8x4x64, .f32⟩
  | 13 => ⟨S16x1x8x4x64x1, .f32⟩
  | 14 => ⟨S16x1x8x4x64x1, .f32⟩
  | 15 => ⟨S16x1x8x4x64x1, .f32⟩
  | 16 => ⟨S16x1x8x4x64x1, .f32⟩
  | 17 => ⟨S16x1x8x4x64x1, .f32⟩
  | 18 => ⟨S16x1x8x4x64x192, .f32⟩
  | 19 => ⟨S16x1x8x4x64x192, .f32⟩
  | 20 => ⟨S16x1x8x64x4x64, .f32⟩
  | 21 => ⟨S16x1x64x8x4x64, .f32⟩
  | 22 => ⟨S16x64x2048, .f32⟩
  | 23 => ⟨S8192x2048, .f32⟩
  | 24 => ⟨S1024x2048, .f32⟩
  | 25 => ⟨S9216x2048, .f32⟩
  | 26 => ⟨S9216x4096, .bf16⟩
  | 27 => ⟨S9216x2048, .bf16⟩
  | _ => ⟨S9216x4096, .bf16⟩

abbrev hbmTy (i : Nat) : BufTy := match i / 128 with
  | 0 => hbmTy0_0 i
  | 1 => hbmTy0_1 i
  | _ => ⟨S9216x4096, .bf16⟩

abbrev bufTy : (tb : Table) → Fin (tcTables nBuf tb) → BufTy
  | .hbm, ⟨i, _⟩ => hbmTy i
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_call1_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_c_11 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_12 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_13 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_14 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_15 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩

abbrev nD : Nat := 1
abbrev τ : Topo := Topo.v7x

variable {F : FTy → Type} [FloatOps F]
-- ==== Kernel3.lean ====
abbrev S9216x2048 : Shape := ⟨2, ![9216, 2048]⟩
abbrev S2048x4096 : Shape := ⟨2, ![2048, 4096]⟩
abbrev S9216x8192 : Shape := ⟨2, ![9216, 8192]⟩
abbrev S9216x4096 : Shape := ⟨2, ![9216, 4096]⟩
abbrev S1024x2048 : Shape := ⟨2, ![1024, 2048]⟩
abbrev S2048x512 : Shape := ⟨2, ![2048, 512]⟩
abbrev S1024x512 : Shape := ⟨2, ![1024, 512]⟩
abbrev S256x512 : Shape := ⟨2, ![256, 512]⟩

abbrev nBuf : Space → Nat
  | .hbm => 6
  | .vmem => 16
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S2048x4096, .f32⟩
  | .hbm, ⟨3, _⟩ => ⟨S2048x4096, .f32⟩
  | .hbm, ⟨4, _⟩ => ⟨S9216x8192, .bf16⟩
  | .hbm, ⟨5, _⟩ => ⟨S9216x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2048x512, .bf16⟩
  | .local _ .vmem, ⟨15, _⟩ => ⟨S2048x512, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c8_i32 : BitVec 32 := 8#32
  let v18 : BitVec 32 := Scalar.addi c0_i32_15 c8_i32
  let c1_i32 : BitVec 32 := 1#32
  ⟨c0_i32_15, v18, c1_i32⟩
def k0_mult1 (k0_t1 : Fin k0_t1_loop.trips) : BitVec 32 :=
  let c0_i32_15 : BitVec 32 := 0#32
  let c1_i32 : BitVec 32 := 1#32
  let arg11 : BitVec 32 := Scf.iv c0_i32_15 c1_i32 k0_t1
  let c256_i32 : BitVec 32 := 256#32
  let v20 : BitVec 32 := Scalar.muli arg11 c256_i32
  v20
def k0_off1 (k0_t1 : Fin k0_t1_loop.trips) : Fin 2 → Nat :=
  let c0_i32_15 : BitVec 32 := 0#32
  let c1_i32 : BitVec 32 := 1#32
  let arg11 : BitVec 32 := Scf.iv c0_i32_15 c1_i32 k0_t1
  let c256_i32 : BitVec 32 := 256#32
  let v20 : BitVec 32 := Scalar.muli arg11 c256_i32
  let v21 : BitVec 32 := v20
  let v22 : Index := Scalar.indexCast v21
  let c0_21 : Index := 0#32
  ![v22.toNat, 0]
@[reducible] def k0_t2_loop : Scf.Loop 32 :=
  let c0_i32_17 : BitVec 32 := 0#32
  let c8_i32_18 : BitVec 32 := 8#32
  let v19 : BitVec 32 := Scalar.addi c0_i32_17 c8_i32_18
  let c1_i32_19 : BitVec 32 := 1#32
  ⟨c0_i32_17, v19, c1_i32_19⟩
def k0_mult2 (k0_t2 : Fin k0_t2_loop.trips) : BitVec 32 :=
  let c0_i32_17 : BitVec 32 := 0#32
  let c1_i32_19 : BitVec 32 := 1#32
  let arg11 : BitVec 32 := Scf.iv c0_i32_17 c1_i32_19 k0_t2
  let c256_i32 : BitVec 32 := 256#32
  let v20 : BitVec 32 := Scalar.muli arg11 c256_i32
  v20
def k0_off2 (k0_t2 : Fin k0_t2_loop.trips) : Fin 2 → Nat :=
  let c0_i32_17 : BitVec 32 := 0#32
  let c1_i32_19 : BitVec 32 := 1#32
  let arg11 : BitVec 32 := Scf.iv c0_i32_17 c1_i32_19 k0_t2
  let c256_i32 : BitVec 32 := 256#32
  let v20 : BitVec 32 := Scalar.muli arg11 c256_i32
  let v21 : BitVec 32 := v20
  let v22 : Index := Scalar.indexCast v21
  let c0_21 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S9216x2048 : Shape := ⟨2, ![9216, 2048]⟩
abbrev S2048x4096 : Shape := ⟨2, ![2048, 4096]⟩
abbrev S9216x8192 : Shape := ⟨2, ![9216, 8192]⟩
abbrev S9216x4096 : Shape := ⟨2, ![9216, 4096]⟩

abbrev nBuf : Space → Nat
  | .hbm => 16
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S2048x4096, .f32⟩
  | .hbm, ⟨3, _⟩ => ⟨S2048x4096, .f32⟩
  | .hbm, ⟨4, _⟩ => ⟨S9216x8192, .bf16⟩
  | .hbm, ⟨5, _⟩ => ⟨S9216x8192, .f32⟩
  | .hbm, ⟨6, _⟩ => ⟨S9216x4096, .f32⟩
  | .hbm, ⟨7, _⟩ => ⟨S9216x4096, .f32⟩
  | .hbm, ⟨8, _⟩ => ⟨S9216x2048, .f32⟩
  | .hbm, ⟨9, _⟩ => ⟨S9216x4096, .f32⟩
  | .hbm, ⟨10, _⟩ => ⟨S9216x4096, .f32⟩
  | .hbm, ⟨11, _⟩ => ⟨S9216x2048, .f32⟩
  | .hbm, ⟨12, _⟩ => ⟨S9216x4096, .f32⟩
  | .hbm, ⟨13, _⟩ => ⟨S9216x4096, .f32⟩
  | .hbm, ⟨14, _⟩ => ⟨S9216x4096, .f32⟩
  | .hbm, ⟨15, _⟩ => ⟨S9216x4096, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S9216x4096 : Shape := ⟨2, ![9216, 4096]⟩
abbrev S4096x4096 : Shape := ⟨2, ![4096, 4096]⟩
abbrev S8192x4096 : Shape := ⟨2, ![8192, 4096]⟩
abbrev S1024x4096 : Shape := ⟨2, ![1024, 4096]⟩
abbrev S4096x512 : Shape := ⟨2, ![4096, 512]⟩
abbrev S1024x512 : Shape := ⟨2, ![1024, 512]⟩
abbrev S256x512 : Shape := ⟨2, ![256, 512]⟩

abbrev nBuf : Space → Nat
  | .hbm => 5
  | .vmem => 11
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .f32⟩
  | .hbm, ⟨2, _⟩ => ⟨S8192x4096, .f32⟩
  | .hbm, ⟨3, _⟩ => ⟨S1024x4096, .f32⟩
  | .hbm, ⟨4, _⟩ => ⟨S9216x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c16_i32 : BitVec 32 := 16#32
  let v12 : BitVec 32 := Scalar.addi c0_i32_7 c16_i32
  let c1_i32 : BitVec 32 := 1#32
  ⟨c0_i32_7, v12, c1_i32⟩
def k0_mult1 (k0_t1 : Fin k0_t1_loop.trips) : BitVec 32 :=
  let c0_i32_7 : BitVec 32 := 0#32
  let c1_i32 : BitVec 32 := 1#32
  let arg8 : BitVec 32 := Scf.iv c0_i32_7 c1_i32 k0_t1
  let c256_i32 : BitVec 32 := 256#32
  let v13 : BitVec 32 := Scalar.muli arg8 c256_i32
  v13
def k0_off1 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c256_i32 : BitVec 32 := 256#32
  let v13 : BitVec 32 := Scalar.muli arg8 c256_i32
  let v14 : BitVec 32 := v13
  let v15 : Index := Scalar.indexCast v14
  let c0_9 : Index := 0#32
  ![v15.toNat, 0]
def k0_cond2 (i : grid0.Coords) : BitVec 1 :=
  let arg1 : BitVec 32 := BitVec.ofNat 32 (i 1).val
  let c8_i32 : BitVec 32 := 8#32
  let v6 : BitVec 1 := Scalar.cmpi .slt arg1 c8_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c8_i32_5 : BitVec 32 := 8#32
  let v9 : BitVec 1 := Scalar.cmpi .sge arg1 c8_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S9216x4096 : Shape := ⟨2, ![9216, 4096]⟩
abbrev S4096x4096 : Shape := ⟨2, ![4096, 4096]⟩
abbrev S8192x4096 : Shape := ⟨2, ![8192, 4096]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .f32⟩
  | .hbm, ⟨2, _⟩ => ⟨S8192x4096, .f32⟩
  | .hbm, ⟨3, _⟩ => ⟨S1024x4096, .f32⟩
  | .hbm, ⟨4, _⟩ => ⟨S9216x4096, .f32⟩
  | .hbm, ⟨5, _⟩ => ⟨S9216x4096, .f32⟩
  | .hbm, ⟨6, _⟩ => ⟨S9216x4096, .f32⟩
  | .hbm, ⟨7, _⟩ => ⟨S9216x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel1.lean ====
abbrev S9216x4096 : Shape := ⟨2, ![9216, 4096]⟩
abbrev S4096x15360 : Shape := ⟨2, ![4096, 15360]⟩
abbrev S64 : Shape := ⟨1, ![64]⟩
abbrev S8192 : Shape := ⟨1, ![8192]⟩
abbrev S_ : Shape := ⟨0, ![]⟩
abbrev S1x64 : Shape := ⟨2, ![1, 64]⟩
abbrev S16x64 : Shape := ⟨2, ![16, 64]⟩
abbrev S1024 : Shape := ⟨1, ![1024]⟩
abbrev S9216 : Shape := ⟨1, ![9216]⟩
abbrev S8 : Shape := ⟨1, ![8]⟩
abbrev S9216x1 : Shape := ⟨2, ![9216, 1]⟩
abbrev S1x8 : Shape := ⟨2, ![1, 8]⟩
abbrev S9216x8 : Shape := ⟨2, ![9216, 8]⟩
abbrev S9216x48 : Shape := ⟨2, ![9216, 48]⟩
abbrev S9216x64 : Shape := ⟨2, ![9216, 64]⟩
abbrev S9216x56 : Shape := ⟨2, ![9216, 56]⟩
abbrev S1x9216x1x64 : Shape := ⟨4, ![1, 9216, 1, 64]⟩
abbrev S1x9216x2x64 : Shape := ⟨4, ![1, 9216, 2, 64]⟩
abbrev S9216x128 : Shape := ⟨2, ![9216, 128]⟩
abbrev S32x64 : Shape := ⟨2, ![32, 64]⟩
abbrev S2048 : Shape := ⟨1, ![2048]⟩
abbrev S8x64 : Shape := ⟨2, ![8, 64]⟩
abbrev S512 : Shape := ⟨1, ![512]⟩
abbrev S3072 : Shape := ⟨1, ![3072]⟩
abbrev S1x3072 : Shape := ⟨2, ![1, 3072]⟩
abbrev S9216x3072 : Shape := ⟨2, ![9216, 3072]⟩
abbrev S1024x4096 : Shape := ⟨2, ![1024, 4096]⟩
abbrev S4096x512 : Shape := ⟨2, ![4096, 512]⟩
abbrev S1x512 : Shape := ⟨2, ![1, 512]⟩
abbrev S1024x128 : Shape := ⟨2, ![1024, 128]⟩
abbrev S1024x512 : Shape := ⟨2, ![1024, 512]⟩
abbrev S256x512 : Shape := ⟨2, ![256, 512]⟩
abbrev S256x256 : Shape := ⟨2, ![256, 256]⟩
abbrev S1024x256 : Shape := ⟨2, ![1024, 256]⟩

abbrev nBuf : Space → Nat
  | .hbm => 66
  | .vmem => 15
  | .smem => 0
  | _ => 0

abbrev bufTy : (tb : Table) → Fin (tcTables nBuf tb) → BufTy
  | .hbm, ⟨0, _⟩ => ⟨S9216x4096, .bf16⟩
  | .hbm, ⟨1, _⟩ => ⟨S4096x15360, .f32⟩
  | .hbm, ⟨2, _⟩ => ⟨S64, .f32⟩
  | .hbm, ⟨3, _⟩ => ⟨S64, .f32⟩
  | .hbm, ⟨4, _⟩ => ⟨S8192, .i32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S1x64, .i32⟩
  | .hbm, ⟨10, _⟩ => ⟨S16x64, .i32⟩
  | .hbm, ⟨11, _⟩ => ⟨S1024, .i32⟩
  | .hbm, ⟨12, _⟩ => ⟨S9216, .i32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S9216, .f32⟩
  | .hbm, ⟨25, _⟩ => ⟨S9216x1, .f32⟩
  | .hbm, ⟨26, _⟩ => ⟨S1x8, .f32⟩
  | .hbm, ⟨27, _⟩ => ⟨S9216x8, .f32⟩
  | .hbm, ⟨28, _⟩ => ⟨S9216x8, .f32⟩
  | .hbm, ⟨29, _⟩ => ⟨S9216x8, .f32⟩
  | .hbm, ⟨30, _⟩ => ⟨S9216x8, .f32⟩
  | .hbm, ⟨31, _⟩ => ⟨S9216x8, .f32⟩
  | .hbm, ⟨32, _⟩ => ⟨S9216x8, .f32⟩
  | .hbm, ⟨33, _⟩ => ⟨S9216x8, .f32⟩
  | .hbm, ⟨34, _⟩ => ⟨S_, .f32⟩
  | .hbm, ⟨35, _⟩ => ⟨S9216x48, .f32⟩
  | .hbm, ⟨36, _⟩ => ⟨S9216x64, .f32⟩
  | .hbm, ⟨37, _⟩ => ⟨S9216x8, .f32⟩
  | .hbm, ⟨38, _⟩ => ⟨S_, .f32⟩
  | .hbm, ⟨39, _⟩ => ⟨S9216x56, .f32⟩
  | .hbm, ⟨40, _⟩ => ⟨S9216x64, .f32⟩
  | .hbm, ⟨41, _⟩ => ⟨S_, .f32⟩
  | .hbm, ⟨42, _⟩ => ⟨S9216x8, .f32⟩
  | .hbm, ⟨43, _⟩ => ⟨S_, .f32⟩
  | .hbm, ⟨44, _⟩ => ⟨S9216x48, .f32⟩
  | .hbm, ⟨45, _⟩ => ⟨S9216x64, .f32⟩
  | .hbm, ⟨46, _⟩ => ⟨S1x9216x1x64, .f32⟩
  | .hbm, ⟨47, _⟩ => ⟨S1x9216x2x64, .f32⟩
  | .hbm, ⟨48, _⟩ => ⟨S9216x128, .f32⟩
  | .hbm, ⟨49, _⟩ => ⟨S1x9216x1x64, .f32⟩
  | .hbm, ⟨50, _⟩ => ⟨S1x9216x2x64, .f32⟩
  | .hbm, ⟨51, _⟩ => ⟨S9216x128, .f32⟩
  | .hbm, ⟨52, _⟩ => ⟨S1x9216x1x64, .f32⟩
  | .hbm, ⟨53, _⟩ => ⟨S1x9216x2x64, .f32⟩
  | .hbm, ⟨54, _⟩ => ⟨S9216x128, .f32⟩
  | .hbm, ⟨55, _⟩ => ⟨S1x64, .f32⟩
  | .hbm, ⟨56, _⟩ => ⟨S32x64, .f32⟩
  | .hbm, ⟨57, _⟩ => ⟨S2048, .f32⟩
  | .hbm, ⟨58, _⟩ => ⟨S1x64, .f32⟩
  | .hbm, ⟨59, _⟩ => ⟨S8x64, .f32⟩
  | .hbm, ⟨60, _⟩ => ⟨S512, .f32⟩
  | .hbm, ⟨61, _⟩ => ⟨S_, .f32⟩
  | .hbm, ⟨62, _⟩ => ⟨S512, .f32⟩
  | .hbm, ⟨63, _⟩ => ⟨S3072, .f32⟩
  | .hbm, ⟨64, _⟩ => ⟨S1x3072, .f32⟩
  | .hbm, ⟨65, _⟩ => ⟨S9216x3072, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1x512, .f32⟩
  | .local _ .vmem, ⟨5, _⟩ => ⟨S1x512, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x512, .f32⟩
  | .local _ .vmem, ⟨13, _⟩ => ⟨S1024x512, .f32⟩
  | .local _ .vmem, ⟨14, _⟩ => ⟨S4096x512, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4 : BitVec 32 := 0#32
  let c16_i32 : BitVec 32 := 16#32
  let v9 : BitVec 32 := Scalar.addi c0_i32_4 c16_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg10 : BitVec 32 := Scf.iv c0_i32_4 c1_i32 k0_t1
  let c256_i32 : BitVec 32 := 256#32
  let v10 : BitVec 32 := Scalar.muli arg10 c256_i32
  v10
def k0_off1 (k0_t1 : Fin k0_t1_loop.trips) : Fin 2 → Nat :=
  let c0_i32_4 : BitVec 32 := 0#32
  let c1_i32 : BitVec 32 := 1#32
  let arg10 : BitVec 32 := Scf.iv c0_i32_4 c1_i32 k0_t1
  let c256_i32 : BitVec 32 := 256#32
  let v10 : BitVec 32 := Scalar.muli arg10 c256_i32
  let v11 : BitVec 32 := v10
  let v12 : Index := Scalar.indexCast v11
  let c0 : Index := 0#32
  ![v12.toNat, 0]
def k0_cond2 (i : grid0.Coords) : BitVec 1 :=
  let arg0 : BitVec 32 := BitVec.ofNat 32 (i 0).val
  let c5_i32 : BitVec 32 := 5#32
  let v3 : BitVec 1 := Scalar.cmpi .slt arg0 c5_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c5_i32_2 : BitVec 32 := 5#32
  let v6 : BitVec 1 := Scalar.cmpi .sge arg0 c5_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference1Ideal.lean ====
abbrev S9216x4096 : Shape := ⟨2, ![9216, 4096]⟩
abbrev S4096x15360 : Shape := ⟨2, ![4096, 15360]⟩
abbrev S64 : Shape := ⟨1, ![64]⟩
abbrev S4096x3072 : Shape := ⟨2, ![4096, 3072]⟩
abbrev S9216x3072 : Shape := ⟨2, ![9216, 3072]⟩
abbrev S9216x2048 : Shape := ⟨2, ![9216, 2048]⟩
abbrev S9216x512 : Shape := ⟨2, ![9216, 512]⟩
abbrev S8192 : Shape := ⟨1, ![8192]⟩
abbrev S_ : Shape := ⟨0, ![]⟩
abbrev S1x64 : Shape := ⟨2, ![1, 64]⟩
abbrev S16x64 : Shape := ⟨2, ![16, 64]⟩
abbrev S1024 : Shape := ⟨1, ![1024]⟩
abbrev S9216 : Shape := ⟨1, ![9216]⟩
abbrev S9216x32x64 : Shape := ⟨3, ![9216, 32, 64]⟩
abbrev S9216x32 : Shape := ⟨2, ![9216, 32]⟩
abbrev S9216x32x1 : Shape := ⟨3, ![9216, 32, 1]⟩
abbrev S1x1x64 : Shape := ⟨3, ![1, 1, 64]⟩
abbrev S8 : Shape := ⟨1, ![8]⟩
abbrev S9216x1 : Shape := ⟨2, ![9216, 1]⟩
abbrev S1x8 : Shape := ⟨2, ![1, 8]⟩
abbrev S9216x8 : Shape := ⟨2, ![9216, 8]⟩
abbrev S9216x1x8 : Shape := ⟨3, ![9216, 1, 8]⟩
abbrev S9216x32x8 : Shape := ⟨3, ![9216, 32, 8]⟩
abbrev S9216x32x48 : Shape := ⟨3, ![9216, 32, 48]⟩
abbrev S9216x8x64 : Shape := ⟨3, ![9216, 8, 64]⟩
abbrev S9216x8x1 : Shape := ⟨3, ![9216, 8, 1]⟩
abbrev S9216x8x8 : Shape := ⟨3, ![9216, 8, 8]⟩
abbrev S9216x8x48 : Shape := ⟨3, ![9216, 8, 48]⟩

abbrev nBuf : Space → Nat
  | .hbm => 126
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x15360, .f32⟩
  | .hbm, ⟨2, _⟩ => ⟨S64, .f32⟩
  | .hbm, ⟨3, _⟩ => ⟨S64, .f32⟩
  | .hbm, ⟨4, _⟩ => ⟨S9216x4096, .f32⟩
  | .hbm, ⟨5, _⟩ => ⟨S4096x3072, .f32⟩
  | .hbm, ⟨6, _⟩ => ⟨S9216x3072, .f32⟩
  | .hbm, ⟨7, _⟩ => ⟨S9216x2048, .f32⟩
  | .hbm, ⟨8, _⟩ => ⟨S9216x512, .f32⟩
  | .hbm, ⟨9, _⟩ => ⟨S9216x512, .f32⟩
  | .hbm, ⟨10, _⟩ => ⟨S8192, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S1x64, .i32⟩
  | .hbm, ⟨16, _⟩ => ⟨S16x64, .i32⟩
  | .hbm, ⟨17, _⟩ => ⟨S1024, .i32⟩
  | .hbm, ⟨18, _⟩ => ⟨S9216, .i32⟩
  | .hbm, ⟨19, _⟩ => ⟨S9216x32x64, .f32⟩
  | .hbm, ⟨20, _⟩ => ⟨S9216x32x64, .f32⟩
  | .hbm, ⟨21, _⟩ => ⟨S_, .f32⟩
  | .hbm, ⟨22, _⟩ => ⟨S9216x32, .f32⟩
  | .hbm, ⟨23, _⟩ => ⟨S9216x32x1, .f32⟩
  | .hbm, ⟨24, _⟩ => ⟨S_, .f32⟩
  | .hbm, ⟨25, _⟩ => ⟨S9216x32x1, .f32⟩
  | .hbm, ⟨26, _⟩ => ⟨S9216x32x1, .f32⟩
  | .hbm, ⟨27, _⟩ => ⟨S_, .f32⟩
  | .hbm, ⟨28, _⟩ => ⟨S9216x32x1, .f32⟩
  | .hbm, ⟨29, _⟩ => ⟨S9216x32x1, .f32⟩
  | .hbm, ⟨30, _⟩ => ⟨S9216x32x1, .f32⟩
  | .hbm, ⟨31, _⟩ => ⟨S9216x32x64, .f32⟩
  | .hbm, ⟨32, _⟩ => ⟨S9216x32x64, .f32⟩
  | .hbm, ⟨33, _⟩ => ⟨S1x1x64, .f32⟩
  | .hbm, ⟨34, _⟩ => ⟨S9216x32x64, .f32⟩
  | .hbm, ⟨35, _⟩ => ⟨S9216x32x64, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S9216, .f32⟩
  | .hbm, ⟨48, _⟩ => ⟨S9216x1, .f32⟩
  | .hbm, ⟨49, _⟩ => ⟨S1x8, .f32⟩
  | .hbm, ⟨50, _⟩ => ⟨S9216x8, .f32⟩
  | .hbm, ⟨51, _⟩ => ⟨S9216x8, .f32⟩
  | .hbm, ⟨52, _⟩ => ⟨S9216x8, .f32⟩
  | .hbm, ⟨53, _⟩ => ⟨S9216x8, .f32⟩
  | .hbm, ⟨54, _⟩ => ⟨S9216x1x8, .f32⟩
  | .hbm, ⟨55, _⟩ => ⟨S9216x8, .f32⟩
  | .hbm, ⟨56, _⟩ => ⟨S9216x1x8, .f32⟩
  | .hbm, ⟨57, _⟩ => ⟨S9216x32x8, .f32⟩
  | .hbm, ⟨58, _⟩ => ⟨S9216x32x8, .f32⟩
  | .hbm, ⟨59, _⟩ => ⟨S9216x32x8, .f32⟩
  | .hbm, ⟨60, _⟩ => ⟨S9216x32x8, .f32⟩
  | .hbm, ⟨61, _⟩ => ⟨S9216x32x8, .f32⟩
  | .hbm, ⟨62, _⟩ => ⟨S9216x32x8, .f32⟩
  | .hbm, ⟨63, _⟩ => ⟨S9216x32x8, .f32⟩
  | .hbm, ⟨64, _⟩ => ⟨S9216x32x8, .f32⟩
  | .hbm, ⟨65, _⟩ => ⟨S9216x32x8, .f32⟩
  | .hbm, ⟨66, _⟩ => ⟨S9216x32x8, .f32⟩
  | .hbm, ⟨67, _⟩ => ⟨S9216x32x8, .f32⟩
  | .hbm, ⟨68, _⟩ => ⟨S9216x32x8, .f32⟩
  | .hbm, ⟨69, _⟩ => ⟨S9216x32x48, .f32⟩
  | .hbm, ⟨70, _⟩ => ⟨S9216x32x64, .f32⟩
  | .hbm, ⟨71, _⟩ => ⟨S9216x8x64, .f32⟩
  | .hbm, ⟨72, _⟩ => ⟨S9216x8x64, .f32⟩
  | .hbm, ⟨73, _⟩ => ⟨S_, .f32⟩
  | .hbm, ⟨74, _⟩ => ⟨S9216x8, .f32⟩
  | .hbm, ⟨75, _⟩ => ⟨S9216x8x1, .f32⟩
  | .hbm, ⟨76, _⟩ => ⟨S_, .f32⟩
  | .hbm, ⟨77, _⟩ => ⟨S9216x8x1, .f32⟩
  | .hbm, ⟨78, _⟩ => ⟨S9216x8x1, .f32⟩
  | .hbm, ⟨79, _⟩ => ⟨S_, .f32⟩
  | .hbm, ⟨80, _⟩ => ⟨S9216x8x1, .f32⟩
  | .hbm, ⟨81, _⟩ => ⟨S9216x8x1, .f32⟩
  | .hbm, ⟨82, _⟩ => ⟨S9216x8x1, .f32⟩
  | .hbm, ⟨83, _⟩ => ⟨S9216x8x64, .f32⟩
  | .hbm, ⟨84, _⟩ => ⟨S9216x8x64, .f32⟩
  | .hbm, ⟨85, _⟩ => ⟨S1x1x64, .f32⟩
  | .hbm, ⟨86, _⟩ => ⟨S9216x8x64, .f32⟩
  | .hbm, ⟨87, _⟩ => ⟨S9216x8x64, .f32⟩
  | .hbm, ⟨88, _⟩ => ⟨S8, .f32⟩
  | .hbm, ⟨89, _⟩ => ⟨S8, .f32⟩
  | .hbm, ⟨90, _⟩ => ⟨S_, .f32⟩
  | .hbm, ⟨91, _⟩ => ⟨S8, .f32⟩
  | .hbm, ⟨92, _⟩ => ⟨S8, .f32⟩
  | .hbm, ⟨93, _⟩ => ⟨S_, .f32⟩
  | .hbm, ⟨94, _⟩ => ⟨S8, .f32⟩
  | .hbm, ⟨95, _⟩ => ⟨S8, .f32⟩
  | .hbm, ⟨96, _⟩ => ⟨S_, .f32⟩
  | .hbm, ⟨97, _⟩ => ⟨S8, .f32⟩
  | .hbm, ⟨98, _⟩ => ⟨S8, .f32⟩
  | .hbm, ⟨99, _⟩ => ⟨S9216, .f32⟩
  | .hbm, ⟨100, _⟩ => ⟨S9216x1, .f32⟩
  | .hbm, ⟨101, _⟩ => ⟨S1x8, .f32⟩
  | .hbm, ⟨102, _⟩ => ⟨S9216x8, .f32⟩
  | .hbm, ⟨103, _⟩ => ⟨S9216x8, .f32⟩
  | .hbm, ⟨104, _⟩ => ⟨S9216x8, .f32⟩
  | .hbm, ⟨105, _⟩ => ⟨S9216x8, .f32⟩
  | .hbm, ⟨106, _⟩ => ⟨S9216x1x8, .f32⟩
  | .hbm, ⟨107, _⟩ => ⟨S9216x8, .f32⟩
  | .hbm, ⟨108, _⟩ => ⟨S9216x1x8, .f32⟩
  | .hbm, ⟨109, _⟩ => ⟨S9216x8x8, .f32⟩
  | .hbm, ⟨110, _⟩ => ⟨S9216x8x8, .f32⟩
  | .hbm, ⟨111, _⟩ => ⟨S9216x8x8, .f32⟩
  | .hbm, ⟨112, _⟩ => ⟨S9216x8x8, .f32⟩
  | .hbm, ⟨113, _⟩ => ⟨S9216x8x8, .f32⟩
  | .hbm, ⟨114, _⟩ => ⟨S9216x8x8, .f32⟩
  | .hbm, ⟨115, _⟩ => ⟨S9216x8x8, .f32⟩
  | .hbm, ⟨116, _⟩ => ⟨S9216x8x8, .f32⟩
  | .hbm, ⟨117, _⟩ => ⟨S9216x8x8, .f32⟩
  | .hbm, ⟨118, _⟩ => ⟨S9216x8x8, .f32⟩
  | .hbm, ⟨119, _⟩ => ⟨S9216x8x8, .f32⟩
  | .hbm, ⟨120, _⟩ => ⟨S9216x8x8, .f32⟩
  | .hbm, ⟨121, _⟩ => ⟨S9216x8x48, .f32⟩
  | .hbm, ⟨122, _⟩ => ⟨S9216x8x64, .f32⟩
  | .hbm, ⟨123, _⟩ => ⟨S9216x2048, .f32⟩
  | .hbm, ⟨124, _⟩ => ⟨S9216x512, .f32⟩
  | .hbm, ⟨125, _⟩ => ⟨S9216x3072, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_5 : Ref sig .tc := ⟨.hbm, 73, rfl⟩
abbrev main_v62 : Ref sig .tc := ⟨.hbm, 74, rfl⟩
abbrev main_v63 : Ref sig .tc := ⟨.hbm, 75, rfl⟩
abbrev main_cst_6 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_8 : Ref sig .tc := ⟨.hbm, 90, rfl⟩
abbrev main_v76 : Ref sig .tc := ⟨.hbm, 91, rfl⟩
abbrev main_v77 : Ref sig .tc := ⟨.hbm, 92, rfl⟩
abbrev main_cst_9 : Ref sig .tc := ⟨.hbm, 93, rfl⟩
abbrev main_v78 : Ref sig .tc := ⟨.hbm, 94, rfl⟩
abbrev main_v79 : Ref sig .tc := ⟨.hbm, 95, rfl⟩
abbrev main_cst_10 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩

abbrev nD : Nat := 1
abbrev τ : Topo := Topo.v7x

variable {F : FTy → Type} [FloatOps F]
-- ==== Proof.RefRun.lean ====
/-
  The reference's host operations, cut into seventeen lines, and what each line leaves in the buffers that a later one reads.
  Each such array is named by a function of the arrays it is computed from; the run of the whole reference then ends with its two
  results at these functions composed.
-/
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The pieces that `main_v32` joins, as one function. -/
def fn_main_v32 : (main_v29 : Ref sig .tc).ty.Contents (Elt F) → (main_v30 : Ref sig .tc).ty.Contents (Elt F) → (main_v31 : Ref sig .tc).ty.Contents (Elt F) → (main_v32 : Ref sig .tc).ty.Contents (Elt F) :=
  (fun u0 u1 u2 => (concatenate S1x128x192x8x64 2 [⟨S1x128x64x8x64, (u0 : (⟨S1x128x64x8x64, .f32⟩ : BufTy).Contents (Elt F))⟩, ⟨S1x128x64x8x64, (u1 : (⟨S1x128x64x8x64, .f32⟩ : BufTy).Contents (Elt F))⟩, ⟨S1x128x64x8x64, (u2 : (⟨S1x128x64x8x64, .f32⟩ : BufTy).Contents (Elt F))⟩] concatenates_S1x128x64x8x64_S1x128x64x8x64_S1x128x64x8x64_S1x128x192x8x64_d2 : (⟨S1x128x192x8x64, .f32⟩ : BufTy).Contents (Elt F)))

/-- The pieces that `main_v36` joins, as one function. -/
def fn_main_v36 : (main_v33 : Ref sig .tc).ty.Contents (Elt F) → (main_v34 : Ref sig .tc).ty.Contents (Elt F) → (main_v35 : Ref sig .tc).ty.Contents (Elt F) → (main_v36 : Ref sig .tc).ty.Contents (Elt F) :=
  (fun u0 u1 u2 => (concatenate S1x128x192x8x64 2 [⟨S1x128x64x8x64, (u0 : (⟨S1x128x64x8x64, .f32⟩ : BufTy).Contents (Elt F))⟩, ⟨S1x128x64x8x64, (u1 : (⟨S1x128x64x8x64, .f32⟩ : BufTy).Contents (Elt F))⟩, ⟨S1x128x64x8x64, (u2 : (⟨S1x128x64x8x64, .f32⟩ : BufTy).Contents (Elt F))⟩] concatenates_S1x128x64x8x64_S1x128x64x8x64_S1x128x64x8x64_S1x128x192x8x64_d2 : (⟨S1x128x192x8x64, .f32⟩ : BufTy).Contents (Elt F)))

/-- The pieces that `main_v86` joins, as one function. -/
def fn_main_v86 : (⟨S16x128x8x64, .f32⟩ : BufTy).Contents (Elt F) → (⟨S16x64x8x64, .f32⟩ : BufTy).Contents (Elt F) → (⟨S16x192x8x64, .f32⟩ : BufTy).Contents (Elt F) :=
  (fun a b => concatenate S16x192x8x64 1 [⟨S16x128x8x64, a⟩, ⟨S16x64x8x64, b⟩] concatenates_S16x128x8x64_S16x64x8x64_S16x192x8x64_d1)

/-- The pieces that `main_v88` joins, as one function. -/
def fn_main_v88 : (⟨S16x128x8x64, .f32⟩ : BufTy).Contents (Elt F) → (⟨S16x64x8x64, .f32⟩ : BufTy).Contents (Elt F) → (⟨S16x192x8x64, .f32⟩ : BufTy).Contents (Elt F) :=
  (fun a b => concatenate S16x192x8x64 1 [⟨S16x128x8x64, a⟩, ⟨S16x64x8x64, b⟩] concatenates_S16x128x8x64_S16x64x8x64_S16x192x8x64_d1)

/-- The pieces that `main_v121` joins, as one function. -/
def fn_main_v121 : (⟨S8192x2048, .f32⟩ : BufTy).Contents (Elt F) → (⟨S1024x2048, .f32⟩ : BufTy).Contents (Elt F) → (⟨S9216x2048, .f32⟩ : BufTy).Contents (Elt F) :=
  (fun a b => concatenate S9216x2048 0 [⟨S8192x2048, a⟩, ⟨S1024x2048, b⟩] concatenates_S8192x2048_S1024x2048_S9216x2048_d0)

/-- Line A of the reference. -/
abbrev lA : List (HloOp τ sig (Elt F)) :=
  [ unary main_arg0 main_v0 ((extf .f32 · bitsLt_bf16_f32) : (⟨S9216x4096, .bf16⟩ : BufTy).Contents (Elt F) → (⟨S9216x4096, .f32⟩ : BufTy).Contents (Elt F)),
    unary main_arg1 main_v1 ((extractStridedSlice S4096x4096 ![0, 0] · slices_S4096x15360_S4096x4096_0_0) : (⟨S4096x15360, .f32⟩ : BufTy).Contents (Elt F) → (⟨S4096x4096, .f32⟩ : BufTy).Contents (Elt F)),
    binary main_v0 main_v1 main_v2 ((fun l r => Host.dotGeneral dot_S9216x4096_S4096x4096_S9216x4096_1_0_0_1_n_n none l r) : (⟨S9216x4096, .f32⟩ : BufTy).Contents (Elt F) → (⟨S4096x4096, .f32⟩ : BufTy).Contents (Elt F) → (⟨S9216x4096, .f32⟩ : BufTy).Contents (Elt F)) ]

/-- What line A writes. -/
theorem lA_writes : (lA (F := F)).map HloOp.writes = [main_v0, main_v1, main_v2].map fun w => {Proc.devRef (τ := τ) .tc w} := rfl

/-- The projection. -/
def v2 (xarg0 : main_arg0.ty.Contents (Elt F)) (xarg1 : main_arg1.ty.Contents (Elt F)) : main_v2.ty.Contents (Elt F) :=
  (((fun l r => Host.dotGeneral dot_S9216x4096_S4096x4096_S9216x4096_1_0_0_1_n_n none l r) : (⟨S9216x4096, .f32⟩ : BufTy).Contents (Elt F) → (⟨S4096x4096, .f32⟩ : BufTy).Contents (Elt F) → (⟨S9216x4096, .f32⟩ : BufTy).Contents (Elt F)) (((extf .f32 · bitsLt_bf16_f32) : (⟨S9216x4096, .bf16⟩ : BufTy).Contents (Elt F) → (⟨S9216x4096, .f32⟩ : BufTy).Contents (Elt F)) xarg0) (((extractStridedSlice S4096x4096 ![0, 0] · slices_S4096x15360_S4096x4096_0_0) : (⟨S4096x15360, .f32⟩ : BufTy).Contents (Elt F) → (⟨S4096x4096, .f32⟩ : BufTy).Contents (Elt F)) xarg1))

theorem lA_v2 (V : Valuation τ sig (Elt F)) : after lA V (Proc.devRef .tc main_v2) = v2 (V (Proc.devRef .tc main_arg0)) (V (Proc.devRef .tc main_arg1)) := by
  simp only [lA, TRef.binary, TRef.ternary, TRef.unary, TRef.toBuf, TRef.ofBuf, cast_eq]; after_results_simp <;> (try dsimp only [Matrix.cons_val]) <;> (try after_results_simp) <;> rfl

/-- Line A2 of the reference. -/
abbrev lA2 : List (HloOp τ sig (Elt F)) :=
  [ binary main_v2 main_v2 main_v3 (mulf : (⟨S9216x4096, .f32⟩ : BufTy).Contents (Elt F) → (⟨S9216x4096, .f32⟩ : BufTy).Contents (Elt F) → (⟨S9216x4096, .f32⟩ : BufTy).Contents (Elt F)),
    binary main_v3 main_v2 main_v4 (mulf : (⟨S9216x4096, .f32⟩ : BufTy).Contents (Elt F) → (⟨S9216x4096, .f32⟩ : BufTy).Contents (Elt F) → (⟨S9216x4096, .f32⟩ : BufTy).Contents (Elt F)),
    nullary main_cst (constant S_ .f32 0x3D372713#32),
    unary main_cst main_v5 (broadcastInDim S9216x4096 ![] bcast_S_S9216x4096 : (⟨S_, .f32⟩ : BufTy).Contents (Elt F) → (⟨S9216x4096, .f32⟩ : BufTy).Contents (Elt F)),
    binary main_v5 main_v4 main_v6 (mulf : (⟨S9216x4096, .f32⟩ : BufTy).Contents (Elt F) → (⟨S9216x4096, .f32⟩ : BufTy).Contents (Elt F) → (⟨S9216x4096, .f32⟩ : BufTy).Contents (Elt F)),
    binary main_v2 main_v6 main_v7 (addf : (⟨S9216x4096, .f32⟩ : BufTy).Contents (Elt F) → (⟨S9216x4096, .f32⟩ : BufTy).Contents (Elt F) → (⟨S9216x4096, .f32⟩ : BufTy).Contents (Elt F)),
    nullary main_cst_0 (constant S_ .f32 0x3F4C422A#32),
    unary main_cst_0 main_v8 (broadcastInDim S9216x4096 ![] bcast_S_S9216x4096 : (⟨S_, .f32⟩ : BufTy).Contents (Elt F) → (⟨S9216x4096, .f32⟩ : BufTy).Contents (Elt F)),
    binary main_v8 main_v7 main_v9 (mulf : (⟨S9216x4096, .f32⟩ : BufTy).Contents (Elt F) → (⟨S9216x4096, .f32⟩ : BufTy).Contents (Elt F) → (⟨S9216x4096, .f32⟩ : BufTy).Contents (Elt F)),
    unary main_v9 main_v10 (Host.tanh : (⟨S9216x4096, .f32⟩ : BufTy).Contents (Elt F) → (⟨S9216x4096, .f32⟩ : BufTy).Contents (Elt F)),
    nullary main_cst_1 (constant S_ .f32 0x3F800000#32),
    unary main_cst_1 main_v11 (broadcastInDim S9216x4096 ![] bcast_S_S9216x4096 : (⟨S_, .f32⟩ : BufTy).Contents (Elt F) → (⟨S9216x4096, .f32⟩ : BufTy).Contents (Elt F)),
    binary main_v11 main_v10 main_v12 (addf : (⟨S9216x4096, .f32⟩ : BufTy).Contents (Elt F) → (⟨S9216x4096, .f32⟩ : BufTy).Contents (Elt F) → (⟨S9216x4096, .f32⟩ : BufTy).Contents (Elt F)),
    nullary main_cst_2 (constant S_ .f32 0x3F000000#32),
    unary main_cst_2 main_v13 (broadcastInDim S9216x4096 ![] bcast_S_S9216x4096 : (⟨S_, .f32⟩ : BufTy).Contents (Elt F) → (⟨S9216x4096, .f32⟩ : BufTy).Contents (Elt F)),
    binary main_v13 main_v12 main_v14 (mulf : (⟨S9216x4096, .f32⟩ : BufTy).Contents (Elt F) → (⟨S9216x4096, .f32⟩ : BufTy).Contents (Elt F) → (⟨S9216x4096, .f32⟩ : BufTy).Contents (Elt F)),
    binary main_v2 main_v14 main_v15 (mulf : (⟨S9216x4096, .f32⟩ : BufTy).Contents (Elt F) → (⟨S9216x4096, .f32⟩ : BufTy).Contents (Elt F) → (⟨S9216x4096, .f32⟩ : BufTy).Contents (Elt F)) ]

/-- What line A2 writes. -/
theorem lA2_writes : (lA2 (F := F)).map HloOp.writes = [main_v3, main_v4, main_cst, main_v5, main_v6, main_v7, main_cst_0, main_v8, main_v9, main_v10, main_cst_1, main_v11, main_v12, main_cst_2, main_v13, main_v14, main_v15].map fun w => {Proc.devRef (τ := τ) .tc w} := rfl

/-- The gelu. -/
def v15 (xv2 : main_v2.ty.Contents (Elt F)) : main_v15.ty.Contents (Elt F) :=
  ((mulf : (⟨S9216x4096, .f32⟩ : BufTy).Contents (Elt F) → (⟨S9216x4096, .f32⟩ : BufTy).Contents (Elt F) → (⟨S9216x4096, .f32⟩ : BufTy).Contents (Elt F)) xv2 ((mulf : (⟨S9216x4096, .f32⟩ : BufTy).Contents (Elt F) → (⟨S9216x4096, .f32⟩ : BufTy).Contents (Elt F) → (⟨S9216x4096, .f32⟩ : BufTy).Contents (Elt F)) ((broadcastInDim S9216x4096 ![] bcast_S_S9216x4096 : (⟨S_, .f32⟩ : BufTy).Contents (Elt F) → (⟨S9216x4096, .f32⟩ : BufTy).Contents (Elt F)) ((constant S_ .f32 0x3F000000#32))) ((addf : (⟨S9216x4096, .f32⟩ : BufTy).Contents (Elt F) → (⟨S9216x4096, .f32⟩ : BufTy).Contents (Elt F) → (⟨S9216x4096, .f32⟩ : BufTy).Contents (Elt F)) ((broadcastInDim S9216x4096 ![] bcast_S_S9216x4096 : (⟨S_, .f32⟩ : BufTy).Contents (Elt F) → (⟨S9216x4096, .f32⟩ : BufTy).Contents (Elt F)) ((constant S_ .f32 0x3F800000#32))) ((Host.tanh : (⟨S9216x4096, .f32⟩ : BufTy).Contents (Elt F) → (⟨S9216x4096, .f32⟩ : BufTy).Contents (Elt F)) ((mulf : (⟨S9216x4096, .f32⟩ : BufTy).Contents (Elt F) → (⟨S9216x4096, .f32⟩ : BufTy).Contents (Elt F) → (⟨S9216x4096, .f32⟩ : BufTy).Contents (Elt F)) ((broadcastInDim S9216x4096 ![] bcast_S_S9216x4096 : (⟨S_, .f32⟩ : BufTy).Contents (Elt F) → (⟨S9216x4096, .f32⟩ : BufTy).Contents (Elt F)) ((constant S_ .f32 0x3F4C422A#32))) ((addf : (⟨S9216x4096, .f32⟩ : BufTy).Contents (Elt F) → (⟨S9216x4096, .f32⟩ : BufTy).Contents (Elt F) → (⟨S9216x4096, .f32⟩ : BufTy).Contents (Elt F)) xv2 ((mulf : (⟨S9216x4096, .f32⟩ : BufTy).Contents (Elt F) → (⟨S9216x4096, .f32⟩ : BufTy).Contents (Elt F) → (⟨S9216x4096, .f32⟩ : BufTy).Contents (Elt F)) ((broadcastInDim S9216x4096 ![] bcast_S_S9216x4096 : (⟨S_, .f32⟩ : BufTy).Contents (Elt F) → (⟨S9216x4096, .f32⟩ : BufTy).Contents (Elt F)) ((constant S_ .f32 0x3D372713#32))) ((mulf : (⟨S9216x4096, .f32⟩ : BufTy).Contents (Elt F) → (⟨S9216x4096, .f32⟩ : BufTy).Contents (Elt F) → (⟨S9216x4096, .f32⟩ : BufTy).Contents (Elt F)) ((mulf : (⟨S9216x4096, .f32⟩ : BufTy).Contents (Elt F) → (⟨S9216x4096, .f32⟩ : BufTy).Contents (Elt F) → (⟨S9216x4096, .f32⟩ : BufTy).Contents (Elt F)) xv2 xv2) xv2))))))))

theorem lA2_v15 (V : Valuation τ sig (Elt F)) : after lA2 V (Proc.devRef .tc main_v15) = v15 (V (Proc.devRef .tc main_v2)) := by
  simp only [lA2, TRef.binary, TRef.ternary, TRef.unary, TRef.toBuf, TRef.ofBuf, cast_eq]; after_results_simp <;> (try dsimp only [Matrix.cons_val]) <;> (try after_results_simp) <;> rfl

/-- Line B of the reference. -/
abbrev lB : List (HloOp τ sig (Elt F)) :=
  [ unary main_arg2 main_v16 ((extractStridedSlice S9216x2048 ![0, 0] · slices_S9216x3072_S9216x2048_0_0) : (⟨S9216x3072, .f32⟩ : BufTy).Contents (Elt F) → (⟨S9216x2048, .f32⟩ : BufTy).Contents (Elt F)),
    unary main_arg2 main_v17 ((extractStridedSlice S9216x512 ![0, 2048] · slices_S9216x3072_S9216x512_0_2048) : (⟨S9216x3072, .f32⟩ : BufTy).Contents (Elt F) → (⟨S9216x512, .f32⟩ : BufTy).Contents (Elt F)),
    unary main_arg2 main_v18 ((extractStridedSlice S9216x512 ![0, 2560] · slices_S9216x3072_S9216x512_0_2560) : (⟨S9216x3072, .f32⟩ : BufTy).Contents (Elt F) → (⟨S9216x512, .f32⟩ : BufTy).Contents (Elt F)) ]

/-- What line B writes. -/
theorem lB_writes : (lB (F := F)).map HloOp.writes = [main_v16, main_v17, main_v18].map fun w => {Proc.devRef (τ := τ) .tc w} := rfl

/-- The queries. -/
def v16 (xarg2 : main_arg2.ty.Contents (Elt F)) : main_v16.ty.Contents (Elt F) :=
  (((extractStridedSlice S9216x2048 ![0, 0] · slices_S9216x3072_S9216x2048_0_0) : (⟨S9216x3072, .f32⟩ : BufTy).Contents (Elt F) → (⟨S9216x2048, .f32⟩ : BufTy).Contents (Elt F)) xarg2)

theorem lB_v16 (V : Valuation τ sig (Elt F)) : after lB V (Proc.devRef .tc main_v16) = v16 (V (Proc.devRef .tc main_arg2)) := by
  simp only [lB, TRef.binary, TRef.ternary, TRef.unary, TRef.toBuf, TRef.ofBuf, cast_eq]; after_results_simp <;> (try dsimp only [Matrix.cons_val]) <;> (try after_results_simp) <;> rfl

/-- The keys. -/
def v17 (xarg2 : main_arg2.ty.Contents (Elt F)) : main_v17.ty.Contents (Elt F) :=
  (((extractStridedSlice S9216x512 ![0, 2048] · slices_S9216x3072_S9216x512_0_2048) : (⟨S9216x3072, .f32⟩ : BufTy).Contents (Elt F) → (⟨S9216x512, .f32⟩ : BufTy).Contents (Elt F)) xarg2)

theorem lB_v17 (V : Valuation τ sig (Elt F)) : after lB V (Proc.devRef .tc main_v17) = v17 (V (Proc.devRef .tc main_arg2)) := by
  simp only [lB, TRef.binary, TRef.ternary, TRef.unary, TRef.toBuf, TRef.ofBuf, cast_eq]; after_results_simp <;> (try dsimp only [Matrix.cons_val]) <;> (try after_results_simp) <;> rfl

/-- The values. -/
def v18 (xarg2 : main_arg2.ty.Contents (Elt F)) : main_v18.ty.Contents (Elt F) :=
  (((extractStridedSlice S9216x512 ![0, 2560] · slices_S9216x3072_S9216x512_0_2560) : (⟨S9216x3072, .f32⟩ : BufTy).Contents (Elt F) → (⟨S9216x512, .f32⟩ : BufTy).Contents (Elt F)) xarg2)

theorem lB_v18 (V : Valuation τ sig (Elt F)) : after lB V (Proc.devRef .tc main_v18) = v18 (V (Proc.devRef .tc main_arg2)) := by
  simp only [lB, TRef.binary, TRef.ternary, TRef.unary, TRef.toBuf, TRef.ofBuf, cast_eq]; after_results_simp <;> (try dsimp only [Matrix.cons_val]) <;> (try after_results_simp) <;> rfl

/-- Line C of the reference. -/
abbrev lC : List (HloOp τ sig (Elt F)) :=
  [ unary main_v16 main_v19 ((extractStridedSlice S8192x2048 ![0, 0] · slices_S9216x2048_S8192x2048_0_0) : (⟨S9216x2048, .f32⟩ : BufTy).Contents (Elt F) → (⟨S8192x2048, .f32⟩ : BufTy).Contents (Elt F)),
    reshape main_v19 main_v20 (rfl : (.f32 : EltTy) = .f32) shapeCasts_S8192x2048_S1x8192x32x64,
    unary main_v17 main_v21 ((extractStridedSlice S8192x512 ![0, 0] · slices_S9216x512_S8192x512_0_0) : (⟨S9216x512, .f32⟩ : BufTy).Contents (Elt F) → (⟨S8192x512, .f32⟩ : BufTy).Contents (Elt F)),
    reshape main_v21 main_v22 (rfl : (.f32 : EltTy) = .f32) shapeCasts_S8192x512_S1x8192x8x64,
    unary main_v18 main_v23 ((extractStridedSlice S8192x512 ![0, 0] · slices_S9216x512_S8192x512_0_0) : (⟨S9216x512, .f32⟩ : BufTy).Contents (Elt F) → (⟨S8192x512, .f32⟩ : BufTy).Contents (Elt F)),
    reshape main_v23 main_v24 (rfl : (.f32 : EltTy) = .f32) shapeCasts_S8192x512_S1x8192x8x64,
    nullary main_c (constantI S_ 32 0#32),
    TRef.unary (TRef.of (T := ⟨S_, .i32⟩) main_c) (TRef.of (T := ⟨S_, .f32⟩) main_call0_v0) (sitofp .f32),
    TRef.binary (TRef.of (T := ⟨S1x8192x8x64, .f32⟩) main_v22) (TRef.of (T := ⟨S_, .f32⟩) main_call0_v0) (TRef.of (T := ⟨S1x8320x8x64, .f32⟩) main_v25) (fun x v => pad S1x8320x8x64 ![0, 128, 0, 0] ![0, 0, 0, 0] ![0, 0, 0, 0] x v pads_S1x8192x8x64_S1x8320x8x64_000_12800_000_000 h_S_),
    reshape main_v25 main_v26 (rfl : (.f32 : EltTy) = .f32) shapeCasts_S1x8320x8x64_S1x130x64x8x64,
    nullary main_c_3 (constantI S_ 32 0#32),
    TRef.unary (TRef.of (T := ⟨S_, .i32⟩) main_c_3) (TRef.of (T := ⟨S_, .f32⟩) main_call1_v0) (sitofp .f32),
    TRef.binary (TRef.of (T := ⟨S1x8192x8x64, .f32⟩) main_v24) (TRef.of (T := ⟨S_, .f32⟩) main_call1_v0) (TRef.of (T := ⟨S1x8320x8x64, .f32⟩) main_v27) (fun x v => pad S1x8320x8x64 ![0, 128, 0, 0] ![0, 0, 0, 0] ![0, 0, 0, 0] x v pads_S1x8192x8x64_S1x8320x8x64_000_12800_000_000 h_S_),
    reshape main_v27 main_v28 (rfl : (.f32 : EltTy) = .f32) shapeCasts_S1x8320x8x64_S1x130x64x8x64,
    unary main_v26 main_v29 ((extractStridedSlice S1x128x64x8x64 ![0, 0, 0, 0, 0] · slices_S1x130x64x8x64_S1x128x64x8x64_0_0_0_0_0) : (⟨S1x130x64x8x64, .f32⟩ : BufTy).Contents (Elt F) → (⟨S1x128x64x8x64, .f32⟩ : BufTy).Contents (Elt F)),
    unary main_v26 main_v30 ((extractStridedSlice S1x128x64x8x64 ![0, 1, 0, 0, 0] · slices_S1x130x64x8x64_S1x128x64x8x64_0_1_0_0_0) : (⟨S1x130x64x8x64, .f32⟩ : BufTy).Contents (Elt F) → (⟨S1x128x64x8x64, .f32⟩ : BufTy).Contents (Elt F)),
    unary main_v26 main_v31 ((extractStridedSlice S1x128x64x8x64 ![0, 2, 0, 0, 0] · slices_S1x130x64x8x64_S1x128x64x8x64_0_2_0_0_0) : (⟨S1x130x64x8x64, .f32⟩ : BufTy).Contents (Elt F) → (⟨S1x128x64x8x64, .f32⟩ : BufTy).Contents (Elt F)),
    nary ![main_v29, main_v30, main_v31] main_v32 (fun u => fn_main_v32 (F := F) (u 0) (u 1) (u 2)),
    unary main_v28 main_v33 ((extractStridedSlice S1x128x64x8x64 ![0, 0, 0, 0, 0] · slices_S1x130x64x8x64_S1x128x64x8x64_0_0_0_0_0) : (⟨S1x130x64x8x64, .f32⟩ : BufTy).Contents (Elt F) → (⟨S1x128x64x8x64, .f32⟩ : BufTy).Contents (Elt F)),
    unary main_v28 main_v34 ((extractStridedSlice S1x128x64x8x64 ![0, 1, 0, 0, 0] · slices_S1x130x64x8x64_S1x128x64x8x64_0_1_0_0_0) : (⟨S1x130x64x8x64, .f32⟩ : BufTy).Contents (Elt F) → (⟨S1x128x64x8x64, .f32⟩ : BufTy).Contents (Elt F)),
    unary main_v28 main_v35 ((extractStridedSlice S1x128x64x8x64 ![0, 2, 0, 0, 0] · slices_S1x130x64x8x64_S1x128x64x8x64_0_2_0_0_0) : (⟨S1x130x64x8x64, .f32⟩ : BufTy).Contents (Elt F) → (⟨S1x128x64x8x64, .f32⟩ : BufTy).Contents (Elt F)),
    nary ![main_v33, main_v34, main_v35] main_v36 (fun u => fn_main_v36 (F := F) (u 0) (u 1) (u 2)) ]

/-- What line C writes. -/
theorem lC_writes : (lC (F := F)).map HloOp.writes = [main_v19, main_v20, main_v21, main_v22, main_v23, main_v24, main_c, main_call0_v0, main_v25, main_v26, main_c_3, main_call1_v0, main_v27, main_v28, main_v29, main_v30, main_v31, main_v32, main_v33, main_v34, main_v35, main_v36].map fun w => {Proc.devRef (τ := τ) .tc w} := rfl

/-- The prompt's queries. -/
def v20 (xv16 : main_v16.ty.Contents (Elt F)) : main_v20.ty.Contents (Elt F) :=
  (shapeCast _ (((extractStridedSlice S8192x2048 ![0, 0] · slices_S9216x2048_S8192x2048_0_0) : (⟨S9216x2048, .f32⟩ : BufTy).Contents (Elt F) → (⟨S8192x2048, .f32⟩ : BufTy).Contents (Elt F)) xv16) shapeCasts_S8192x2048_S1x8192x32x64)

theorem lC_v20 (V : Valuation τ sig (Elt F)) : after lC V (Proc.devRef .tc main_v20) = v20 (V (Proc.devRef .tc main_v16)) := by
  simp only [lC, TRef.binary, TRef.ternary, TRef.unary, TRef.toBuf, TRef.ofBuf, cast_eq]; after_results_simp <;> (try dsimp only [Matrix.cons_val]) <;> (try after_results_simp) <;> rfl

/-- The prompt's key windows. -/
def v32 (xv17 : main_v17.ty.Contents (Elt F)) : main_v32.ty.Contents (Elt F) :=
  (fn_main_v32 (F := F) (((extractStridedSlice S1x128x64x8x64 ![0, 0, 0, 0, 0] · slices_S1x130x64x8x64_S1x128x64x8x64_0_0_0_0_0) : (⟨S1x130x64x8x64, .f32⟩ : BufTy).Contents (Elt F) → (⟨S1x128x64x8x64, .f32⟩ : BufTy).Contents (Elt F)) (shapeCast _ (((fun x v => pad S1x8320x8x64 ![0, 128, 0, 0] ![0, 0, 0, 0] ![0, 0, 0, 0] x v pads_S1x8192x8x64_S1x8320x8x64_000_12800_000_000 h_S_) : (⟨S1x8192x8x64, .f32⟩ : BufTy).Contents (Elt F) → (⟨S_, .f32⟩ : BufTy).Contents (Elt F) → (⟨S1x8320x8x64, .f32⟩ : BufTy).Contents (Elt F)) (shapeCast _ (((extractStridedSlice S8192x512 ![0, 0] · slices_S9216x512_S8192x512_0_0) : (⟨S9216x512, .f32⟩ : BufTy).Contents (Elt F) → (⟨S8192x512, .f32⟩ : BufTy).Contents (Elt F)) xv17) shapeCasts_S8192x512_S1x8192x8x64) (((sitofp .f32) : (⟨S_, .i32⟩ : BufTy).Contents (Elt F) → (⟨S_, .f32⟩ : BufTy).Contents (Elt F)) ((constantI S_ 32 0#32)))) shapeCasts_S1x8320x8x64_S1x130x64x8x64)) (((extractStridedSlice S1x128x64x8x64 ![0, 1, 0, 0, 0] · slices_S1x130x64x8x64_S1x128x64x8x64_0_1_0_0_0) : (⟨S1x130x64x8x64, .f32⟩ : BufTy).Contents (Elt F) → (⟨S1x128x64x8x64, .f32⟩ : BufTy).Contents (Elt F)) (shapeCast _ (((fun x v => pad S1x8320x8x64 ![0, 128, 0, 0] ![0, 0, 0, 0] ![0, 0, 0, 0] x v pads_S1x8192x8x64_S1x8320x8x64_000_12800_000_000 h_S_) : (⟨S1x8192x8x64, .f32⟩ : BufTy).Contents (Elt F) → (⟨S_, .f32⟩ : BufTy).Contents (Elt F) → (⟨S1x8320x8x64, .f32⟩ : BufTy).Contents (Elt F)) (shapeCast _ (((extractStridedSlice S8192x512 ![0, 0] · slices_S9216x512_S8192x512_0_0) : (⟨S9216x512, .f32⟩ : BufTy).Contents (Elt F) → (⟨S8192x512, .f32⟩ : BufTy).Contents (Elt F)) xv17) shapeCasts_S8192x512_S1x8192x8x64) (((sitofp .f32) : (⟨S_, .i32⟩ : BufTy).Contents (Elt F) → (⟨S_, .f32⟩ : BufTy).Contents (Elt F)) ((constantI S_ 32 0#32)))) shapeCasts_S1x8320x8x64_S1x130x64x8x64)) (((extractStridedSlice S1x128x64x8x64 ![0, 2, 0, 0, 0] · slices_S1x130x64x8x64_S1x128x64x8x64_0_2_0_0_0) : (⟨S1x130x64x8x64, .f32⟩ : BufTy).Contents (Elt F) → (⟨S1x128x64x8x64, .f32⟩ : BufTy).Contents (Elt F)) (shapeCast _ (((fun x v => pad S1x8320x8x64 ![0, 128, 0, 0] ![0, 0, 0, 0] ![0, 0, 0, 0] x v pads_S1x8192x8x64_S1x8320x8x64_000_12800_000_000 h_S_) : (⟨S1x8192x8x64, .f32⟩ : BufTy).Contents (Elt F) → (⟨S_, .f32⟩ : BufTy).Contents (Elt F) → (⟨S1x8320x8x64, .f32⟩ : BufTy).Contents (Elt F)) (shapeCast _ (((extractStridedSlice S8192x512 ![0, 0] · slices_S9216x512_S8192x512_0_0) : (⟨S9216x512, .f32⟩ : BufTy).Contents (Elt F) → (⟨S8192x512, .f32⟩ : BufTy).Contents (Elt F)) xv17) shapeCasts_S8192x512_S1x8192x8x64) (((sitofp .f32) : (⟨S_, .i32⟩ : BufTy).Contents (Elt F) → (⟨S_, .f32⟩ : BufTy).Contents (Elt F)) ((constantI S_ 32 0#32)))) shapeCasts_S1x8320x8x64_S1x130x64x8x64)))

theorem lC_v32 (V : Valuation τ sig (Elt F)) : after lC V (Proc.devRef .tc main_v32) = v32 (V (Proc.devRef .tc main_v17)) := by
  simp only [lC, TRef.binary, TRef.ternary, TRef.unary, TRef.toBuf, TRef.ofBuf, cast_eq]; after_results_simp <;> (try dsimp only [Matrix.cons_val]) <;> (try after_results_simp) <;> rfl

/-- The prompt's value windows. -/
def v36 (xv18 : main_v18.ty.Contents (Elt F)) : main_v36.ty.Contents (Elt F) :=
  (fn_main_v36 (F := F) (((extractStridedSlice S1x128x64x8x64 ![0, 0, 0, 0, 0] · slices_S1x130x64x8x64_S1x128x64x8x64_0_0_0_0_0) : (⟨S1x130x64x8x64, .f32⟩ : BufTy).Contents (Elt F) → (⟨S1x128x64x8x64, .f32⟩ : BufTy).Contents (Elt F)) (shapeCast _ (((fun x v => pad S1x8320x8x64 ![0, 128, 0, 0] ![0, 0, 0, 0] ![0, 0, 0, 0] x v pads_S1x8192x8x64_S1x8320x8x64_000_12800_000_000 h_S_) : (⟨S1x8192x8x64, .f32⟩ : BufTy).Contents (Elt F) → (⟨S_, .f32⟩ : BufTy).Contents (Elt F) → (⟨S1x8320x8x64, .f32⟩ : BufTy).Contents (Elt F)) (shapeCast _ (((extractStridedSlice S8192x512 ![0, 0] · slices_S9216x512_S8192x512_0_0) : (⟨S9216x512, .f32⟩ : BufTy).Contents (Elt F) → (⟨S8192x512, .f32⟩ : BufTy).Contents (Elt F)) xv18) shapeCasts_S8192x512_S1x8192x8x64) (((sitofp .f32) : (⟨S_, .i32⟩ : BufTy).Contents (Elt F) → (⟨S_, .f32⟩ : BufTy).Contents (Elt F)) ((constantI S_ 32 0#32)))) shapeCasts_S1x8320x8x64_S1x130x64x8x64)) (((extractStridedSlice S1x128x64x8x64 ![0, 1, 0, 0, 0] · slices_S1x130x64x8x64_S1x128x64x8x64_0_1_0_0_0) : (⟨S1x130x64x8x64, .f32⟩ : BufTy).Contents (Elt F) → (⟨S1x128x64x8x64, .f32⟩ : BufTy).Contents (Elt F)) (shapeCast _ (((fun x v => pad S1x8320x8x64 ![0, 128, 0, 0] ![0, 0, 0, 0] ![0, 0, 0, 0] x v pads_S1x8192x8x64_S1x8320x8x64_000_12800_000_000 h_S_) : (⟨S1x8192x8x64, .f32⟩ : BufTy).Contents (Elt F) → (⟨S_, .f32⟩ : BufTy).Contents (Elt F) → (⟨S1x8320x8x64, .f32⟩ : BufTy).Contents (Elt F)) (shapeCast _ (((extractStridedSlice S8192x512 ![0, 0] · slices_S9216x512_S8192x512_0_0) : (⟨S9216x512, .f32⟩ : BufTy).Contents (Elt F) → (⟨S8192x512, .f32⟩ : BufTy).Contents (Elt F)) xv18) shapeCasts_S8192x512_S1x8192x8x64) (((sitofp .f32) : (⟨S_, .i32⟩ : BufTy).Contents (Elt F) → (⟨S_, .f32⟩ : BufTy).Contents (Elt F)) ((constantI S_ 32 0#32)))) shapeCasts_S1x8320x8x64_S1x130x64x8x64)) (((extractStridedSlice S1x128x64x8x64 ![0, 2, 0, 0, 0] · slices_S1x130x64x8x64_S1x128x64x8x64_0_2_0_0_0) : (⟨S1x130x64x8x64, .f32⟩ : BufTy).Contents (Elt F) → (⟨S1x128x64x8x64, .f32⟩ : BufTy).Contents (Elt F)) (shapeCast _ (((fun x v => pad S1x8320x8x64 ![0, 128, 0, 0] ![0, 0, 0, 0] ![0, 0, 0, 0] x v pads_S1x8192x8x64_S1x8320x8x64_000_12800_000_000 h_S_) : (⟨S1x8192x8x64, .f32⟩ : BufTy).Contents (Elt F) → (⟨S_, .f32⟩ : BufTy).Contents (Elt F) → (⟨S1x8320x8x64, .f32⟩ : BufTy).Contents (Elt F)) (shapeCast _ (((extractStridedSlice S8192x512 ![0, 0] · slices_S9216x512_S8192x512_0_0) : (⟨S9216x512, .f32⟩ : BufTy).Contents (Elt F) → (⟨S8192x512, .f32⟩ : BufTy).Contents (Elt F)) xv18) shapeCasts_S8192x512_S1x8192x8x64) (((sitofp .f32) : (⟨S_, .i32⟩ : BufTy).Contents (Elt F) → (⟨S_, .f32⟩ : BufTy).Contents (Elt F)) ((constantI S_ 32 0#32)))) shapeCasts_S1x8320x8x64_S1x130x64x8x64)))

theorem lC_v36 (V : Valuation τ sig (Elt F)) : after lC V (Proc.devRef .tc main_v36) = v36 (V (Proc.devRef .tc main_v18)) := by
  simp only [lC, TRef.binary, TRef.ternary, TRef.unary, TRef.toBuf, TRef.ofBuf, cast_eq]; after_results_simp <;> (try dsimp only [Matrix.cons_val]) <;> (try after_results_simp) <;> rfl

/-- Line D of the reference. -/
abbrev lD : List (HloOp τ sig (Elt F)) :=
  [ nullary main_v37 (iotaInDim S128 32 0),
    nullary main_c_4 (constantI S_ 32 64#32),
    unary main_c_4 main_v38 (broadcastInDim S128 ![] bcast_S_S128 : (⟨S_, .i32⟩ : BufTy).Contents (Elt F) → (⟨S128, .i32⟩ : BufTy).Contents (Elt F)),
    binary main_v37 main_v38 main_v39 (muli : (⟨S128, .i32⟩ : BufTy).Contents (Elt F) → (⟨S128, .i32⟩ : BufTy).Contents (Elt F) → (⟨S128, .i32⟩ : BufTy).Contents (Elt F)),
    unary main_v39 main_v40 (broadcastInDim S128x1 ![0] bcast_S128_S128x1_0 : (⟨S128, .i32⟩ : BufTy).Contents (Elt F) → (⟨S128x1, .i32⟩ : BufTy).Contents (Elt F)),
    nullary main_c_5 (constantI S_ 32 128#32),
    unary main_c_5 main_v41 (broadcastInDim S128x1 ![] bcast_S_S128x1 : (⟨S_, .i32⟩ : BufTy).Contents (Elt F) → (⟨S128x1, .i32⟩ : BufTy).Contents (Elt F)),
    binary main_v40 main_v41 main_v42 (subi : (⟨S128x1, .i32⟩ : BufTy).Contents (Elt F) → (⟨S128x1, .i32⟩ : BufTy).Contents (Elt F) → (⟨S128x1, .i32⟩ : BufTy).Contents (Elt F)),
    nullary main_v43 (iotaInDim S192 32 0),
    unary main_v43 main_v44 (broadcastInDim S1x192 ![1] bcast_S192_S1x192_1 : (⟨S192, .i32⟩ : BufTy).Contents (Elt F) → (⟨S1x192, .i32⟩ : BufTy).Contents (Elt F)),
    unary main_v42 main_v45 (broadcastInDim S128x192 ![0, 1] bcast_S128x1_S128x192_0_1 : (⟨S128x1, .i32⟩ : BufTy).Contents (Elt F) → (⟨S128x192, .i32⟩ : BufTy).Contents (Elt F)),
    unary main_v44 main_v46 (broadcastInDim S128x192 ![0, 1] bcast_S1x192_S128x192_0_1 : (⟨S1x192, .i32⟩ : BufTy).Contents (Elt F) → (⟨S128x192, .i32⟩ : BufTy).Contents (Elt F)),
    binary main_v45 main_v46 main_v47 (addi : (⟨S128x192, .i32⟩ : BufTy).Contents (Elt F) → (⟨S128x192, .i32⟩ : BufTy).Contents (Elt F) → (⟨S128x192, .i32⟩ : BufTy).Contents (Elt F)),
    nullary main_c_6 (constantI S_ 32 0#32),
    unary main_c_6 main_v48 (broadcastInDim S128x192 ![] bcast_S_S128x192 : (⟨S_, .i32⟩ : BufTy).Contents (Elt F) → (⟨S128x192, .i32⟩ : BufTy).Contents (Elt F)),
    binary main_v47 main_v48 main_v49 (cmpi .sge : (⟨S128x192, .i32⟩ : BufTy).Contents (Elt F) → (⟨S128x192, .i32⟩ : BufTy).Contents (Elt F) → (⟨S128x192, .i1⟩ : BufTy).Contents (Elt F)),
    unary main_v49 main_v50 (broadcastInDim S128x1x192 ![0, 2] bcast_S128x192_S128x1x192_0_2 : (⟨S128x192, .i1⟩ : BufTy).Contents (Elt F) → (⟨S128x1x192, .i1⟩ : BufTy).Contents (Elt F)),
    unary main_v50 main_v51 (broadcastInDim S128x64x192 ![0, 1, 2] bcast_S128x1x192_S128x64x192_0_1_2 : (⟨S128x1x192, .i1⟩ : BufTy).Contents (Elt F) → (⟨S128x64x192, .i1⟩ : BufTy).Contents (Elt F)) ]

/-- What line D writes. -/
theorem lD_writes : (lD (F := F)).map HloOp.writes = [main_v37, main_c_4, main_v38, main_v39, main_v40, main_c_5, main_v41, main_v42, main_v43, main_v44, main_v45, main_v46, main_v47, main_c_6, main_v48, main_v49, main_v50, main_v51].map fun w => {Proc.devRef (τ := τ) .tc w} := rfl

/-- The prompt's mask. -/
def v51  : main_v51.ty.Contents (Elt F) :=
  ((broadcastInDim S128x64x192 ![0, 1, 2] bcast_S128x1x192_S128x64x192_0_1_2 : (⟨S128x1x192, .i1⟩ : BufTy).Contents (Elt F) → (⟨S128x64x192, .i1⟩ : BufTy).Contents (Elt F)) ((broadcastInDim S128x1x192 ![0, 2] bcast_S128x192_S128x1x192_0_2 : (⟨S128x192, .i1⟩ : BufTy).Contents (Elt F) → (⟨S128x1x192, .i1⟩ : BufTy).Contents (Elt F)) ((cmpi .sge : (⟨S128x192, .i32⟩ : BufTy).Contents (Elt F) → (⟨S128x192, .i32⟩ : BufTy).Contents (Elt F) → (⟨S128x192, .i1⟩ : BufTy).Contents (Elt F)) ((addi : (⟨S128x192, .i32⟩ : BufTy).Contents (Elt F) → (⟨S128x192, .i32⟩ : BufTy).Contents (Elt F) → (⟨S128x192, .i32⟩ : BufTy).Contents (Elt F)) ((broadcastInDim S128x192 ![0, 1] bcast_S128x1_S128x192_0_1 : (⟨S128x1, .i32⟩ : BufTy).Contents (Elt F) → (⟨S128x192, .i32⟩ : BufTy).Contents (Elt F)) ((subi : (⟨S128x1, .i32⟩ : BufTy).Contents (Elt F) → (⟨S128x1, .i32⟩ : BufTy).Contents (Elt F) → (⟨S128x1, .i32⟩ : BufTy).Contents (Elt F)) ((broadcastInDim S128x1 ![0] bcast_S128_S128x1_0 : (⟨S128, .i32⟩ : BufTy).Contents (Elt F) → (⟨S128x1, .i32⟩ : BufTy).Contents (Elt F)) ((muli : (⟨S128, .i32⟩ : BufTy).Contents (Elt F) → (⟨S128, .i32⟩ : BufTy).Contents (Elt F) → (⟨S128, .i32⟩ : BufTy).Contents (Elt F)) ((iotaInDim S128 32 0)) ((broadcastInDim S128 ![] bcast_S_S128 : (⟨S_, .i32⟩ : BufTy).Contents (Elt F) → (⟨S128, .i32⟩ : BufTy).Contents (Elt F)) ((constantI S_ 32 64#32))))) ((broadcastInDim S128x1 ![] bcast_S_S128x1 : (⟨S_, .i32⟩ : BufTy).Contents (Elt F) → (⟨S128x1, .i32⟩ : BufTy).Contents (Elt F)) ((constantI S_ 32 128#32))))) ((broadcastInDim S128x192 ![0, 1] bcast_S1x192_S128x192_0_1 : (⟨S1x192, .i32⟩ : BufTy).Contents (Elt F) → (⟨S128x192, .i32⟩ : BufTy).Contents (Elt F)) ((broadcastInDim S1x192 ![1] bcast_S192_S1x192_1 : (⟨S192, .i32⟩ : BufTy).Contents (Elt F) → (⟨S1x192, .i32⟩ : BufTy).Contents (Elt F)) ((iotaInDim S192 32 0))))) ((broadcastInDim S128x192 ![] bcast_S_S128x192 : (⟨S_, .i32⟩ : BufTy).Contents (Elt F) → (⟨S128x192, .i32⟩ : BufTy).Contents (Elt F)) ((constantI S_ 32 0#32))))))

theorem lD_v51 (V : Valuation τ sig (Elt F)) : after lD V (Proc.devRef .tc main_v51) = v51  := by
  simp only [lD, TRef.binary, TRef.ternary, TRef.unary, TRef.toBuf, TRef.ofBuf, cast_eq]; after_results_simp <;> (try dsimp only [Matrix.cons_val]) <;> (try after_results_simp) <;> rfl

/-- Line E of the reference. -/
abbrev lE : List (HloOp τ sig (Elt F)) :=
  [ reshape main_v20 main_v52 (rfl : (.f32 : EltTy) = .f32) shapeCasts_S1x8192x32x64_S1x128x64x32x64,
    reshape main_v52 main_v53 (rfl : (.f32 : EltTy) = .f32) shapeCasts_S1x128x64x32x64_S1x128x64x8x4x64,
    binary main_v32 main_v53 main_v54 ((fun l r => Host.dotGeneral dot_S1x128x192x8x64_S1x128x64x8x4x64_S1x128x8x192x64x4_4_5_2_24_013_013 none l r) : (⟨S1x128x192x8x64, .f32⟩ : BufTy).Contents (Elt F) → (⟨S1x128x64x8x4x64, .f32⟩ : BufTy).Contents (Elt F) → (⟨S1x128x8x192x64x4, .f32⟩ : BufTy).Contents (Elt F)),
    unary main_v54 main_v55 ((transpose S1x128x8x4x64x192 [0, 1, 2, 5, 4, 3] · transposes_S1x128x8x192x64x4_S1x128x8x4x64x192_0_1_2_5_4_3) : (⟨S1x128x8x192x64x4, .f32⟩ : BufTy).Contents (Elt F) → (⟨S1x128x8x4x64x192, .f32⟩ : BufTy).Contents (Elt F)),
    nullary main_cst_7 (constant S_ .f32 0x3E000000#32),
    unary main_cst_7 main_v56 (broadcastInDim S1x128x8x4x64x192 ![] bcast_S_S1x128x8x4x64x192 : (⟨S_, .f32⟩ : BufTy).Contents (Elt F) → (⟨S1x128x8x4x64x192, .f32⟩ : BufTy).Contents (Elt F)),
    binary main_v55 main_v56 main_v57 (mulf : (⟨S1x128x8x4x64x192, .f32⟩ : BufTy).Contents (Elt F) → (⟨S1x128x8x4x64x192, .f32⟩ : BufTy).Contents (Elt F) → (⟨S1x128x8x4x64x192, .f32⟩ : BufTy).Contents (Elt F)),
    unary main_v51 main_v58 (broadcastInDim S1x128x1x1x64x192 ![1, 4, 5] bcast_S128x64x192_S1x128x1x1x64x192_1_4_5 : (⟨S128x64x192, .i1⟩ : BufTy).Contents (Elt F) → (⟨S1x128x1x1x64x192, .i1⟩ : BufTy).Contents (Elt F)),
    nullary main_cst_8 (constant S_ .f32 0xFF800000#32),
    TRef.unary (TRef.of (T := ⟨S_, .f32⟩) main_cst_8) (TRef.of (T := ⟨S_, .f32⟩) main_call2_v0) id,
    TRef.unary (TRef.of (T := ⟨S1x128x1x1x64x192, .i1⟩) main_v58) (TRef.of (T := ⟨S1x128x8x4x64x192, .i1⟩) main_call2_v1) (broadcastInDim S1x128x8x4x64x192 ![0, 1, 2, 3, 4, 5] bcast_S1x128x1x1x64x192_S1x128x8x4x64x192_0_1_2_3_4_5),
    TRef.unary (TRef.of (T := ⟨S_, .f32⟩) main_call2_v0) (TRef.of (T := ⟨S1x128x8x4x64x192, .f32⟩) main_call2_v2) (broadcastInDim S1x128x8x4x64x192 ![] bcast_S_S1x128x8x4x64x192),
    TRef.ternary (TRef.of (T := ⟨S1x128x8x4x64x192, .i1⟩) main_call2_v1) (TRef.of (T := ⟨S1x128x8x4x64x192, .f32⟩) main_v57) (TRef.of (T := ⟨S1x128x8x4x64x192, .f32⟩) main_call2_v2) (TRef.of (T := ⟨S1x128x8x4x64x192, .f32⟩) main_v59) select ]

/-- What line E writes. -/
theorem lE_writes : (lE (F := F)).map HloOp.writes = [main_v52, main_v53, main_v54, main_v55, main_cst_7, main_v56, main_v57, main_v58, main_cst_8, main_call2_v0, main_call2_v1, main_call2_v2, main_v59].map fun w => {Proc.devRef (τ := τ) .tc w} := rfl

/-- The prompt's masked scores. -/
def v59 (xv51 : main_v51.ty.Contents (Elt F)) (xv32 : main_v32.ty.Contents (Elt F)) (xv20 : main_v20.ty.Contents (Elt F)) : main_v59.ty.Contents (Elt F) :=
  ((select : (⟨S1x128x8x4x64x192, .i1⟩ : BufTy).Contents (Elt F) → (⟨S1x128x8x4x64x192, .f32⟩ : BufTy).Contents (Elt F) → (⟨S1x128x8x4x64x192, .f32⟩ : BufTy).Contents (Elt F) → (⟨S1x128x8x4x64x192, .f32⟩ : BufTy).Contents (Elt F)) (((broadcastInDim S1x128x8x4x64x192 ![0, 1, 2, 3, 4, 5] bcast_S1x128x1x1x64x192_S1x128x8x4x64x192_0_1_2_3_4_5) : (⟨S1x128x1x1x64x192, .i1⟩ : BufTy).Contents (Elt F) → (⟨S1x128x8x4x64x192, .i1⟩ : BufTy).Contents (Elt F)) ((broadcastInDim S1x128x1x1x64x192 ![1, 4, 5] bcast_S128x64x192_S1x128x1x1x64x192_1_4_5 : (⟨S128x64x192, .i1⟩ : BufTy).Contents (Elt F) → (⟨S1x128x1x1x64x192, .i1⟩ : BufTy).Contents (Elt F)) xv51)) ((mulf : (⟨S1x128x8x4x64x192, .f32⟩ : BufTy).Contents (Elt F) → (⟨S1x128x8x4x64x192, .f32⟩ : BufTy).Contents (Elt F) → (⟨S1x128x8x4x64x192, .f32⟩ : BufTy).Contents (Elt F)) (((transpose S1x128x8x4x64x192 [0, 1, 2, 5, 4, 3] · transposes_S1x128x8x192x64x4_S1x128x8x4x64x192_0_1_2_5_4_3) : (⟨S1x128x8x192x64x4, .f32⟩ : BufTy).Contents (Elt F) → (⟨S1x128x8x4x64x192, .f32⟩ : BufTy).Contents (Elt F)) (((fun l r => Host.dotGeneral dot_S1x128x192x8x64_S1x128x64x8x4x64_S1x128x8x192x64x4_4_5_2_24_013_013 none l r) : (⟨S1x128x192x8x64, .f32⟩ : BufTy).Contents (Elt F) → (⟨S1x128x64x8x4x64, .f32⟩ : BufTy).Contents (Elt F) → (⟨S1x128x8x192x64x4, .f32⟩ : BufTy).Contents (Elt F)) xv32 (shapeCast _ (shapeCast _ xv20 shapeCasts_S1x8192x32x64_S1x128x64x32x64) shapeCasts_S1x128x64x32x64_S1x128x64x8x4x64))) ((broadcastInDim S1x128x8x4x64x192 ![] bcast_S_S1x128x8x4x64x192 : (⟨S_, .f32⟩ : BufTy).Contents (Elt F) → (⟨S1x128x8x4x64x192, .f32⟩ : BufTy).Contents (Elt F)) ((constant S_ .f32 0x3E000000#32)))) (((broadcastInDim S1x128x8x4x64x192 ![] bcast_S_S1x128x8x4x64x192) : (⟨S_, .f32⟩ : BufTy).Contents (Elt F) → (⟨S1x128x8x4x64x192, .f32⟩ : BufTy).Contents (Elt F)) ((id : (⟨S_, .f32⟩ : BufTy).Contents (Elt F) → (⟨S_, .f32⟩ : BufTy).Contents (Elt F)) ((constant S_ .f32 0xFF800000#32)))))

theorem lE_v59 (V : Valuation τ sig (Elt F)) : after lE V (Proc.devRef .tc main_v59) = v59 (V (Proc.devRef .tc main_v51)) (V (Proc.devRef .tc main_v32)) (V (Proc.devRef .tc main_v20)) := by
  simp only [lE, TRef.binary, TRef.ternary, TRef.unary, TRef.toBuf, TRef.ofBuf, cast_eq]; after_results_simp <;> (try dsimp only [Matrix.cons_val]) <;> (try after_results_simp) <;> rfl

/-- Line F of the reference. -/
abbrev lF : List (HloOp τ sig (Elt F)) :=
  [ reshape main_arg5 main_v60 (rfl : (.f32 : EltTy) = .f32) shapeCasts_S32_S8x4,
    unary main_v60 main_v61 (broadcastInDim S1x1x8x4x1x1 ![2, 3] bcast_S8x4_S1x1x8x4x1x1_2_3 : (⟨S8x4, .f32⟩ : BufTy).Contents (Elt F) → (⟨S1x1x8x4x1x1, .f32⟩ : BufTy).Contents (Elt F)),
    nullary main_cst_9 (constant S_ .f32 0xFF800000#32),
    binary main_v59 main_cst_9 main_v62 ((fun x v => Host.reduce FloatOps.maximumf x v reducesTo_S1x128x8x4x64x192_S1x128x8x4x64_d5 h_S_) : (⟨S1x128x8x4x64x192, .f32⟩ : BufTy).Contents (Elt F) → (⟨S_, .f32⟩ : BufTy).Contents (Elt F) → (⟨S1x128x8x4x64, .f32⟩ : BufTy).Contents (Elt F)),
    unary main_v62 main_v63 (broadcastInDim S1x128x8x4x64x1 ![0, 1, 2, 3, 4] bcast_S1x128x8x4x64_S1x128x8x4x64x1_0_1_2_3_4 : (⟨S1x128x8x4x64, .f32⟩ : BufTy).Contents (Elt F) → (⟨S1x128x8x4x64x1, .f32⟩ : BufTy).Contents (Elt F)),
    unary main_v61 main_v64 (broadcastInDim S1x128x8x4x64x1 ![0, 1, 2, 3, 4, 5] bcast_S1x1x8x4x1x1_S1x128x8x4x64x1_0_1_2_3_4_5 : (⟨S1x1x8x4x1x1, .f32⟩ : BufTy).Contents (Elt F) → (⟨S1x128x8x4x64x1, .f32⟩ : BufTy).Contents (Elt F)),
    binary main_v63 main_v64 main_v65 (maximumf : (⟨S1x128x8x4x64x1, .f32⟩ : BufTy).Contents (Elt F) → (⟨S1x128x8x4x64x1, .f32⟩ : BufTy).Contents (Elt F) → (⟨S1x128x8x4x64x1, .f32⟩ : BufTy).Contents (Elt F)) ]

/-- What line F writes. -/
theorem lF_writes : (lF (F := F)).map HloOp.writes = [main_v60, main_v61, main_cst_9, main_v62, main_v63, main_v64, main_v65].map fun w => {Proc.devRef (τ := τ) .tc w} := rfl

/-- The sinks. -/
def v61 (xarg5 : main_arg5.ty.Contents (Elt F)) : main_v61.ty.Contents (Elt F) :=
  ((broadcastInDim S1x1x8x4x1x1 ![2, 3] bcast_S8x4_S1x1x8x4x1x1_2_3 : (⟨S8x4, .f32⟩ : BufTy).Contents (Elt F) → (⟨S1x1x8x4x1x1, .f32⟩ : BufTy).Contents (Elt F)) (shapeCast _ xarg5 shapeCasts_S32_S8x4))

theorem lF_v61 (V : Valuation τ sig (Elt F)) : after lF V (Proc.devRef .tc main_v61) = v61 (V (Proc.devRef .tc main_arg5)) := by
  simp only [lF, TRef.binary, TRef.ternary, TRef.unary, TRef.toBuf, TRef.ofBuf, cast_eq]; after_results_simp <;> (try dsimp only [Matrix.cons_val]) <;> (try after_results_simp) <;> rfl

/-- The prompt's running maxima. -/
def v65 (xv59 : main_v59.ty.Contents (Elt F)) (xarg5 : main_arg5.ty.Contents (Elt F)) : main_v65.ty.Contents (Elt F) :=
  ((maximumf : (⟨S1x128x8x4x64x1, .f32⟩ : BufTy).Contents (Elt F) → (⟨S1x128x8x4x64x1, .f32⟩ : BufTy).Contents (Elt F) → (⟨S1x128x8x4x64x1, .f32⟩ : BufTy).Contents (Elt F)) ((broadcastInDim S1x128x8x4x64x1 ![0, 1, 2, 3, 4] bcast_S1x128x8x4x64_S1x128x8x4x64x1_0_1_2_3_4 : (⟨S1x128x8x4x64, .f32⟩ : BufTy).Contents (Elt F) → (⟨S1x128x8x4x64x1, .f32⟩ : BufTy).Contents (Elt F)) (((fun x v => Host.reduce FloatOps.maximumf x v reducesTo_S1x128x8x4x64x192_S1x128x8x4x64_d5 h_S_) : (⟨S1x128x8x4x64x192, .f32⟩ : BufTy).Contents (Elt F) → (⟨S_, .f32⟩ : BufTy).Contents (Elt F) → (⟨S1x128x8x4x64, .f32⟩ : BufTy).Contents (Elt F)) xv59 ((constant S_ .f32 0xFF800000#32)))) ((broadcastInDim S1x128x8x4x64x1 ![0, 1, 2, 3, 4, 5] bcast_S1x1x8x4x1x1_S1x128x8x4x64x1_0_1_2_3_4_5 : (⟨S1x1x8x4x1x1, .f32⟩ : BufTy).Contents (Elt F) → (⟨S1x128x8x4x64x1, .f32⟩ : BufTy).Contents (Elt F)) ((broadcastInDim S1x1x8x4x1x1 ![2, 3] bcast_S8x4_S1x1x8x4x1x1_2_3 : (⟨S8x4, .f32⟩ : BufTy).Contents (Elt F) → (⟨S1x1x8x4x1x1, .f32⟩ : BufTy).Contents (Elt F)) (shapeCast _ xarg5 shapeCasts_S32_S8x4))))

theorem lF_v65 (V : Valuation τ sig (Elt F)) : after lF V (Proc.devRef .tc main_v65) = v65 (V (Proc.devRef .tc main_v59)) (V (Proc.devRef .tc main_arg5)) := by
  simp only [lF, TRef.binary, TRef.ternary, TRef.unary, TRef.toBuf, TRef.ofBuf, cast_eq]; after_results_simp <;> (try dsimp only [Matrix.cons_val]) <;> (try after_results_simp) <;> rfl

/-- Line G of the reference. -/
abbrev lG : List (HloOp τ sig (Elt F)) :=
  [ unary main_v65 main_v66 (broadcastInDim S1x128x8x4x64x192 ![0, 1, 2, 3, 4, 5] bcast_S1x128x8x4x64x1_S1x128x8x4x64x192_0_1_2_3_4_5 : (⟨S1x128x8x4x64x1, .f32⟩ : BufTy).Contents (Elt F) → (⟨S1x128x8x4x64x192, .f32⟩ : BufTy).Contents (Elt F)),
    binary main_v59 main_v66 main_v67 (subf : (⟨S1x128x8x4x64x192, .f32⟩ : BufTy).Contents (Elt F) → (⟨S1x128x8x4x64x192, .f32⟩ : BufTy).Contents (Elt F) → (⟨S1x128x8x4x64x192, .f32⟩ : BufTy).Contents (Elt F)),
    unary main_v67 main_v68 (Host.exp : (⟨S1x128x8x4x64x192, .f32⟩ : BufTy).Contents (Elt F) → (⟨S1x128x8x4x64x192, .f32⟩ : BufTy).Contents (Elt F)) ]

/-- What line G writes. -/
theorem lG_writes : (lG (F := F)).map HloOp.writes = [main_v66, main_v67, main_v68].map fun w => {Proc.devRef (τ := τ) .tc w} := rfl

/-- The prompt's exponentials. -/
def v68 (xv59 : main_v59.ty.Contents (Elt F)) (xv65 : main_v65.ty.Contents (Elt F)) : main_v68.ty.Contents (Elt F) :=
  ((Host.exp : (⟨S1x128x8x4x64x192, .f32⟩ : BufTy).Contents (Elt F) → (⟨S1x128x8x4x64x192, .f32⟩ : BufTy).Contents (Elt F)) ((subf : (⟨S1x128x8x4x64x192, .f32⟩ : BufTy).Contents (Elt F) → (⟨S1x128x8x4x64x192, .f32⟩ : BufTy).Contents (Elt F) → (⟨S1x128x8x4x64x192, .f32⟩ : BufTy).Contents (Elt F)) xv59 ((broadcastInDim S1x128x8x4x64x192 ![0, 1, 2, 3, 4, 5] bcast_S1x128x8x4x64x1_S1x128x8x4x64x192_0_1_2_3_4_5 : (⟨S1x128x8x4x64x1, .f32⟩ : BufTy).Contents (Elt F) → (⟨S1x128x8x4x64x192, .f32⟩ : BufTy).Contents (Elt F)) xv65)))

theorem lG_v68 (V : Valuation τ sig (Elt F)) : after lG V (Proc.devRef .tc main_v68) = v68 (V (Proc.devRef .tc main_v59)) (V (Proc.devRef .tc main_v65)) := by
  simp only [lG, TRef.binary, TRef.ternary, TRef.unary, TRef.toBuf, TRef.ofBuf, cast_eq]; after_results_simp <;> (try dsimp only [Matrix.cons_val]) <;> (try after_results_simp) <;> rfl

/-- Line H of the reference. -/
abbrev lH : List (HloOp τ sig (Elt F)) :=
  [ nullary main_cst_10 (constant S_ .f32 0x00000000#32),
    binary main_v68 main_cst_10 main_v69 ((fun x v => Host.reduceAdd x v reducesTo_S1x128x8x4x64x192_S1x128x8x4x64_d5 h_S_) : (⟨S1x128x8x4x64x192, .f32⟩ : BufTy).Contents (Elt F) → (⟨S_, .f32⟩ : BufTy).Contents (Elt F) → (⟨S1x128x8x4x64, .f32⟩ : BufTy).Contents (Elt F)),
    unary main_v69 main_v70 (broadcastInDim S1x128x8x4x64x1 ![0, 1, 2, 3, 4] bcast_S1x128x8x4x64_S1x128x8x4x64x1_0_1_2_3_4 : (⟨S1x128x8x4x64, .f32⟩ : BufTy).Contents (Elt F) → (⟨S1x128x8x4x64x1, .f32⟩ : BufTy).Contents (Elt F)),
    unary main_v61 main_v71 (broadcastInDim S1x128x8x4x64x1 ![0, 1, 2, 3, 4, 5] bcast_S1x1x8x4x1x1_S1x128x8x4x64x1_0_1_2_3_4_5 : (⟨S1x1x8x4x1x1, .f32⟩ : BufTy).Contents (Elt F) → (⟨S1x128x8x4x64x1, .f32⟩ : BufTy).Contents (Elt F)),
    binary main_v71 main_v65 main_v72 (subf : (⟨S1x128x8x4x64x1, .f32⟩ : BufTy).Contents (Elt F) → (⟨S1x128x8x4x64x1, .f32⟩ : BufTy).Contents (Elt F) → (⟨S1x128x8x4x64x1, .f32⟩ : BufTy).Contents (Elt F)),
    unary main_v72 main_v73 (Host.exp : (⟨S1x128x8x4x64x1, .f32⟩ : BufTy).Contents (Elt F) → (⟨S1x128x8x4x64x1, .f32⟩ : BufTy).Contents (Elt F)),
    binary main_v70 main_v73 main_v74 (addf : (⟨S1x128x8x4x64x1, .f32⟩ : BufTy).Contents (Elt F) → (⟨S1x128x8x4x64x1, .f32⟩ : BufTy).Contents (Elt F) → (⟨S1x128x8x4x64x1, .f32⟩ : BufTy).Contents (Elt F)) ]

/-- What line H writes. -/
theorem lH_writes : (lH (F := F)).map HloOp.writes = [main_cst_10, main_v69, main_v70, main_v71, main_v72, main_v73, main_v74].map fun w => {Proc.devRef (τ := τ) .tc w} := rfl

/-- The prompt's denominators. -/
def v74 (xv68 : main_v68.ty.Contents (Elt F)) (xv61 : main_v61.ty.Contents (Elt F)) (xv65 : main_v65.ty.Contents (Elt F)) : main_v74.ty.Contents (Elt F) :=
  ((addf : (⟨S1x128x8x4x64x1, .f32⟩ : BufTy).Contents (Elt F) → (⟨S1x128x8x4x64x1, .f32⟩ : BufTy).Contents (Elt F) → (⟨S1x128x8x4x64x1, .f32⟩ : BufTy).Contents (Elt F)) ((broadcastInDim S1x128x8x4x64x1 ![0, 1, 2, 3, 4] bcast_S1x128x8x4x64_S1x128x8x4x64x1_0_1_2_3_4 : (⟨S1x128x8x4x64, .f32⟩ : BufTy).Contents (Elt F) → (⟨S1x128x8x4x64x1, .f32⟩ : BufTy).Contents (Elt F)) (((fun x v => Host.reduceAdd x v reducesTo_S1x128x8x4x64x192_S1x128x8x4x64_d5 h_S_) : (⟨S1x128x8x4x64x192, .f32⟩ : BufTy).Contents (Elt F) → (⟨S_, .f32⟩ : BufTy).Contents (Elt F) → (⟨S1x128x8x4x64, .f32⟩ : BufTy).Contents (Elt F)) xv68 ((constant S_ .f32 0x00000000#32)))) ((Host.exp : (⟨S1x128x8x4x64x1, .f32⟩ : BufTy).Contents (Elt F) → (⟨S1x128x8x4x64x1, .f32⟩ : BufTy).Contents (Elt F)) ((subf : (⟨S1x128x8x4x64x1, .f32⟩ : BufTy).Contents (Elt F) → (⟨S1x128x8x4x64x1, .f32⟩ : BufTy).Contents (Elt F) → (⟨S1x128x8x4x64x1, .f32⟩ : BufTy).Contents (Elt F)) ((broadcastInDim S1x128x8x4x64x1 ![0, 1, 2, 3, 4, 5] bcast_S1x1x8x4x1x1_S1x128x8x4x64x1_0_1_2_3_4_5 : (⟨S1x1x8x4x1x1, .f32⟩ : BufTy).Contents (Elt F) → (⟨S1x128x8x4x64x1, .f32⟩ : BufTy).Contents (Elt F)) xv61) xv65)))

theorem lH_v74 (V : Valuation τ sig (Elt F)) : after lH V (Proc.devRef .tc main_v74) = v74 (V (Proc.devRef .tc main_v68)) (V (Proc.devRef .tc main_v61)) (V (Proc.devRef .tc main_v65)) := by
  simp only [lH, TRef.binary, TRef.ternary, TRef.unary, TRef.toBuf, TRef.ofBuf, cast_eq]; after_results_simp <;> (try dsimp only [Matrix.cons_val]) <;> (try after_results_simp) <;> rfl

/-- Line I of the reference. -/
abbrev lI : List (HloOp τ sig (Elt F)) :=
  [ unary main_v74 main_v75 (broadcastInDim S1x128x8x4x64x192 ![0, 1, 2, 3, 4, 5] bcast_S1x128x8x4x64x1_S1x128x8x4x64x192_0_1_2_3_4_5 : (⟨S1x128x8x4x64x1, .f32⟩ : BufTy).Contents (Elt F) → (⟨S1x128x8x4x64x192, .f32⟩ : BufTy).Contents (Elt F)),
    binary main_v68 main_v75 main_v76 (Host.divf : (⟨S1x128x8x4x64x192, .f32⟩ : BufTy).Contents (Elt F) → (⟨S1x128x8x4x64x192, .f32⟩ : BufTy).Contents (Elt F) → (⟨S1x128x8x4x64x192, .f32⟩ : BufTy).Contents (Elt F)),
    binary main_v36 main_v76 main_v77 ((fun l r => Host.dotGeneral dot_S1x128x192x8x64_S1x128x8x4x64x192_S1x128x8x64x4x64_2_5_4_34_013_012 none l r) : (⟨S1x128x192x8x64, .f32⟩ : BufTy).Contents (Elt F) → (⟨S1x128x8x4x64x192, .f32⟩ : BufTy).Contents (Elt F) → (⟨S1x128x8x64x4x64, .f32⟩ : BufTy).Contents (Elt F)),
    unary main_v77 main_v78 ((transpose S1x128x64x8x4x64 [0, 1, 5, 2, 4, 3] · transposes_S1x128x8x64x4x64_S1x128x64x8x4x64_0_1_5_2_4_3) : (⟨S1x128x8x64x4x64, .f32⟩ : BufTy).Contents (Elt F) → (⟨S1x128x64x8x4x64, .f32⟩ : BufTy).Contents (Elt F)),
    reshape main_v78 main_v79 (rfl : (.f32 : EltTy) = .f32) shapeCasts_S1x128x64x8x4x64_S1x8192x2048 ]

/-- What line I writes. -/
theorem lI_writes : (lI (F := F)).map HloOp.writes = [main_v75, main_v76, main_v77, main_v78, main_v79].map fun w => {Proc.devRef (τ := τ) .tc w} := rfl

/-- The prompt's attention. -/
def v79 (xv36 : main_v36.ty.Contents (Elt F)) (xv68 : main_v68.ty.Contents (Elt F)) (xv74 : main_v74.ty.Contents (Elt F)) : main_v79.ty.Contents (Elt F) :=
  (shapeCast _ (((transpose S1x128x64x8x4x64 [0, 1, 5, 2, 4, 3] · transposes_S1x128x8x64x4x64_S1x128x64x8x4x64_0_1_5_2_4_3) : (⟨S1x128x8x64x4x64, .f32⟩ : BufTy).Contents (Elt F) → (⟨S1x128x64x8x4x64, .f32⟩ : BufTy).Contents (Elt F)) (((fun l r => Host.dotGeneral dot_S1x128x192x8x64_S1x128x8x4x64x192_S1x128x8x64x4x64_2_5_4_34_013_012 none l r) : (⟨S1x128x192x8x64, .f32⟩ : BufTy).Contents (Elt F) → (⟨S1x128x8x4x64x192, .f32⟩ : BufTy).Contents (Elt F) → (⟨S1x128x8x64x4x64, .f32⟩ : BufTy).Contents (Elt F)) xv36 ((Host.divf : (⟨S1x128x8x4x64x192, .f32⟩ : BufTy).Contents (Elt F) → (⟨S1x128x8x4x64x192, .f32⟩ : BufTy).Contents (Elt F) → (⟨S1x128x8x4x64x192, .f32⟩ : BufTy).Contents (Elt F)) xv68 ((broadcastInDim S1x128x8x4x64x192 ![0, 1, 2, 3, 4, 5] bcast_S1x128x8x4x64x1_S1x128x8x4x64x192_0_1_2_3_4_5 : (⟨S1x128x8x4x64x1, .f32⟩ : BufTy).Contents (Elt F) → (⟨S1x128x8x4x64x192, .f32⟩ : BufTy).Contents (Elt F)) xv74)))) shapeCasts_S1x128x64x8x4x64_S1x8192x2048)

theorem lI_v79 (V : Valuation τ sig (Elt F)) : after lI V (Proc.devRef .tc main_v79) = v79 (V (Proc.devRef .tc main_v36)) (V (Proc.devRef .tc main_v68)) (V (Proc.devRef .tc main_v74)) := by
  simp only [lI, TRef.binary, TRef.ternary, TRef.unary, TRef.toBuf, TRef.ofBuf, cast_eq]; after_results_simp <;> (try dsimp only [Matrix.cons_val]) <;> (try after_results_simp) <;> rfl

/-- Line J of the reference. -/
abbrev lJ : List (HloOp τ sig (Elt F)) :=
  [ unary main_v16 main_v80 ((extractStridedSlice S1024x2048 ![8192, 0] · slices_S9216x2048_S1024x2048_8192_0) : (⟨S9216x2048, .f32⟩ : BufTy).Contents (Elt F) → (⟨S1024x2048, .f32⟩ : BufTy).Contents (Elt F)),
    reshape main_v80 main_v81 (rfl : (.f32 : EltTy) = .f32) shapeCasts_S1024x2048_S16x64x32x64,
    unary main_v17 main_v82 ((extractStridedSlice S1024x512 ![8192, 0] · slices_S9216x512_S1024x512_8192_0) : (⟨S9216x512, .f32⟩ : BufTy).Contents (Elt F) → (⟨S1024x512, .f32⟩ : BufTy).Contents (Elt F)),
    reshape main_v82 main_v83 (rfl : (.f32 : EltTy) = .f32) shapeCasts_S1024x512_S16x64x8x64,
    unary main_v18 main_v84 ((extractStridedSlice S1024x512 ![8192, 0] · slices_S9216x512_S1024x512_8192_0) : (⟨S9216x512, .f32⟩ : BufTy).Contents (Elt F) → (⟨S1024x512, .f32⟩ : BufTy).Contents (Elt F)),
    reshape main_v84 main_v85 (rfl : (.f32 : EltTy) = .f32) shapeCasts_S1024x512_S16x64x8x64,
    binary main_arg3 main_v83 main_v86 (fn_main_v86 (F := F)),
    unary main_v86 main_v87 (broadcastInDim S16x1x192x8x64 ![0, 2, 3, 4] bcast_S16x192x8x64_S16x1x192x8x64_0_2_3_4 : (⟨S16x192x8x64, .f32⟩ : BufTy).Contents (Elt F) → (⟨S16x1x192x8x64, .f32⟩ : BufTy).Contents (Elt F)),
    binary main_arg4 main_v85 main_v88 (fn_main_v88 (F := F)),
    unary main_v88 main_v89 (broadcastInDim S16x1x192x8x64 ![0, 2, 3, 4] bcast_S16x192x8x64_S16x1x192x8x64_0_2_3_4 : (⟨S16x192x8x64, .f32⟩ : BufTy).Contents (Elt F) → (⟨S16x1x192x8x64, .f32⟩ : BufTy).Contents (Elt F)),
    nullary main_c_11 (constantI S_ 1 1#1),
    unary main_c_11 main_v90 (broadcastInDim S1x64x192 ![] bcast_S_S1x64x192 : (⟨S_, .i1⟩ : BufTy).Contents (Elt F) → (⟨S1x64x192, .i1⟩ : BufTy).Contents (Elt F)) ]

/-- What line J writes. -/
theorem lJ_writes : (lJ (F := F)).map HloOp.writes = [main_v80, main_v81, main_v82, main_v83, main_v84, main_v85, main_v86, main_v87, main_v88, main_v89, main_c_11, main_v90].map fun w => {Proc.devRef (τ := τ) .tc w} := rfl

/-- The samples' queries. -/
def v81 (xv16 : main_v16.ty.Contents (Elt F)) : main_v81.ty.Contents (Elt F) :=
  (shapeCast _ (((extractStridedSlice S1024x2048 ![8192, 0] · slices_S9216x2048_S1024x2048_8192_0) : (⟨S9216x2048, .f32⟩ : BufTy).Contents (Elt F) → (⟨S1024x2048, .f32⟩ : BufTy).Contents (Elt F)) xv16) shapeCasts_S1024x2048_S16x64x32x64)

theorem lJ_v81 (V : Valuation τ sig (Elt F)) : after lJ V (Proc.devRef .tc main_v81) = v81 (V (Proc.devRef .tc main_v16)) := by
  simp only [lJ, TRef.binary, TRef.ternary, TRef.unary, TRef.toBuf, TRef.ofBuf, cast_eq]; after_results_simp <;> (try dsimp only [Matrix.cons_val]) <;> (try after_results_simp) <;> rfl

/-- The samples' keys. -/
def v87 (xarg3 : main_arg3.ty.Contents (Elt F)) (xv17 : main_v17.ty.Contents (Elt F)) : main_v87.ty.Contents (Elt F) :=
  ((broadcastInDim S16x1x192x8x64 ![0, 2, 3, 4] bcast_S16x192x8x64_S16x1x192x8x64_0_2_3_4 : (⟨S16x192x8x64, .f32⟩ : BufTy).Contents (Elt F) → (⟨S16x1x192x8x64, .f32⟩ : BufTy).Contents (Elt F)) ((fn_main_v86 (F := F)) xarg3 (shapeCast _ (((extractStridedSlice S1024x512 ![8192, 0] · slices_S9216x512_S1024x512_8192_0) : (⟨S9216x512, .f32⟩ : BufTy).Contents (Elt F) → (⟨S1024x512, .f32⟩ : BufTy).Contents (Elt F)) xv17) shapeCasts_S1024x512_S16x64x8x64)))

theorem lJ_v87 (V : Valuation τ sig (Elt F)) : after lJ V (Proc.devRef .tc main_v87) = v87 (V (Proc.devRef .tc main_arg3)) (V (Proc.devRef .tc main_v17)) := by
  simp only [lJ, TRef.binary, TRef.ternary, TRef.unary, TRef.toBuf, TRef.ofBuf, cast_eq]; after_results_simp <;> (try dsimp only [Matrix.cons_val]) <;> (try after_results_simp) <;> rfl

/-- The samples' values. -/
def v89 (xarg4 : main_arg4.ty.Contents (Elt F)) (xv18 : main_v18.ty.Contents (Elt F)) : main_v89.ty.Contents (Elt F) :=
  ((broadcastInDim S16x1x192x8x64 ![0, 2, 3, 4] bcast_S16x192x8x64_S16x1x192x8x64_0_2_3_4 : (⟨S16x192x8x64, .f32⟩ : BufTy).Contents (Elt F) → (⟨S16x1x192x8x64, .f32⟩ : BufTy).Contents (Elt F)) ((fn_main_v88 (F := F)) xarg4 (shapeCast _ (((extractStridedSlice S1024x512 ![8192, 0] · slices_S9216x512_S1024x512_8192_0) : (⟨S9216x512, .f32⟩ : BufTy).Contents (Elt F) → (⟨S1024x512, .f32⟩ : BufTy).Contents (Elt F)) xv18) shapeCasts_S1024x512_S16x64x8x64)))

theorem lJ_v89 (V : Valuation τ sig (Elt F)) : after lJ V (Proc.devRef .tc main_v89) = v89 (V (Proc.devRef .tc main_arg4)) (V (Proc.devRef .tc main_v18)) := by
  simp only [lJ, TRef.binary, TRef.ternary, TRef.unary, TRef.toBuf, TRef.ofBuf, cast_eq]; after_results_simp <;> (try dsimp only [Matrix.cons_val]) <;> (try after_results_simp) <;> rfl

/-- The samples' mask. -/
def v90  : main_v90.ty.Contents (Elt F) :=
  ((broadcastInDim S1x64x192 ![] bcast_S_S1x64x192 : (⟨S_, .i1⟩ : BufTy).Contents (Elt F) → (⟨S1x64x192, .i1⟩ : BufTy).Contents (Elt F)) ((constantI S_ 1 1#1)))

theorem lJ_v90 (V : Valuation τ sig (Elt F)) : after lJ V (Proc.devRef .tc main_v90) = v90  := by
  simp only [lJ, TRef.binary, TRef.ternary, TRef.unary, TRef.toBuf, TRef.ofBuf, cast_eq]; after_results_simp <;> (try dsimp only [Matrix.cons_val]) <;> (try after_results_simp) <;> rfl

/-- Line K of the reference. -/
abbrev lK : List (HloOp τ sig (Elt F)) :=
  [ unary main_v81 main_v91 (broadcastInDim S16x1x64x32x64 ![0, 2, 3, 4] bcast_S16x64x32x64_S16x1x64x32x64_0_2_3_4 : (⟨S16x64x32x64, .f32⟩ : BufTy).Contents (Elt F) → (⟨S16x1x64x32x64, .f32⟩ : BufTy).Contents (Elt F)),
    reshape main_v91 main_v92 (rfl : (.f32 : EltTy) = .f32) shapeCasts_S16x1x64x32x64_S16x1x64x8x4x64,
    binary main_v87 main_v92 main_v93 ((fun l r => Host.dotGeneral dot_S16x1x192x8x64_S16x1x64x8x4x64_S16x1x8x192x64x4_4_5_2_24_013_013 none l r) : (⟨S16x1x192x8x64, .f32⟩ : BufTy).Contents (Elt F) → (⟨S16x1x64x8x4x64, .f32⟩ : BufTy).Contents (Elt F) → (⟨S16x1x8x192x64x4, .f32⟩ : BufTy).Contents (Elt F)),
    unary main_v93 main_v94 ((transpose S16x1x8x4x64x192 [0, 1, 2, 5, 4, 3] · transposes_S16x1x8x192x64x4_S16x1x8x4x64x192_0_1_2_5_4_3) : (⟨S16x1x8x192x64x4, .f32⟩ : BufTy).Contents (Elt F) → (⟨S16x1x8x4x64x192, .f32⟩ : BufTy).Contents (Elt F)),
    nullary main_cst_12 (constant S_ .f32 0x3E000000#32),
    unary main_cst_12 main_v95 (broadcastInDim S16x1x8x4x64x192 ![] bcast_S_S16x1x8x4x64x192 : (⟨S_, .f32⟩ : BufTy).Contents (Elt F) → (⟨S16x1x8x4x64x192, .f32⟩ : BufTy).Contents (Elt F)),
    binary main_v94 main_v95 main_v96 (mulf : (⟨S16x1x8x4x64x192, .f32⟩ : BufTy).Contents (Elt F) → (⟨S16x1x8x4x64x192, .f32⟩ : BufTy).Contents (Elt F) → (⟨S16x1x8x4x64x192, .f32⟩ : BufTy).Contents (Elt F)),
    unary main_v90 main_v97 (broadcastInDim S1x1x1x1x64x192 ![1, 4, 5] bcast_S1x64x192_S1x1x1x1x64x192_1_4_5 : (⟨S1x64x192, .i1⟩ : BufTy).Contents (Elt F) → (⟨S1x1x1x1x64x192, .i1⟩ : BufTy).Contents (Elt F)),
    nullary main_cst_13 (constant S_ .f32 0xFF800000#32),
    TRef.unary (TRef.of (T := ⟨S_, .f32⟩) main_cst_13) (TRef.of (T := ⟨S_, .f32⟩) main_call3_v0) id,
    TRef.unary (TRef.of (T := ⟨S1x1x1x1x64x192, .i1⟩) main_v97) (TRef.of (T := ⟨S16x1x8x4x64x192, .i1⟩) main_call3_v1) (broadcastInDim S16x1x8x4x64x192 ![0, 1, 2, 3, 4, 5] bcast_S1x1x1x1x64x192_S16x1x8x4x64x192_0_1_2_3_4_5),
    TRef.unary (TRef.of (T := ⟨S_, .f32⟩) main_call3_v0) (TRef.of (T := ⟨S16x1x8x4x64x192, .f32⟩) main_call3_v2) (broadcastInDim S16x1x8x4x64x192 ![] bcast_S_S16x1x8x4x64x192),
    TRef.ternary (TRef.of (T := ⟨S16x1x8x4x64x192, .i1⟩) main_call3_v1) (TRef.of (T := ⟨S16x1x8x4x64x192, .f32⟩) main_v96) (TRef.of (T := ⟨S16x1x8x4x64x192, .f32⟩) main_call3_v2) (TRef.of (T := ⟨S16x1x8x4x64x192, .f32⟩) main_v98) select ]

/-- What line K writes. -/
theorem lK_writes : (lK (F := F)).map HloOp.writes = [main_v91, main_v92, main_v93, main_v94, main_cst_12, main_v95, main_v96, main_v97, main_cst_13, main_call3_v0, main_call3_v1, main_call3_v2, main_v98].map fun w => {Proc.devRef (τ := τ) .tc w} := rfl

/-- The samples' scores. -/
def v98 (xv90 : main_v90.ty.Contents (Elt F)) (xv87 : main_v87.ty.Contents (Elt F)) (xv81 : main_v81.ty.Contents (Elt F)) : main_v98.ty.Contents (Elt F) :=
  ((select : (⟨S16x1x8x4x64x192, .i1⟩ : BufTy).Contents (Elt F) → (⟨S16x1x8x4x64x192, .f32⟩ : BufTy).Contents (Elt F) → (⟨S16x1x8x4x64x192, .f32⟩ : BufTy).Contents (Elt F) → (⟨S16x1x8x4x64x192, .f32⟩ : BufTy).Contents (Elt F)) (((broadcastInDim S16x1x8x4x64x192 ![0, 1, 2, 3, 4, 5] bcast_S1x1x1x1x64x192_S16x1x8x4x64x192_0_1_2_3_4_5) : (⟨S1x1x1x1x64x192, .i1⟩ : BufTy).Contents (Elt F) → (⟨S16x1x8x4x64x192, .i1⟩ : BufTy).Contents (Elt F)) ((broadcastInDim S1x1x1x1x64x192 ![1, 4, 5] bcast_S1x64x192_S1x1x1x1x64x192_1_4_5 : (⟨S1x64x192, .i1⟩ : BufTy).Contents (Elt F) → (⟨S1x1x1x1x64x192, .i1⟩ : BufTy).Contents (Elt F)) xv90)) ((mulf : (⟨S16x1x8x4x64x192, .f32⟩ : BufTy).Contents (Elt F) → (⟨S16x1x8x4x64x192, .f32⟩ : BufTy).Contents (Elt F) → (⟨S16x1x8x4x64x192, .f32⟩ : BufTy).Contents (Elt F)) (((transpose S16x1x8x4x64x192 [0, 1, 2, 5, 4, 3] · transposes_S16x1x8x192x64x4_S16x1x8x4x64x192_0_1_2_5_4_3) : (⟨S16x1x8x192x64x4, .f32⟩ : BufTy).Contents (Elt F) → (⟨S16x1x8x4x64x192, .f32⟩ : BufTy).Contents (Elt F)) (((fun l r => Host.dotGeneral dot_S16x1x192x8x64_S16x1x64x8x4x64_S16x1x8x192x64x4_4_5_2_24_013_013 none l r) : (⟨S16x1x192x8x64, .f32⟩ : BufTy).Contents (Elt F) → (⟨S16x1x64x8x4x64, .f32⟩ : BufTy).Contents (Elt F) → (⟨S16x1x8x192x64x4, .f32⟩ : BufTy).Contents (Elt F)) xv87 (shapeCast _ ((broadcastInDim S16x1x64x32x64 ![0, 2, 3, 4] bcast_S16x64x32x64_S16x1x64x32x64_0_2_3_4 : (⟨S16x64x32x64, .f32⟩ : BufTy).Contents (Elt F) → (⟨S16x1x64x32x64, .f32⟩ : BufTy).Contents (Elt F)) xv81) shapeCasts_S16x1x64x32x64_S16x1x64x8x4x64))) ((broadcastInDim S16x1x8x4x64x192 ![] bcast_S_S16x1x8x4x64x192 : (⟨S_, .f32⟩ : BufTy).Contents (Elt F) → (⟨S16x1x8x4x64x192, .f32⟩ : BufTy).Contents (Elt F)) ((constant S_ .f32 0x3E000000#32)))) (((broadcastInDim S16x1x8x4x64x192 ![] bcast_S_S16x1x8x4x64x192) : (⟨S_, .f32⟩ : BufTy).Contents (Elt F) → (⟨S16x1x8x4x64x192, .f32⟩ : BufTy).Contents (Elt F)) ((id : (⟨S_, .f32⟩ : BufTy).Contents (Elt F) → (⟨S_, .f32⟩ : BufTy).Contents (Elt F)) ((constant S_ .f32 0xFF800000#32)))))

theorem lK_v98 (V : Valuation τ sig (Elt F)) : after lK V (Proc.devRef .tc main_v98) = v98 (V (Proc.devRef .tc main_v90)) (V (Proc.devRef .tc main_v87)) (V (Proc.devRef .tc main_v81)) := by
  simp only [lK, TRef.binary, TRef.ternary, TRef.unary, TRef.toBuf, TRef.ofBuf, cast_eq]; after_results_simp <;> (try dsimp only [Matrix.cons_val]) <;> (try after_results_simp) <;> rfl

/-- Line L of the reference. -/
abbrev lL : List (HloOp τ sig (Elt F)) :=
  [ reshape main_arg5 main_v99 (rfl : (.f32 : EltTy) = .f32) shapeCasts_S32_S8x4,
    unary main_v99 main_v100 (broadcastInDim S1x1x8x4x1x1 ![2, 3] bcast_S8x4_S1x1x8x4x1x1_2_3 : (⟨S8x4, .f32⟩ : BufTy).Contents (Elt F) → (⟨S1x1x8x4x1x1, .f32⟩ : BufTy).Contents (Elt F)),
    nullary main_cst_14 (constant S_ .f32 0xFF800000#32),
    binary main_v98 main_cst_14 main_v101 ((fun x v => Host.reduce FloatOps.maximumf x v reducesTo_S16x1x8x4x64x192_S16x1x8x4x64_d5 h_S_) : (⟨S16x1x8x4x64x192, .f32⟩ : BufTy).Contents (Elt F) → (⟨S_, .f32⟩ : BufTy).Contents (Elt F) → (⟨S16x1x8x4x64, .f32⟩ : BufTy).Contents (Elt F)),
    unary main_v101 main_v102 (broadcastInDim S16x1x8x4x64x1 ![0, 1, 2, 3, 4] bcast_S16x1x8x4x64_S16x1x8x4x64x1_0_1_2_3_4 : (⟨S16x1x8x4x64, .f32⟩ : BufTy).Contents (Elt F) → (⟨S16x1x8x4x64x1, .f32⟩ : BufTy).Contents (Elt F)),
    unary main_v100 main_v103 (broadcastInDim S16x1x8x4x64x1 ![0, 1, 2, 3, 4, 5] bcast_S1x1x8x4x1x1_S16x1x8x4x64x1_0_1_2_3_4_5 : (⟨S1x1x8x4x1x1, .f32⟩ : BufTy).Contents (Elt F) → (⟨S16x1x8x4x64x1, .f32⟩ : BufTy).Contents (Elt F)),
    binary main_v102 main_v103 main_v104 (maximumf : (⟨S16x1x8x4x64x1, .f32⟩ : BufTy).Contents (Elt F) → (⟨S16x1x8x4x64x1, .f32⟩ : BufTy).Contents (Elt F) → (⟨S16x1x8x4x64x1, .f32⟩ : BufTy).Contents (Elt F)) ]

/-- What line L writes. -/
theorem lL_writes : (lL (F := F)).map HloOp.writes = [main_v99, main_v100, main_cst_14, main_v101, main_v102, main_v103, main_v104].map fun w => {Proc.devRef (τ := τ) .tc w} := rfl

/-- The sinks. -/
def v100 (xarg5 : main_arg5.ty.Contents (Elt F)) : main_v100.ty.Contents (Elt F) :=
  ((broadcastInDim S1x1x8x4x1x1 ![2, 3] bcast_S8x4_S1x1x8x4x1x1_2_3 : (⟨S8x4, .f32⟩ : BufTy).Contents (Elt F) → (⟨S1x1x8x4x1x1, .f32⟩ : BufTy).Contents (Elt F)) (shapeCast _ xarg5 shapeCasts_S32_S8x4))

theorem lL_v100 (V : Valuation τ sig (Elt F)) : after lL V (Proc.devRef .tc main_v100) = v100 (V (Proc.devRef .tc main_arg5)) := by
  simp only [lL, TRef.binary, TRef.ternary, TRef.unary, TRef.toBuf, TRef.ofBuf, cast_eq]; after_results_simp <;> (try dsimp only [Matrix.cons_val]) <;> (try after_results_simp) <;> rfl

/-- The samples' maxima. -/
def v104 (xv98 : main_v98.ty.Contents (Elt F)) (xarg5 : main_arg5.ty.Contents (Elt F)) : main_v104.ty.Contents (Elt F) :=
  ((maximumf : (⟨S16x1x8x4x64x1, .f32⟩ : BufTy).Contents (Elt F) → (⟨S16x1x8x4x64x1, .f32⟩ : BufTy).Contents (Elt F) → (⟨S16x1x8x4x64x1, .f32⟩ : BufTy).Contents (Elt F)) ((broadcastInDim S16x1x8x4x64x1 ![0, 1, 2, 3, 4] bcast_S16x1x8x4x64_S16x1x8x4x64x1_0_1_2_3_4 : (⟨S16x1x8x4x64, .f32⟩ : BufTy).Contents (Elt F) → (⟨S16x1x8x4x64x1, .f32⟩ : BufTy).Contents (Elt F)) (((fun x v => Host.reduce FloatOps.maximumf x v reducesTo_S16x1x8x4x64x192_S16x1x8x4x64_d5 h_S_) : (⟨S16x1x8x4x64x192, .f32⟩ : BufTy).Contents (Elt F) → (⟨S_, .f32⟩ : BufTy).Contents (Elt F) → (⟨S16x1x8x4x64, .f32⟩ : BufTy).Contents (Elt F)) xv98 ((constant S_ .f32 0xFF800000#32)))) ((broadcastInDim S16x1x8x4x64x1 ![0, 1, 2, 3, 4, 5] bcast_S1x1x8x4x1x1_S16x1x8x4x64x1_0_1_2_3_4_5 : (⟨S1x1x8x4x1x1, .f32⟩ : BufTy).Contents (Elt F) → (⟨S16x1x8x4x64x1, .f32⟩ : BufTy).Contents (Elt F)) ((broadcastInDim S1x1x8x4x1x1 ![2, 3] bcast_S8x4_S1x1x8x4x1x1_2_3 : (⟨S8x4, .f32⟩ : BufTy).Contents (Elt F) → (⟨S1x1x8x4x1x1, .f32⟩ : BufTy).Contents (Elt F)) (shapeCast _ xarg5 shapeCasts_S32_S8x4))))

theorem lL_v104 (V : Valuation τ sig (Elt F)) : after lL V (Proc.devRef .tc main_v104) = v104 (V (Proc.devRef .tc main_v98)) (V (Proc.devRef .tc main_arg5)) := by
  simp only [lL, TRef.binary, TRef.ternary, TRef.unary, TRef.toBuf, TRef.ofBuf, cast_eq]; after_results_simp <;> (try dsimp only [Matrix.cons_val]) <;> (try after_results_simp) <;> rfl

/-- Line M of the reference. -/
abbrev lM : List (HloOp τ sig (Elt F)) :=
  [ unary main_v104 main_v105 (broadcastInDim S16x1x8x4x64x192 ![0, 1, 2, 3, 4, 5] bcast_S16x1x8x4x64x1_S16x1x8x4x64x192_0_1_2_3_4_5 : (⟨S16x1x8x4x64x1, .f32⟩ : BufTy).Contents (Elt F) → (⟨S16x1x8x4x64x192, .f32⟩ : BufTy).Contents (Elt F)),
    binary main_v98 main_v105 main_v106 (subf : (⟨S16x1x8x4x64x192, .f32⟩ : BufTy).Contents (Elt F) → (⟨S16x1x8x4x64x192, .f32⟩ : BufTy).Contents (Elt F) → (⟨S16x1x8x4x64x192, .f32⟩ : BufTy).Contents (Elt F)),
    unary main_v106 main_v107 (Host.exp : (⟨S16x1x8x4x64x192, .f32⟩ : BufTy).Contents (Elt F) → (⟨S16x1x8x4x64x192, .f32⟩ : BufTy).Contents (Elt F)) ]

/-- What line M writes. -/
theorem lM_writes : (lM (F := F)).map HloOp.writes = [main_v105, main_v106, main_v107].map fun w => {Proc.devRef (τ := τ) .tc w} := rfl

/-- The samples' exponentials. -/
def v107 (xv98 : main_v98.ty.Contents (Elt F)) (xv104 : main_v104.ty.Contents (Elt F)) : main_v107.ty.Contents (Elt F) :=
  ((Host.exp : (⟨S16x1x8x4x64x192, .f32⟩ : BufTy).Contents (Elt F) → (⟨S16x1x8x4x64x192, .f32⟩ : BufTy).Contents (Elt F)) ((subf : (⟨S16x1x8x4x64x192, .f32⟩ : BufTy).Contents (Elt F) → (⟨S16x1x8x4x64x192, .f32⟩ : BufTy).Contents (Elt F) → (⟨S16x1x8x4x64x192, .f32⟩ : BufTy).Contents (Elt F)) xv98 ((broadcastInDim S16x1x8x4x64x192 ![0, 1, 2, 3, 4, 5] bcast_S16x1x8x4x64x1_S16x1x8x4x64x192_0_1_2_3_4_5 : (⟨S16x1x8x4x64x1, .f32⟩ : BufTy).Contents (Elt F) → (⟨S16x1x8x4x64x192, .f32⟩ : BufTy).Contents (Elt F)) xv104)))

theorem lM_v107 (V : Valuation τ sig (Elt F)) : after lM V (Proc.devRef .tc main_v107) = v107 (V (Proc.devRef .tc main_v98)) (V (Proc.devRef .tc main_v104)) := by
  simp only [lM, TRef.binary, TRef.ternary, TRef.unary, TRef.toBuf, TRef.ofBuf, cast_eq]; after_results_simp <;> (try dsimp only [Matrix.cons_val]) <;> (try after_results_simp) <;> rfl

/-- Line N of the reference. -/
abbrev lN : List (HloOp τ sig (Elt F)) :=
  [ nullary main_cst_15 (constant S_ .f32 0x00000000#32),
    binary main_v107 main_cst_15 main_v108 ((fun x v => Host.reduceAdd x v reducesTo_S16x1x8x4x64x192_S16x1x8x4x64_d5 h_S_) : (⟨S16x1x8x4x64x192, .f32⟩ : BufTy).Contents (Elt F) → (⟨S_, .f32⟩ : BufTy).Contents (Elt F) → (⟨S16x1x8x4x64, .f32⟩ : BufTy).Contents (Elt F)),
    unary main_v108 main_v109 (broadcastInDim S16x1x8x4x64x1 ![0, 1, 2, 3, 4] bcast_S16x1x8x4x64_S16x1x8x4x64x1_0_1_2_3_4 : (⟨S16x1x8x4x64, .f32⟩ : BufTy).Contents (Elt F) → (⟨S16x1x8x4x64x1, .f32⟩ : BufTy).Contents (Elt F)),
    unary main_v100 main_v110 (broadcastInDim S16x1x8x4x64x1 ![0, 1, 2, 3, 4, 5] bcast_S1x1x8x4x1x1_S16x1x8x4x64x1_0_1_2_3_4_5 : (⟨S1x1x8x4x1x1, .f32⟩ : BufTy).Contents (Elt F) → (⟨S16x1x8x4x64x1, .f32⟩ : BufTy).Contents (Elt F)),
    binary main_v110 main_v104 main_v111 (subf : (⟨S16x1x8x4x64x1, .f32⟩ : BufTy).Contents (Elt F) → (⟨S16x1x8x4x64x1, .f32⟩ : BufTy).Contents (Elt F) → (⟨S16x1x8x4x64x1, .f32⟩ : BufTy).Contents (Elt F)),
    unary main_v111 main_v112 (Host.exp : (⟨S16x1x8x4x64x1, .f32⟩ : BufTy).Contents (Elt F) → (⟨S16x1x8x4x64x1, .f32⟩ : BufTy).Contents (Elt F)),
    binary main_v109 main_v112 main_v113 (addf : (⟨S16x1x8x4x64x1, .f32⟩ : BufTy).Contents (Elt F) → (⟨S16x1x8x4x64x1, .f32⟩ : BufTy).Contents (Elt F) → (⟨S16x1x8x4x64x1, .f32⟩ : BufTy).Contents (Elt F)) ]

/-- What line N writes. -/
theorem lN_writes : (lN (F := F)).map HloOp.writes = [main_cst_15, main_v108, main_v109, main_v110, main_v111, main_v112, main_v113].map fun w => {Proc.devRef (τ := τ) .tc w} := rfl

/-- The samples' denominators. -/
def v113 (xv107 : main_v107.ty.Contents (Elt F)) (xv100 : main_v100.ty.Contents (Elt F)) (xv104 : main_v104.ty.Contents (Elt F)) : main_v113.ty.Contents (Elt F) :=
  ((addf : (⟨S16x1x8x4x64x1, .f32⟩ : BufTy).Contents (Elt F) → (⟨S16x1x8x4x64x1, .f32⟩ : BufTy).Contents (Elt F) → (⟨S16x1x8x4x64x1, .f32⟩ : BufTy).Contents (Elt F)) ((broadcastInDim S16x1x8x4x64x1 ![0, 1, 2, 3, 4] bcast_S16x1x8x4x64_S16x1x8x4x64x1_0_1_2_3_4 : (⟨S16x1x8x4x64, .f32⟩ : BufTy).Contents (Elt F) → (⟨S16x1x8x4x64x1, .f32⟩ : BufTy).Contents (Elt F)) (((fun x v => Host.reduceAdd x v reducesTo_S16x1x8x4x64x192_S16x1x8x4x64_d5 h_S_) : (⟨S16x1x8x4x64x192, .f32⟩ : BufTy).Contents (Elt F) → (⟨S_, .f32⟩ : BufTy).Contents (Elt F) → (⟨S16x1x8x4x64, .f32⟩ : BufTy).Contents (Elt F)) xv107 ((constant S_ .f32 0x00000000#32)))) ((Host.exp : (⟨S16x1x8x4x64x1, .f32⟩ : BufTy).Contents (Elt F) → (⟨S16x1x8x4x64x1, .f32⟩ : BufTy).Contents (Elt F)) ((subf : (⟨S16x1x8x4x64x1, .f32⟩ : BufTy).Contents (Elt F) → (⟨S16x1x8x4x64x1, .f32⟩ : BufTy).Contents (Elt F) → (⟨S16x1x8x4x64x1, .f32⟩ : BufTy).Contents (Elt F)) ((broadcastInDim S16x1x8x4x64x1 ![0, 1, 2, 3, 4, 5] bcast_S1x1x8x4x1x1_S16x1x8x4x64x1_0_1_2_3_4_5 : (⟨S1x1x8x4x1x1, .f32⟩ : BufTy).Contents (Elt F) → (⟨S16x1x8x4x64x1, .f32⟩ : BufTy).Contents (Elt F)) xv100) xv104)))

theorem lN_v113 (V : Valuation τ sig (Elt F)) : after lN V (Proc.devRef .tc main_v113) = v113 (V (Proc.devRef .tc main_v107)) (V (Proc.devRef .tc main_v100)) (V (Proc.devRef .tc main_v104)) := by
  simp only [lN, TRef.binary, TRef.ternary, TRef.unary, TRef.toBuf, TRef.ofBuf, cast_eq]; after_results_simp <;> (try dsimp only [Matrix.cons_val]) <;> (try after_results_simp) <;> rfl

/-- Line O of the reference. -/
abbrev lO : List (HloOp τ sig (Elt F)) :=
  [ unary main_v113 main_v114 (broadcastInDim S16x1x8x4x64x192 ![0, 1, 2, 3, 4, 5] bcast_S16x1x8x4x64x1_S16x1x8x4x64x192_0_1_2_3_4_5 : (⟨S16x1x8x4x64x1, .f32⟩ : BufTy).Contents (Elt F) → (⟨S16x1x8x4x64x192, .f32⟩ : BufTy).Contents (Elt F)),
    binary main_v107 main_v114 main_v115 (Host.divf : (⟨S16x1x8x4x64x192, .f32⟩ : BufTy).Contents (Elt F) → (⟨S16x1x8x4x64x192, .f32⟩ : BufTy).Contents (Elt F) → (⟨S16x1x8x4x64x192, .f32⟩ : BufTy).Contents (Elt F)),
    binary main_v89 main_v115 main_v116 ((fun l r => Host.dotGeneral dot_S16x1x192x8x64_S16x1x8x4x64x192_S16x1x8x64x4x64_2_5_4_34_013_012 none l r) : (⟨S16x1x192x8x64, .f32⟩ : BufTy).Contents (Elt F) → (⟨S16x1x8x4x64x192, .f32⟩ : BufTy).Contents (Elt F) → (⟨S16x1x8x64x4x64, .f32⟩ : BufTy).Contents (Elt F)),
    unary main_v116 main_v117 ((transpose S16x1x64x8x4x64 [0, 1, 5, 2, 4, 3] · transposes_S16x1x8x64x4x64_S16x1x64x8x4x64_0_1_5_2_4_3) : (⟨S16x1x8x64x4x64, .f32⟩ : BufTy).Contents (Elt F) → (⟨S16x1x64x8x4x64, .f32⟩ : BufTy).Contents (Elt F)),
    reshape main_v117 main_v118 (rfl : (.f32 : EltTy) = .f32) shapeCasts_S16x1x64x8x4x64_S16x64x2048 ]

/-- What line O writes. -/
theorem lO_writes : (lO (F := F)).map HloOp.writes = [main_v114, main_v115, main_v116, main_v117, main_v118].map fun w => {Proc.devRef (τ := τ) .tc w} := rfl

/-- The samples' attention. -/
def v118 (xv89 : main_v89.ty.Contents (Elt F)) (xv107 : main_v107.ty.Contents (Elt F)) (xv113 : main_v113.ty.Contents (Elt F)) : main_v118.ty.Contents (Elt F) :=
  (shapeCast _ (((transpose S16x1x64x8x4x64 [0, 1, 5, 2, 4, 3] · transposes_S16x1x8x64x4x64_S16x1x64x8x4x64_0_1_5_2_4_3) : (⟨S16x1x8x64x4x64, .f32⟩ : BufTy).Contents (Elt F) → (⟨S16x1x64x8x4x64, .f32⟩ : BufTy).Contents (Elt F)) (((fun l r => Host.dotGeneral dot_S16x1x192x8x64_S16x1x8x4x64x192_S16x1x8x64x4x64_2_5_4_34_013_012 none l r) : (⟨S16x1x192x8x64, .f32⟩ : BufTy).Contents (Elt F) → (⟨S16x1x8x4x64x192, .f32⟩ : BufTy).Contents (Elt F) → (⟨S16x1x8x64x4x64, .f32⟩ : BufTy).Contents (Elt F)) xv89 ((Host.divf : (⟨S16x1x8x4x64x192, .f32⟩ : BufTy).Contents (Elt F) → (⟨S16x1x8x4x64x192, .f32⟩ : BufTy).Contents (Elt F) → (⟨S16x1x8x4x64x192, .f32⟩ : BufTy).Contents (Elt F)) xv107 ((broadcastInDim S16x1x8x4x64x192 ![0, 1, 2, 3, 4, 5] bcast_S16x1x8x4x64x1_S16x1x8x4x64x192_0_1_2_3_4_5 : (⟨S16x1x8x4x64x1, .f32⟩ : BufTy).Contents (Elt F) → (⟨S16x1x8x4x64x192, .f32⟩ : BufTy).Contents (Elt F)) xv113)))) shapeCasts_S16x1x64x8x4x64_S16x64x2048)

theorem lO_v118 (V : Valuation τ sig (Elt F)) : after lO V (Proc.devRef .tc main_v118) = v118 (V (Proc.devRef .tc main_v89)) (V (Proc.devRef .tc main_v107)) (V (Proc.devRef .tc main_v113)) := by
  simp only [lO, TRef.binary, TRef.ternary, TRef.unary, TRef.toBuf, TRef.ofBuf, cast_eq]; after_results_simp <;> (try dsimp only [Matrix.cons_val]) <;> (try after_results_simp) <;> rfl

/-- Line P of the reference. -/
abbrev lP : List (HloOp τ sig (Elt F)) :=
  [ reshape main_v79 main_v119 (rfl : (.f32 : EltTy) = .f32) shapeCasts_S1x8192x2048_S8192x2048,
    reshape main_v118 main_v120 (rfl : (.f32 : EltTy) = .f32) shapeCasts_S16x64x2048_S1024x2048,
    binary main_v119 main_v120 main_v121 (fn_main_v121 (F := F)),
    unary main_v15 main_v122 ((truncf .bf16 · bitsLt_bf16_f32) : (⟨S9216x4096, .f32⟩ : BufTy).Contents (Elt F) → (⟨S9216x4096, .bf16⟩ : BufTy).Contents (Elt F)),
    unary main_v121 main_v123 ((truncf .bf16 · bitsLt_bf16_f32) : (⟨S9216x2048, .f32⟩ : BufTy).Contents (Elt F) → (⟨S9216x2048, .bf16⟩ : BufTy).Contents (Elt F)) ]

/-- What line P writes. -/
theorem lP_writes : (lP (F := F)).map HloOp.writes = [main_v119, main_v120, main_v121, main_v122, main_v123].map fun w => {Proc.devRef (τ := τ) .tc w} := rfl

/-- The first result. -/
def v122 (xv15 : main_v15.ty.Contents (Elt F)) : main_v122.ty.Contents (Elt F) :=
  (((truncf .bf16 · bitsLt_bf16_f32) : (⟨S9216x4096, .f32⟩ : BufTy).Contents (Elt F) → (⟨S9216x4096, .bf16⟩ : BufTy).Contents (Elt F)) xv15)

theorem lP_v122 (V : Valuation τ sig (Elt F)) : after lP V (Proc.devRef .tc main_v122) = v122 (V (Proc.devRef .tc main_v15)) := by
  simp only [lP, TRef.binary, TRef.ternary, TRef.unary, TRef.toBuf, TRef.ofBuf, cast_eq]; after_results_simp <;> (try dsimp only [Matrix.cons_val]) <;> (try after_results_simp) <;> rfl

/-- The second result. -/
def v123 (xv79 : main_v79.ty.Contents (Elt F)) (xv118 : main_v118.ty.Contents (Elt F)) : main_v123.ty.Contents (Elt F) :=
  (((truncf .bf16 · bitsLt_bf16_f32) : (⟨S9216x2048, .f32⟩ : BufTy).Contents (Elt F) → (⟨S9216x2048, .bf16⟩ : BufTy).Contents (Elt F)) ((fn_main_v121 (F := F)) (shapeCast _ xv79 shapeCasts_S1x8192x2048_S8192x2048) (shapeCast _ xv118 shapeCasts_S16x64x2048_S1024x2048)))

theorem lP_v123 (V : Valuation τ sig (Elt F)) : after lP V (Proc.devRef .tc main_v123) = v123 (V (Proc.devRef .tc main_v79)) (V (Proc.devRef .tc main_v118)) := by
  simp only [lP, TRef.binary, TRef.ternary, TRef.unary, TRef.toBuf, TRef.ofBuf, cast_eq]; after_results_simp <;> (try dsimp only [Matrix.cons_val]) <;> (try after_results_simp) <;> rfl

/-- The reference's operations, in order. -/
abbrev allOps : List (HloOp τ sig (Elt F)) :=
  lA ++ (lA2 ++ (lB ++ (lC ++ (lD ++ (lE ++ (lF ++ (lG ++ (lH ++ (lI ++ (lJ ++ (lK ++ (lL ++ (lM ++ (lN ++ (lO ++ (lP))))))))))))))))

set_option maxRecDepth 16384 in
set_option maxHeartbeats 4000000 in
theorem main_eq (c : Dev nD) : main (F := F) c = seq allOps := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (allOps : List (HloOp τ sig (Elt F))).Forall fun op => op.bufs ⊆ tcRefs τ sig :=
  ⟨unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., reshape_bufs_sub .., unary_bufs_sub .., reshape_bufs_sub .., unary_bufs_sub .., reshape_bufs_sub .., nullary_bufs_sub .., unary_bufs_sub .., binary_bufs_sub .., reshape_bufs_sub .., nullary_bufs_sub .., unary_bufs_sub .., binary_bufs_sub .., reshape_bufs_sub .., unary_bufs_sub .., unary_bufs_sub .., unary_bufs_sub .., nary_bufs_sub .., unary_bufs_sub .., unary_bufs_sub .., unary_bufs_sub .., nary_bufs_sub .., nullary_bufs_sub .., nullary_bufs_sub .., unary_bufs_sub .., binary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., unary_bufs_sub .., unary_bufs_sub .., reshape_bufs_sub .., reshape_bufs_sub .., binary_bufs_sub .., unary_bufs_sub .., nullary_bufs_sub .., unary_bufs_sub .., binary_bufs_sub .., unary_bufs_sub .., nullary_bufs_sub .., unary_bufs_sub .., unary_bufs_sub .., unary_bufs_sub .., ternary_bufs_sub .., reshape_bufs_sub .., unary_bufs_sub .., nullary_bufs_sub .., binary_bufs_sub .., unary_bufs_sub .., unary_bufs_sub .., binary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., unary_bufs_sub .., nullary_bufs_sub .., unary_bufs_sub .., unary_bufs_sub .., reshape_bufs_sub .., binary_bufs_sub .., unary_bufs_sub .., nullary_bufs_sub .., unary_bufs_sub .., binary_bufs_sub .., unary_bufs_sub .., nullary_bufs_sub .., unary_bufs_sub .., unary_bufs_sub .., unary_bufs_sub .., ternary_bufs_sub .., reshape_bufs_sub .., unary_bufs_sub .., nullary_bufs_sub .., binary_bufs_sub .., unary_bufs_sub .., unary_bufs_sub .., binary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., binary_bufs_sub .., unary_bufs_sub .., reshape_bufs_sub .., reshape_bufs_sub .., reshape_bufs_sub .., binary_bufs_sub .., unary_bufs_sub .., unary_bufs_sub ..⟩

/-- Two lines one after the other. -/
theorem after_two (l₁ l₂ : List (HloOp τ sig (Elt F))) (V : Valuation τ sig (Elt F)) : after (l₁ ++ l₂) V = after l₂ (after l₁ V) := by
  induction l₁ generalizing V with
  | nil => rfl
  | cons op l ih => exact ih _

section
variable (V : Valuation τ sig (Elt F))

/-- The contents after line A. -/
def sA : Valuation τ sig (Elt F) := after lA V

/-- The contents after line A2. -/
def sA2 : Valuation τ sig (Elt F) := after lA2 (sA V)

/-- The contents after line B. -/
def sB : Valuation τ sig (Elt F) := after lB (sA2 V)

/-- The contents after line C. -/
def sC : Valuation τ sig (Elt F) := after lC (sB V)

/-- The contents after line D. -/
def sD : Valuation τ sig (Elt F) := after lD (sC V)

/-- The contents after line E. -/
def sE : Valuation τ sig (Elt F) := after lE (sD V)

/-- The contents after line F. -/
def sF : Valuation τ sig (Elt F) := after lF (sE V)

/-- The contents after line G. -/
def sG : Valuation τ sig (Elt F) := after lG (sF V)

/-- The contents after line H. -/
def sH : Valuation τ sig (Elt F) := after lH (sG V)

/-- The contents after line I. -/
def sI : Valuation τ sig (Elt F) := after lI (sH V)

/-- The contents after line J. -/
def sJ : Valuation τ sig (Elt F) := after lJ (sI V)

/-- The contents after line K. -/
def sK : Valuation τ sig (Elt F) := after lK (sJ V)

/-- The contents after line L. -/
def sL : Valuation τ sig (Elt F) := after lL (sK V)

/-- The contents after line M. -/
def sM : Valuation τ sig (Elt F) := after lM (sL V)

/-- The contents after line N. -/
def sN : Valuation τ sig (Elt F) := after lN (sM V)

/-- The contents after line O. -/
def sO : Valuation τ sig (Elt F) := after lO (sN V)

/-- The contents after line P. -/
def sP : Valuation τ sig (Elt F) := after lP (sO V)

/-- `v2` of the arguments. -/
def c_v2 (V : Valuation τ sig (Elt F)) : main_v2.ty.Contents (Elt F) := v2 (V (Proc.devRef .tc main_arg0)) (V (Proc.devRef .tc main_arg1))

/-- `v15` of the arguments. -/
def c_v15 (V : Valuation τ sig (Elt F)) : main_v15.ty.Contents (Elt F) := v15 (c_v2 V)

/-- `v16` of the arguments. -/
def c_v16 (V : Valuation τ sig (Elt F)) : main_v16.ty.Contents (Elt F) := v16 (V (Proc.devRef .tc main_arg2))

/-- `v17` of the arguments. -/
def c_v17 (V : Valuation τ sig (Elt F)) : main_v17.ty.Contents (Elt F) := v17 (V (Proc.devRef .tc main_arg2))

/-- `v18` of the arguments. -/
def c_v18 (V : Valuation τ sig (Elt F)) : main_v18.ty.Contents (Elt F) := v18 (V (Proc.devRef .tc main_arg2))

/-- `v20` of the arguments. -/
def c_v20 (V : Valuation τ sig (Elt F)) : main_v20.ty.Contents (Elt F) := v20 (c_v16 V)

/-- `v32` of the arguments. -/
def c_v32 (V : Valuation τ sig (Elt F)) : main_v32.ty.Contents (Elt F) := v32 (c_v17 V)

/-- `v36` of the arguments. -/
def c_v36 (V : Valuation τ sig (Elt F)) : main_v36.ty.Contents (Elt F) := v36 (c_v18 V)

/-- `v51` of the arguments. -/
def c_v51 (V : Valuation τ sig (Elt F)) : main_v51.ty.Contents (Elt F) := v51 (F := F)

/-- `v59` of the arguments. -/
def c_v59 (V : Valuation τ sig (Elt F)) : main_v59.ty.Contents (Elt F) := v59 (c_v51 V) (c_v32 V) (c_v20 V)

/-- `v61` of the arguments. -/
def c_v61 (V : Valuation τ sig (Elt F)) : main_v61.ty.Contents (Elt F) := v61 (V (Proc.devRef .tc main_arg5))

/-- `v65` of the arguments. -/
def c_v65 (V : Valuation τ sig (Elt F)) : main_v65.ty.Contents (Elt F) := v65 (c_v59 V) (V (Proc.devRef .tc main_arg5))

/-- `v68` of the arguments. -/
def c_v68 (V : Valuation τ sig (Elt F)) : main_v68.ty.Contents (Elt F) := v68 (c_v59 V) (c_v65 V)

/-- `v74` of the arguments. -/
def c_v74 (V : Valuation τ sig (Elt F)) : main_v74.ty.Contents (Elt F) := v74 (c_v68 V) (c_v61 V) (c_v65 V)

/-- `v79` of the arguments. -/
def c_v79 (V : Valuation τ sig (Elt F)) : main_v79.ty.Contents (Elt F) := v79 (c_v36 V) (c_v68 V) (c_v74 V)

/-- `v81` of the arguments. -/
def c_v81 (V : Valuation τ sig (Elt F)) : main_v81.ty.Contents (Elt F) := v81 (c_v16 V)

/-- `v87` of the arguments. -/
def c_v87 (V : Valuation τ sig (Elt F)) : main_v87.ty.Contents (Elt F) := v87 (V (Proc.devRef .tc main_arg3)) (c_v17 V)

/-- `v89` of the arguments. -/
def c_v89 (V : Valuation τ sig (Elt F)) : main_v89.ty.Contents (Elt F) := v89 (V (Proc.devRef .tc main_arg4)) (c_v18 V)

/-- `v90` of the arguments. -/
def c_v90 (V : Valuation τ sig (Elt F)) : main_v90.ty.Contents (Elt F) := v90 (F := F)

/-- `v98` of the arguments. -/
def c_v98 (V : Valuation τ sig (Elt F)) : main_v98.ty.Contents (Elt F) := v98 (c_v90 V) (c_v87 V) (c_v81 V)

/-- `v100` of the arguments. -/
def c_v100 (V : Valuation τ sig (Elt F)) : main_v100.ty.Contents (Elt F) := v100 (V (Proc.devRef .tc main_arg5))

/-- `v104` of the arguments. -/
def c_v104 (V : Valuation τ sig (Elt F)) : main_v104.ty.Contents (Elt F) := v104 (c_v98 V) (V (Proc.devRef .tc main_arg5))

/-- `v107` of the arguments. -/
def c_v107 (V : Valuation τ sig (Elt F)) : main_v107.ty.Contents (Elt F) := v107 (c_v98 V) (c_v104 V)

/-- `v113` of the arguments. -/
def c_v113 (V : Valuation τ sig (Elt F)) : main_v113.ty.Contents (Elt F) := v113 (c_v107 V) (c_v100 V) (c_v104 V)

/-- `v118` of the arguments. -/
def c_v118 (V : Valuation τ sig (Elt F)) : main_v118.ty.Contents (Elt F) := v118 (c_v89 V) (c_v107 V) (c_v113 V)

/-- `v122` of the arguments. -/
def c_v122 (V : Valuation τ sig (Elt F)) : main_v122.ty.Contents (Elt F) := v122 (c_v15 V)

/-- `v123` of the arguments. -/
def c_v123 (V : Valuation τ sig (Elt F)) : main_v123.ty.Contents (Elt F) := v123 (c_v79 V) (c_v118 V)

theorem sA_arg0 : sA V (Proc.devRef .tc main_arg0) = (V (Proc.devRef .tc main_arg0)) :=
  (after_of_writes_sub lA _ (forall_writes_sub_of_map lA_writes) (by decide)).trans (rfl)

theorem sA_arg1 : sA V (Proc.devRef .tc main_arg1) = (V (Proc.devRef .tc main_arg1)) :=
  (after_of_writes_sub lA _ (forall_writes_sub_of_map lA_writes) (by decide)).trans (rfl)

theorem sA_arg2 : sA V (Proc.devRef .tc main_arg2) = (V (Proc.devRef .tc main_arg2)) :=
  (after_of_writes_sub lA _ (forall_writes_sub_of_map lA_writes) (by decide)).trans (rfl)

theorem sA_arg3 : sA V (Proc.devRef .tc main_arg3) = (V (Proc.devRef .tc main_arg3)) :=
  (after_of_writes_sub lA _ (forall_writes_sub_of_map lA_writes) (by decide)).trans (rfl)

theorem sA_arg4 : sA V (Proc.devRef .tc main_arg4) = (V (Proc.devRef .tc main_arg4)) :=
  (after_of_writes_sub lA _ (forall_writes_sub_of_map lA_writes) (by decide)).trans (rfl)

theorem sA_arg5 : sA V (Proc.devRef .tc main_arg5) = (V (Proc.devRef .tc main_arg5)) :=
  (after_of_writes_sub lA _ (forall_writes_sub_of_map lA_writes) (by decide)).trans (rfl)

theorem sA_v2 : sA V (Proc.devRef .tc main_v2) = c_v2 V :=
  (lA_v2 _).trans (by rfl)

theorem sA2_arg0 : sA2 V (Proc.devRef .tc main_arg0) = (V (Proc.devRef .tc main_arg0)) :=
  (after_of_writes_sub lA2 _ (forall_writes_sub_of_map lA2_writes) (by decide)).trans (sA_arg0 V)

theorem sA2_arg1 : sA2 V (Proc.devRef .tc main_arg1) = (V (Proc.devRef .tc main_arg1)) :=
  (after_of_writes_sub lA2 _ (forall_writes_sub_of_map lA2_writes) (by decide)).trans (sA_arg1 V)

theorem sA2_arg2 : sA2 V (Proc.devRef .tc main_arg2) = (V (Proc.devRef .tc main_arg2)) :=
  (after_of_writes_sub lA2 _ (forall_writes_sub_of_map lA2_writes) (by decide)).trans (sA_arg2 V)

theorem sA2_arg3 : sA2 V (Proc.devRef .tc main_arg3) = (V (Proc.devRef .tc main_arg3)) :=
  (after_of_writes_sub lA2 _ (forall_writes_sub_of_map lA2_writes) (by decide)).trans (sA_arg3 V)

theorem sA2_arg4 : sA2 V (Proc.devRef .tc main_arg4) = (V (Proc.devRef .tc main_arg4)) :=
  (after_of_writes_sub lA2 _ (forall_writes_sub_of_map lA2_writes) (by decide)).trans (sA_arg4 V)

theorem sA2_arg5 : sA2 V (Proc.devRef .tc main_arg5) = (V (Proc.devRef .tc main_arg5)) :=
  (after_of_writes_sub lA2 _ (forall_writes_sub_of_map lA2_writes) (by decide)).trans (sA_arg5 V)

theorem sA2_v2 : sA2 V (Proc.devRef .tc main_v2) = (c_v2 V) :=
  (after_of_writes_sub lA2 _ (forall_writes_sub_of_map lA2_writes) (by decide)).trans (sA_v2 V)

theorem sA2_v15 : sA2 V (Proc.devRef .tc main_v15) = c_v15 V :=
  (lA2_v15 _).trans (by rw [sA_v2]; rfl)

theorem sB_arg0 : sB V (Proc.devRef .tc main_arg0) = (V (Proc.devRef .tc main_arg0)) :=
  (after_of_writes_sub lB _ (forall_writes_sub_of_map lB_writes) (by decide)).trans (sA2_arg0 V)

theorem sB_arg1 : sB V (Proc.devRef .tc main_arg1) = (V (Proc.devRef .tc main_arg1)) :=
  (after_of_writes_sub lB _ (forall_writes_sub_of_map lB_writes) (by decide)).trans (sA2_arg1 V)

theorem sB_arg2 : sB V (Proc.devRef .tc main_arg2) = (V (Proc.devRef .tc main_arg2)) :=
  (after_of_writes_sub lB _ (forall_writes_sub_of_map lB_writes) (by decide)).trans (sA2_arg2 V)

theorem sB_arg3 : sB V (Proc.devRef .tc main_arg3) = (V (Proc.devRef .tc main_arg3)) :=
  (after_of_writes_sub lB _ (forall_writes_sub_of_map lB_writes) (by decide)).trans (sA2_arg3 V)

theorem sB_arg4 : sB V (Proc.devRef .tc main_arg4) = (V (Proc.devRef .tc main_arg4)) :=
  (after_of_writes_sub lB _ (forall_writes_sub_of_map lB_writes) (by decide)).trans (sA2_arg4 V)

theorem sB_arg5 : sB V (Proc.devRef .tc main_arg5) = (V (Proc.devRef .tc main_arg5)) :=
  (after_of_writes_sub lB _ (forall_writes_sub_of_map lB_writes) (by decide)).trans (sA2_arg5 V)

theorem sB_v15 : sB V (Proc.devRef .tc main_v15) = (c_v15 V) :=
  (after_of_writes_sub lB _ (forall_writes_sub_of_map lB_writes) (by decide)).trans (sA2_v15 V)

theorem sB_v16 : sB V (Proc.devRef .tc main_v16) = c_v16 V :=
  (lB_v16 _).trans (by rw [sA2_arg2]; rfl)

theorem sB_v17 : sB V (Proc.devRef .tc main_v17) = c_v17 V :=
  (lB_v17 _).trans (by rw [sA2_arg2]; rfl)

theorem sB_v18 : sB V (Proc.devRef .tc main_v18) = c_v18 V :=
  (lB_v18 _).trans (by rw [sA2_arg2]; rfl)

theorem sC_arg0 : sC V (Proc.devRef .tc main_arg0) = (V (Proc.devRef .tc main_arg0)) :=
  (after_of_writes_sub lC _ (forall_writes_sub_of_map lC_writes) (by decide)).trans (sB_arg0 V)

theorem sC_arg1 : sC V (Proc.devRef .tc main_arg1) = (V (Proc.devRef .tc main_arg1)) :=
  (after_of_writes_sub lC _ (forall_writes_sub_of_map lC_writes) (by decide)).trans (sB_arg1 V)

theorem sC_arg2 : sC V (Proc.devRef .tc main_arg2) = (V (Proc.devRef .tc main_arg2)) :=
  (after_of_writes_sub lC _ (forall_writes_sub_of_map lC_writes) (by decide)).trans (sB_arg2 V)

theorem sC_arg3 : sC V (Proc.devRef .tc main_arg3) = (V (Proc.devRef .tc main_arg3)) :=
  (after_of_writes_sub lC _ (forall_writes_sub_of_map lC_writes) (by decide)).trans (sB_arg3 V)

theorem sC_arg4 : sC V (Proc.devRef .tc main_arg4) = (V (Proc.devRef .tc main_arg4)) :=
  (after_of_writes_sub lC _ (forall_writes_sub_of_map lC_writes) (by decide)).trans (sB_arg4 V)

theorem sC_arg5 : sC V (Proc.devRef .tc main_arg5) = (V (Proc.devRef .tc main_arg5)) :=
  (after_of_writes_sub lC _ (forall_writes_sub_of_map lC_writes) (by decide)).trans (sB_arg5 V)

theorem sC_v15 : sC V (Proc.devRef .tc main_v15) = (c_v15 V) :=
  (after_of_writes_sub lC _ (forall_writes_sub_of_map lC_writes) (by decide)).trans (sB_v15 V)

theorem sC_v16 : sC V (Proc.devRef .tc main_v16) = (c_v16 V) :=
  (after_of_writes_sub lC _ (forall_writes_sub_of_map lC_writes) (by decide)).trans (sB_v16 V)

theorem sC_v17 : sC V (Proc.devRef .tc main_v17) = (c_v17 V) :=
  (after_of_writes_sub lC _ (forall_writes_sub_of_map lC_writes) (by decide)).trans (sB_v17 V)

theorem sC_v18 : sC V (Proc.devRef .tc main_v18) = (c_v18 V) :=
  (after_of_writes_sub lC _ (forall_writes_sub_of_map lC_writes) (by decide)).trans (sB_v18 V)

theorem sC_v20 : sC V (Proc.devRef .tc main_v20) = c_v20 V :=
  (lC_v20 _).trans (by rw [sB_v16]; rfl)

theorem sC_v32 : sC V (Proc.devRef .tc main_v32) = c_v32 V :=
  (lC_v32 _).trans (by rw [sB_v17]; rfl)

theorem sC_v36 : sC V (Proc.devRef .tc main_v36) = c_v36 V :=
  (lC_v36 _).trans (by rw [sB_v18]; rfl)

theorem sD_arg0 : sD V (Proc.devRef .tc main_arg0) = (V (Proc.devRef .tc main_arg0)) :=
  (after_of_writes_sub lD _ (forall_writes_sub_of_map lD_writes) (by decide)).trans (sC_arg0 V)

theorem sD_arg1 : sD V (Proc.devRef .tc main_arg1) = (V (Proc.devRef .tc main_arg1)) :=
  (after_of_writes_sub lD _ (forall_writes_sub_of_map lD_writes) (by decide)).trans (sC_arg1 V)

theorem sD_arg2 : sD V (Proc.devRef .tc main_arg2) = (V (Proc.devRef .tc main_arg2)) :=
  (after_of_writes_sub lD _ (forall_writes_sub_of_map lD_writes) (by decide)).trans (sC_arg2 V)

theorem sD_arg3 : sD V (Proc.devRef .tc main_arg3) = (V (Proc.devRef .tc main_arg3)) :=
  (after_of_writes_sub lD _ (forall_writes_sub_of_map lD_writes) (by decide)).trans (sC_arg3 V)

theorem sD_arg4 : sD V (Proc.devRef .tc main_arg4) = (V (Proc.devRef .tc main_arg4)) :=
  (after_of_writes_sub lD _ (forall_writes_sub_of_map lD_writes) (by decide)).trans (sC_arg4 V)

theorem sD_arg5 : sD V (Proc.devRef .tc main_arg5) = (V (Proc.devRef .tc main_arg5)) :=
  (after_of_writes_sub lD _ (forall_writes_sub_of_map lD_writes) (by decide)).trans (sC_arg5 V)

theorem sD_v15 : sD V (Proc.devRef .tc main_v15) = (c_v15 V) :=
  (after_of_writes_sub lD _ (forall_writes_sub_of_map lD_writes) (by decide)).trans (sC_v15 V)

theorem sD_v16 : sD V (Proc.devRef .tc main_v16) = (c_v16 V) :=
  (after_of_writes_sub lD _ (forall_writes_sub_of_map lD_writes) (by decide)).trans (sC_v16 V)

theorem sD_v17 : sD V (Proc.devRef .tc main_v17) = (c_v17 V) :=
  (after_of_writes_sub lD _ (forall_writes_sub_of_map lD_writes) (by decide)).trans (sC_v17 V)

theorem sD_v18 : sD V (Proc.devRef .tc main_v18) = (c_v18 V) :=
  (after_of_writes_sub lD _ (forall_writes_sub_of_map lD_writes) (by decide)).trans (sC_v18 V)

theorem sD_v20 : sD V (Proc.devRef .tc main_v20) = (c_v20 V) :=
  (after_of_writes_sub lD _ (forall_writes_sub_of_map lD_writes) (by decide)).trans (sC_v20 V)

theorem sD_v32 : sD V (Proc.devRef .tc main_v32) = (c_v32 V) :=
  (after_of_writes_sub lD _ (forall_writes_sub_of_map lD_writes) (by decide)).trans (sC_v32 V)

theorem sD_v36 : sD V (Proc.devRef .tc main_v36) = (c_v36 V) :=
  (after_of_writes_sub lD _ (forall_writes_sub_of_map lD_writes) (by decide)).trans (sC_v36 V)

theorem sD_v51 : sD V (Proc.devRef .tc main_v51) = c_v51 V :=
  (lD_v51 _).trans (by rfl)

theorem sE_arg0 : sE V (Proc.devRef .tc main_arg0) = (V (Proc.devRef .tc main_arg0)) :=
  (after_of_writes_sub lE _ (forall_writes_sub_of_map lE_writes) (by decide)).trans (sD_arg0 V)

theorem sE_arg1 : sE V (Proc.devRef .tc main_arg1) = (V (Proc.devRef .tc main_arg1)) :=
  (after_of_writes_sub lE _ (forall_writes_sub_of_map lE_writes) (by decide)).trans (sD_arg1 V)

theorem sE_arg2 : sE V (Proc.devRef .tc main_arg2) = (V (Proc.devRef .tc main_arg2)) :=
  (after_of_writes_sub lE _ (forall_writes_sub_of_map lE_writes) (by decide)).trans (sD_arg2 V)

theorem sE_arg3 : sE V (Proc.devRef .tc main_arg3) = (V (Proc.devRef .tc main_arg3)) :=
  (after_of_writes_sub lE _ (forall_writes_sub_of_map lE_writes) (by decide)).trans (sD_arg3 V)

theorem sE_arg4 : sE V (Proc.devRef .tc main_arg4) = (V (Proc.devRef .tc main_arg4)) :=
  (after_of_writes_sub lE _ (forall_writes_sub_of_map lE_writes) (by decide)).trans (sD_arg4 V)

theorem sE_arg5 : sE V (Proc.devRef .tc main_arg5) = (V (Proc.devRef .tc main_arg5)) :=
  (after_of_writes_sub lE _ (forall_writes_sub_of_map lE_writes) (by decide)).trans (sD_arg5 V)

theorem sE_v15 : sE V (Proc.devRef .tc main_v15) = (c_v15 V) :=
  (after_of_writes_sub lE _ (forall_writes_sub_of_map lE_writes) (by decide)).trans (sD_v15 V)

theorem sE_v16 : sE V (Proc.devRef .tc main_v16) = (c_v16 V) :=
  (after_of_writes_sub lE _ (forall_writes_sub_of_map lE_writes) (by decide)).trans (sD_v16 V)

theorem sE_v17 : sE V (Proc.devRef .tc main_v17) = (c_v17 V) :=
  (after_of_writes_sub lE _ (forall_writes_sub_of_map lE_writes) (by decide)).trans (sD_v17 V)

theorem sE_v18 : sE V (Proc.devRef .tc main_v18) = (c_v18 V) :=
  (after_of_writes_sub lE _ (forall_writes_sub_of_map lE_writes) (by decide)).trans (sD_v18 V)

theorem sE_v20 : sE V (Proc.devRef .tc main_v20) = (c_v20 V) :=
  (after_of_writes_sub lE _ (forall_writes_sub_of_map lE_writes) (by decide)).trans (sD_v20 V)

theorem sE_v32 : sE V (Proc.devRef .tc main_v32) = (c_v32 V) :=
  (after_of_writes_sub lE _ (forall_writes_sub_of_map lE_writes) (by decide)).trans (sD_v32 V)

theorem sE_v36 : sE V (Proc.devRef .tc main_v36) = (c_v36 V) :=
  (after_of_writes_sub lE _ (forall_writes_sub_of_map lE_writes) (by decide)).trans (sD_v36 V)

theorem sE_v51 : sE V (Proc.devRef .tc main_v51) = (c_v51 V) :=
  (after_of_writes_sub lE _ (forall_writes_sub_of_map lE_writes) (by decide)).trans (sD_v51 V)

theorem sE_v59 : sE V (Proc.devRef .tc main_v59) = c_v59 V :=
  (lE_v59 _).trans (by rw [sD_v51, sD_v32, sD_v20]; rfl)

theorem sF_arg0 : sF V (Proc.devRef .tc main_arg0) = (V (Proc.devRef .tc main_arg0)) :=
  (after_of_writes_sub lF _ (forall_writes_sub_of_map lF_writes) (by decide)).trans (sE_arg0 V)

theorem sF_arg1 : sF V (Proc.devRef .tc main_arg1) = (V (Proc.devRef .tc main_arg1)) :=
  (after_of_writes_sub lF _ (forall_writes_sub_of_map lF_writes) (by decide)).trans (sE_arg1 V)

theorem sF_arg2 : sF V (Proc.devRef .tc main_arg2) = (V (Proc.devRef .tc main_arg2)) :=
  (after_of_writes_sub lF _ (forall_writes_sub_of_map lF_writes) (by decide)).trans (sE_arg2 V)

theorem sF_arg3 : sF V (Proc.devRef .tc main_arg3) = (V (Proc.devRef .tc main_arg3)) :=
  (after_of_writes_sub lF _ (forall_writes_sub_of_map lF_writes) (by decide)).trans (sE_arg3 V)

theorem sF_arg4 : sF V (Proc.devRef .tc main_arg4) = (V (Proc.devRef .tc main_arg4)) :=
  (after_of_writes_sub lF _ (forall_writes_sub_of_map lF_writes) (by decide)).trans (sE_arg4 V)

theorem sF_arg5 : sF V (Proc.devRef .tc main_arg5) = (V (Proc.devRef .tc main_arg5)) :=
  (after_of_writes_sub lF _ (forall_writes_sub_of_map lF_writes) (by decide)).trans (sE_arg5 V)

theorem sF_v15 : sF V (Proc.devRef .tc main_v15) = (c_v15 V) :=
  (after_of_writes_sub lF _ (forall_writes_sub_of_map lF_writes) (by decide)).trans (sE_v15 V)

theorem sF_v16 : sF V (Proc.devRef .tc main_v16) = (c_v16 V) :=
  (after_of_writes_sub lF _ (forall_writes_sub_of_map lF_writes) (by decide)).trans (sE_v16 V)

theorem sF_v17 : sF V (Proc.devRef .tc main_v17) = (c_v17 V) :=
  (after_of_writes_sub lF _ (forall_writes_sub_of_map lF_writes) (by decide)).trans (sE_v17 V)

theorem sF_v18 : sF V (Proc.devRef .tc main_v18) = (c_v18 V) :=
  (after_of_writes_sub lF _ (forall_writes_sub_of_map lF_writes) (by decide)).trans (sE_v18 V)

theorem sF_v36 : sF V (Proc.devRef .tc main_v36) = (c_v36 V) :=
  (after_of_writes_sub lF _ (forall_writes_sub_of_map lF_writes) (by decide)).trans (sE_v36 V)

theorem sF_v59 : sF V (Proc.devRef .tc main_v59) = (c_v59 V) :=
  (after_of_writes_sub lF _ (forall_writes_sub_of_map lF_writes) (by decide)).trans (sE_v59 V)

theorem sF_v61 : sF V (Proc.devRef .tc main_v61) = c_v61 V :=
  (lF_v61 _).trans (by rw [sE_arg5]; rfl)

theorem sF_v65 : sF V (Proc.devRef .tc main_v65) = c_v65 V :=
  (lF_v65 _).trans (by rw [sE_v59, sE_arg5]; rfl)

theorem sG_arg0 : sG V (Proc.devRef .tc main_arg0) = (V (Proc.devRef .tc main_arg0)) :=
  (after_of_writes_sub lG _ (forall_writes_sub_of_map lG_writes) (by decide)).trans (sF_arg0 V)

theorem sG_arg1 : sG V (Proc.devRef .tc main_arg1) = (V (Proc.devRef .tc main_arg1)) :=
  (after_of_writes_sub lG _ (forall_writes_sub_of_map lG_writes) (by decide)).trans (sF_arg1 V)

theorem sG_arg2 : sG V (Proc.devRef .tc main_arg2) = (V (Proc.devRef .tc main_arg2)) :=
  (after_of_writes_sub lG _ (forall_writes_sub_of_map lG_writes) (by decide)).trans (sF_arg2 V)

theorem sG_arg3 : sG V (Proc.devRef .tc main_arg3) = (V (Proc.devRef .tc main_arg3)) :=
  (after_of_writes_sub lG _ (forall_writes_sub_of_map lG_writes) (by decide)).trans (sF_arg3 V)

theorem sG_arg4 : sG V (Proc.devRef .tc main_arg4) = (V (Proc.devRef .tc main_arg4)) :=
  (after_of_writes_sub lG _ (forall_writes_sub_of_map lG_writes) (by decide)).trans (sF_arg4 V)

theorem sG_arg5 : sG V (Proc.devRef .tc main_arg5) = (V (Proc.devRef .tc main_arg5)) :=
  (after_of_writes_sub lG _ (forall_writes_sub_of_map lG_writes) (by decide)).trans (sF_arg5 V)

theorem sG_v15 : sG V (Proc.devRef .tc main_v15) = (c_v15 V) :=
  (after_of_writes_sub lG _ (forall_writes_sub_of_map lG_writes) (by decide)).trans (sF_v15 V)

theorem sG_v16 : sG V (Proc.devRef .tc main_v16) = (c_v16 V) :=
  (after_of_writes_sub lG _ (forall_writes_sub_of_map lG_writes) (by decide)).trans (sF_v16 V)

theorem sG_v17 : sG V (Proc.devRef .tc main_v17) = (c_v17 V) :=
  (after_of_writes_sub lG _ (forall_writes_sub_of_map lG_writes) (by decide)).trans (sF_v17 V)

theorem sG_v18 : sG V (Proc.devRef .tc main_v18) = (c_v18 V) :=
  (after_of_writes_sub lG _ (forall_writes_sub_of_map lG_writes) (by decide)).trans (sF_v18 V)

theorem sG_v36 : sG V (Proc.devRef .tc main_v36) = (c_v36 V) :=
  (after_of_writes_sub lG _ (forall_writes_sub_of_map lG_writes) (by decide)).trans (sF_v36 V)

theorem sG_v59 : sG V (Proc.devRef .tc main_v59) = (c_v59 V) :=
  (after_of_writes_sub lG _ (forall_writes_sub_of_map lG_writes) (by decide)).trans (sF_v59 V)

theorem sG_v61 : sG V (Proc.devRef .tc main_v61) = (c_v61 V) :=
  (after_of_writes_sub lG _ (forall_writes_sub_of_map lG_writes) (by decide)).trans (sF_v61 V)

theorem sG_v65 : sG V (Proc.devRef .tc main_v65) = (c_v65 V) :=
  (after_of_writes_sub lG _ (forall_writes_sub_of_map lG_writes) (by decide)).trans (sF_v65 V)

theorem sG_v68 : sG V (Proc.devRef .tc main_v68) = c_v68 V :=
  (lG_v68 _).trans (by rw [sF_v59, sF_v65]; rfl)

theorem sH_arg0 : sH V (Proc.devRef .tc main_arg0) = (V (Proc.devRef .tc main_arg0)) :=
  (after_of_writes_sub lH _ (forall_writes_sub_of_map lH_writes) (by decide)).trans (sG_arg0 V)

theorem sH_arg1 : sH V (Proc.devRef .tc main_arg1) = (V (Proc.devRef .tc main_arg1)) :=
  (after_of_writes_sub lH _ (forall_writes_sub_of_map lH_writes) (by decide)).trans (sG_arg1 V)

theorem sH_arg2 : sH V (Proc.devRef .tc main_arg2) = (V (Proc.devRef .tc main_arg2)) :=
  (after_of_writes_sub lH _ (forall_writes_sub_of_map lH_writes) (by decide)).trans (sG_arg2 V)

theorem sH_arg3 : sH V (Proc.devRef .tc main_arg3) = (V (Proc.devRef .tc main_arg3)) :=
  (after_of_writes_sub lH _ (forall_writes_sub_of_map lH_writes) (by decide)).trans (sG_arg3 V)

theorem sH_arg4 : sH V (Proc.devRef .tc main_arg4) = (V (Proc.devRef .tc main_arg4)) :=
  (after_of_writes_sub lH _ (forall_writes_sub_of_map lH_writes) (by decide)).trans (sG_arg4 V)

theorem sH_arg5 : sH V (Proc.devRef .tc main_arg5) = (V (Proc.devRef .tc main_arg5)) :=
  (after_of_writes_sub lH _ (forall_writes_sub_of_map lH_writes) (by decide)).trans (sG_arg5 V)

theorem sH_v15 : sH V (Proc.devRef .tc main_v15) = (c_v15 V) :=
  (after_of_writes_sub lH _ (forall_writes_sub_of_map lH_writes) (by decide)).trans (sG_v15 V)

theorem sH_v16 : sH V (Proc.devRef .tc main_v16) = (c_v16 V) :=
  (after_of_writes_sub lH _ (forall_writes_sub_of_map lH_writes) (by decide)).trans (sG_v16 V)

theorem sH_v17 : sH V (Proc.devRef .tc main_v17) = (c_v17 V) :=
  (after_of_writes_sub lH _ (forall_writes_sub_of_map lH_writes) (by decide)).trans (sG_v17 V)

theorem sH_v18 : sH V (Proc.devRef .tc main_v18) = (c_v18 V) :=
  (after_of_writes_sub lH _ (forall_writes_sub_of_map lH_writes) (by decide)).trans (sG_v18 V)

theorem sH_v36 : sH V (Proc.devRef .tc main_v36) = (c_v36 V) :=
  (after_of_writes_sub lH _ (forall_writes_sub_of_map lH_writes) (by decide)).trans (sG_v36 V)

theorem sH_v61 : sH V (Proc.devRef .tc main_v61) = (c_v61 V) :=
  (after_of_writes_sub lH _ (forall_writes_sub_of_map lH_writes) (by decide)).trans (sG_v61 V)

theorem sH_v65 : sH V (Proc.devRef .tc main_v65) = (c_v65 V) :=
  (after_of_writes_sub lH _ (forall_writes_sub_of_map lH_writes) (by decide)).trans (sG_v65 V)

theorem sH_v68 : sH V (Proc.devRef .tc main_v68) = (c_v68 V) :=
  (after_of_writes_sub lH _ (forall_writes_sub_of_map lH_writes) (by decide)).trans (sG_v68 V)

theorem sH_v74 : sH V (Proc.devRef .tc main_v74) = c_v74 V :=
  (lH_v74 _).trans (by rw [sG_v68, sG_v61, sG_v65]; rfl)

theorem sI_arg0 : sI V (Proc.devRef .tc main_arg0) = (V (Proc.devRef .tc main_arg0)) :=
  (after_of_writes_sub lI _ (forall_writes_sub_of_map lI_writes) (by decide)).trans (sH_arg0 V)

theorem sI_arg1 : sI V (Proc.devRef .tc main_arg1) = (V (Proc.devRef .tc main_arg1)) :=
  (after_of_writes_sub lI _ (forall_writes_sub_of_map lI_writes) (by decide)).trans (sH_arg1 V)

theorem sI_arg2 : sI V (Proc.devRef .tc main_arg2) = (V (Proc.devRef .tc main_arg2)) :=
  (after_of_writes_sub lI _ (forall_writes_sub_of_map lI_writes) (by decide)).trans (sH_arg2 V)

theorem sI_arg3 : sI V (Proc.devRef .tc main_arg3) = (V (Proc.devRef .tc main_arg3)) :=
  (after_of_writes_sub lI _ (forall_writes_sub_of_map lI_writes) (by decide)).trans (sH_arg3 V)

theorem sI_arg4 : sI V (Proc.devRef .tc main_arg4) = (V (Proc.devRef .tc main_arg4)) :=
  (after_of_writes_sub lI _ (forall_writes_sub_of_map lI_writes) (by decide)).trans (sH_arg4 V)

theorem sI_arg5 : sI V (Proc.devRef .tc main_arg5) = (V (Proc.devRef .tc main_arg5)) :=
  (after_of_writes_sub lI _ (forall_writes_sub_of_map lI_writes) (by decide)).trans (sH_arg5 V)

theorem sI_v15 : sI V (Proc.devRef .tc main_v15) = (c_v15 V) :=
  (after_of_writes_sub lI _ (forall_writes_sub_of_map lI_writes) (by decide)).trans (sH_v15 V)

theorem sI_v16 : sI V (Proc.devRef .tc main_v16) = (c_v16 V) :=
  (after_of_writes_sub lI _ (forall_writes_sub_of_map lI_writes) (by decide)).trans (sH_v16 V)

theorem sI_v17 : sI V (Proc.devRef .tc main_v17) = (c_v17 V) :=
  (after_of_writes_sub lI _ (forall_writes_sub_of_map lI_writes) (by decide)).trans (sH_v17 V)

theorem sI_v18 : sI V (Proc.devRef .tc main_v18) = (c_v18 V) :=
  (after_of_writes_sub lI _ (forall_writes_sub_of_map lI_writes) (by decide)).trans (sH_v18 V)

theorem sI_v36 : sI V (Proc.devRef .tc main_v36) = (c_v36 V) :=
  (after_of_writes_sub lI _ (forall_writes_sub_of_map lI_writes) (by decide)).trans (sH_v36 V)

theorem sI_v68 : sI V (Proc.devRef .tc main_v68) = (c_v68 V) :=
  (after_of_writes_sub lI _ (forall_writes_sub_of_map lI_writes) (by decide)).trans (sH_v68 V)

theorem sI_v74 : sI V (Proc.devRef .tc main_v74) = (c_v74 V) :=
  (after_of_writes_sub lI _ (forall_writes_sub_of_map lI_writes) (by decide)).trans (sH_v74 V)

theorem sI_v79 : sI V (Proc.devRef .tc main_v79) = c_v79 V :=
  (lI_v79 _).trans (by rw [sH_v36, sH_v68, sH_v74]; rfl)

theorem sJ_arg0 : sJ V (Proc.devRef .tc main_arg0) = (V (Proc.devRef .tc main_arg0)) :=
  (after_of_writes_sub lJ _ (forall_writes_sub_of_map lJ_writes) (by decide)).trans (sI_arg0 V)

theorem sJ_arg1 : sJ V (Proc.devRef .tc main_arg1) = (V (Proc.devRef .tc main_arg1)) :=
  (after_of_writes_sub lJ _ (forall_writes_sub_of_map lJ_writes) (by decide)).trans (sI_arg1 V)

theorem sJ_arg2 : sJ V (Proc.devRef .tc main_arg2) = (V (Proc.devRef .tc main_arg2)) :=
  (after_of_writes_sub lJ _ (forall_writes_sub_of_map lJ_writes) (by decide)).trans (sI_arg2 V)

theorem sJ_arg3 : sJ V (Proc.devRef .tc main_arg3) = (V (Proc.devRef .tc main_arg3)) :=
  (after_of_writes_sub lJ _ (forall_writes_sub_of_map lJ_writes) (by decide)).trans (sI_arg3 V)

theorem sJ_arg4 : sJ V (Proc.devRef .tc main_arg4) = (V (Proc.devRef .tc main_arg4)) :=
  (after_of_writes_sub lJ _ (forall_writes_sub_of_map lJ_writes) (by decide)).trans (sI_arg4 V)

theorem sJ_arg5 : sJ V (Proc.devRef .tc main_arg5) = (V (Proc.devRef .tc main_arg5)) :=
  (after_of_writes_sub lJ _ (forall_writes_sub_of_map lJ_writes) (by decide)).trans (sI_arg5 V)

theorem sJ_v15 : sJ V (Proc.devRef .tc main_v15) = (c_v15 V) :=
  (after_of_writes_sub lJ _ (forall_writes_sub_of_map lJ_writes) (by decide)).trans (sI_v15 V)

theorem sJ_v16 : sJ V (Proc.devRef .tc main_v16) = (c_v16 V) :=
  (after_of_writes_sub lJ _ (forall_writes_sub_of_map lJ_writes) (by decide)).trans (sI_v16 V)

theorem sJ_v17 : sJ V (Proc.devRef .tc main_v17) = (c_v17 V) :=
  (after_of_writes_sub lJ _ (forall_writes_sub_of_map lJ_writes) (by decide)).trans (sI_v17 V)

theorem sJ_v18 : sJ V (Proc.devRef .tc main_v18) = (c_v18 V) :=
  (after_of_writes_sub lJ _ (forall_writes_sub_of_map lJ_writes) (by decide)).trans (sI_v18 V)

theorem sJ_v79 : sJ V (Proc.devRef .tc main_v79) = (c_v79 V) :=
  (after_of_writes_sub lJ _ (forall_writes_sub_of_map lJ_writes) (by decide)).trans (sI_v79 V)

theorem sJ_v81 : sJ V (Proc.devRef .tc main_v81) = c_v81 V :=
  (lJ_v81 _).trans (by rw [sI_v16]; rfl)

theorem sJ_v87 : sJ V (Proc.devRef .tc main_v87) = c_v87 V :=
  (lJ_v87 _).trans (by rw [sI_arg3, sI_v17]; rfl)

theorem sJ_v89 : sJ V (Proc.devRef .tc main_v89) = c_v89 V :=
  (lJ_v89 _).trans (by rw [sI_arg4, sI_v18]; rfl)

theorem sJ_v90 : sJ V (Proc.devRef .tc main_v90) = c_v90 V :=
  (lJ_v90 _).trans (by rfl)

theorem sK_arg0 : sK V (Proc.devRef .tc main_arg0) = (V (Proc.devRef .tc main_arg0)) :=
  (after_of_writes_sub lK _ (forall_writes_sub_of_map lK_writes) (by decide)).trans (sJ_arg0 V)

theorem sK_arg1 : sK V (Proc.devRef .tc main_arg1) = (V (Proc.devRef .tc main_arg1)) :=
  (after_of_writes_sub lK _ (forall_writes_sub_of_map lK_writes) (by decide)).trans (sJ_arg1 V)

theorem sK_arg2 : sK V (Proc.devRef .tc main_arg2) = (V (Proc.devRef .tc main_arg2)) :=
  (after_of_writes_sub lK _ (forall_writes_sub_of_map lK_writes) (by decide)).trans (sJ_arg2 V)

theorem sK_arg3 : sK V (Proc.devRef .tc main_arg3) = (V (Proc.devRef .tc main_arg3)) :=
  (after_of_writes_sub lK _ (forall_writes_sub_of_map lK_writes) (by decide)).trans (sJ_arg3 V)

theorem sK_arg4 : sK V (Proc.devRef .tc main_arg4) = (V (Proc.devRef .tc main_arg4)) :=
  (after_of_writes_sub lK _ (forall_writes_sub_of_map lK_writes) (by decide)).trans (sJ_arg4 V)

theorem sK_arg5 : sK V (Proc.devRef .tc main_arg5) = (V (Proc.devRef .tc main_arg5)) :=
  (after_of_writes_sub lK _ (forall_writes_sub_of_map lK_writes) (by decide)).trans (sJ_arg5 V)

theorem sK_v15 : sK V (Proc.devRef .tc main_v15) = (c_v15 V) :=
  (after_of_writes_sub lK _ (forall_writes_sub_of_map lK_writes) (by decide)).trans (sJ_v15 V)

theorem sK_v79 : sK V (Proc.devRef .tc main_v79) = (c_v79 V) :=
  (after_of_writes_sub lK _ (forall_writes_sub_of_map lK_writes) (by decide)).trans (sJ_v79 V)

theorem sK_v81 : sK V (Proc.devRef .tc main_v81) = (c_v81 V) :=
  (after_of_writes_sub lK _ (forall_writes_sub_of_map lK_writes) (by decide)).trans (sJ_v81 V)

theorem sK_v87 : sK V (Proc.devRef .tc main_v87) = (c_v87 V) :=
  (after_of_writes_sub lK _ (forall_writes_sub_of_map lK_writes) (by decide)).trans (sJ_v87 V)

theorem sK_v89 : sK V (Proc.devRef .tc main_v89) = (c_v89 V) :=
  (after_of_writes_sub lK _ (forall_writes_sub_of_map lK_writes) (by decide)).trans (sJ_v89 V)

theorem sK_v90 : sK V (Proc.devRef .tc main_v90) = (c_v90 V) :=
  (after_of_writes_sub lK _ (forall_writes_sub_of_map lK_writes) (by decide)).trans (sJ_v90 V)

theorem sK_v98 : sK V (Proc.devRef .tc main_v98) = c_v98 V :=
  (lK_v98 _).trans (by rw [sJ_v90, sJ_v87, sJ_v81]; rfl)

theorem sL_arg0 : sL V (Proc.devRef .tc main_arg0) = (V (Proc.devRef .tc main_arg0)) :=
  (after_of_writes_sub lL _ (forall_writes_sub_of_map lL_writes) (by decide)).trans (sK_arg0 V)

theorem sL_arg1 : sL V (Proc.devRef .tc main_arg1) = (V (Proc.devRef .tc main_arg1)) :=
  (after_of_writes_sub lL _ (forall_writes_sub_of_map lL_writes) (by decide)).trans (sK_arg1 V)

theorem sL_arg2 : sL V (Proc.devRef .tc main_arg2) = (V (Proc.devRef .tc main_arg2)) :=
  (after_of_writes_sub lL _ (forall_writes_sub_of_map lL_writes) (by decide)).trans (sK_arg2 V)

theorem sL_arg3 : sL V (Proc.devRef .tc main_arg3) = (V (Proc.devRef .tc main_arg3)) :=
  (after_of_writes_sub lL _ (forall_writes_sub_of_map lL_writes) (by decide)).trans (sK_arg3 V)

theorem sL_arg4 : sL V (Proc.devRef .tc main_arg4) = (V (Proc.devRef .tc main_arg4)) :=
  (after_of_writes_sub lL _ (forall_writes_sub_of_map lL_writes) (by decide)).trans (sK_arg4 V)

theorem sL_arg5 : sL V (Proc.devRef .tc main_arg5) = (V (Proc.devRef .tc main_arg5)) :=
  (after_of_writes_sub lL _ (forall_writes_sub_of_map lL_writes) (by decide)).trans (sK_arg5 V)

theorem sL_v15 : sL V (Proc.devRef .tc main_v15) = (c_v15 V) :=
  (after_of_writes_sub lL _ (forall_writes_sub_of_map lL_writes) (by decide)).trans (sK_v15 V)

theorem sL_v79 : sL V (Proc.devRef .tc main_v79) = (c_v79 V) :=
  (after_of_writes_sub lL _ (forall_writes_sub_of_map lL_writes) (by decide)).trans (sK_v79 V)

theorem sL_v89 : sL V (Proc.devRef .tc main_v89) = (c_v89 V) :=
  (after_of_writes_sub lL _ (forall_writes_sub_of_map lL_writes) (by decide)).trans (sK_v89 V)

theorem sL_v98 : sL V (Proc.devRef .tc main_v98) = (c_v98 V) :=
  (after_of_writes_sub lL _ (forall_writes_sub_of_map lL_writes) (by decide)).trans (sK_v98 V)

theorem sL_v100 : sL V (Proc.devRef .tc main_v100) = c_v100 V :=
  (lL_v100 _).trans (by rw [sK_arg5]; rfl)

theorem sL_v104 : sL V (Proc.devRef .tc main_v104) = c_v104 V :=
  (lL_v104 _).trans (by rw [sK_v98, sK_arg5]; rfl)

theorem sM_arg0 : sM V (Proc.devRef .tc main_arg0) = (V (Proc.devRef .tc main_arg0)) :=
  (after_of_writes_sub lM _ (forall_writes_sub_of_map lM_writes) (by decide)).trans (sL_arg0 V)

theorem sM_arg1 : sM V (Proc.devRef .tc main_arg1) = (V (Proc.devRef .tc main_arg1)) :=
  (after_of_writes_sub lM _ (forall_writes_sub_of_map lM_writes) (by decide)).trans (sL_arg1 V)

theorem sM_arg2 : sM V (Proc.devRef .tc main_arg2) = (V (Proc.devRef .tc main_arg2)) :=
  (after_of_writes_sub lM _ (forall_writes_sub_of_map lM_writes) (by decide)).trans (sL_arg2 V)

theorem sM_arg3 : sM V (Proc.devRef .tc main_arg3) = (V (Proc.devRef .tc main_arg3)) :=
  (after_of_writes_sub lM _ (forall_writes_sub_of_map lM_writes) (by decide)).trans (sL_arg3 V)

theorem sM_arg4 : sM V (Proc.devRef .tc main_arg4) = (V (Proc.devRef .tc main_arg4)) :=
  (after_of_writes_sub lM _ (forall_writes_sub_of_map lM_writes) (by decide)).trans (sL_arg4 V)

theorem sM_arg5 : sM V (Proc.devRef .tc main_arg5) = (V (Proc.devRef .tc main_arg5)) :=
  (after_of_writes_sub lM _ (forall_writes_sub_of_map lM_writes) (by decide)).trans (sL_arg5 V)

theorem sM_v15 : sM V (Proc.devRef .tc main_v15) = (c_v15 V) :=
  (after_of_writes_sub lM _ (forall_writes_sub_of_map lM_writes) (by decide)).trans (sL_v15 V)

theorem sM_v79 : sM V (Proc.devRef .tc main_v79) = (c_v79 V) :=
  (after_of_writes_sub lM _ (forall_writes_sub_of_map lM_writes) (by decide)).trans (sL_v79 V)

theorem sM_v89 : sM V (Proc.devRef .tc main_v89) = (c_v89 V) :=
  (after_of_writes_sub lM _ (forall_writes_sub_of_map lM_writes) (by decide)).trans (sL_v89 V)

theorem sM_v98 : sM V (Proc.devRef .tc main_v98) = (c_v98 V) :=
  (after_of_writes_sub lM _ (forall_writes_sub_of_map lM_writes) (by decide)).trans (sL_v98 V)

theorem sM_v100 : sM V (Proc.devRef .tc main_v100) = (c_v100 V) :=
  (after_of_writes_sub lM _ (forall_writes_sub_of_map lM_writes) (by decide)).trans (sL_v100 V)

theorem sM_v104 : sM V (Proc.devRef .tc main_v104) = (c_v104 V) :=
  (after_of_writes_sub lM _ (forall_writes_sub_of_map lM_writes) (by decide)).trans (sL_v104 V)

theorem sM_v107 : sM V (Proc.devRef .tc main_v107) = c_v107 V :=
  (lM_v107 _).trans (by rw [sL_v98, sL_v104]; rfl)

theorem sN_arg0 : sN V (Proc.devRef .tc main_arg0) = (V (Proc.devRef .tc main_arg0)) :=
  (after_of_writes_sub lN _ (forall_writes_sub_of_map lN_writes) (by decide)).trans (sM_arg0 V)

theorem sN_arg1 : sN V (Proc.devRef .tc main_arg1) = (V (Proc.devRef .tc main_arg1)) :=
  (after_of_writes_sub lN _ (forall_writes_sub_of_map lN_writes) (by decide)).trans (sM_arg1 V)

theorem sN_arg2 : sN V (Proc.devRef .tc main_arg2) = (V (Proc.devRef .tc main_arg2)) :=
  (after_of_writes_sub lN _ (forall_writes_sub_of_map lN_writes) (by decide)).trans (sM_arg2 V)

theorem sN_arg3 : sN V (Proc.devRef .tc main_arg3) = (V (Proc.devRef .tc main_arg3)) :=
  (after_of_writes_sub lN _ (forall_writes_sub_of_map lN_writes) (by decide)).trans (sM_arg3 V)

theorem sN_arg4 : sN V (Proc.devRef .tc main_arg4) = (V (Proc.devRef .tc main_arg4)) :=
  (after_of_writes_sub lN _ (forall_writes_sub_of_map lN_writes) (by decide)).trans (sM_arg4 V)

theorem sN_arg5 : sN V (Proc.devRef .tc main_arg5) = (V (Proc.devRef .tc main_arg5)) :=
  (after_of_writes_sub lN _ (forall_writes_sub_of_map lN_writes) (by decide)).trans (sM_arg5 V)

theorem sN_v15 : sN V (Proc.devRef .tc main_v15) = (c_v15 V) :=
  (after_of_writes_sub lN _ (forall_writes_sub_of_map lN_writes) (by decide)).trans (sM_v15 V)

theorem sN_v79 : sN V (Proc.devRef .tc main_v79) = (c_v79 V) :=
  (after_of_writes_sub lN _ (forall_writes_sub_of_map lN_writes) (by decide)).trans (sM_v79 V)

theorem sN_v89 : sN V (Proc.devRef .tc main_v89) = (c_v89 V) :=
  (after_of_writes_sub lN _ (forall_writes_sub_of_map lN_writes) (by decide)).trans (sM_v89 V)

theorem sN_v100 : sN V (Proc.devRef .tc main_v100) = (c_v100 V) :=
  (after_of_writes_sub lN _ (forall_writes_sub_of_map lN_writes) (by decide)).trans (sM_v100 V)

theorem sN_v104 : sN V (Proc.devRef .tc main_v104) = (c_v104 V) :=
  (after_of_writes_sub lN _ (forall_writes_sub_of_map lN_writes) (by decide)).trans (sM_v104 V)

theorem sN_v107 : sN V (Proc.devRef .tc main_v107) = (c_v107 V) :=
  (after_of_writes_sub lN _ (forall_writes_sub_of_map lN_writes) (by decide)).trans (sM_v107 V)

theorem sN_v113 : sN V (Proc.devRef .tc main_v113) = c_v113 V :=
  (lN_v113 _).trans (by rw [sM_v107, sM_v100, sM_v104]; rfl)

theorem sO_arg0 : sO V (Proc.devRef .tc main_arg0) = (V (Proc.devRef .tc main_arg0)) :=
  (after_of_writes_sub lO _ (forall_writes_sub_of_map lO_writes) (by decide)).trans (sN_arg0 V)

theorem sO_arg1 : sO V (Proc.devRef .tc main_arg1) = (V (Proc.devRef .tc main_arg1)) :=
  (after_of_writes_sub lO _ (forall_writes_sub_of_map lO_writes) (by decide)).trans (sN_arg1 V)

theorem sO_arg2 : sO V (Proc.devRef .tc main_arg2) = (V (Proc.devRef .tc main_arg2)) :=
  (after_of_writes_sub lO _ (forall_writes_sub_of_map lO_writes) (by decide)).trans (sN_arg2 V)

theorem sO_arg3 : sO V (Proc.devRef .tc main_arg3) = (V (Proc.devRef .tc main_arg3)) :=
  (after_of_writes_sub lO _ (forall_writes_sub_of_map lO_writes) (by decide)).trans (sN_arg3 V)

theorem sO_arg4 : sO V (Proc.devRef .tc main_arg4) = (V (Proc.devRef .tc main_arg4)) :=
  (after_of_writes_sub lO _ (forall_writes_sub_of_map lO_writes) (by decide)).trans (sN_arg4 V)

theorem sO_arg5 : sO V (Proc.devRef .tc main_arg5) = (V (Proc.devRef .tc main_arg5)) :=
  (after_of_writes_sub lO _ (forall_writes_sub_of_map lO_writes) (by decide)).trans (sN_arg5 V)

theorem sO_v15 : sO V (Proc.devRef .tc main_v15) = (c_v15 V) :=
  (after_of_writes_sub lO _ (forall_writes_sub_of_map lO_writes) (by decide)).trans (sN_v15 V)

theorem sO_v79 : sO V (Proc.devRef .tc main_v79) = (c_v79 V) :=
  (after_of_writes_sub lO _ (forall_writes_sub_of_map lO_writes) (by decide)).trans (sN_v79 V)

theorem sO_v89 : sO V (Proc.devRef .tc main_v89) = (c_v89 V) :=
  (after_of_writes_sub lO _ (forall_writes_sub_of_map lO_writes) (by decide)).trans (sN_v89 V)

theorem sO_v107 : sO V (Proc.devRef .tc main_v107) = (c_v107 V) :=
  (after_of_writes_sub lO _ (forall_writes_sub_of_map lO_writes) (by decide)).trans (sN_v107 V)

theorem sO_v113 : sO V (Proc.devRef .tc main_v113) = (c_v113 V) :=
  (after_of_writes_sub lO _ (forall_writes_sub_of_map lO_writes) (by decide)).trans (sN_v113 V)

theorem sO_v118 : sO V (Proc.devRef .tc main_v118) = c_v118 V :=
  (lO_v118 _).trans (by rw [sN_v89, sN_v107, sN_v113]; rfl)

theorem sP_arg0 : sP V (Proc.devRef .tc main_arg0) = (V (Proc.devRef .tc main_arg0)) :=
  (after_of_writes_sub lP _ (forall_writes_sub_of_map lP_writes) (by decide)).trans (sO_arg0 V)

theorem sP_arg1 : sP V (Proc.devRef .tc main_arg1) = (V (Proc.devRef .tc main_arg1)) :=
  (after_of_writes_sub lP _ (forall_writes_sub_of_map lP_writes) (by decide)).trans (sO_arg1 V)

theorem sP_arg2 : sP V (Proc.devRef .tc main_arg2) = (V (Proc.devRef .tc main_arg2)) :=
  (after_of_writes_sub lP _ (forall_writes_sub_of_map lP_writes) (by decide)).trans (sO_arg2 V)

theorem sP_arg3 : sP V (Proc.devRef .tc main_arg3) = (V (Proc.devRef .tc main_arg3)) :=
  (after_of_writes_sub lP _ (forall_writes_sub_of_map lP_writes) (by decide)).trans (sO_arg3 V)

theorem sP_arg4 : sP V (Proc.devRef .tc main_arg4) = (V (Proc.devRef .tc main_arg4)) :=
  (after_of_writes_sub lP _ (forall_writes_sub_of_map lP_writes) (by decide)).trans (sO_arg4 V)

theorem sP_arg5 : sP V (Proc.devRef .tc main_arg5) = (V (Proc.devRef .tc main_arg5)) :=
  (after_of_writes_sub lP _ (forall_writes_sub_of_map lP_writes) (by decide)).trans (sO_arg5 V)

theorem sP_v15 : sP V (Proc.devRef .tc main_v15) = (c_v15 V) :=
  (after_of_writes_sub lP _ (forall_writes_sub_of_map lP_writes) (by decide)).trans (sO_v15 V)

theorem sP_v79 : sP V (Proc.devRef .tc main_v79) = (c_v79 V) :=
  (after_of_writes_sub lP _ (forall_writes_sub_of_map lP_writes) (by decide)).trans (sO_v79 V)

theorem sP_v118 : sP V (Proc.devRef .tc main_v118) = (c_v118 V) :=
  (after_of_writes_sub lP _ (forall_writes_sub_of_map lP_writes) (by decide)).trans (sO_v118 V)

theorem sP_v122 : sP V (Proc.devRef .tc main_v122) = c_v122 V :=
  (lP_v122 _).trans (by rw [sO_v15]; rfl)

theorem sP_v123 : sP V (Proc.devRef .tc main_v123) = c_v123 V :=
  (lP_v123 _).trans (by rw [sO_v79, sO_v118]; rfl)

theorem after_allOps : after allOps V = sP V := by
  unfold allOps sP sO sN sM sL sK sJ sI sH sG sF sE sD sC sB sA2 sA
  simp only [after_two]

end

/-- The reference from any contents: it ends, its two results the composed functions of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v122) = c_v122 (launchContents m c)
      ∧ r.2.mem ((c.tc : Thread nD τ).loc main_v123) = c_v123 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v122).trans ((congrFun (after_allOps _) _).trans (sP_v122 _)),
      (h c main_v123).trans ((congrFun (after_allOps _) _).trans (sP_v123 _)),
      (h c main_arg0).trans ((congrFun (after_allOps _) _).trans (sP_arg0 _)),
      (h c main_arg1).trans ((congrFun (after_allOps _) _).trans (sP_arg1 _)),
      (h c main_arg2).trans ((congrFun (after_allOps _) _).trans (sP_arg2 _)),
      (h c main_arg3).trans ((congrFun (after_allOps _) _).trans (sP_arg3 _)),
      (h c main_arg4).trans ((congrFun (after_allOps _) _).trans (sP_arg4 _)),
      (h c main_arg5).trans ((congrFun (after_allOps _) _).trans (sP_arg5 _))⟩)
    (run_seq scopedRefs_eq scopedSems_eq defs main (fun _ => allOps) main_eq (fun _ => ops_sub) m ρ)

end Cert.RefRun

end
-- ==== Proof.Windows.lean ====
/- What each window of the kernel holds at a point, in the arguments. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.ShloMosaic.Tactic
open Cert.KernelIdeal Cert.KernelIdeal.Gen

/-- The block of each window that point `t` takes. -/
theorem index_at : ∀ t : Fin cfg0.N, win0_0.index t = ![(t : Nat) % 9, 0] ∧ win0_1.index t = ![0, (t : Nat) / 9] ∧ win0_2.index t = ![0, 0]
    ∧ win0_3.index t = ![(t : Nat), 0] ∧ win0_4.index t = ![2 * (t : Nat) - 2, 4] ∧ win0_5.index t = ![2 * (t : Nat) - 1, 4]
    ∧ win0_6.index t = ![2 * (t : Nat), 4] ∧ win0_7.index t = ![2 * (t : Nat) + 1, 4]
    ∧ win0_8.index t = ![2 * (t : Nat) - 2, 5] ∧ win0_9.index t = ![2 * (t : Nat) - 1, 5]
    ∧ win0_10.index t = ![2 * (t : Nat), 5] ∧ win0_11.index t = ![2 * (t : Nat) + 1, 5]
    ∧ win0_12.index t = ![(t : Nat) - 64, 0] ∧ win0_13.index t = ![(t : Nat) - 64, 0]
    ∧ win0_14.index t = ![(t : Nat) % 9, (t : Nat) / 9] ∧ win0_15.index t = ![(t : Nat), 0] := by decide +kernel

variable (m : (ℓ : Loc nD τ sig) → Buf (Elt Ideal) ℓ) (c : Dev nD)

theorem points (t : Fin cfg0.N) : (t : Nat) < 72 := t.2

theorem blk0 (t : Fin cfg0.N) (r : Fin 1024) (k : Fin 4096) :
    iblk m c 0 t (ix2 r k) = m ((c : Thread nD τ).loc main_arg0) (ix2 ⟨(t : Nat) % 9 * 1024 + r, by omega⟩ k) := by
  have h := points t
  blk_ext [iblk, V_main_arg0, index_at t]

theorem blk1 (t : Fin cfg0.N) (r : Fin 4096) (k : Fin 512) :
    iblk m c 1 t (ix2 r k) = m ((c : Thread nD τ).loc main_arg1) (ix2 r ⟨(t : Nat) / 9 * 512 + k, by have := points t; omega⟩) := by
  have h := points t
  blk_ext [iblk, V_main_arg1, index_at t]

theorem blk4 (t : Fin cfg0.N) (r : Fin 64) (k : Fin 512) :
    iblk m c 4 t (ix2 r k) = m ((c : Thread nD τ).loc main_arg2) (ix2 ⟨(2 * (t : Nat) - 2) * 64 + r, by have := points t; omega⟩ ⟨2048 + k, by omega⟩) := by
  have h := points t
  blk_ext [iblk, V_main_arg2, index_at t]

theorem blk3 (t : Fin cfg0.N) (r : Fin 128) (k : Fin 2048) :
    X0_3 m c t (ix2 r k) = m ((c : Thread nD τ).loc main_arg2) (ix2 ⟨(t : Nat) * 128 + r, by have := points t; omega⟩ ⟨k, by omega⟩) := by
  have h := points t
  unfold X0_3 Pipeline.Window.fill
  rw [dif_pos (moved0_3 t _)]
  blk_ext [iblk, V_main_arg2, index_at t]

theorem blk5 (t : Fin cfg0.N) (r : Fin 64) (k : Fin 512) :
    iblk m c 5 t (ix2 r k) = m ((c : Thread nD τ).loc main_arg2) (ix2 ⟨(2 * (t : Nat) - 1) * 64 + r, by have := points t; omega⟩ ⟨2048 + k, by omega⟩) := by
  have h := points t
  blk_ext [iblk, V_main_arg2, index_at t]

theorem blk6 (t : Fin cfg0.N) (r : Fin 64) (k : Fin 512) :
    iblk m c 6 t (ix2 r k) = m ((c : Thread nD τ).loc main_arg2) (ix2 ⟨(2 * (t : Nat)) * 64 + r, by have := points t; omega⟩ ⟨2048 + k, by omega⟩) := by
  have h := points t
  blk_ext [iblk, V_main_arg2, index_at t]

theorem blk7 (t : Fin cfg0.N) (r : Fin 64) (k : Fin 512) :
    iblk m c 7 t (ix2 r k) = m ((c : Thread nD τ).loc main_arg2) (ix2 ⟨(2 * (t : Nat) + 1) * 64 + r, by have := points t; omega⟩ ⟨2048 + k, by omega⟩) := by
  have h := points t
  blk_ext [iblk, V_main_arg2, index_at t]

theorem blk8 (t : Fin cfg0.N) (r : Fin 64) (k : Fin 512) :
    iblk m c 8 t (ix2 r k) = m ((c : Thread nD τ).loc main_arg2) (ix2 ⟨(2 * (t : Nat) - 2) * 64 + r, by have := points t; omega⟩ ⟨2560 + k, by omega⟩) := by
  have h := points t
  blk_ext [iblk, V_main_arg2, index_at t]

theorem blk9 (t : Fin cfg0.N) (r : Fin 64) (k : Fin 512) :
    iblk m c 9 t (ix2 r k) = m ((c : Thread nD τ).loc main_arg2) (ix2 ⟨(2 * (t : Nat) - 1) * 64 + r, by have := points t; omega⟩ ⟨2560 + k, by omega⟩) := by
  have h := points t
  blk_ext [iblk, V_main_arg2, index_at t]

theorem blk10 (t : Fin cfg0.N) (r : Fin 64) (k : Fin 512) :
    iblk m c 10 t (ix2 r k) = m ((c : Thread nD τ).loc main_arg2) (ix2 ⟨(2 * (t : Nat)) * 64 + r, by have := points t; omega⟩ ⟨2560 + k, by omega⟩) := by
  have h := points t
  blk_ext [iblk, V_main_arg2, index_at t]

theorem blk11 (t : Fin cfg0.N) (r : Fin 64) (k : Fin 512) :
    iblk m c 11 t (ix2 r k) = m ((c : Thread nD τ).loc main_arg2) (ix2 ⟨(2 * (t : Nat) + 1) * 64 + r, by have := points t; omega⟩ ⟨2560 + k, by omega⟩) := by
  have h := points t
  blk_ext [iblk, V_main_arg2, index_at t]

theorem keys_block (t : Fin cfg0.N) (r : Fin 256) (k : Fin 512) :
    iblk m c 12 t (ix2 r k) = V m c main_v0 (ix2 ⟨((t : Nat) - 64) * 256 + r, by have := points t; omega⟩ k) := by
  have h := points t
  blk_ext [iblk, index_at t]

theorem values_block (t : Fin cfg0.N) (r : Fin 256) (k : Fin 512) :
    iblk m c 13 t (ix2 r k) = V m c main_v1 (ix2 ⟨((t : Nat) - 64) * 256 + r, by have := points t; omega⟩ k) := by
  have h := points t
  blk_ext [iblk, index_at t]

theorem entry_v0 (r : Fin 2048) (k : Fin 512) : V m c main_v0 (ix2 r k)
    = m ((c : Thread nD τ).loc main_arg3) (ix4 ⟨r / 128, by omega⟩ ⟨r % 128, by omega⟩ ⟨k / 64, by omega⟩ ⟨k % 64, by omega⟩) := by
  entry_read
  pointwise []

theorem entry_v1 (r : Fin 2048) (k : Fin 512) : V m c main_v1 (ix2 r k)
    = m ((c : Thread nD τ).loc main_arg4) (ix4 ⟨r / 128, by omega⟩ ⟨r % 128, by omega⟩ ⟨k / 64, by omega⟩ ⟨k % 64, by omega⟩) := by
  entry_read
  pointwise []

theorem bias_block (t : Fin cfg0.N) (r : Fin 16) (k : Fin 512) :
    iblk m c 2 t (ix2 r k) = V m c main_v7 (ix2 r k) := by
  blk_ext [iblk, index_at t]

/-- The table of biases the kernel is given: a pair of heads a row, its sinks after the keys. -/
def biasTable (s : FVec Ideal S32 .f32) : FVec Ideal S16x512 .f32 :=
  shapeCast S16x512 (concatenate S16x2x256 2
    [⟨S16x2x192, broadcastInDim S16x2x192 ![] bcast_S_S16x2x192 (constant S_ .f32 0x00000000#32 : FVec Ideal S_ .f32)⟩,
     ⟨S16x2x1, shapeCast S16x2x1 (broadcastInDim S1x32 ![1] bcast_S32_S1x32_1 s) shapeCasts_S1x32_S16x2x1⟩,
     ⟨S16x2x63, broadcastInDim S16x2x63 ![] bcast_S_S16x2x63 (constant S_ .f32 0xFF800000#32 : FVec Ideal S_ .f32)⟩]
    concatenates_S16x2x192_S16x2x1_S16x2x63_S16x2x256_d2) shapeCasts_S16x2x256_S16x512

theorem entry_v7 : V m c main_v7 = biasTable (m ((c : Thread nD τ).loc main_arg5)) := by
  rfl

end Cert.Attn
-- ==== Proof.Blocks.lean ====
/- The attention half of the call, block by block: what one grid point writes into its two scratch arrays and
   into its output block, as one family of blocks for all heads, both halves of the point and both cases. -/
module

public import proofs.«01_k».proof.Proof.Gen.KernelIdeal.Frame

@[expose] public section

set_option maxRecDepth 16384

noncomputable section

namespace Cert.Attn

open Idealize.ShloMosaic Idealize.ShloMosaic.TcCoe Idealize.ShloMosaic.Tactic
open Cert.KernelIdeal Cert.KernelIdeal.Gen

variable {F : FTy → Type} [FloatOps F]

/-- The tile of 128 lanes of a key or value block that holds key-value heads `2 b` and `2 b + 1`. -/
theorem slices_tile (b : Nat) : S192x512.Slices ![0, b % 4 * 128] S192x128 :=
  ⟨rfl, fun a => by
    have := Nat.mod_lt b (show 0 < 4 by decide)
    match a with
    | ⟨0, _⟩ => show 0 + 192 ≤ 192; omega
    | ⟨1, _⟩ => show b % 4 * 128 + 128 ≤ 512; omega⟩

/-- The rows of one of the two query heads that share a block. -/
theorem slices_half (n : Nat) : S128x128.Slices ![n % 2 * 64, 0] S64x128 :=
  ⟨rfl, fun a => by
    have := Nat.mod_lt n (show 0 < 2 by decide)
    match a with
    | ⟨0, _⟩ => show n % 2 * 64 + 64 ≤ 128; omega
    | ⟨1, _⟩ => show 0 + 128 ≤ 128; omega⟩

theorem inb_scores (n : Nat) : ∀ a, (![n / 8 % 2, n % 8, 0, 0] : Fin 4 → Nat) a + S1x1x128x512.size a ≤ S2x8x128x512.size a := by
  intro a
  match a with
  | ⟨0, _⟩ => show n / 8 % 2 + 1 ≤ 2; omega
  | ⟨1, _⟩ => show n % 8 + 1 ≤ 8; omega
  | ⟨2, _⟩ => show 0 + 128 ≤ 128; omega
  | ⟨3, _⟩ => show 0 + 512 ≤ 512; omega

theorem inb_weights (n : Nat) : ∀ a, (![n / 16 % 2, n / 2 % 8, 0, n % 2 * 256] : Fin 4 → Nat) a + S1x1x128x256.size a ≤ S2x8x128x512.size a := by
  intro a
  match a with
  | ⟨0, _⟩ => show n / 16 % 2 + 1 ≤ 2; omega
  | ⟨1, _⟩ => show n / 2 % 8 + 1 ≤ 8; omega
  | ⟨2, _⟩ => show 0 + 128 ≤ 128; omega
  | ⟨3, _⟩ => show n % 2 * 256 + 256 ≤ 512; omega

theorem inb_out (n : Nat) : ∀ a, (![n / 16 % 2 * 64, n % 16 * 128] : Fin 2 → Nat) a + S64x128.size a ≤ S128x2048.size a := by
  intro a
  match a with
  | ⟨0, _⟩ => show n / 16 % 2 * 64 + 64 ≤ 128; omega
  | ⟨1, _⟩ => show n % 16 * 128 + 128 ≤ 2048; omega

theorem inb_row (n : Nat) : ∀ a, (![n % 16, 0] : Fin 2 → Nat) a + S1x512.size a ≤ S16x512.size a := by
  intro a
  match a with
  | ⟨0, _⟩ => show n % 16 + 1 ≤ 16; omega
  | ⟨1, _⟩ => show 0 + 512 ≤ 512; omega

/-- Lanes below 64 of a tile. -/
def lowLanes : IVec S192x128 1 :=
  cmpi .slt (iota .tc S192x128 32 [1] iota_S192x128_d1_w32) (broadcast S192x128 64#32)

/-- The zero tile. -/
def zeroTile : FVec F S192x128 .f32 := broadcast S192x128 (FloatOps.ofBits .f32 0#32)

/-- Two copies of one 64-lane head of a tile in a matrix of 512 rows and 128 lanes: rows 0 to 191 have it in the
    low lanes, rows 256 to 447 in the high lanes, everything else is zero. -/
def doubled (lo hi : FVec F S192x128 .f32) : FVec F S512x128 .bf16 :=
  truncf .bf16 (concatenate S512x128 0
    [⟨S192x128, select lowLanes lo zeroTile⟩, ⟨S64x128, broadcast S64x128 (FloatOps.ofBits .f32 0#32)⟩,
     ⟨S192x128, select lowLanes zeroTile hi⟩, ⟨S64x128, broadcast S64x128 (FloatOps.ofBits .f32 0#32)⟩]
    concatenates_S192x128_S64x128_S192x128_S64x128_S512x128_d0) bitsLt_bf16_f32

/-- A tile with its two halves exchanged. -/
def rotated (t : FVec F S192x128 .f32) : FVec F S192x128 .f32 :=
  dynamicRotate 1 (64#32) none t rotates_S192x128_d1

/-- The tile of a key or value block. -/
def tile (X : FVec F S192x512 .f32) (b : Nat) : FVec F S192x128 .f32 :=
  extractStridedSlice S192x128 ![0, b % 4 * 128] X (slices_tile b)

/-- The doubled matrix of key-value head `j`. -/
def doubledHead (X : FVec F S192x512 .f32) (j : Nat) : FVec F S512x128 .bf16 :=
  doubled (cond (Nat.beq (j % 2) 0) (tile X (j / 2)) (rotated (tile X (j / 2))))
    (cond (Nat.beq (j % 2) 0) (rotated (tile X (j / 2))) (tile X (j / 2)))

/-- What a grid point works on: the keys and values of each of its two halves, the query tiles and bias rows. -/
structure Parts (F : FTy → Type) where
  /-- keys of a half -/
  kc : Nat → FVec F S192x512 .f32
  /-- values of a half -/
  vc : Nat → FVec F S192x512 .f32
  /-- query tile of a half and a pair of heads -/
  qt : Nat → Nat → FVec F S64x128 .f32
  /-- bias row of a half and a pair of heads -/
  br : Nat → Nat → FVec F S1x512 .f32

/-- A bias row repeated over the 64 queries of a chunk. -/
def rows (r : FVec F S1x512 .f32) : FVec F S64x512 .f32 :=
  broadcastTo S64x512 (shapeCast S1x512 r shapeCasts_S1x512_S1x512) broadcasts_S1x512_S64x512

/-- The scores of one key-value head: two query heads against two copies of the keys. -/
def scores (q0 q1 : FVec F S64x128 .f32) (D : FVec F S512x128 .bf16) (r0 r1 : FVec F S1x512 .f32) : FVec F S1x1x128x512 .f32 :=
  shapeCast S1x1x128x512
    (addf (matmul dot_S128x128_S512x128_S128x512_1_1_0_0_n_n none
        (truncf .bf16 (mulf (concatenate S128x128 0 [⟨S64x128, q0⟩, ⟨S64x128, q1⟩] concatenates_S64x128_S64x128_S128x128_d0)
          (broadcast S128x128 (FloatOps.ofBits .f32 1040187392#32))) bitsLt_bf16_f32)
        D (constant S128x512 .f32 0#32))
      (concatenate S128x512 0 [⟨S64x512, rows r0⟩, ⟨S64x512, rows r1⟩] concatenates_S64x512_S64x512_S128x512_d0))
    shapeCasts_S128x512_S1x1x128x512

/-- The exponentials of the scores of one copy, less the largest of each row. -/
def weights (v : FVec F S1x1x128x256 .f32) : FVec F S1x1x128x256 .bf16 :=
  shapeCast S1x1x128x256
    (truncf .bf16
      (exp (subf (shapeCast S128x256 v shapeCasts_S1x1x128x256_S128x256)
        (broadcastTo S128x256
          (shapeCast S128x1
            (multiReduction FKind.maximumf [1] S128 (shapeCast S128x256 v shapeCasts_S1x1x128x256_S128x256)
              (4286578688#32) reduces_S128x256_S128 (.inl rfl) rfl)
            shapeCasts_S128_S128x1)
          broadcasts_S128x1_S128x256)))
      bitsLt_bf16_f32)
    shapeCasts_S128x256_S1x1x128x256

/-- One where the row's copy and the lane's half agree, zero elsewhere. -/
def chosen : FVec F S512x128 .bf16 :=
  truncf .bf16
    (sitofp .f32
      (extui 32
        (xori (xori (cmpi .slt (iota .tc S512x128 32 [0] iota_S512x128_d0_w32) (broadcast S512x128 256#32))
            (cmpi .slt (iota .tc S512x128 32 [1] iota_S512x128_d1_w32) (broadcast S512x128 64#32)))
          (constantI S512x128 1 1#1))
        natLt_1_32))
    bitsLt_bf16_f32

/-- The weights times the values beside the weights' sums. -/
def products (D : FVec F S512x128 .bf16) (e : FVec F S1x1x128x512 .bf16) : FVec F S128x256 .f32 :=
  matmul dot_S128x512_S512x256_S128x256_1_0_0_1_n_n none
    (shapeCast S128x512 e shapeCasts_S1x1x128x512_S128x512)
    (concatenate S512x256 1 [⟨S512x128, D⟩, ⟨S512x128, chosen⟩] concatenates_S512x128_S512x128_S512x256_d1)
    (constant S128x256 .f32 0#32)

/-- The output of one pair of query heads. -/
def outputs (n : Nat) (P : FVec F S128x256 .f32) : FVec F S64x128 .bf16 :=
  truncf .bf16
    (extractStridedSlice S64x128 ![n % 2 * 64, 0]
      (divf (extractStridedSlice S128x128 ![0, 0] P slices_S128x256_o0_0_S128x128)
        (extractStridedSlice S128x128 ![0, 128] P slices_S128x256_o0_128_S128x128))
      (slices_half n))
    bitsLt_bf16_f32

/-- Block `n` of the scores: half `n / 8`, key-value head `n % 8`. -/
def scorePiece (p : Parts F) (n : Nat) : View.Piece (Elt F) S2x8x128x512 .f32 :=
  ⟨Rect.unit ![n / 8 % 2, n % 8, 0, 0] S1x1x128x512.size (inb_scores n),
    scores (p.qt (n / 8 % 2) (2 * (n % 8))) (p.qt (n / 8 % 2) (2 * (n % 8) + 1)) (doubledHead (p.kc (n / 8 % 2)) (n % 8))
      (p.br (n / 8 % 2) (2 * (n % 8))) (p.br (n / 8 % 2) (2 * (n % 8) + 1))⟩

/-- The first `n` blocks of the scores, the last one first. -/
def scorePieces (p : Parts F) : Nat → List (View.Piece (Elt F) S2x8x128x512 .f32)
  | 0 => []
  | n + 1 => scorePiece p n :: scorePieces p n

/-- Block `n` of the weights: half `n / 16`, key-value head `n / 2 % 8`, copy `n % 2`. -/
def weightPiece (m : Memref sig .tc .vmem S2x8x128x512 .f32) (L : List (View.Piece (Elt F) S2x8x128x512 .f32)) (n : Nat) :
    View.Piece (Elt F) S2x8x128x512 .bf16 :=
  ⟨Rect.unit ![n / 16 % 2, n / 2 % 8, 0, n % 2 * 256] S1x1x128x256.size (inb_weights n),
    weights (m.view.readCov L (Rect.unit (s := S2x8x128x512) ![n / 16 % 2, n / 2 % 8, 0, n % 2 * 256] S1x1x128x256.size (inb_weights n)).toLoadRect)⟩

/-- The first `n` blocks of the weights, the last one first. -/
def weightPieces (m : Memref sig .tc .vmem S2x8x128x512 .f32) (L : List (View.Piece (Elt F) S2x8x128x512 .f32)) :
    Nat → List (View.Piece (Elt F) S2x8x128x512 .bf16)
  | 0 => []
  | n + 1 => weightPiece m L n :: weightPieces m L n

/-- Block `n` of the output: half `n / 16`, pair of heads `n % 16`. -/
def outPiece (p : Parts F) (m : Memref sig .tc .vmem S2x8x128x512 .bf16) (L : List (View.Piece (Elt F) S2x8x128x512 .bf16))
    (n : Nat) : View.Piece (Elt F) S128x2048 .bf16 :=
  ⟨Rect.unit ![n / 16 % 2 * 64, n % 16 * 128] S64x128.size (inb_out n),
    outputs n (products (doubledHead (p.vc (n / 16 % 2)) (n % 16 / 2))
      (m.view.readCov L (Rect.unit (s := S2x8x128x512) ![n / 2 / 8 % 2, n / 2 % 8, 0, 0] S1x1x128x512.size (inb_scores (n / 2))).toLoadRect))⟩

/-- The first `n` blocks of the output, the last one first. -/
def outPieces (p : Parts F) (m : Memref sig .tc .vmem S2x8x128x512 .bf16) (L : List (View.Piece (Elt F) S2x8x128x512 .bf16)) :
    Nat → List (View.Piece (Elt F) S128x2048 .bf16)
  | 0 => []
  | n + 1 => outPiece p m L n :: outPieces p m L n

end Cert.Attn

end
-- ==== Proof.Pieces.lean ====
/- The pieces that the generated run of each case writes are the blocks of Blocks.lean. -/
module

public import proofs.«01_k».proof.Proof.Blocks

@[expose] public section

set_option maxRecDepth 16384
set_option maxHeartbeats 2000000

noncomputable section

namespace Cert.Attn

open Idealize.ShloMosaic Idealize.ShloMosaic.TcCoe Idealize.ShloMosaic.Tactic
open Cert.KernelIdeal Cert.KernelIdeal.Gen

variable {F : FTy → Type} [FloatOps F]

/-- The query tiles of a point's block of queries. -/
def queryTile (arg5 : Memref sig .tc .vmem S128x2048 .f32) (harg5 : arg5.IsWhole) (x3 : Vec F S128x2048 .f32) (h a : Nat) :
    FVec F S64x128 .f32 :=
  View.readAt (Elt F) arg5.view (Rect.unit (s := S128x2048) ![(16 * h + a) / 16 % 2 * 64, (16 * h + a) % 16 * 128] S64x128.size (inb_out (16 * h + a))).toLoadRect (harg5.unread x3)

/-- The bias row of a pair of heads. -/
def biasRow (arg4 : Memref sig .tc .vmem S16x512 .f32) (harg4 : arg4.IsWhole) (x2 : Vec F S16x512 .f32) (a : Nat) : FVec F S1x512 .f32 :=
  shapeCast S1x512 (View.readAt (Elt F) arg4.view (Rect.unit (s := S16x512) ![a % 16, 0] S1x512.size (inb_row a)).toLoadRect (harg4.unread x2)) shapeCasts_S1x512_S1x512

theorem inb_chunk : ∀ a, (![0, 0] : Fin 2 → Nat) a + S64x512.size a ≤ S64x512.size a := by decide

/-- A chunk of keys or values, read whole. -/
def chunk (arg : Memref sig .tc .vmem S64x512 .f32) (harg : arg.IsWhole) (x : Vec F S64x512 .f32) : FVec F S64x512 .f32 :=
  View.readAt (Elt F) arg.view (Rect.unit (s := S64x512) ![0, 0] S64x512.size inb_chunk).toLoadRect (harg.unread x)

/-- Three consecutive chunks. -/
def threeChunks (a b c : FVec F S64x512 .f32) : FVec F S192x512 .f32 :=
  concatenate S192x512 0 [⟨S64x512, a⟩, ⟨S64x512, b⟩, ⟨S64x512, c⟩] concatenates_S64x512_S64x512_S64x512_S192x512_d0

theorem inb_cache (h : Nat) : ∀ a, (![h % 2 * 128, 0] : Fin 2 → Nat) a + S128x512.size a ≤ S256x512.size a := by
  intro a
  match a with
  | ⟨0, _⟩ => show h % 2 * 128 + 128 ≤ 256; omega
  | ⟨1, _⟩ => show 0 + 512 ≤ 512; omega

/-- A sample's cache followed by its own chunk. -/
def cacheChunk (arg : Memref sig .tc .vmem S256x512 .f32) (harg : arg.IsWhole) (x : Vec F S256x512 .f32) (h : Nat)
    (b : FVec F S64x512 .f32) : FVec F S192x512 .f32 :=
  concatenate S192x512 0
    [⟨S128x512, shapeCast S128x512 (View.readAt (Elt F) arg.view (Rect.unit (s := S256x512) ![h % 2 * 128, 0] S128x512.size (inb_cache h)).toLoadRect (harg.unread x)) shapeCasts_S128x512_S128x512⟩,
     ⟨S64x512, b⟩] concatenates_S128x512_S64x512_S192x512_d0

/-- The mask of the chunks before the sequence's first, when the first chunk attended to has number `k`. -/
def chunkMask (k : BitVec 32) : FVec F S1x512 .f32 := k0_pay11 (k0_pay10 k)

/-- Twice the number of a point's pair of chunks. -/
def pairChunk (i : grid0.Coords) : BitVec 32 :=
  Scalar.muli 2#32 (Scalar.addi (Scalar.muli (BitVec.ofNat 32 (i 0)) 9#32) (BitVec.ofNat 32 (i 1)))

/-- The parts of a point of the prompt: three chunks of keys and values for each half, the chunks before the first masked. -/
def promptParts (i : grid0.Coords) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (x2 : Vec F S16x512 .f32) (x3 : Vec F S128x2048 .f32) (x4 : Vec F S64x512 .f32) (x5 : Vec F S64x512 .f32) (x6 : Vec F S64x512 .f32) (x7 : Vec F S64x512 .f32) (x8 : Vec F S64x512 .f32) (x9 : Vec F S64x512 .f32) (x10 : Vec F S64x512 .f32) (x11 : Vec F S64x512 .f32) : Parts F where
  kc h := cond (Nat.beq h 0) (threeChunks (chunk arg6 harg6 x4) (chunk arg7 harg7 x5) (chunk arg8 harg8 x6))
    (threeChunks (chunk arg7 harg7 x5) (chunk arg8 harg8 x6) (chunk arg9 harg9 x7))
  vc h := cond (Nat.beq h 0) (threeChunks (chunk arg10 harg10 x8) (chunk arg11 harg11 x9) (chunk arg12 harg12 x10))
    (threeChunks (chunk arg11 harg11 x9) (chunk arg12 harg12 x10) (chunk arg13 harg13 x11))
  qt h a := queryTile arg5 harg5 x3 h a
  br h a := addf (biasRow arg4 harg4 x2 a)
    (cond (Nat.beq h 0) (chunkMask (Scalar.subi (pairChunk i) 2#32)) (chunkMask (Scalar.subi (pairChunk i) 1#32)))

/-- The parts of a point of the samples: a sample's cache and its own chunk for each half. -/
def sampleParts (arg4 : Memref sig .tc .vmem S16x512 .f32) (harg4 : arg4.IsWhole) (arg5 : Memref sig .tc .vmem S128x2048 .f32) (harg5 : arg5.IsWhole) (arg8 : Memref sig .tc .vmem S64x512 .f32) (harg8 : arg8.IsWhole) (arg9 : Memref sig .tc .vmem S64x512 .f32) (harg9 : arg9.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (x2 : Vec F S16x512 .f32) (x3 : Vec F S128x2048 .f32) (x6 : Vec F S64x512 .f32) (x7 : Vec F S64x512 .f32) (x10 : Vec F S64x512 .f32) (x11 : Vec F S64x512 .f32) (x12 : Vec F S256x512 .f32) (x13 : Vec F S256x512 .f32) : Parts F where
  kc h := cond (Nat.beq h 0) (cacheChunk arg14 harg14 x12 0 (chunk arg8 harg8 x6)) (cacheChunk arg14 harg14 x12 1 (chunk arg9 harg9 x7))
  vc h := cond (Nat.beq h 0) (cacheChunk arg15 harg15 x13 0 (chunk arg12 harg12 x10)) (cacheChunk arg15 harg15 x13 1 (chunk arg13 harg13 x11))
  qt h a := queryTile arg5 harg5 x3 h a
  br _ a := biasRow arg4 harg4 x2 a

theorem scores_A (c : Dev nD) (i : grid0.Coords) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg19 : Memref sig .tc .vmem S2x8x128x512 .f32) (x2 : Vec F S16x512 .f32) (x3 : Vec F S128x2048 .f32) (x4 : Vec F S64x512 .f32) (x5 : Vec F S64x512 .f32) (x6 : Vec F S64x512 .f32) (x7 : Vec F S64x512 .f32) (x8 : Vec F S64x512 .f32) (x9 : Vec F S64x512 .f32) (x10 : Vec F S64x512 .f32) (x11 : Vec F S64x512 .f32) :
    kernelRun0_A.sl.HS1_16 (F := F) c i arg4 harg4 arg5 harg5 arg6 harg6 arg7 harg7 arg8 harg8 arg9 harg9 x2 x3 x4 x5 x6 x7 = scorePieces (promptParts i arg4 harg4 arg5 harg5 arg6 harg6 arg7 harg7 arg8 harg8 arg9 harg9 arg10 harg10 arg11 harg11 arg12 harg12 arg13 harg13 x2 x3 x4 x5 x6 x7 x8 x9 x10 x11) 16 := by exact rfl

theorem weights_A (c : Dev nD) (i : grid0.Coords) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg19 : Memref sig .tc .vmem S2x8x128x512 .f32) (x2 : Vec F S16x512 .f32) (x3 : Vec F S128x2048 .f32) (x4 : Vec F S64x512 .f32) (x5 : Vec F S64x512 .f32) (x6 : Vec F S64x512 .f32) (x7 : Vec F S64x512 .f32) (x8 : Vec F S64x512 .f32) (x9 : Vec F S64x512 .f32) (x10 : Vec F S64x512 .f32) (x11 : Vec F S64x512 .f32) :
    kernelRun0_A.sl.HS2_32 (F := F) c i arg4 harg4 arg5 harg5 arg6 harg6 arg7 harg7 arg8 harg8 arg9 harg9 arg19 x2 x3 x4 x5 x6 x7 = weightPieces arg19 (kernelRun0_A.sl.HS1_16 (F := F) c i arg4 harg4 arg5 harg5 arg6 harg6 arg7 harg7 arg8 harg8 arg9 harg9 x2 x3 x4 x5 x6 x7) 32 := by exact rfl

theorem outputs_A (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (hc0 : cond0_0 i) (hc1 : cond0_1 i) (hc2 : ¬cond0_2 i) (hc3 : ¬cond0_3 i)     (x0 : Vec F S1024x4096 .bf16) (x1 : Vec F S4096x512 .f32) (x2 : Vec F S16x512 .f32) (x3 : Vec F S128x2048 .f32) (x4 : Vec F S64x512 .f32) (x5 : Vec F S64x512 .f32) (x6 : Vec F S64x512 .f32) (x7 : Vec F S64x512 .f32) (x8 : Vec F S64x512 .f32) (x9 : Vec F S64x512 .f32) (x10 : Vec F S64x512 .f32) (x11 : Vec F S64x512 .f32) (x12 : Vec F S256x512 .f32) (x13 : Vec F S256x512 .f32) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13).2.1 = outPieces (promptParts i arg4 harg4 arg5 harg5 arg6 harg6 arg7 harg7 arg8 harg8 arg9 harg9 arg10 harg10 arg11 harg11 arg12 harg12 arg13 harg13 x2 x3 x4 x5 x6 x7 x8 x9 x10 x11) arg20 (kernelRun0_A.sl.HS2_32 (F := F) c i arg4 harg4 arg5 harg5 arg6 harg6 arg7 harg7 arg8 harg8 arg9 harg9 arg19 x2 x3 x4 x5 x6 x7) 32 := by exact rfl

theorem scores_B (c : Dev nD) (i : grid0.Coords) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg19 : Memref sig .tc .vmem S2x8x128x512 .f32) (x2 : Vec F S16x512 .f32) (x3 : Vec F S128x2048 .f32) (x4 : Vec F S64x512 .f32) (x5 : Vec F S64x512 .f32) (x6 : Vec F S64x512 .f32) (x7 : Vec F S64x512 .f32) (x8 : Vec F S64x512 .f32) (x9 : Vec F S64x512 .f32) (x10 : Vec F S64x512 .f32) (x11 : Vec F S64x512 .f32) :
    kernelRun0_B.sl.HS1_16 (F := F) c i arg4 harg4 arg5 harg5 arg6 harg6 arg7 harg7 arg8 harg8 arg9 harg9 x2 x3 x4 x5 x6 x7 = scorePieces (promptParts i arg4 harg4 arg5 harg5 arg6 harg6 arg7 harg7 arg8 harg8 arg9 harg9 arg10 harg10 arg11 harg11 arg12 harg12 arg13 harg13 x2 x3 x4 x5 x6 x7 x8 x9 x10 x11) 16 := by exact rfl

theorem weights_B (c : Dev nD) (i : grid0.Coords) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg19 : Memref sig .tc .vmem S2x8x128x512 .f32) (x2 : Vec F S16x512 .f32) (x3 : Vec F S128x2048 .f32) (x4 : Vec F S64x512 .f32) (x5 : Vec F S64x512 .f32) (x6 : Vec F S64x512 .f32) (x7 : Vec F S64x512 .f32) (x8 : Vec F S64x512 .f32) (x9 : Vec F S64x512 .f32) (x10 : Vec F S64x512 .f32) (x11 : Vec F S64x512 .f32) :
    kernelRun0_B.sl.HS2_32 (F := F) c i arg4 harg4 arg5 harg5 arg6 harg6 arg7 harg7 arg8 harg8 arg9 harg9 arg19 x2 x3 x4 x5 x6 x7 = weightPieces arg19 (kernelRun0_B.sl.HS1_16 (F := F) c i arg4 harg4 arg5 harg5 arg6 harg6 arg7 harg7 arg8 harg8 arg9 harg9 x2 x3 x4 x5 x6 x7) 32 := by exact rfl

theorem outputs_B (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (hc0 : ¬cond0_0 i) (hc1 : cond0_1 i) (hc2 : ¬cond0_2 i) (hc3 : ¬cond0_3 i)     (x0 : Vec F S1024x4096 .bf16) (x1 : Vec F S4096x512 .f32) (x2 : Vec F S16x512 .f32) (x3 : Vec F S128x2048 .f32) (x4 : Vec F S64x512 .f32) (x5 : Vec F S64x512 .f32) (x6 : Vec F S64x512 .f32) (x7 : Vec F S64x512 .f32) (x8 : Vec F S64x512 .f32) (x9 : Vec F S64x512 .f32) (x10 : Vec F S64x512 .f32) (x11 : Vec F S64x512 .f32) (x12 : Vec F S256x512 .f32) (x13 : Vec F S256x512 .f32) (xs0 : Vec F S4096x512 .bf16) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 xs0).2.1 = outPieces (promptParts i arg4 harg4 arg5 harg5 arg6 harg6 arg7 harg7 arg8 harg8 arg9 harg9 arg10 harg10 arg11 harg11 arg12 harg12 arg13 harg13 x2 x3 x4 x5 x6 x7 x8 x9 x10 x11) arg20 (kernelRun0_B.sl.HS2_32 (F := F) c i arg4 harg4 arg5 harg5 arg6 harg6 arg7 harg7 arg8 harg8 arg9 harg9 arg19 x2 x3 x4 x5 x6 x7) 32 := by exact rfl

theorem scores_C (c : Dev nD) (arg4 : Memref sig .tc .vmem S16x512 .f32) (harg4 : arg4.IsWhole) (arg5 : Memref sig .tc .vmem S128x2048 .f32) (harg5 : arg5.IsWhole) (arg8 : Memref sig .tc .vmem S64x512 .f32) (harg8 : arg8.IsWhole) (arg9 : Memref sig .tc .vmem S64x512 .f32) (harg9 : arg9.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg19 : Memref sig .tc .vmem S2x8x128x512 .f32) (x2 : Vec F S16x512 .f32) (x3 : Vec F S128x2048 .f32) (x6 : Vec F S64x512 .f32) (x7 : Vec F S64x512 .f32) (x10 : Vec F S64x512 .f32) (x11 : Vec F S64x512 .f32) (x12 : Vec F S256x512 .f32) (x13 : Vec F S256x512 .f32) :
    kernelRun0_C.sl.HS1_16 (F := F) c arg4 harg4 arg5 harg5 arg8 harg8 arg9 harg9 arg14 harg14 x2 x3 x6 x7 x12 = scorePieces (sampleParts arg4 harg4 arg5 harg5 arg8 harg8 arg9 harg9 arg12 harg12 arg13 harg13 arg14 harg14 arg15 harg15 x2 x3 x6 x7 x10 x11 x12 x13) 16 := by exact rfl

theorem weights_C (c : Dev nD) (arg4 : Memref sig .tc .vmem S16x512 .f32) (harg4 : arg4.IsWhole) (arg5 : Memref sig .tc .vmem S128x2048 .f32) (harg5 : arg5.IsWhole) (arg8 : Memref sig .tc .vmem S64x512 .f32) (harg8 : arg8.IsWhole) (arg9 : Memref sig .tc .vmem S64x512 .f32) (harg9 : arg9.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg19 : Memref sig .tc .vmem S2x8x128x512 .f32) (x2 : Vec F S16x512 .f32) (x3 : Vec F S128x2048 .f32) (x6 : Vec F S64x512 .f32) (x7 : Vec F S64x512 .f32) (x10 : Vec F S64x512 .f32) (x11 : Vec F S64x512 .f32) (x12 : Vec F S256x512 .f32) (x13 : Vec F S256x512 .f32) :
    kernelRun0_C.sl.HS2_32 (F := F) c arg4 harg4 arg5 harg5 arg8 harg8 arg9 harg9 arg14 harg14 arg19 x2 x3 x6 x7 x12 = weightPieces arg19 (kernelRun0_C.sl.HS1_16 (F := F) c arg4 harg4 arg5 harg5 arg8 harg8 arg9 harg9 arg14 harg14 x2 x3 x6 x7 x12) 32 := by exact rfl

theorem outputs_C (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (hc0 : ¬cond0_0 i) (hc1 : ¬cond0_1 i) (hc2 : cond0_2 i) (hc3 : ¬cond0_3 i)     (x0 : Vec F S1024x4096 .bf16) (x1 : Vec F S4096x512 .f32) (x2 : Vec F S16x512 .f32) (x3 : Vec F S128x2048 .f32) (x4 : Vec F S64x512 .f32) (x5 : Vec F S64x512 .f32) (x6 : Vec F S64x512 .f32) (x7 : Vec F S64x512 .f32) (x8 : Vec F S64x512 .f32) (x9 : Vec F S64x512 .f32) (x10 : Vec F S64x512 .f32) (x11 : Vec F S64x512 .f32) (x12 : Vec F S256x512 .f32) (x13 : Vec F S256x512 .f32) (xs0 : Vec F S4096x512 .bf16) :
    (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 xs0).2.1 = outPieces (sampleParts arg4 harg4 arg5 harg5 arg8 harg8 arg9 harg9 arg12 harg12 arg13 harg13 arg14 harg14 arg15 harg15 x2 x3 x6 x7 x10 x11 x12 x13) arg20 (kernelRun0_C.sl.HS2_32 (F := F) c arg4 harg4 arg5 harg5 arg8 harg8 arg9 harg9 arg14 harg14 arg19 x2 x3 x6 x7 x12) 32 := by exact rfl

end Cert.Attn

end
-- ==== Proof.RefValue.lean ====
/- The reference's stages over extended reals, element by element. -/
module

public import proofs.«01_k».proof.Proof.RefRun
public import Idealize.ShloMosaic.Lib.Pointwise
public import Idealize.ShloMosaic.Lib.WordCmp

@[expose] public section

set_option maxRecDepth 16384

noncomputable section

namespace Cert.RefRun

open Idealize.ShloMosaic Idealize.ShloMosaic.TcCoe Idealize.ShloMosaic.Tactic
open Cert.ReferenceIdeal Cert.ReferenceIdeal.Gen

/-- The score against key `k`: a masked key's is the least. -/
def refScore (q : Fin 64 → EReal) (K : Fin 192 → Fin 64 → EReal) (ok : Fin 192 → BitVec 1) (k : Fin 192) : EReal :=
  Scalar.select (ok k) ((∑ d, K k d * q d) * Ideal.ofBits .f32 1040187392#32) (Ideal.ofBits .f32 4286578688#32)

/-- The largest score, the sink's among them. -/
def refTop (q : Fin 64 → EReal) (K : Fin 192 → Fin 64 → EReal) (ok : Fin 192 → BitVec 1) (s : EReal) : EReal :=
  max (Finset.univ.fold max (Ideal.ofBits .f32 4286578688#32) (refScore q K ok)) s

/-- The weight of key `k`. -/
def refWeight (q : Fin 64 → EReal) (K : Fin 192 → Fin 64 → EReal) (ok : Fin 192 → BitVec 1) (s : EReal) (k : Fin 192) : EReal :=
  Ideal.exp (refScore q K ok k - refTop q K ok s)

/-- One element of the attention's output. -/
def refHead (q : Fin 64 → EReal) (K : Fin 192 → Fin 64 → EReal) (V : Fin 192 → EReal) (ok : Fin 192 → BitVec 1) (s : EReal) : EReal :=
  ∑ k, V k * Ideal.div (refWeight q K ok s k) ((∑ l, refWeight q K ok s l) + Ideal.exp (s - refTop q K ok s))

theorem fold_last {A B : Nat} {U : Shape} (x : FVec Ideal ⟨6, ![A, B, 8, 4, 64, 192]⟩ .f32) (b : BitVec 32)
    (h : (⟨6, ![A, B, 8, 4, 64, 192]⟩ : Shape).Reduces [5] ⟨5, ![A, B, 8, 4, 64]⟩) (h' : (⟨6, ![A, B, 8, 4, 64, 192]⟩ : Shape).ReducesTo [5] ⟨5, ![A, B, 8, 4, 64]⟩)
    (hu : 0 < U.numel) (u : Fin A) (n : Fin B) (j : Fin 8) (g : Fin 4) (r : Fin 64) :
    Host.reduce FloatOps.maximumf x (constant U .f32 b) h' hu (ix5 u n j g r) = Finset.univ.fold max (Ideal.ofBits .f32 b) fun k : Fin 192 => x (ix6 u n j g r k) := by
  refine (Host.reduce_eq_fold_single (α := EReal) max x (constant U .f32 b : FVec Ideal U .f32) h' h hu _).trans ?_
  refine congrArg (Finset.fold max _ · Finset.univ) (funext fun k => congrArg x (funext fun a => ?_))
  fin_cases a <;> rfl

theorem sum_last {A B : Nat} (x : (⟨6, ![A, B, 8, 4, 64, 192]⟩ : Shape).Idx → EReal) (z : EReal)
    (h : (⟨6, ![A, B, 8, 4, 64, 192]⟩ : Shape).Reduces [5] ⟨5, ![A, B, 8, 4, 64]⟩) (h' : (⟨6, ![A, B, 8, 4, 64, 192]⟩ : Shape).ReducesTo [5] ⟨5, ![A, B, 8, 4, 64]⟩)
    (u : Fin A) (n : Fin B) (j : Fin 8) (g : Fin 4) (r : Fin 64) :
    Ideal.hostReduceAdd h' x z (ix5 u n j g r) = z + ∑ k : Fin 192, x (ix6 u n j g r k) := by
  rw [Ideal.hostReduceAdd_single h' h]
  refine congrArg (z + ·) (Finset.sum_congr rfl fun k _ => congrArg x (funext fun a => ?_))
  fin_cases a <;> rfl

/-- The prompt's masked scores. -/
theorem prompt_scores (M : IVec S128x64x192 1) (K : FVec Ideal S1x128x192x8x64 .f32) (Q : FVec Ideal S1x8192x32x64 .f32)
    (n : Fin 128) (j : Fin 8) (g : Fin 4) (r : Fin 64) (k : Fin 192) :
    (v59 (F := Ideal) M K Q : FVec Ideal S1x128x8x4x64x192 .f32) (ix6 0 n j g r k)
      = refScore (fun d => Q (ix4 0 ⟨n * 64 + r, by omega⟩ ⟨j * 4 + g, by omega⟩ d)) (fun k d => K (ix5 0 n k j d)) (fun k => M (ix3 n r k)) k := by
  unfold refScore
  pointwise [v59]
  exact congrArg (Scalar.select _ _) rfl

/-- The larger of `R` and the sinks. -/
def promptTopOf {F : FTy → Type} [FloatOps F] (R : FVec F S1x128x8x4x64 .f32) (s : FVec F S32 .f32) : FVec F S1x128x8x4x64x1 .f32 :=
  ((maximumf : (⟨S1x128x8x4x64x1, .f32⟩ : BufTy).Contents (Elt F) → (⟨S1x128x8x4x64x1, .f32⟩ : BufTy).Contents (Elt F) → (⟨S1x128x8x4x64x1, .f32⟩ : BufTy).Contents (Elt F)) ((broadcastInDim S1x128x8x4x64x1 ![0, 1, 2, 3, 4] bcast_S1x128x8x4x64_S1x128x8x4x64x1_0_1_2_3_4 : (⟨S1x128x8x4x64, .f32⟩ : BufTy).Contents (Elt F) → (⟨S1x128x8x4x64x1, .f32⟩ : BufTy).Contents (Elt F)) R) ((broadcastInDim S1x128x8x4x64x1 ![0, 1, 2, 3, 4, 5] bcast_S1x1x8x4x1x1_S1x128x8x4x64x1_0_1_2_3_4_5 : (⟨S1x1x8x4x1x1, .f32⟩ : BufTy).Contents (Elt F) → (⟨S1x128x8x4x64x1, .f32⟩ : BufTy).Contents (Elt F)) ((broadcastInDim S1x1x8x4x1x1 ![2, 3] bcast_S8x4_S1x1x8x4x1x1_2_3 : (⟨S8x4, .f32⟩ : BufTy).Contents (Elt F) → (⟨S1x1x8x4x1x1, .f32⟩ : BufTy).Contents (Elt F)) (shapeCast _ s shapeCasts_S32_S8x4))))

theorem prompt_top_of (R : FVec Ideal S1x128x8x4x64 .f32) (s : FVec Ideal S32 .f32) (n : Fin 128) (j : Fin 8) (g : Fin 4) (r : Fin 64) :
    promptTopOf R s (ix6 0 n j g r 0)
      = max (R (ix5 0 n j g r)) (s (ix1 ⟨j * 4 + g, by omega⟩)) := by
  pointwise [promptTopOf]

/-- The prompt's largest scores. -/
theorem prompt_top (S : FVec Ideal S1x128x8x4x64x192 .f32) (s : FVec Ideal S32 .f32) (n : Fin 128) (j : Fin 8) (g : Fin 4) (r : Fin 64) :
    (v65 (F := Ideal) S s : FVec Ideal S1x128x8x4x64x1 .f32) (ix6 0 n j g r 0)
      = max (Finset.univ.fold max (Ideal.ofBits .f32 4286578688#32) fun k : Fin 192 => S (ix6 0 n j g r k)) (s (ix1 ⟨j * 4 + g, by omega⟩)) := by
  have e : ∀ b : BitVec 32, promptTopOf (F := Ideal) (Host.reduce FloatOps.maximumf S (constant S_ .f32 b) reducesTo_S1x128x8x4x64x192_S1x128x8x4x64_d5 h_S_) s (ix6 0 n j g r 0)
      = max (Finset.univ.fold max (Ideal.ofBits .f32 b) fun k : Fin 192 => S (ix6 0 n j g r k)) (s (ix1 ⟨j * 4 + g, by omega⟩)) := by
    intro b
    rw [prompt_top_of, fold_last S b (by decide)]
  exact e _

/-- The prompt's weights. -/
theorem prompt_weights (S : FVec Ideal S1x128x8x4x64x192 .f32) (T : FVec Ideal S1x128x8x4x64x1 .f32) (n : Fin 128) (j : Fin 8) (g : Fin 4) (r : Fin 64) (k : Fin 192) :
    (v68 (F := Ideal) S T : FVec Ideal S1x128x8x4x64x192 .f32) (ix6 0 n j g r k) = Ideal.exp (S (ix6 0 n j g r k) - T (ix6 0 n j g r 0)) := by
  pointwise [v68]

/-- The prompt's divisors. -/
theorem prompt_total (E : FVec Ideal S1x128x8x4x64x192 .f32) (s : FVec Ideal S32 .f32) (T : FVec Ideal S1x128x8x4x64x1 .f32) (n : Fin 128) (j : Fin 8) (g : Fin 4) (r : Fin 64) :
    (v74 (F := Ideal) E (v61 (F := Ideal) s) T : FVec Ideal S1x128x8x4x64x1 .f32) (ix6 0 n j g r 0)
      = (∑ k : Fin 192, (E (ix6 0 n j g r k) : EReal)) + Ideal.exp (s (ix1 ⟨j * 4 + g, by omega⟩) - T (ix6 0 n j g r 0)) := by
  pointwise [v74, v61]
  rw [sum_last E _ (by decide), zero_add]

/-- The prompt's outputs. -/
theorem prompt_outputs (V : FVec Ideal S1x128x192x8x64 .f32) (E : FVec Ideal S1x128x8x4x64x192 .f32) (D : FVec Ideal S1x128x8x4x64x1 .f32) (t : Fin 8192) (c : Fin 2048) :
    (v79 (F := Ideal) V E D : FVec Ideal S1x8192x2048 .f32) (ix3 0 t c)
      = ∑ x, V (ix5 0 ⟨t / 64, by omega⟩ x ⟨c / 256, by omega⟩ ⟨c % 64, by omega⟩)
          * Ideal.div (E (ix6 0 ⟨t / 64, by omega⟩ ⟨c / 256, by omega⟩ ⟨c / 64 % 4, by omega⟩ ⟨t % 64, by omega⟩ x))
              (D (ix6 0 ⟨t / 64, by omega⟩ ⟨c / 256, by omega⟩ ⟨c / 64 % 4, by omega⟩ ⟨t % 64, by omega⟩ 0)) := by
  pointwise [v79]

/-- The prompt's row `t`'s head of column `c`: the query, the windows' keys, the mask. -/
theorem prompt_heads (M : IVec S128x64x192 1) (K V : FVec Ideal S1x128x192x8x64 .f32) (Q : FVec Ideal S1x8192x32x64 .f32) (s : FVec Ideal S32 .f32)
    (S E : FVec Ideal S1x128x8x4x64x192 .f32) (T D : FVec Ideal S1x128x8x4x64x1 .f32)
    (hS : S = v59 (F := Ideal) M K Q) (hT : T = v65 (F := Ideal) S s) (hE : E = v68 (F := Ideal) S T) (hD : D = v74 (F := Ideal) E (v61 (F := Ideal) s) T)
    (t : Fin 8192) (c : Fin 2048) :
    (v79 (F := Ideal) V E D : FVec Ideal S1x8192x2048 .f32) (ix3 0 t c)
      = refHead (fun d => Q (ix4 0 t ⟨c / 64, by omega⟩ d)) (fun k d => K (ix5 0 ⟨t / 64, by omega⟩ k ⟨c / 256, by omega⟩ d))
          (fun k => V (ix5 0 ⟨t / 64, by omega⟩ k ⟨c / 256, by omega⟩ ⟨c % 64, by omega⟩)) (fun k => M (ix3 ⟨t / 64, by omega⟩ ⟨t % 64, by omega⟩ k)) (s (ix1 ⟨c / 64, by omega⟩)) := by
  have e1 : (t : Nat) / 64 * 64 + (t : Nat) % 64 = t := by omega
  have e2 : (c : Nat) / 256 * 4 + (c : Nat) / 64 % 4 = (c : Nat) / 64 := by omega
  have hS' := fun k => (congrFun hS (ix6 0 ⟨t / 64, by omega⟩ ⟨c / 256, by omega⟩ ⟨c / 64 % 4, by omega⟩ ⟨t % 64, by omega⟩ k)).trans (prompt_scores M K Q _ _ _ _ k)
  have hT' := (congrFun hT (ix6 0 ⟨t / 64, by omega⟩ ⟨c / 256, by omega⟩ ⟨c / 64 % 4, by omega⟩ ⟨t % 64, by omega⟩ 0)).trans (prompt_top S s _ _ _ _)
  have hE' := fun k => (congrFun hE (ix6 0 ⟨t / 64, by omega⟩ ⟨c / 256, by omega⟩ ⟨c / 64 % 4, by omega⟩ ⟨t % 64, by omega⟩ k)).trans (prompt_weights S T _ _ _ _ k)
  have hD' := (congrFun hD (ix6 0 ⟨t / 64, by omega⟩ ⟨c / 256, by omega⟩ ⟨c / 64 % 4, by omega⟩ ⟨t % 64, by omega⟩ 0)).trans (prompt_total E s T _ _ _ _)
  clear hS hT hE hD
  rw [prompt_outputs]
  simp only [hE', hT', hS'] at hD' ⊢
  rw [hD']
  simp only [e1, e2, Fin.eta]
  rfl

/-- The samples' masked scores. -/
theorem sample_scores (M : IVec S1x64x192 1) (K : FVec Ideal S16x1x192x8x64 .f32) (Q : FVec Ideal S16x64x32x64 .f32)
    (u : Fin 16) (j : Fin 8) (g : Fin 4) (r : Fin 64) (k : Fin 192) :
    (v98 (F := Ideal) M K Q : FVec Ideal S16x1x8x4x64x192 .f32) (ix6 u 0 j g r k)
      = refScore (fun d => Q (ix4 u r ⟨j * 4 + g, by omega⟩ d)) (fun k d => K (ix5 u 0 k j d)) (fun k => M (ix3 0 r k)) k := by
  unfold refScore
  pointwise [v98]
  exact congrArg (Scalar.select _ _) rfl

/-- The larger of `R` and the sinks. -/
def sampleTopOf {F : FTy → Type} [FloatOps F] (R : FVec F S16x1x8x4x64 .f32) (s : FVec F S32 .f32) : FVec F S16x1x8x4x64x1 .f32 :=
  ((maximumf : (⟨S16x1x8x4x64x1, .f32⟩ : BufTy).Contents (Elt F) → (⟨S16x1x8x4x64x1, .f32⟩ : BufTy).Contents (Elt F) → (⟨S16x1x8x4x64x1, .f32⟩ : BufTy).Contents (Elt F)) ((broadcastInDim S16x1x8x4x64x1 ![0, 1, 2, 3, 4] bcast_S16x1x8x4x64_S16x1x8x4x64x1_0_1_2_3_4 : (⟨S16x1x8x4x64, .f32⟩ : BufTy).Contents (Elt F) → (⟨S16x1x8x4x64x1, .f32⟩ : BufTy).Contents (Elt F)) R) ((broadcastInDim S16x1x8x4x64x1 ![0, 1, 2, 3, 4, 5] bcast_S1x1x8x4x1x1_S16x1x8x4x64x1_0_1_2_3_4_5 : (⟨S1x1x8x4x1x1, .f32⟩ : BufTy).Contents (Elt F) → (⟨S16x1x8x4x64x1, .f32⟩ : BufTy).Contents (Elt F)) ((broadcastInDim S1x1x8x4x1x1 ![2, 3] bcast_S8x4_S1x1x8x4x1x1_2_3 : (⟨S8x4, .f32⟩ : BufTy).Contents (Elt F) → (⟨S1x1x8x4x1x1, .f32⟩ : BufTy).Contents (Elt F)) (shapeCast _ s shapeCasts_S32_S8x4))))

theorem sample_top_of (R : FVec Ideal S16x1x8x4x64 .f32) (s : FVec Ideal S32 .f32) (u : Fin 16) (j : Fin 8) (g : Fin 4) (r : Fin 64) :
    sampleTopOf R s (ix6 u 0 j g r 0)
      = max (R (ix5 u 0 j g r)) (s (ix1 ⟨j * 4 + g, by omega⟩)) := by
  pointwise [sampleTopOf]

/-- The samples' largest scores. -/
theorem sample_top (S : FVec Ideal S16x1x8x4x64x192 .f32) (s : FVec Ideal S32 .f32) (u : Fin 16) (j : Fin 8) (g : Fin 4) (r : Fin 64) :
    (v104 (F := Ideal) S s : FVec Ideal S16x1x8x4x64x1 .f32) (ix6 u 0 j g r 0)
      = max (Finset.univ.fold max (Ideal.ofBits .f32 4286578688#32) fun k : Fin 192 => S (ix6 u 0 j g r k)) (s (ix1 ⟨j * 4 + g, by omega⟩)) := by
  have e : ∀ b : BitVec 32, sampleTopOf (F := Ideal) (Host.reduce FloatOps.maximumf S (constant S_ .f32 b) reducesTo_S16x1x8x4x64x192_S16x1x8x4x64_d5 h_S_) s (ix6 u 0 j g r 0)
      = max (Finset.univ.fold max (Ideal.ofBits .f32 b) fun k : Fin 192 => S (ix6 u 0 j g r k)) (s (ix1 ⟨j * 4 + g, by omega⟩)) := by
    intro b
    rw [sample_top_of, fold_last S b (by decide)]
  exact e _

/-- The samples' weights. -/
theorem sample_weights (S : FVec Ideal S16x1x8x4x64x192 .f32) (T : FVec Ideal S16x1x8x4x64x1 .f32) (u : Fin 16) (j : Fin 8) (g : Fin 4) (r : Fin 64) (k : Fin 192) :
    (v107 (F := Ideal) S T : FVec Ideal S16x1x8x4x64x192 .f32) (ix6 u 0 j g r k) = Ideal.exp (S (ix6 u 0 j g r k) - T (ix6 u 0 j g r 0)) := by
  pointwise [v107]

/-- The samples' divisors. -/
theorem sample_total (E : FVec Ideal S16x1x8x4x64x192 .f32) (s : FVec Ideal S32 .f32) (T : FVec Ideal S16x1x8x4x64x1 .f32) (u : Fin 16) (j : Fin 8) (g : Fin 4) (r : Fin 64) :
    (v113 (F := Ideal) E (v100 (F := Ideal) s) T : FVec Ideal S16x1x8x4x64x1 .f32) (ix6 u 0 j g r 0)
      = (∑ k : Fin 192, (E (ix6 u 0 j g r k) : EReal)) + Ideal.exp (s (ix1 ⟨j * 4 + g, by omega⟩) - T (ix6 u 0 j g r 0)) := by
  pointwise [v113, v100]
  rw [sum_last E _ (by decide), zero_add]

/-- The samples' outputs. -/
theorem sample_outputs (V : FVec Ideal S16x1x192x8x64 .f32) (E : FVec Ideal S16x1x8x4x64x192 .f32) (D : FVec Ideal S16x1x8x4x64x1 .f32) (u : Fin 16) (t : Fin 64) (c : Fin 2048) :
    (v118 (F := Ideal) V E D : FVec Ideal S16x64x2048 .f32) (ix3 u t c)
      = ∑ x, V (ix5 u 0 x ⟨c / 256, by omega⟩ ⟨c % 64, by omega⟩)
          * Ideal.div (E (ix6 u 0 ⟨c / 256, by omega⟩ ⟨c / 64 % 4, by omega⟩ t x))
              (D (ix6 u 0 ⟨c / 256, by omega⟩ ⟨c / 64 % 4, by omega⟩ t 0)) := by
  pointwise [v118]

/-- The sample's row `t` of sequence `u`'s head of column `c`: the query, the windows' keys, the mask. -/
theorem sample_heads (M : IVec S1x64x192 1) (K V : FVec Ideal S16x1x192x8x64 .f32) (Q : FVec Ideal S16x64x32x64 .f32) (s : FVec Ideal S32 .f32)
    (S E : FVec Ideal S16x1x8x4x64x192 .f32) (T D : FVec Ideal S16x1x8x4x64x1 .f32)
    (hS : S = v98 (F := Ideal) M K Q) (hT : T = v104 (F := Ideal) S s) (hE : E = v107 (F := Ideal) S T) (hD : D = v113 (F := Ideal) E (v100 (F := Ideal) s) T)
    (u : Fin 16) (t : Fin 64) (c : Fin 2048) :
    (v118 (F := Ideal) V E D : FVec Ideal S16x64x2048 .f32) (ix3 u t c)
      = refHead (fun d => Q (ix4 u t ⟨c / 64, by omega⟩ d)) (fun k d => K (ix5 u 0 k ⟨c / 256, by omega⟩ d))
          (fun k => V (ix5 u 0 k ⟨c / 256, by omega⟩ ⟨c % 64, by omega⟩)) (fun k => M (ix3 0 t k)) (s (ix1 ⟨c / 64, by omega⟩)) := by
  have e2 : (c : Nat) / 256 * 4 + (c : Nat) / 64 % 4 = (c : Nat) / 64 := by omega
  have hS' := fun k => (congrFun hS (ix6 u 0 ⟨c / 256, by omega⟩ ⟨c / 64 % 4, by omega⟩ t k)).trans (sample_scores M K Q _ _ _ _ k)
  have hT' := (congrFun hT (ix6 u 0 ⟨c / 256, by omega⟩ ⟨c / 64 % 4, by omega⟩ t 0)).trans (sample_top S s _ _ _ _)
  have hE' := fun k => (congrFun hE (ix6 u 0 ⟨c / 256, by omega⟩ ⟨c / 64 % 4, by omega⟩ t k)).trans (sample_weights S T _ _ _ _ k)
  have hD' := (congrFun hD (ix6 u 0 ⟨c / 256, by omega⟩ ⟨c / 64 % 4, by omega⟩ t 0)).trans (sample_total E s T _ _ _ _)
  clear hS hT hE hD
  rw [sample_outputs]
  simp only [hE', hT', hS'] at hD' ⊢
  rw [hD']
  simp only [e2, Fin.eta]
  rfl

theorem sitofp_zero : (FloatOps.sitofp FTy.f32 0#32 : Ideal .f32) = (0 : EReal) := by simp [FloatOps.sitofp]

theorem window_eq (a2 : FVec Ideal S9216x3072 .f32) (z : EReal) (hz : z = 0) (x y : Nat) (hy : y < 8320) (e : Fin 3072) (hxy : x = y) :
    (if h : 128 ≤ x ∧ x - 128 < 8192 then a2 (ix2 ⟨x - 128, by omega⟩ e) else z)
      = if h : 128 ≤ y then a2 (ix2 ⟨y - 128, by omega⟩ e) else 0 := by
  subst hxy hz
  by_cases h : 128 ≤ x
  · rw [dif_pos ⟨h, by omega⟩, dif_pos h]
  · rw [dif_neg (fun c => h c.1), dif_neg h]

theorem kwin_apply (a2 : FVec Ideal S9216x3072 .f32) (n : Fin 128) (k : Fin 192) (j : Fin 8) (d : Fin 64) :
    (v32 (F := Ideal) (v17 (F := Ideal) a2) : FVec Ideal S1x128x192x8x64 .f32) (ix5 0 n k j d)
      = if h : 128 ≤ (n : Nat) * 64 + k then a2 (ix2 ⟨n * 64 + k - 128, by omega⟩ ⟨2048 + (j * 64 + d), by omega⟩) else 0 := by
  pointwise [v32, v17, fn_main_v32]
  by_cases h1 : (k : Nat) < 64
  · rw [dif_pos h1]
    exact window_eq a2 _ sitofp_zero ((n : Nat) * 64 + k) ((n : Nat) * 64 + k) (by omega) ⟨2048 + (j * 64 + d), by omega⟩ (by omega)
  · rw [dif_neg h1]
    by_cases h2 : (k : Nat) - 64 < 64
    · rw [dif_pos h2]
      exact window_eq a2 _ sitofp_zero ((1 + (n : Nat)) * 64 + (k - 64)) ((n : Nat) * 64 + k) (by omega) ⟨2048 + (j * 64 + d), by omega⟩ (by omega)
    · rw [dif_neg h2]
      exact window_eq a2 _ sitofp_zero ((2 + (n : Nat)) * 64 + (k - 64 - 64)) ((n : Nat) * 64 + k) (by omega) ⟨2048 + (j * 64 + d), by omega⟩ (by omega)

theorem vwin_apply (a2 : FVec Ideal S9216x3072 .f32) (n : Fin 128) (k : Fin 192) (j : Fin 8) (d : Fin 64) :
    (v36 (F := Ideal) (v18 (F := Ideal) a2) : FVec Ideal S1x128x192x8x64 .f32) (ix5 0 n k j d)
      = if h : 128 ≤ (n : Nat) * 64 + k then a2 (ix2 ⟨n * 64 + k - 128, by omega⟩ ⟨2560 + (j * 64 + d), by omega⟩) else 0 := by
  pointwise [v36, v18, fn_main_v36]
  by_cases h1 : (k : Nat) < 64
  · rw [dif_pos h1]
    exact window_eq a2 _ sitofp_zero ((n : Nat) * 64 + k) ((n : Nat) * 64 + k) (by omega) ⟨2560 + (j * 64 + d), by omega⟩ (by omega)
  · rw [dif_neg h1]
    by_cases h2 : (k : Nat) - 64 < 64
    · rw [dif_pos h2]
      exact window_eq a2 _ sitofp_zero ((1 + (n : Nat)) * 64 + (k - 64)) ((n : Nat) * 64 + k) (by omega) ⟨2560 + (j * 64 + d), by omega⟩ (by omega)
    · rw [dif_neg h2]
      exact window_eq a2 _ sitofp_zero ((2 + (n : Nat)) * 64 + (k - 64 - 64)) ((n : Nat) * 64 + k) (by omega) ⟨2560 + (j * 64 + d), by omega⟩ (by omega)

theorem mask_apply (n : Fin 128) (r : Fin 64) (k : Fin 192) :
    (v51 (F := Ideal) : IVec S128x64x192 1) (ix3 n r k) = if 128 ≤ (n : Nat) * 64 + k then 1#1 else 0#1 := by
  pointwise [v51]
  have hn := n.2
  have hk := k.2
  rw [Idealize.ShloMosaic.WordCmp.cmpi_sge_zero]
  have e : (IntOp.addi (IntOp.subi (IntOp.muli (BitVec.ofNat 32 (n : Nat)) 64#32) 128#32) (BitVec.ofNat 32 (k : Nat))).toNat
      = ((n : Nat) * 64 + k + (2 ^ 32 - 128)) % 2 ^ 32 := by
    simp [IntOp.addi, IntOp.subi, IntOp.muli, BitVec.toNat_add, BitVec.toNat_sub, BitVec.toNat_mul]
    omega
  rw [e]
  by_cases h : 128 ≤ (n : Nat) * 64 + k
  · rw [if_pos h, decide_eq_true (by omega)]
    rfl
  · rw [if_neg h, decide_eq_false (by omega)]
    rfl

theorem skeys_apply (a2 : FVec Ideal S9216x3072 .f32) (a3 : FVec Ideal S16x128x8x64 .f32) (u : Fin 16) (k : Fin 192) (j : Fin 8) (d : Fin 64) :
    (v87 (F := Ideal) a3 (v17 (F := Ideal) a2) : FVec Ideal S16x1x192x8x64 .f32) (ix5 u 0 k j d)
      = if h : (k : Nat) < 128 then a3 (ix4 u ⟨k, h⟩ j d) else a2 (ix2 ⟨8192 + (u * 64 + (k - 128)), by omega⟩ ⟨2048 + (j * 64 + d), by omega⟩) := by
  pointwise [v87, v17, fn_main_v86]

theorem svals_apply (a2 : FVec Ideal S9216x3072 .f32) (a4 : FVec Ideal S16x128x8x64 .f32) (u : Fin 16) (k : Fin 192) (j : Fin 8) (d : Fin 64) :
    (v89 (F := Ideal) a4 (v18 (F := Ideal) a2) : FVec Ideal S16x1x192x8x64 .f32) (ix5 u 0 k j d)
      = if h : (k : Nat) < 128 then a4 (ix4 u ⟨k, h⟩ j d) else a2 (ix2 ⟨8192 + (u * 64 + (k - 128)), by omega⟩ ⟨2560 + (j * 64 + d), by omega⟩) := by
  pointwise [v89, v18, fn_main_v88]

theorem smask_apply (r : Fin 64) (k : Fin 192) : (v90 (F := Ideal) : IVec S1x64x192 1) (ix3 0 r k) = 1#1 := by
  pointwise [v90]

theorem rows_apply (X : FVec Ideal S1x8192x2048 .f32) (Y : FVec Ideal S16x64x2048 .f32) (t : Fin 9216) (c : Fin 2048) :
    (v123 (F := Ideal) X Y : FVec Ideal S9216x2048 .bf16) (ix2 t c)
      = if h : (t : Nat) < 8192 then X (ix3 0 ⟨t, h⟩ c) else Y (ix3 ⟨(t - 8192) / 64, by omega⟩ ⟨(t - 8192) % 64, by omega⟩ c) := by
  pointwise [v123, fn_main_v121]

theorem queries_apply (a2 : FVec Ideal S9216x3072 .f32) (t : Fin 8192) (h : Fin 32) (d : Fin 64) :
    (v20 (F := Ideal) (v16 (F := Ideal) a2) : FVec Ideal S1x8192x32x64 .f32) (ix4 0 t h d) = a2 (ix2 ⟨t, by omega⟩ ⟨h * 64 + d, by omega⟩) := by
  pointwise [v20, v16]

theorem squeries_apply (a2 : FVec Ideal S9216x3072 .f32) (u : Fin 16) (t : Fin 64) (h : Fin 32) (d : Fin 64) :
    (v81 (F := Ideal) (v16 (F := Ideal) a2) : FVec Ideal S16x64x32x64 .f32) (ix4 u t h d) = a2 (ix2 ⟨8192 + (u * 64 + t), by omega⟩ ⟨h * 64 + d, by omega⟩) := by
  pointwise [v81, v16]

end Cert.RefRun
-- ==== Proof.Elements.lean ====
/- The blocks of Blocks.lean over extended reals, element by element. -/
module

public import proofs.«01_k».proof.Proof.Blocks
public import Idealize.ShloMosaic.Lib.Pointwise

@[expose] public section

set_option maxRecDepth 16384

noncomputable section

namespace Cert.Attn

open Idealize.ShloMosaic Idealize.ShloMosaic.TcCoe Idealize.ShloMosaic.Tactic
open Cert.KernelIdeal Cert.KernelIdeal.Gen

theorem tile_apply (X : FVec Ideal S192x512 .f32) (b : Nat) (r : Fin 192) (d : Fin 128) :
    tile X b (ix2 r d) = X (ix2 r ⟨b % 4 * 128 + d, by have := d.2; omega⟩) := by
  pointwise [tile]

theorem rotated_apply (t : FVec Ideal S192x128 .f32) (r : Fin 192) (d : Fin 128) :
    rotated t (ix2 r d) = t (ix2 r ⟨(d + 64) % 128, by omega⟩) := by
  pointwise [rotated]
  congr 2

theorem lanes_lt : ∀ d : Fin 128, IntOp.cmpi CmpIPredicate.slt (BitVec.ofNat 32 (d : Nat)) 64#32 = if (d : Nat) < 64 then 1#1 else 0#1 := by
  decide +kernel

theorem rows_lt : ∀ k : Fin 512, IntOp.cmpi CmpIPredicate.slt (BitVec.ofNat 32 (k : Nat)) 256#32 = if (k : Nat) < 256 then 1#1 else 0#1 := by
  decide +kernel

theorem doubled_apply (lo hi : FVec Ideal S192x128 .f32) (k : Fin 512) (d : Fin 128) :
    doubled lo hi (ix2 k d)
      = if h : (k : Nat) < 192 then (if (d : Nat) < 64 then lo (ix2 ⟨k, h⟩ d) else 0)
        else if h : 256 ≤ (k : Nat) ∧ (k : Nat) < 448 then (if (d : Nat) < 64 then 0 else hi (ix2 ⟨k - 256, by omega⟩ d)) else 0 := by
  pointwise [doubled, lowLanes, zeroTile]
  have hc : Scalar.select (IntOp.cmpi CmpIPredicate.slt (BitVec.ofNat 32 (d : Nat)) 64#32) = fun (a b : EReal) => if (d : Nat) < 64 then a else b := by
    funext a b
    rw [lanes_lt]
    by_cases h : (d : Nat) < 64 <;> simp [h, Scalar.select]
  rw [hc]
  by_cases h1 : (k : Nat) < 192
  · simp [h1]
  · by_cases h2 : 256 ≤ (k : Nat) ∧ (k : Nat) < 448
    · have e : (k : Nat) - 192 - 64 = k - 256 := by omega
      simp [h1, h2, e, show ¬ ((k : Nat) - 192 < 64) by omega, show (k : Nat) - 256 < 192 by omega]
    · by_cases h3 : (k : Nat) - 192 < 64
      · simp [h1, h2, h3]
      · simp [h1, h2, h3, show ¬ ((k : Nat) - 192 - 64 < 192) by omega]

theorem chosen_apply (k : Fin 512) (d : Fin 128) :
    (chosen : FVec Ideal S512x128 .bf16) (ix2 k d) = if ((k : Nat) < 256 ↔ (d : Nat) < 64) then 1 else 0 := by
  pointwise [chosen]
  rw [lanes_lt, rows_lt]
  by_cases h : (k : Nat) < 256 <;> by_cases h' : (d : Nat) < 64 <;>
    simp [h, h', IntOp.xori, FloatOps.sitofp]

theorem scores_apply (q0 q1 : FVec Ideal S64x128 .f32) (D : FVec Ideal S512x128 .bf16) (r0 r1 : FVec Ideal S1x512 .f32)
    (r : Fin 128) (k : Fin 512) :
    scores q0 q1 D r0 r1 (ix4 0 0 r k)
      = (∑ d : Fin 128, (if h : (r : Nat) < 64 then q0 (ix2 ⟨r, h⟩ d) else q1 (ix2 ⟨r - 64, by omega⟩ d)) * Ideal.ofBits .f32 1040187392#32 * D (ix2 k d))
        + (if (r : Nat) < 64 then r0 (ix2 0 k) else r1 (ix2 0 k)) := by
  pointwise [scores, rows]
  congr 1

theorem weights_apply (v : FVec Ideal S1x1x128x256 .f32) (r : Fin 128) (k : Fin 256) :
    weights v (ix4 0 0 r k) = Ideal.exp (v (ix4 0 0 r k) - Finset.univ.fold max (Ideal.ofBits .f32 4286578688#32) fun l : Fin 256 => v (ix4 0 0 r l)) := by
  pointwise [weights]

theorem products_apply (D : FVec Ideal S512x128 .bf16) (e : FVec Ideal S1x1x128x512 .bf16) (r : Fin 128) (d : Fin 256) :
    products D e (ix2 r d) = ∑ k : Fin 512, e (ix4 0 0 r k) * (if h : (d : Nat) < 128 then D (ix2 k ⟨d, h⟩) else chosen (ix2 k ⟨d - 128, by omega⟩)) := by
  pointwise [products]

theorem outputs_apply (n : Nat) (P : FVec Ideal S128x256 .f32) (r : Fin 64) (d : Fin 128) :
    outputs n P (ix2 r d) = Ideal.div (P (ix2 ⟨n % 2 * 64 + r, by omega⟩ ⟨d, by omega⟩)) (P (ix2 ⟨n % 2 * 64 + r, by omega⟩ ⟨128 + d, by omega⟩)) := by
  pointwise [outputs]

theorem doubledHead_apply (X : FVec Ideal S192x512 .f32) (j : Nat) (hj : j < 8) (k : Fin 512) (d : Fin 128) :
    doubledHead X j (ix2 k d)
      = if h : (k : Nat) < 192 ∧ (d : Nat) < 64 then X (ix2 ⟨k, h.1⟩ ⟨64 * j + d, by omega⟩)
        else if h : 256 ≤ (k : Nat) ∧ (k : Nat) < 448 ∧ 64 ≤ (d : Nat) then X (ix2 ⟨k - 256, by omega⟩ ⟨64 * j + (d - 64), by omega⟩)
        else 0 := by
  have hd := d.2
  unfold doubledHead
  rw [doubled_apply]
  rcases Nat.mod_two_eq_zero_or_one j with hp | hp
  · have hb : Nat.beq (j % 2) 0 = true := by rw [hp]; rfl
    simp only [hb, cond_true, tile_apply, rotated_apply]
    by_cases h1 : (k : Nat) < 192
    · by_cases h2 : (d : Nat) < 64
      · simp only [h1, h2, and_self, dif_pos, if_pos]
        congr 2; exact Fin.ext (by simp only []; omega)
      · simp [h1, h2, show ¬ 256 ≤ (k : Nat) by omega]
    · by_cases h3 : 256 ≤ (k : Nat) ∧ (k : Nat) < 448
      · by_cases h2 : (d : Nat) < 64
        · simp [h1, h2]
        · simp only [h1, h3, h2, not_lt.mp h2, and_self, dif_pos, if_false, false_and, dif_neg, not_false_eq_true]
          congr 2; exact Fin.ext (by simp only []; omega)
      · have : ¬ (256 ≤ (k : Nat) ∧ (k : Nat) < 448 ∧ 64 ≤ (d : Nat)) := fun h => h3 ⟨h.1, h.2.1⟩
        simp [h1, h3, this]
  · have hb : Nat.beq (j % 2) 0 = false := by rw [hp]; rfl
    simp only [hb, cond_false, tile_apply, rotated_apply]
    by_cases h1 : (k : Nat) < 192
    · by_cases h2 : (d : Nat) < 64
      · simp only [h1, h2, and_self, dif_pos, if_pos]
        congr 2; exact Fin.ext (by simp only []; omega)
      · simp [h1, h2, show ¬ 256 ≤ (k : Nat) by omega]
    · by_cases h3 : 256 ≤ (k : Nat) ∧ (k : Nat) < 448
      · by_cases h2 : (d : Nat) < 64
        · simp [h1, h2]
        · simp only [h1, h3, h2, not_lt.mp h2, and_self, dif_pos, if_false, false_and, dif_neg, not_false_eq_true]
          congr 2; exact Fin.ext (by simp only []; omega)
      · have : ¬ (256 ≤ (k : Nat) ∧ (k : Nat) < 448 ∧ 64 ≤ (d : Nat)) := fun h => h3 ⟨h.1, h.2.1⟩
        simp [h1, h3, this]

end Cert.Attn

end
-- ==== Proof.Readback.lean ====
/- What the scratch arrays and the output block hold at an index once a grid point's pieces are written. -/
module

public import proofs.«01_k».proof.Proof.Elements
public import Idealize.ShloMosaic.Lib.Pipeline.Value

@[expose] public section

set_option maxRecDepth 16384

noncomputable section

namespace Cert.Attn

open Idealize.ShloMosaic Idealize.ShloMosaic.TcCoe Idealize.ShloMosaic.Tactic
open Cert.KernelIdeal Cert.KernelIdeal.Gen

/-- The score of query row `r` of key-value head `j` against row `k` of the two copies of the keys. -/
def sc (p : Parts Ideal) (h j : Nat) (r : Fin 128) (k : Fin 512) : EReal :=
  scores (p.qt h (2 * j)) (p.qt h (2 * j + 1)) (doubledHead (p.kc h) j) (p.br h (2 * j)) (p.br h (2 * j + 1)) (ix4 0 0 r k)

/-- The weight there. -/
def wt (p : Parts Ideal) (h j : Nat) (r : Fin 128) (k : Fin 512) : EReal :=
  Ideal.exp (sc p h j r k - Finset.univ.fold max (Ideal.ofBits .f32 4286578688#32) fun l : Fin 256 => sc p h j r ⟨k / 256 * 256 + l, by omega⟩)

/-- The output of pair of heads `a`. -/
def ov (p : Parts Ideal) (h a : Nat) (r : Fin 64) (d : Fin 128) : EReal :=
  outputs a (products (doubledHead (p.vc h) (a / 2)) (fun x => wt p h (a / 2) (x 2) (x 3))) (ix2 r d)

theorem scorePieces_mem {F : FTy → Type} [FloatOps F] (p : Parts F) : ∀ n q, q ∈ scorePieces p n ↔ ∃ i < n, q = scorePiece p i
  | 0, q => by simp [scorePieces]
  | n + 1, q => by
    rw [scorePieces, List.mem_cons, scorePieces_mem p n q]
    constructor
    · rintro (h | ⟨i, hi, h⟩)
      exacts [⟨n, by omega, h⟩, ⟨i, by omega, h⟩]
    · rintro ⟨i, hi, h⟩
      rcases Nat.lt_succ_iff_lt_or_eq.mp hi with h' | h'
      exacts [Or.inr ⟨i, h', h⟩, Or.inl (h' ▸ h)]

theorem weightPieces_mem {F : FTy → Type} [FloatOps F] (m : Memref sig .tc .vmem S2x8x128x512 .f32) (L : List (View.Piece (Elt F) S2x8x128x512 .f32)) :
    ∀ n q, q ∈ weightPieces m L n ↔ ∃ i < n, q = weightPiece m L i
  | 0, q => by simp [weightPieces]
  | n + 1, q => by
    rw [weightPieces, List.mem_cons, weightPieces_mem m L n q]
    constructor
    · rintro (h | ⟨i, hi, h⟩)
      exacts [⟨n, by omega, h⟩, ⟨i, by omega, h⟩]
    · rintro ⟨i, hi, h⟩
      rcases Nat.lt_succ_iff_lt_or_eq.mp hi with h' | h'
      exacts [Or.inr ⟨i, h', h⟩, Or.inl (h' ▸ h)]

theorem outPieces_mem {F : FTy → Type} [FloatOps F] (p : Parts F) (m : Memref sig .tc .vmem S2x8x128x512 .bf16) (L : List (View.Piece (Elt F) S2x8x128x512 .bf16)) :
    ∀ n q, q ∈ outPieces p m L n ↔ ∃ i < n, q = outPiece p m L i
  | 0, q => by simp [outPieces]
  | n + 1, q => by
    rw [outPieces, List.mem_cons, outPieces_mem p m L n q]
    constructor
    · rintro (h | ⟨i, hi, h⟩)
      exacts [⟨n, by omega, h⟩, ⟨i, by omega, h⟩]
    · rintro ⟨i, hi, h⟩
      rcases Nat.lt_succ_iff_lt_or_eq.mp hi with h' | h'
      exacts [Or.inr ⟨i, h', h⟩, Or.inl (h' ▸ h)]

theorem idx4_eq {a b c d : Nat} (x : (⟨4, ![a, b, c, d]⟩ : Shape).Idx) : x = ix4 (x 0) (x 1) (x 2) (x 3) := by
  funext i
  match i with
  | ⟨0, _⟩ => rfl
  | ⟨1, _⟩ => rfl
  | ⟨2, _⟩ => rfl
  | ⟨3, _⟩ => rfl

theorem idx2_eq {a b : Nat} (x : (⟨2, ![a, b]⟩ : Shape).Idx) : x = ix2 (x 0) (x 1) := by
  funext i
  match i with
  | ⟨0, _⟩ => rfl
  | ⟨1, _⟩ => rfl

theorem idx_one_one {c d : Nat} (x : (⟨4, ![1, 1, c, d]⟩ : Shape).Idx) : ∃ (r : Fin c) (k : Fin d), x = ix4 0 0 r k := by
  have h : ∀ i : Fin 1, i = 0 := fun i => Subsingleton.elim _ _
  refine ⟨x 2, x 3, (idx4_eq x).trans ?_⟩
  exact congr (congr (congr (congrArg ix4 (h (x 0))) (h (x 1))) rfl) rfl

/-- The scores array at an index. -/
theorem canon_scores (p : Parts Ideal) (y : S2x8x128x512.Idx) :
    View.canon (scorePieces p 16) y = sc p (y 0 : Nat) (y 1 : Nat) (y 2) (y 3) := by
  refine View.canon_apply_of_pieces (fun y : S2x8x128x512.Idx => sc p (y 0 : Nat) (y 1 : Nat) (y 2) (y 3)) (scorePieces p 16) ?_ y ?_
  · intro q hq x
    obtain ⟨n, hn, rfl⟩ := (scorePieces_mem p 16 q).mp hq
    obtain ⟨r, k, rfl⟩ := idx_one_one (c := 128) (d := 512) x
    have e := fun a => Rect.emb_apply (r := (scorePiece p n).1) (ix4 (0 : Fin 1) (0 : Fin 1) r k) a
    have e0 : (((scorePiece p n).1.emb (ix4 (0 : Fin 1) (0 : Fin 1) r k) 0 : Fin _) : Nat) = n / 8 % 2 := by
      rw [e]; show n / 8 % 2 + 1 * 0 = _; omega
    have e1 : (((scorePiece p n).1.emb (ix4 (0 : Fin 1) (0 : Fin 1) r k) 1 : Fin _) : Nat) = n % 8 := by
      rw [e]; show n % 8 + 1 * 0 = _; omega
    have e2 : ((scorePiece p n).1.emb (ix4 (0 : Fin 1) (0 : Fin 1) r k) 2 : Fin 128) = r := Fin.ext (by
      rw [e]; show 0 + 1 * (r : Nat) = r; omega)
    have e3 : ((scorePiece p n).1.emb (ix4 (0 : Fin 1) (0 : Fin 1) r k) 3 : Fin 512) = k := Fin.ext (by
      rw [e]; show 0 + 1 * (k : Nat) = k; omega)
    refine Eq.trans ?_ (congr (congr (congr (congrArg (sc p) e0) e1) e2) e3).symm
    rfl
  · have h0 := (y 0).2; have h1 := (y 1).2; have h2 := (y 2).2; have h3 := (y 3).2
    change _ < 2 at h0; change _ < 8 at h1; change _ < 128 at h2; change _ < 512 at h3
    refine ⟨scorePiece p (8 * (y 0 : Nat) + (y 1 : Nat)), (scorePieces_mem p 16 _).mpr ⟨_, by omega, rfl⟩, ?_⟩
    refine (Rect.mem_set_unit (inb := inb_scores _)).mpr fun a => ?_
    match a with
    | ⟨0, _⟩ => show (8 * (y 0 : Nat) + (y 1 : Nat)) / 8 % 2 ≤ (y 0 : Nat) ∧ (y 0 : Nat) < (8 * (y 0 : Nat) + (y 1 : Nat)) / 8 % 2 + 1; omega
    | ⟨1, _⟩ => show (8 * (y 0 : Nat) + (y 1 : Nat)) % 8 ≤ (y 1 : Nat) ∧ (y 1 : Nat) < (8 * (y 0 : Nat) + (y 1 : Nat)) % 8 + 1; omega
    | ⟨2, _⟩ => show 0 ≤ (y 2 : Nat) ∧ (y 2 : Nat) < 0 + 128; omega
    | ⟨3, _⟩ => show 0 ≤ (y 3 : Nat) ∧ (y 3 : Nat) < 0 + 512; omega

/-- The weights array at an index. -/
theorem canon_weights (p : Parts Ideal) (m : Memref sig .tc .vmem S2x8x128x512 .f32) (y : S2x8x128x512.Idx) :
    View.canon (weightPieces m (scorePieces p 16) 32) y = wt p (y 0 : Nat) (y 1 : Nat) (y 2) (y 3) := by
  refine View.canon_apply_of_pieces (fun y : S2x8x128x512.Idx => wt p (y 0 : Nat) (y 1 : Nat) (y 2) (y 3)) (weightPieces m (scorePieces p 16) 32) ?_ y ?_
  · intro q hq x
    obtain ⟨n, hn, rfl⟩ := (weightPieces_mem m _ 32 q).mp hq
    obtain ⟨r, k, rfl⟩ := idx_one_one (c := 128) (d := 256) x
    have e := fun a => Rect.emb_apply (r := (weightPiece m (scorePieces p 16) n).1) (ix4 (0 : Fin 1) (0 : Fin 1) r k) a
    have e0 : (((weightPiece m (scorePieces p 16) n).1.emb (ix4 (0 : Fin 1) (0 : Fin 1) r k) 0 : Fin _) : Nat) = n / 16 % 2 := by
      rw [e]; show n / 16 % 2 + 1 * 0 = _; omega
    have e1 : (((weightPiece m (scorePieces p 16) n).1.emb (ix4 (0 : Fin 1) (0 : Fin 1) r k) 1 : Fin _) : Nat) = n / 2 % 8 := by
      rw [e]; show n / 2 % 8 + 1 * 0 = _; omega
    have e2 : ((weightPiece m (scorePieces p 16) n).1.emb (ix4 (0 : Fin 1) (0 : Fin 1) r k) 2 : Fin 128) = r := Fin.ext (by
      rw [e]; show 0 + 1 * (r : Nat) = r; omega)
    have e3 : ((weightPiece m (scorePieces p 16) n).1.emb (ix4 (0 : Fin 1) (0 : Fin 1) r k) 3 : Fin 512) = (⟨n % 2 * 256 + k, by have := k.2; omega⟩ : Fin 512) := Fin.ext (by
      rw [e]; show n % 2 * 256 + 1 * (k : Nat) = n % 2 * 256 + k; omega)
    have rd : ∀ l : Fin 256, m.view.readCov (scorePieces p 16) (Rect.unit (s := S2x8x128x512) ![n / 16 % 2, n / 2 % 8, 0, n % 2 * 256] S1x1x128x256.size (inb_weights n)).toLoadRect (ix4 0 0 r l)
        = sc p (n / 16 % 2) (n / 2 % 8) r ⟨n % 2 * 256 + l, by omega⟩ := by
      intro l
      rw [View.readCov_eq_canon']
      refine (canon_scores p _).trans ?_
      refine congr (congr (congr (congrArg (sc p) ?_) ?_) ?_) ?_
      · show n / 16 % 2 + 1 * 0 = _; omega
      · show n / 2 % 8 + 1 * 0 = _; omega
      · exact Fin.ext (by show 0 + 1 * (r : Nat) = r; omega)
      · exact Fin.ext (by show n % 2 * 256 + 1 * (l : Nat) = n % 2 * 256 + l; omega)
    refine Eq.trans ?_ (congr (congr (congr (congrArg (wt p) e0) e1) e2) e3).symm
    refine (weights_apply _ r k).trans ?_
    show Ideal.exp (_ - Finset.univ.fold max _ _) = Ideal.exp (_ - Finset.univ.fold max _ _)
    congr 2
    · exact rd k
    · congr 1
      funext l
      refine (rd l).trans ?_
      congr 1
      exact Fin.ext (by show n % 2 * 256 + (l : Nat) = (n % 2 * 256 + k) / 256 * 256 + l; omega)
  · have h0 := (y 0).2; have h1 := (y 1).2; have h2 := (y 2).2; have h3 := (y 3).2
    change _ < 2 at h0; change _ < 8 at h1; change _ < 128 at h2; change _ < 512 at h3
    refine ⟨weightPiece m _ (16 * (y 0 : Nat) + 2 * (y 1 : Nat) + (y 3 : Nat) / 256), (weightPieces_mem m _ 32 _).mpr ⟨_, by omega, rfl⟩, ?_⟩
    refine (Rect.mem_set_unit (inb := inb_weights _)).mpr fun a => ?_
    match a with
    | ⟨0, _⟩ => show (16 * (y 0 : Nat) + 2 * (y 1 : Nat) + (y 3 : Nat) / 256) / 16 % 2 ≤ (y 0 : Nat) ∧ (y 0 : Nat) < (16 * (y 0 : Nat) + 2 * (y 1 : Nat) + (y 3 : Nat) / 256) / 16 % 2 + 1; omega
    | ⟨1, _⟩ => show (16 * (y 0 : Nat) + 2 * (y 1 : Nat) + (y 3 : Nat) / 256) / 2 % 8 ≤ (y 1 : Nat) ∧ (y 1 : Nat) < (16 * (y 0 : Nat) + 2 * (y 1 : Nat) + (y 3 : Nat) / 256) / 2 % 8 + 1; omega
    | ⟨2, _⟩ => show 0 ≤ (y 2 : Nat) ∧ (y 2 : Nat) < 0 + 128; omega
    | ⟨3, _⟩ => show (16 * (y 0 : Nat) + 2 * (y 1 : Nat) + (y 3 : Nat) / 256) % 2 * 256 ≤ (y 3 : Nat) ∧ (y 3 : Nat) < (16 * (y 0 : Nat) + 2 * (y 1 : Nat) + (y 3 : Nat) / 256) % 2 * 256 + 256; omega

/-- The output block at an index. -/
theorem canon_outputs (p : Parts Ideal) (m : Memref sig .tc .vmem S2x8x128x512 .f32) (m' : Memref sig .tc .vmem S2x8x128x512 .bf16) (r : Fin 128) (k : Fin 2048) :
    View.canon (outPieces p m' (weightPieces m (scorePieces p 16) 32) 32) (ix2 r k)
      = ov p (r / 64) (k / 128) ⟨r % 64, by omega⟩ ⟨k % 128, by omega⟩ := by
  refine View.canon_apply_of_pieces (fun y : S128x2048.Idx => ov p ((y 0 : Nat) / 64) ((y 1 : Nat) / 128) ⟨(y 0 : Nat) % 64, by omega⟩ ⟨(y 1 : Nat) % 128, by omega⟩) (outPieces p m' (weightPieces m (scorePieces p 16) 32) 32) ?_ (ix2 r k) ?_
  · intro q hq x
    obtain ⟨n, hn, rfl⟩ := (outPieces_mem p m' _ 32 q).mp hq
    obtain ⟨i, l, rfl⟩ : ∃ (i : Fin 64) (l : Fin 128), x = ix2 i l := ⟨x 0, x 1, idx2_eq (a := 64) (b := 128) x⟩
    have e := fun a => Rect.emb_apply (r := (outPiece p m' (weightPieces m (scorePieces p 16) 32) n).1) (ix2 i l) a
    have e0 : (((outPiece p m' (weightPieces m (scorePieces p 16) 32) n).1.emb (ix2 i l) 0 : Fin _) : Nat) = n / 16 % 2 * 64 + i := by
      rw [e]; show n / 16 % 2 * 64 + 1 * (i : Nat) = _; omega
    have e1 : (((outPiece p m' (weightPieces m (scorePieces p 16) 32) n).1.emb (ix2 i l) 1 : Fin _) : Nat) = n % 16 * 128 + l := by
      rw [e]; show n % 16 * 128 + 1 * (l : Nat) = _; omega
    have rd : m'.view.readCov (weightPieces m (scorePieces p 16) 32) (Rect.unit (s := S2x8x128x512) ![n / 2 / 8 % 2, n / 2 % 8, 0, 0] S1x1x128x512.size (inb_scores (n / 2))).toLoadRect
        = fun x : S1x1x128x512.Idx => wt p (n / 16 % 2) (n % 16 / 2) (x 2) (x 3) := by
      funext x
      obtain ⟨r, k, rfl⟩ := idx_one_one (c := 128) (d := 512) x
      rw [View.readCov_eq_canon']
      refine (canon_weights p m _).trans ?_
      refine congr (congr (congr (congrArg (wt p) ?_) ?_) ?_) ?_
      · show n / 2 / 8 % 2 + 1 * 0 = _; omega
      · show n / 2 % 8 + 1 * 0 = _; omega
      · exact Fin.ext (by show 0 + 1 * (r : Nat) = r; omega)
      · exact Fin.ext (by show 0 + 1 * (k : Nat) = k; omega)
    have t0 : (((outPiece p m' (weightPieces m (scorePieces p 16) 32) n).1.emb (ix2 i l) 0 : Fin _) : Nat) / 64 = n / 16 % 2 := by rw [e0]; omega
    have t1 : (((outPiece p m' (weightPieces m (scorePieces p 16) 32) n).1.emb (ix2 i l) 1 : Fin _) : Nat) / 128 = n % 16 := by rw [e1]; omega
    have t2 : (⟨(((outPiece p m' (weightPieces m (scorePieces p 16) 32) n).1.emb (ix2 i l) 0 : Fin _) : Nat) % 64, Nat.mod_lt _ (by decide)⟩ : Fin 64) = i := Fin.ext ((congrArg (· % 64) e0).trans (by show (n / 16 % 2 * 64 + (i : Nat)) % 64 = i; omega))
    have t3 : (⟨(((outPiece p m' (weightPieces m (scorePieces p 16) 32) n).1.emb (ix2 i l) 1 : Fin _) : Nat) % 128, Nat.mod_lt _ (by decide)⟩ : Fin 128) = l := Fin.ext ((congrArg (· % 128) e1).trans (by show (n % 16 * 128 + (l : Nat)) % 128 = l; omega))
    refine Eq.trans ?_ (congr (congr (congr (congrArg (ov p) t0) t1) t2) t3).symm
    show outputs n (products (doubledHead (p.vc (n / 16 % 2)) (n % 16 / 2)) (m'.view.readCov (weightPieces m (scorePieces p 16) 32) (Rect.unit (s := S2x8x128x512) ![n / 2 / 8 % 2, n / 2 % 8, 0, 0] S1x1x128x512.size (inb_scores (n / 2))).toLoadRect)) (ix2 i l) = _
    rw [rd, ov, outputs_apply, outputs_apply]
    congr 2 <;> · congr 1; exact Fin.ext (by show n % 2 * 64 + _ = n % 16 % 2 * 64 + _; omega)
  · have h0 := r.2; have h1 := k.2
    refine ⟨outPiece p m' _ (16 * (r / 64 : Nat) + (k / 128 : Nat)), (outPieces_mem p m' _ 32 _).mpr ⟨_, by omega, rfl⟩, ?_⟩
    refine (Rect.mem_set_unit (inb := inb_out _)).mpr fun a => ?_
    match a with
    | ⟨0, _⟩ => show (16 * (r / 64 : Nat) + (k / 128 : Nat)) / 16 % 2 * 64 ≤ (r : Nat) ∧ (r : Nat) < (16 * (r / 64 : Nat) + (k / 128 : Nat)) / 16 % 2 * 64 + 64; omega
    | ⟨1, _⟩ => show (16 * (r / 64 : Nat) + (k / 128 : Nat)) % 16 * 128 ≤ (k : Nat) ∧ (k : Nat) < (16 * (r / 64 : Nat) + (k / 128 : Nat)) % 16 * 128 + 128; omega

end Cert.Attn

end
-- ==== Proof.Head.lean ====
/- The output of one query row of one head as one formula: exponentials of scores less their largest, times values,
   divided by the exponentials' sum. -/
module

public import proofs.«01_k».proof.Proof.Readback

@[expose] public section

set_option maxRecDepth 16384

noncomputable section

namespace Cert.Attn

open Idealize.ShloMosaic Idealize.ShloMosaic.TcCoe Idealize.ShloMosaic.Tactic
open Cert.KernelIdeal Cert.KernelIdeal.Gen

/-- The score against key `k`, its bias added; past the keys the bias alone. -/
def hz (q : Fin 64 → EReal) (K : Fin 192 → Fin 64 → EReal) (b : Fin 256 → EReal) (k : Fin 256) : EReal :=
  (if h : (k : Nat) < 192 then ∑ d : Fin 64, q d * Ideal.ofBits .f32 1040187392#32 * K ⟨k, h⟩ d else 0) + b k

/-- The weight of key `k`. -/
def hw (q : Fin 64 → EReal) (K : Fin 192 → Fin 64 → EReal) (b : Fin 256 → EReal) (k : Fin 256) : EReal :=
  Ideal.exp (hz q K b k - Finset.univ.fold max (Ideal.ofBits .f32 4286578688#32) (hz q K b))

/-- The output. -/
def headOut (q : Fin 64 → EReal) (K : Fin 192 → Fin 64 → EReal) (V : Fin 192 → EReal) (b : Fin 256 → EReal) : EReal :=
  Ideal.div (∑ k : Fin 256, hw q K b k * (if h : (k : Nat) < 192 then V ⟨k, h⟩ else 0)) (∑ k : Fin 256, hw q K b k)

/-- A sum over two halves of which only one has terms. -/
theorem sum_half {n : Nat} (f : Fin (n + n) → EReal) (x : Nat) (hx : x < 2) (hf : ∀ k : Fin (n + n), (k : Nat) / n ≠ x → f k = 0) :
    ∑ k, f k = ∑ k : Fin n, f ⟨x * n + k, by have := k.2; have : x * n ≤ 1 * n := Nat.mul_le_mul_right n (by omega); omega⟩ := by
  rw [Fin.sum_univ_add]
  rcases (show x = 0 ∨ x = 1 by omega) with rfl | rfl
  · rw [Finset.sum_eq_zero (s := Finset.univ) (f := fun i => f (Fin.natAdd n i)), add_zero]
    · exact Finset.sum_congr rfl fun k _ => congrArg f (Fin.ext (by simp))
    · intro k _
      refine hf _ ?_
      have : ((Fin.natAdd n k : Fin (n + n)) : Nat) = n + k := rfl
      rw [this, Nat.add_div_left _ (by have := k.2; omega)]
      exact Nat.succ_ne_zero _
  · rw [Finset.sum_eq_zero (s := Finset.univ) (f := fun i => f (Fin.castAdd n i)), zero_add]
    · exact Finset.sum_congr rfl fun k _ => congrArg f (Fin.ext (by simp [Nat.add_comm]))
    · intro k _
      refine hf _ ?_
      have : ((Fin.castAdd n k : Fin (n + n)) : Nat) = k := rfl
      rw [this, Nat.div_eq_of_lt k.2]
      omega

theorem sc_eq (p : Parts Ideal) (h a : Nat) (ha : a < 16) (r : Fin 64) (x : Nat) (hx : x < 2) (k : Fin 256) :
    sc p h (a / 2) ⟨a % 2 * 64 + r, by omega⟩ ⟨x * 256 + k, by omega⟩
      = hz (fun e => p.qt h a (ix2 r ⟨x * 64 + e, by omega⟩)) (fun k e => p.kc h (ix2 k ⟨64 * (a / 2) + e, by omega⟩))
          (fun k => p.br h a (ix2 0 ⟨x * 256 + k, by omega⟩)) k := by
  have hj : a / 2 < 8 := by omega
  unfold sc hz
  rw [scores_apply]
  have hq : ∀ d : Fin 128, (if h_1 : a % 2 * 64 + (r : Nat) < 64 then p.qt h (2 * (a / 2)) (ix2 ⟨a % 2 * 64 + (r : Nat), h_1⟩ d)
      else p.qt h (2 * (a / 2) + 1) (ix2 ⟨a % 2 * 64 + (r : Nat) - 64, by omega⟩ d)) = p.qt h a (ix2 r d) := by
    intro d
    rcases Nat.mod_two_eq_zero_or_one a with h2 | h2
    · rw [dif_pos (by omega)]
      rw [show 2 * (a / 2) = a by omega]
      congr 2; exact Fin.ext (by show a % 2 * 64 + (r : Nat) = r; omega)
    · rw [dif_neg (by omega)]
      rw [show 2 * (a / 2) + 1 = a by omega]
      congr 2; exact Fin.ext (by show a % 2 * 64 + (r : Nat) - 64 = r; omega)
  have hb : (if a % 2 * 64 + (r : Nat) < 64 then p.br h (2 * (a / 2)) (ix2 0 ⟨x * 256 + k, by omega⟩)
      else p.br h (2 * (a / 2) + 1) (ix2 0 ⟨x * 256 + k, by omega⟩)) = p.br h a (ix2 0 ⟨x * 256 + k, by omega⟩) := by
    rcases Nat.mod_two_eq_zero_or_one a with h2 | h2
    · rw [if_pos (by omega), show 2 * (a / 2) = a by omega]
    · rw [if_neg (by omega), show 2 * (a / 2) + 1 = a by omega]
  simp only [hq, hb]
  congr 1
  refine (sum_half (n := 64) _ x hx ?_).trans ?_
  · intro d hd
    have hd2 := d.2
    rw [doubledHead_apply _ _ hj]
    rw [dif_neg (by show ¬ (x * 256 + (k : Nat) < 192 ∧ (d : Nat) < 64); omega), dif_neg (by show ¬ (256 ≤ x * 256 + (k : Nat) ∧ x * 256 + (k : Nat) < 448 ∧ 64 ≤ (d : Nat)); omega), mul_zero]
  · by_cases hk : (k : Nat) < 192
    · rw [dif_pos hk]
      refine Finset.sum_congr rfl fun d _ => ?_
      congr 1
      rw [doubledHead_apply _ _ hj]
      have hd := d.2
      rcases (show x = 0 ∨ x = 1 by omega) with rfl | rfl
      · rw [dif_pos (by show 0 * 256 + (k : Nat) < 192 ∧ 0 * 64 + (d : Nat) < 64; omega)]
        congr 2 <;> exact Fin.ext (by simp)
      · rw [dif_neg (by show ¬ (1 * 256 + (k : Nat) < 192 ∧ 1 * 64 + (d : Nat) < 64); omega), dif_pos (by show 256 ≤ 1 * 256 + (k : Nat) ∧ 1 * 256 + (k : Nat) < 448 ∧ 64 ≤ 1 * 64 + (d : Nat); omega)]
        congr 2 <;> exact Fin.ext (by simp)
    · rw [dif_neg hk]
      refine Finset.sum_eq_zero fun d _ => ?_
      rw [doubledHead_apply _ _ hj]
      rw [dif_neg (by show ¬ (x * 256 + (k : Nat) < 192 ∧ x * 64 + (d : Nat) < 64); omega), dif_neg (by show ¬ (256 ≤ x * 256 + (k : Nat) ∧ x * 256 + (k : Nat) < 448 ∧ 64 ≤ x * 64 + (d : Nat)); omega), mul_zero]

theorem wt_eq (p : Parts Ideal) (h a : Nat) (ha : a < 16) (r : Fin 64) (x : Nat) (hx : x < 2) (k : Fin 256) :
    wt p h (a / 2) ⟨a % 2 * 64 + r, by omega⟩ ⟨x * 256 + k, by omega⟩
      = hw (fun e => p.qt h a (ix2 r ⟨x * 64 + e, by omega⟩)) (fun k e => p.kc h (ix2 k ⟨64 * (a / 2) + e, by omega⟩))
          (fun k => p.br h a (ix2 0 ⟨x * 256 + k, by omega⟩)) k := by
  unfold wt hw
  rw [sc_eq p h a ha r x hx k]
  congr 3
  funext l
  rw [← sc_eq p h a ha r x hx l]
  congr 1
  exact Fin.ext (by show (x * 256 + (k : Nat)) / 256 * 256 + (l : Nat) = x * 256 + l; omega)

/-- The output of a pair of heads is the formula at each of its rows and lanes. -/
theorem ov_eq (p : Parts Ideal) (h a : Nat) (ha : a < 16) (r : Fin 64) (d : Fin 128) :
    ov p h a r d = headOut (fun e => p.qt h a (ix2 r ⟨d / 64 * 64 + e, by omega⟩)) (fun k e => p.kc h (ix2 k ⟨64 * (a / 2) + e, by omega⟩))
      (fun k => p.vc h (ix2 k ⟨64 * (a / 2) + d % 64, by omega⟩)) (fun k => p.br h a (ix2 0 ⟨d / 64 * 256 + k, by omega⟩)) := by
  have hj : a / 2 < 8 := by omega
  have hd := d.2
  have hx : (d : Nat) / 64 < 2 := by omega
  unfold ov headOut
  rw [outputs_apply, products_apply, products_apply]
  congr 1
  · refine (sum_half (n := 256) _ ((d : Nat) / 64) hx ?_).trans ?_
    · intro k hk
      rw [dif_pos (by exact hd), doubledHead_apply _ _ hj]
      rw [dif_neg (by show ¬ ((k : Nat) < 192 ∧ (d : Nat) < 64); omega), dif_neg (by show ¬ (256 ≤ (k : Nat) ∧ (k : Nat) < 448 ∧ 64 ≤ (d : Nat)); omega), mul_zero]
    · refine Finset.sum_congr rfl fun k _ => ?_
      refine congrArg₂ (· * ·) (wt_eq p h a ha r _ hx k) ?_
      rw [dif_pos (by exact hd), doubledHead_apply _ _ hj]
      by_cases hk : (k : Nat) < 192
      · rw [dif_pos hk]
        rcases (show (d : Nat) / 64 = 0 ∨ (d : Nat) / 64 = 1 by omega) with h0 | h0
        · rw [dif_pos (by show (d : Nat) / 64 * 256 + (k : Nat) < 192 ∧ (d : Nat) < 64; omega)]
          congr 2
          · exact Fin.ext (by show (d : Nat) / 64 * 256 + (k : Nat) = k; omega)
          · exact Fin.ext (by show 64 * (a / 2) + (d : Nat) = 64 * (a / 2) + d % 64; omega)
        · rw [dif_neg (by show ¬ ((d : Nat) / 64 * 256 + (k : Nat) < 192 ∧ (d : Nat) < 64); omega),
            dif_pos (by show 256 ≤ (d : Nat) / 64 * 256 + (k : Nat) ∧ (d : Nat) / 64 * 256 + (k : Nat) < 448 ∧ 64 ≤ (d : Nat); omega)]
          congr 2
          · exact Fin.ext (by show (d : Nat) / 64 * 256 + (k : Nat) - 256 = k; omega)
          · exact Fin.ext (by show 64 * (a / 2) + ((d : Nat) - 64) = 64 * (a / 2) + d % 64; omega)
      · rw [dif_neg hk, dif_neg (by show ¬ ((d : Nat) / 64 * 256 + (k : Nat) < 192 ∧ (d : Nat) < 64); omega),
          dif_neg (by show ¬ (256 ≤ (d : Nat) / 64 * 256 + (k : Nat) ∧ (d : Nat) / 64 * 256 + (k : Nat) < 448 ∧ 64 ≤ (d : Nat)); omega)]
  · refine (sum_half (n := 256) _ ((d : Nat) / 64) hx ?_).trans ?_
    · intro k hk
      have hk2 := k.2
      rw [dif_neg (by show ¬ 128 + (d : Nat) < 128; omega), chosen_apply,
        if_neg (by show ¬ ((k : Nat) < 256 ↔ 128 + (d : Nat) - 128 < 64); omega), mul_zero]
    · refine Finset.sum_congr rfl fun k _ => ?_
      refine (congrArg₂ (· * ·) (wt_eq p h a ha r _ hx k) ?_).trans (mul_one _)
      rw [dif_neg (by show ¬ 128 + (d : Nat) < 128; omega), chosen_apply,
        if_pos (by show (d : Nat) / 64 * 256 + (k : Nat) < 256 ↔ 128 + (d : Nat) - 128 < 64; omega)]

end Cert.Attn

end
-- ==== Proof.Softmax.lean ====
/- The kernel's head is the reference's: one exponential sum with the sink as a key, and one division at the end. -/
module

public import proofs.«01_k».proof.Proof.RefValue
public import proofs.«01_k».proof.Proof.Head

@[expose] public section

noncomputable section

namespace Cert.Attn

open Idealize.ShloMosaic Idealize.ShloMosaic.Tactic
open Cert.RefRun

/-- A finite extended real. -/
def Fin' (x : EReal) : Prop := ∃ r : ℝ, x = r

theorem eighth : Ideal.ofBits .f32 1040187392#32 = ((1 / 8 : ℝ) : EReal) := by
  simp [Ideal.ofBits, Ideal.ieee, -EReal.coe_mul]
  norm_num

theorem least : Ideal.ofBits .f32 4286578688#32 = ⊥ := by
  simp [Ideal.ofBits, Ideal.ieee]

theorem exp_real (r : ℝ) : Ideal.exp (r : EReal) = (Real.exp r : EReal) := rfl

theorem exp_bot : Ideal.exp ⊥ = 0 := rfl

theorem coe_total {n : Nat} (f : Fin n → ℝ) : ((∑ k, f k : ℝ) : EReal) = ∑ k, (f k : EReal) := by
  have h : ∀ t : Finset (Fin n), ((∑ k ∈ t, f k : ℝ) : EReal) = ∑ k ∈ t, (f k : EReal) := by
    intro t
    induction t using Finset.induction_on with
    | empty => simp
    | insert a t ha ih => rw [Finset.sum_insert ha, Finset.sum_insert ha, EReal.coe_add, ih]
  exact h _

/-- A score over finite queries and keys is finite, and the scale may stand inside or outside the sum. -/
theorem scaled (q K : Fin 64 → EReal) (hq : ∀ d, Fin' (q d)) (hK : ∀ d, Fin' (K d)) :
    ∃ r : ℝ, ∑ d, q d * Ideal.ofBits .f32 1040187392#32 * K d = r ∧ (∑ d, K d * q d) * Ideal.ofBits .f32 1040187392#32 = r := by
  choose qr hqr using hq
  choose Kr hKr using hK
  refine ⟨(∑ d, Kr d * qr d) * (1 / 8), ?_, ?_⟩
  · simp only [hqr, hKr, eighth, ← EReal.coe_mul]
    rw [Finset.sum_mul, ← coe_total]
    exact congrArg _ (Finset.sum_congr rfl fun d _ => by ring)
  · simp only [hqr, hKr, eighth, ← EReal.coe_mul]
    rw [← coe_total, ← EReal.coe_mul]

theorem fold_sup {n : Nat} (f : Fin n → EReal) : Finset.univ.fold max (Ideal.ofBits .f32 4286578688#32) f = Finset.univ.sup f := by
  rw [least]
  rfl

/-- A sum over 256 positions that ends at position 192. -/
theorem sum_ends (f : Fin 256 → EReal) (hf : ∀ k : Fin 256, 192 < (k : Nat) → f k = 0) :
    ∑ k, f k = (∑ k : Fin 192, f ⟨k, by omega⟩) + f 192 := by
  have h := Fin.sum_univ_add (a := 192) (b := 64) (f : Fin (192 + 64) → EReal)
  refine h.trans (congrArg₂ (· + ·) (Finset.sum_congr rfl fun k _ => rfl) ?_)
  rw [Finset.sum_eq_single (0 : Fin 64)]
  · rfl
  · intro k _ hk
    refine hf _ ?_
    have : ((Fin.natAdd 192 k : Fin 256) : Nat) = 192 + k := rfl
    have : (k : Nat) ≠ 0 := fun h => hk (Fin.ext h)
    omega
  · intro h
    exact absurd (Finset.mem_univ _) h

/-- The reference's head as the kernel computes it. -/
theorem head_eq (q : Fin 64 → EReal) (K K' : Fin 192 → Fin 64 → EReal) (V V' : Fin 192 → EReal) (b : Fin 256 → EReal) (ok : Fin 192 → BitVec 1) (s : EReal)
    (hq : ∀ d, Fin' (q d)) (hK : ∀ k, ok k = 1#1 → ∀ d, Fin' (K k d)) (hs : Fin' s)
    (hb : ∀ k : Fin 192, b ⟨k, by omega⟩ = if ok k = 1#1 then 0 else ⊥) (hb' : b 192 = s) (hb'' : ∀ k : Fin 256, 192 < (k : Nat) → b k = ⊥)
    (hKK : ∀ k, ok k = 1#1 → K' k = K k) (hVV : ∀ k, ok k = 1#1 → V' k = V k) :
    headOut q K V b = refHead q K' V' ok s := by
  obtain ⟨sr, rfl⟩ := hs
  have hz1 : ∀ k : Fin 192, hz q K b ⟨k, by omega⟩ = refScore q K' ok k ∧ (if ok k = 1#1 then Fin' (refScore q K' ok k) else refScore q K' ok k = ⊥) := by
    intro k
    unfold hz refScore
    rw [hb k, dif_pos k.2]
    by_cases h : ok k = 1#1
    · obtain ⟨r, h1, h2⟩ := scaled q (K k) hq (hK k h)
      rw [if_pos h, if_pos h, hKK k h, h2, h]
      refine ⟨?_, r, rfl⟩
      rw [add_zero]
      exact h1
    · have h0 : ok k = 0#1 := by
        have : ∀ x : BitVec 1, x ≠ 1#1 → x = 0#1 := by decide
        exact this _ h
      rw [if_neg h, if_neg h, h0, least]
      exact ⟨EReal.add_bot _, rfl⟩
  have hz2 : hz q K b 192 = sr := by
    unfold hz
    rw [dif_neg (by decide), hb', zero_add]
  have hz3 : ∀ k : Fin 256, 192 < (k : Nat) → hz q K b k = ⊥ := by
    intro k hk
    unfold hz
    rw [dif_neg (by omega), hb'' k hk, zero_add]
  have hm : Finset.univ.fold max (Ideal.ofBits .f32 4286578688#32) (hz q K b) = refTop q K' ok sr := by
    unfold refTop
    rw [fold_sup, fold_sup]
    refine le_antisymm (Finset.sup_le fun k _ => ?_) (max_le (Finset.sup_le fun k _ => ?_) ?_)
    · rcases lt_trichotomy (k : Nat) 192 with h | h | h
      · refine le_trans (le_of_eq (hz1 ⟨k, h⟩).1) (le_trans ?_ (le_max_left _ _))
        exact Finset.le_sup (f := refScore q K' ok) (Finset.mem_univ _)
      · have : k = 192 := Fin.ext h
        rw [this, hz2]
        exact le_max_right _ _
      · rw [hz3 k h]
        exact bot_le
    · rw [← (hz1 k).1]
      exact Finset.le_sup (f := hz q K b) (Finset.mem_univ _)
    · rw [← hz2]
      exact Finset.le_sup (f := hz q K b) (Finset.mem_univ _)
  have hmr : ∃ mr : ℝ, refTop q K' ok sr = mr := by
    have h1 : refTop q K' ok sr ≠ ⊥ := fun h => by
      have : (sr : EReal) ≤ refTop q K' ok sr := le_max_right _ _
      rw [h] at this
      exact EReal.coe_ne_bot sr (le_bot_iff.mp this)
    have h2 : refTop q K' ok sr ≠ ⊤ := by
      unfold refTop
      rw [fold_sup]
      refine (max_lt ((Finset.sup_lt_iff (by exact bot_lt_top)).mpr fun k _ => ?_) (EReal.coe_lt_top sr)).ne
      have h := (hz1 k).2
      by_cases hk : ok k = 1#1
      · rw [if_pos hk] at h
        obtain ⟨r, hr⟩ := h
        rw [hr]
        exact EReal.coe_lt_top r
      · rw [if_neg hk] at h
        rw [h]
        exact bot_lt_top
    exact ⟨_, (EReal.coe_toReal h2 h1).symm⟩
  obtain ⟨mr, hmr⟩ := hmr
  have hw1 : ∀ k : Fin 192, hw q K b ⟨k, by omega⟩ = refWeight q K' ok sr k := by
    intro k
    unfold hw refWeight
    rw [hm, (hz1 k).1]
  have hw2 : hw q K b 192 = (Real.exp (sr - mr) : EReal) := by
    unfold hw
    rw [hm, hz2, hmr, ← EReal.coe_sub]
    rfl
  have hw3 : ∀ k : Fin 256, 192 < (k : Nat) → hw q K b k = 0 := by
    intro k hk
    unfold hw
    rw [hm, hz3 k hk, hmr, EReal.bot_sub]
    rfl
  have hw4 : ∀ k : Fin 192, ∃ e : ℝ, 0 ≤ e ∧ refWeight q K' ok sr k = e ∧ (ok k ≠ 1#1 → e = 0) := by
    intro k
    unfold refWeight
    have h := (hz1 k).2
    rw [hmr]
    by_cases hk : ok k = 1#1
    · rw [if_pos hk] at h
      obtain ⟨r, hr⟩ := h
      rw [hr, ← EReal.coe_sub]
      exact ⟨Real.exp (r - mr), (Real.exp_pos _).le, rfl, fun h => absurd hk h⟩
    · rw [if_neg hk] at h
      rw [h, EReal.bot_sub]
      exact ⟨0, le_refl _, rfl, fun _ => rfl⟩
  choose e he0 he hek using hw4
  have hS : ∑ k, hw q K b k = ((∑ k, e k + Real.exp (sr - mr) : ℝ) : EReal) := by
    rw [sum_ends _ hw3, hw2, EReal.coe_add, coe_total]
    exact congrArg (· + _) (Finset.sum_congr rfl fun k _ => (hw1 k).trans (he k))
  have hS' : (∑ l, refWeight q K' ok sr l) + Ideal.exp ((sr : EReal) - refTop q K' ok sr) = ((∑ k, e k + Real.exp (sr - mr) : ℝ) : EReal) := by
    rw [hmr, ← EReal.coe_sub, exp_real, EReal.coe_add, coe_total]
    exact congrArg (· + _) (Finset.sum_congr rfl fun k _ => he k)
  have hpos : 0 < ∑ k, e k + Real.exp (sr - mr) := add_pos_of_nonneg_of_pos (Finset.sum_nonneg fun k _ => he0 k) (Real.exp_pos _)
  have hdiv : ∀ x : EReal, Ideal.div x ((∑ k, e k + Real.exp (sr - mr) : ℝ) : EReal) = x * ((∑ k, e k + Real.exp (sr - mr) : ℝ)⁻¹ : ℝ) := by
    intro x
    unfold Ideal.div
    rw [if_neg (by exact_mod_cast hpos.ne'), EReal.coe_inv]
  unfold headOut refHead
  rw [hS, hS', hdiv]
  simp only [hdiv]
  generalize hD : (∑ k, e k + Real.exp (sr - mr))⁻¹ = D
  have hD0 : 0 ≤ D := hD ▸ (inv_pos.mpr hpos).le
  rw [sum_ends]
  · rw [dif_neg (show ¬ ((192 : Fin 256) : Nat) < 192 by decide), mul_zero, add_zero]
    have hmul : ∀ t : Finset (Fin 192), ∀ f : Fin 192 → EReal, (∑ k ∈ t, f k) * (D : EReal) = ∑ k ∈ t, f k * (D : EReal) := by
      intro t f
      induction t using Finset.induction_on with
      | empty => simp
      | insert a t ha ih =>
        rw [Finset.sum_insert ha, Finset.sum_insert ha, ← ih, mul_comm, EReal.left_distrib_of_nonneg_of_ne_top (by exact_mod_cast hD0) (EReal.coe_ne_top D),
          mul_comm (D : EReal), mul_comm (D : EReal)]
    rw [hmul]
    refine Finset.sum_congr rfl fun k _ => ?_
    rw [hw1 k, dif_pos k.2]
    by_cases hk : ok k = 1#1
    · rw [hVV k hk, mul_comm (refWeight q K' ok sr k), mul_assoc]
    · rw [he, hek k hk]
      simp
  · intro k hk
    rw [hw3 k hk, zero_mul]

end Cert.Attn
-- ==== Proof.PartsAt.lean ====
/- The parts of a point's attention at an index, in what its windows hold. -/
module

public import proofs.«01_k».proof.Proof.Windows
public import proofs.«01_k».proof.Proof.Pieces
public import proofs.«01_k».proof.Proof.Softmax
public import Idealize.ShloMosaic.Lib.WholeRead

@[expose] public section

set_option maxRecDepth 16384

noncomputable section

namespace Cert.Attn

open Idealize.ShloMosaic Idealize.ShloMosaic.TcCoe Idealize.ShloMosaic.Tactic
open Cert.KernelIdeal Cert.KernelIdeal.Gen

theorem biasTable_apply (s : FVec Ideal S32 .f32) (r : Fin 16) (k : Fin 512) : biasTable s (ix2 r k)
    = if k.val % 256 < 192 then 0 else if k.val % 256 = 192 then s (ix1 ⟨2 * r + k / 256, by omega⟩) else ⊥ := by
  pointwise [biasTable]
  by_cases h : (k : Nat) % 256 < 192
  · simp only [dif_pos h, if_pos h]
  · by_cases h' : (k : Nat) % 256 = 192
    · have h2 : (k : Nat) % 256 - 192 < 1 := by omega
      simp only [dif_neg h, if_neg h, dif_pos h2, if_pos h']
      exact congrArg s (congrArg ix1 (Fin.ext (by show (r : Nat) * 2 + k / 256 = 2 * r + k / 256; omega)))
    · have h2 : ¬ (k : Nat) % 256 - 192 < 1 := by omega
      simp only [dif_neg h, if_neg h, dif_neg h2, if_neg h']
      exact least

theorem queryTile_apply (arg5 : Memref sig .tc .vmem S128x2048 .f32) (harg5 : arg5.IsWhole) (x3 : Vec Ideal S128x2048 .f32) (h a : Nat)
    (hh : h < 2) (ha : a < 16) (r : Fin 64) (d : Fin 128) :
    queryTile arg5 harg5 x3 h a (ix2 r d) = x3 (ix2 ⟨h * 64 + r, by omega⟩ ⟨a * 128 + d, by omega⟩) := by
  refine (Memref.IsWhole.readAt_unread harg5 x3 _ _).trans (congrArg x3 (funext fun b => ?_))
  match b with
  | ⟨0, _⟩ => exact Fin.ext (by show (16 * h + a) / 16 % 2 * 64 + 1 * (r : Nat) = h * 64 + r; omega)
  | ⟨1, _⟩ => exact Fin.ext (by show (16 * h + a) % 16 * 128 + 1 * (d : Nat) = a * 128 + d; omega)

theorem biasRow_apply (arg4 : Memref sig .tc .vmem S16x512 .f32) (harg4 : arg4.IsWhole) (x2 : Vec Ideal S16x512 .f32) (a : Nat) (ha : a < 16)
    (k : Fin 512) : biasRow arg4 harg4 x2 a (ix2 0 k) = x2 (ix2 ⟨a, ha⟩ k) := by
  refine (congrFun (shapeCast_id (s := S1x512) (α := EReal) _ _) _).trans ?_
  refine (Memref.IsWhole.readAt_unread harg4 x2 _ _).trans (congrArg x2 (funext fun b => ?_))
  match b with
  | ⟨0, _⟩ => exact Fin.ext (by show a % 16 + 1 * 0 = a; omega)
  | ⟨1, _⟩ => exact Fin.ext (by show 0 + 1 * (k : Nat) = k; omega)

theorem chunk_apply (arg : Memref sig .tc .vmem S64x512 .f32) (harg : arg.IsWhole) (x : Vec Ideal S64x512 .f32) (r : Fin 64) (k : Fin 512) :
    chunk arg harg x (ix2 r k) = x (ix2 r k) := by
  refine (Memref.IsWhole.readAt_unread harg x _ _).trans (congrArg x (funext fun b => ?_))
  match b with
  | ⟨0, _⟩ => exact Fin.ext (by show 0 + 1 * (r : Nat) = r; omega)
  | ⟨1, _⟩ => exact Fin.ext (by show 0 + 1 * (k : Nat) = k; omega)

theorem threeChunks_apply (x y z : FVec Ideal S64x512 .f32) (k : Fin 192) (e : Fin 512) : threeChunks x y z (ix2 k e)
    = if h : (k : Nat) < 64 then x (ix2 ⟨k, h⟩ e) else if h : (k : Nat) - 64 < 64 then y (ix2 ⟨k - 64, h⟩ e) else z (ix2 ⟨k - 64 - 64, by omega⟩ e) := by
  pointwise [threeChunks]

theorem cache_then_chunk (y : FVec Ideal S128x512 .f32) (b : FVec Ideal S64x512 .f32) (k : Fin 192) (e : Fin 512) :
    concatenate S192x512 0 [⟨S128x512, shapeCast S128x512 y shapeCasts_S128x512_S128x512⟩, ⟨S64x512, b⟩] concatenates_S128x512_S64x512_S192x512_d0 (ix2 k e)
      = if h' : (k : Nat) < 128 then y (ix2 ⟨k, h'⟩ e) else b (ix2 ⟨k - 128, by omega⟩ e) := by
  pointwise []

theorem cacheChunk_apply (arg : Memref sig .tc .vmem S256x512 .f32) (harg : arg.IsWhole) (x : Vec Ideal S256x512 .f32) (h : Nat) (hh : h < 2)
    (b : FVec Ideal S64x512 .f32) (k : Fin 192) (e : Fin 512) : cacheChunk arg harg x h b (ix2 k e)
    = if h' : (k : Nat) < 128 then x (ix2 ⟨h * 128 + k, by omega⟩ e) else b (ix2 ⟨k - 128, by omega⟩ e) := by
  have hr : ∀ r : Fin 128, View.readAt (Elt Ideal) arg.view (Rect.unit (s := S256x512) ![h % 2 * 128, 0] S128x512.size (inb_cache h)).toLoadRect (harg.unread x) (ix2 r e)
      = x (ix2 ⟨h * 128 + r, by omega⟩ e) := by
    intro r
    refine (Memref.IsWhole.readAt_unread harg x _ _).trans (congrArg x (funext fun b => ?_))
    match b with
    | ⟨0, _⟩ => exact Fin.ext (by show h % 2 * 128 + 1 * (r : Nat) = h * 128 + r; omega)
    | ⟨1, _⟩ => exact Fin.ext (by show 0 + 1 * (e : Nat) = e; omega)
  refine (cache_then_chunk _ b k e).trans ?_
  split
  · exact hr ⟨k, by assumption⟩
  · rfl

/-- The chunk of a column, among a head's. -/
theorem chunk_of : ∀ k : Fin 512, k0_pay10 0#32 (ix2 0 k) = BitVec.ofNat 32 (k.val % 256 / 64) := by
  intro k
  pointwise [k0_pay10]
  revert k
  decide +kernel

theorem first_chunk (n : BitVec 32) (k : Fin 512) : k0_pay10 n (ix2 0 k) = IntOp.addi n (BitVec.ofNat 32 (k.val % 256 / 64)) := by
  rw [← chunk_of k]
  have h : ∀ w : BitVec 32, IntOp.addi 0#32 w = w := fun w => BitVec.zero_add w
  exact congrArg (IntOp.addi n) (h _).symm

theorem chunkMask_apply (n : BitVec 32) (k : Fin 512) : chunkMask (F := Ideal) n (ix2 0 k)
    = Scalar.select (IntOp.cmpi .sge (IntOp.addi n (BitVec.ofNat 32 (k.val % 256 / 64))) 0#32) (0 : EReal) ⊥ := by
  rw [← first_chunk, ← least]
  unfold chunkMask
  generalize k0_pay10 n = w
  pointwise [k0_pay11]

theorem mask_first : ∀ t : Fin cfg0.N, ∀ j : Fin 4,
    IntOp.cmpi .sge (IntOp.addi (Scalar.subi (pairChunk (grid0.coords t)) 2#32) (BitVec.ofNat 32 j)) 0#32 = if 2 ≤ 2 * t.val + j.val then 1#1 else 0#1 := by
  decide +kernel

theorem mask_second : ∀ t : Fin cfg0.N, ∀ j : Fin 4,
    IntOp.cmpi .sge (IntOp.addi (Scalar.subi (pairChunk (grid0.coords t)) 1#32) (BitVec.ofNat 32 j)) 0#32 = if 1 ≤ 2 * t.val + j.val then 1#1 else 0#1 := by
  decide +kernel

end Cert.Attn
-- ==== Proof.Attend.lean ====
/- The output of a query row of a head, from its parts, is the reference's. -/
module

public import proofs.«01_k».proof.Proof.PartsAt

@[expose] public section

set_option maxRecDepth 16384

noncomputable section

namespace Cert.Attn

open Idealize.ShloMosaic Idealize.ShloMosaic.TcCoe Idealize.ShloMosaic.Tactic
open Cert.KernelIdeal Cert.KernelIdeal.Gen
open Cert.RefRun

theorem at2 {n k : Nat} (f : (⟨2, ![n, k]⟩ : Shape).Idx → EReal) {i i' j j' : Nat} (hi : i < n) (hi' : i' < n) (hj : j < k) (hj' : j' < k)
    (h : i = i') (h' : j = j') : f (ix2 ⟨i, hi⟩ ⟨j, hj⟩) = f (ix2 ⟨i', hi'⟩ ⟨j', hj'⟩) := by
  subst h h'
  rfl

/-- What the bias row holds: nothing at the keys attended to, the sink after the keys, the least value elsewhere. -/
def Biased (p : Parts Ideal) (s : FVec Ideal S32 .f32) (ok : Nat → Prop) [DecidablePred ok] (h a : Nat) (ha : a < 16) : Prop :=
  ∀ (x : Nat) (hx : x < 2) (k : Fin 256), p.br h a (ix2 0 ⟨x * 256 + k, by omega⟩)
    = if (k : Nat) < 192 then (if ok k then 0 else ⊥) else if (k : Nat) = 192 then s (ix1 ⟨2 * a + x, by omega⟩) else ⊥

theorem prompt_out (a2 : FVec Ideal S9216x3072 .f32) (s : FVec Ideal S32 .f32)
    (S E : FVec Ideal Cert.ReferenceIdeal.S1x128x8x4x64x192 .f32) (T D : FVec Ideal Cert.ReferenceIdeal.S1x128x8x4x64x1 .f32)
    (hS : S = v59 (F := Ideal) (v51 (F := Ideal)) (v32 (F := Ideal) (v17 (F := Ideal) a2)) (v20 (F := Ideal) (v16 (F := Ideal) a2)))
    (hT : T = v65 (F := Ideal) S s) (hE : E = v68 (F := Ideal) S T) (hD : D = v74 (F := Ideal) E (v61 (F := Ideal) s) T)
    (fin2 : ∀ (t : Fin 9216) (c : Fin 3072), (c : Nat) < 2560 → Fin' (a2 (ix2 t c))) (fins : ∀ h, Fin' (s (ix1 h)))
    (p : Parts Ideal) (t : Nat) (ht : t < 64) (h : Nat) (hh : h < 2) (a : Nat) (ha : a < 16)
    (hq : ∀ (r : Fin 64) (d : Fin 128), p.qt h a (ix2 r d) = a2 (ix2 ⟨t * 128 + (h * 64 + r), by omega⟩ ⟨a * 128 + d, by omega⟩))
    (hk : ∀ (k : Fin 192) (e : Fin 512), (hok : 128 ≤ (2 * t + h) * 64 + (k : Nat)) →
      p.kc h (ix2 k e) = a2 (ix2 ⟨(2 * t + h) * 64 + k - 128, by omega⟩ ⟨2048 + e, by omega⟩))
    (hv : ∀ (k : Fin 192) (e : Fin 512), (hok : 128 ≤ (2 * t + h) * 64 + (k : Nat)) →
      p.vc h (ix2 k e) = a2 (ix2 ⟨(2 * t + h) * 64 + k - 128, by omega⟩ ⟨2560 + e, by omega⟩))
    (hb : Biased p s (fun k => 128 ≤ (2 * t + h) * 64 + k) h a ha) (r : Fin 64) (d : Fin 128) :
    ov p h a r d = (v79 (F := Ideal) (v36 (F := Ideal) (v18 (F := Ideal) a2)) E D : FVec Ideal Cert.ReferenceIdeal.S1x8192x2048 .f32)
      (ix3 0 ⟨t * 128 + (h * 64 + r), by omega⟩ ⟨a * 128 + d, by omega⟩) := by
  have hr := r.2
  have hd := d.2
  have hn : (t * 128 + (h * 64 + (r : Nat))) / 64 = 2 * t + h := by omega
  have hc : (a * 128 + (d : Nat)) / 64 = 2 * a + d / 64 := by omega
  have hc' : (a * 128 + (d : Nat)) / 256 = a / 2 := by omega
  rw [ov_eq p h a ha r d, prompt_heads _ _ _ _ s S E T D hS hT hE hD]
  have hqq : (fun e : Fin 64 => (p.qt h a (ix2 r ⟨d / 64 * 64 + e, by omega⟩) : EReal))
      = fun e => (v20 (F := Ideal) (v16 (F := Ideal) a2) : FVec Ideal Cert.ReferenceIdeal.S1x8192x32x64 .f32)
          (ix4 0 ⟨t * 128 + (h * 64 + r), by omega⟩ ⟨(a * 128 + (d : Nat)) / 64, by omega⟩ e) := by
    funext e
    rw [hq, queries_apply]
    exact at2 a2 _ _ _ _ rfl (by show a * 128 + (d / 64 * 64 + (e : Nat)) = (a * 128 + (d : Nat)) / 64 * 64 + e; omega)
  rw [hqq]
  refine head_eq _ _ _ _ _ _ _ _ ?_ ?_ (fins _) ?_ ?_ ?_ ?_ ?_
  · intro e
    rw [queries_apply]
    exact fin2 _ _ (by show (a * 128 + (d : Nat)) / 64 * 64 + (e : Nat) < 2560; omega)
  · intro k hok e
    rw [mask_apply] at hok
    have hok' : 128 ≤ (2 * t + h) * 64 + (k : Nat) := by
      by_contra hno
      rw [if_neg (by show ¬ 128 ≤ (t * 128 + (h * 64 + (r : Nat))) / 64 * 64 + (k : Nat); omega)] at hok
      exact absurd hok (by decide)
    show Fin' (p.kc h (ix2 k _))
    rw [hk k _ hok']
    exact fin2 _ _ (by show 2048 + (64 * (a / 2) + (e : Nat)) < 2560; omega)
  · intro k
    rw [mask_apply]
    have := hb (d / 64) (by omega) ⟨k, by omega⟩
    refine this.trans ?_
    rw [if_pos k.2]
    by_cases hok : 128 ≤ (2 * t + h) * 64 + (k : Nat)
    · rw [if_pos hok, if_pos (by rw [if_pos (by show 128 ≤ (t * 128 + (h * 64 + (r : Nat))) / 64 * 64 + (k : Nat); omega)])]
    · rw [if_neg hok, if_neg (by rw [if_neg (by show ¬ 128 ≤ (t * 128 + (h * 64 + (r : Nat))) / 64 * 64 + (k : Nat); omega)]; decide)]
  · have := hb (d / 64) (by omega) ⟨192, by omega⟩
    refine this.trans ?_
    rw [if_neg (by show ¬ (192 : Nat) < 192; omega), if_pos rfl]
    exact congrArg s (congrArg ix1 (Fin.ext hc.symm))
  · intro k hk'
    have := hb (d / 64) (by omega) k
    refine this.trans ?_
    rw [if_neg (by omega), if_neg (by omega)]
  · intro k hok
    rw [mask_apply] at hok
    have hok' : 128 ≤ (2 * t + h) * 64 + (k : Nat) := by
      by_contra hno
      rw [if_neg (by show ¬ 128 ≤ (t * 128 + (h * 64 + (r : Nat))) / 64 * 64 + (k : Nat); omega)] at hok
      exact absurd hok (by decide)
    funext e
    rw [kwin_apply, dif_pos (by show 128 ≤ (t * 128 + (h * 64 + (r : Nat))) / 64 * 64 + (k : Nat); omega), hk k _ hok']
    exact at2 a2 _ _ _ _ (by show (t * 128 + (h * 64 + (r : Nat))) / 64 * 64 + (k : Nat) - 128 = _; omega)
      (by show 2048 + ((a * 128 + (d : Nat)) / 256 * 64 + (e : Nat)) = 2048 + (64 * (a / 2) + (e : Nat)); omega)
  · intro k hok
    rw [mask_apply] at hok
    have hok' : 128 ≤ (2 * t + h) * 64 + (k : Nat) := by
      by_contra hno
      rw [if_neg (by show ¬ 128 ≤ (t * 128 + (h * 64 + (r : Nat))) / 64 * 64 + (k : Nat); omega)] at hok
      exact absurd hok (by decide)
    rw [vwin_apply, dif_pos (by show 128 ≤ (t * 128 + (h * 64 + (r : Nat))) / 64 * 64 + (k : Nat); omega), hv k _ hok']
    exact at2 a2 _ _ _ _ (by show (t * 128 + (h * 64 + (r : Nat))) / 64 * 64 + (k : Nat) - 128 = _; omega)
      (by show 2560 + ((a * 128 + (d : Nat)) / 256 * 64 + (a * 128 + (d : Nat)) % 64) = 2560 + (64 * (a / 2) + (d : Nat) % 64); omega)

theorem sample_out (a2 : FVec Ideal S9216x3072 .f32) (a3 a4 : FVec Ideal S16x128x8x64 .f32) (s : FVec Ideal S32 .f32)
    (S E : FVec Ideal Cert.ReferenceIdeal.S16x1x8x4x64x192 .f32) (T D : FVec Ideal Cert.ReferenceIdeal.S16x1x8x4x64x1 .f32)
    (hS : S = v98 (F := Ideal) (v90 (F := Ideal)) (v87 (F := Ideal) a3 (v17 (F := Ideal) a2)) (v81 (F := Ideal) (v16 (F := Ideal) a2)))
    (hT : T = v104 (F := Ideal) S s) (hE : E = v107 (F := Ideal) S T) (hD : D = v113 (F := Ideal) E (v100 (F := Ideal) s) T)
    (fin2 : ∀ (t : Fin 9216) (c : Fin 3072), (c : Nat) < 2560 → Fin' (a2 (ix2 t c))) (fin3 : ∀ u k j d, Fin' (a3 (ix4 u k j d))) (fins : ∀ h, Fin' (s (ix1 h)))
    (p : Parts Ideal) (u : Nat) (hu : u < 16) (h : Nat) (hh : h < 2) (a : Nat) (ha : a < 16)
    (hq : ∀ (r : Fin 64) (d : Fin 128), p.qt h a (ix2 r d) = a2 (ix2 ⟨8192 + (u * 64 + r), by omega⟩ ⟨a * 128 + d, by omega⟩))
    (hk : ∀ (k : Fin 192) (e : Fin 512), p.kc h (ix2 k e) = if h : (k : Nat) < 128 then a3 (ix4 ⟨u, hu⟩ ⟨k, h⟩ ⟨e / 64, by omega⟩ ⟨e % 64, by omega⟩)
      else a2 (ix2 ⟨8192 + (u * 64 + (k - 128)), by omega⟩ ⟨2048 + e, by omega⟩))
    (hv : ∀ (k : Fin 192) (e : Fin 512), p.vc h (ix2 k e) = if h : (k : Nat) < 128 then a4 (ix4 ⟨u, hu⟩ ⟨k, h⟩ ⟨e / 64, by omega⟩ ⟨e % 64, by omega⟩)
      else a2 (ix2 ⟨8192 + (u * 64 + (k - 128)), by omega⟩ ⟨2560 + e, by omega⟩))
    (hb : Biased p s (fun _ => True) h a ha) (r : Fin 64) (d : Fin 128) :
    ov p h a r d = (v118 (F := Ideal) (v89 (F := Ideal) a4 (v18 (F := Ideal) a2)) E D : FVec Ideal Cert.ReferenceIdeal.S16x64x2048 .f32)
      (ix3 ⟨u, hu⟩ r ⟨a * 128 + d, by omega⟩) := by
  have hr := r.2
  have hd := d.2
  have hc : (a * 128 + (d : Nat)) / 64 = 2 * a + d / 64 := by omega
  rw [ov_eq p h a ha r d, sample_heads _ _ _ _ s S E T D hS hT hE hD]
  have hqq : (fun e : Fin 64 => (p.qt h a (ix2 r ⟨d / 64 * 64 + e, by omega⟩) : EReal))
      = fun e => (v81 (F := Ideal) (v16 (F := Ideal) a2) : FVec Ideal Cert.ReferenceIdeal.S16x64x32x64 .f32)
          (ix4 ⟨u, hu⟩ r ⟨(a * 128 + (d : Nat)) / 64, by omega⟩ e) := by
    funext e
    rw [hq, squeries_apply]
    exact at2 a2 _ _ _ _ rfl (by show a * 128 + (d / 64 * 64 + (e : Nat)) = (a * 128 + (d : Nat)) / 64 * 64 + e; omega)
  rw [hqq]
  refine head_eq _ _ _ _ _ _ _ _ ?_ ?_ (fins _) ?_ ?_ ?_ ?_ ?_
  · intro e
    rw [squeries_apply]
    exact fin2 _ _ (by show (a * 128 + (d : Nat)) / 64 * 64 + (e : Nat) < 2560; omega)
  · intro k _ e
    show Fin' (p.kc h (ix2 k _))
    rw [hk]
    split
    · exact fin3 _ _ _ _
    · exact fin2 _ _ (by show 2048 + (64 * (a / 2) + (e : Nat)) < 2560; omega)
  · intro k
    rw [smask_apply, if_pos rfl]
    refine (hb (d / 64) (by omega) ⟨k, by omega⟩).trans ?_
    rw [if_pos k.2, if_pos trivial]
  · refine (hb (d / 64) (by omega) ⟨192, by omega⟩).trans ?_
    rw [if_neg (by show ¬ (192 : Nat) < 192; omega), if_pos rfl]
    exact congrArg s (congrArg ix1 (Fin.ext hc.symm))
  · intro k hk'
    refine (hb (d / 64) (by omega) k).trans ?_
    rw [if_neg (by omega), if_neg (by omega)]
  · intro k _
    funext e
    rw [skeys_apply, hk]
    split
    · refine congrArg a3 (congrArg₂ (ix4 _ _) (Fin.ext ?_) (Fin.ext ?_))
      · show (a * 128 + (d : Nat)) / 256 = (64 * (a / 2) + (e : Nat)) / 64
        omega
      · show (e : Nat) = (64 * (a / 2) + (e : Nat)) % 64
        omega
    · exact at2 a2 _ _ _ _ rfl (by show 2048 + ((a * 128 + (d : Nat)) / 256 * 64 + (e : Nat)) = 2048 + (64 * (a / 2) + (e : Nat)); omega)
  · intro k _
    rw [svals_apply, hv]
    split
    · refine congrArg a4 (congrArg₂ (ix4 _ _) (Fin.ext ?_) (Fin.ext ?_))
      · show (a * 128 + (d : Nat)) / 256 = (64 * (a / 2) + (d : Nat) % 64) / 64
        omega
      · show (a * 128 + (d : Nat)) % 64 = (64 * (a / 2) + (d : Nat) % 64) % 64
        omega
    · exact at2 a2 _ _ _ _ rfl (by show 2560 + ((a * 128 + (d : Nat)) / 256 * 64 + (a * 128 + (d : Nat)) % 64) = 2560 + (64 * (a / 2) + (d : Nat) % 64); omega)

end Cert.Attn
-- ==== Proof.Points.lean ====
/- What a point's attention writes, from what its windows hold: the reference's rows. -/
module

public import proofs.«01_k».proof.Proof.Attend

@[expose] public section

set_option maxRecDepth 16384

noncomputable section

namespace Cert.Attn

open Idealize.ShloMosaic Idealize.ShloMosaic.TcCoe Idealize.ShloMosaic.Tactic
open Cert.KernelIdeal Cert.KernelIdeal.Gen
open Cert.RefRun

theorem out15_A (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (hc0 : cond0_0 i) (hc1 : cond0_1 i) (hc2 : ¬cond0_2 i) (hc3 : ¬cond0_3 i) (x0 : Vec Ideal S1024x4096 .bf16) (x1 : Vec Ideal S4096x512 .f32) (x2 : Vec Ideal S16x512 .f32) (x3 : Vec Ideal S128x2048 .f32) (x4 : Vec Ideal S64x512 .f32) (x5 : Vec Ideal S64x512 .f32) (x6 : Vec Ideal S64x512 .f32) (x7 : Vec Ideal S64x512 .f32) (x8 : Vec Ideal S64x512 .f32) (x9 : Vec Ideal S64x512 .f32) (x10 : Vec Ideal S64x512 .f32) (x11 : Vec Ideal S64x512 .f32) (x12 : Vec Ideal S256x512 .f32) (x13 : Vec Ideal S256x512 .f32) (r : Fin 128) (k : Fin 2048) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 (ix2 r k) = ov (promptParts i arg4 harg4 arg5 harg5 arg6 harg6 arg7 harg7 arg8 harg8 arg9 harg9 arg10 harg10 arg11 harg11 arg12 harg12 arg13 harg13 x2 x3 x4 x5 x6 x7 x8 x9 x10 x11) (r / 64) (k / 128) ⟨r % 64, by omega⟩ ⟨k % 128, by omega⟩ := by
  unfold out0_A_15
  rw [View.read_writes_junk_eq_canon, outputs_A, weights_A c i arg4 harg4 arg5 harg5 arg6 harg6 arg7 harg7 arg8 harg8 arg9 harg9 arg10 harg10 arg11 harg11 arg12 harg12 arg13 harg13 arg19 x2 x3 x4 x5 x6 x7 x8 x9 x10 x11, scores_A c i arg4 harg4 arg5 harg5 arg6 harg6 arg7 harg7 arg8 harg8 arg9 harg9 arg10 harg10 arg11 harg11 arg12 harg12 arg13 harg13 arg19 x2 x3 x4 x5 x6 x7 x8 x9 x10 x11]
  exact canon_outputs _ _ _ r k

theorem out15_B (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (hc0 : ¬cond0_0 i) (hc1 : cond0_1 i) (hc2 : ¬cond0_2 i) (hc3 : ¬cond0_3 i) (x0 : Vec Ideal S1024x4096 .bf16) (x1 : Vec Ideal S4096x512 .f32) (x2 : Vec Ideal S16x512 .f32) (x3 : Vec Ideal S128x2048 .f32) (x4 : Vec Ideal S64x512 .f32) (x5 : Vec Ideal S64x512 .f32) (x6 : Vec Ideal S64x512 .f32) (x7 : Vec Ideal S64x512 .f32) (x8 : Vec Ideal S64x512 .f32) (x9 : Vec Ideal S64x512 .f32) (x10 : Vec Ideal S64x512 .f32) (x11 : Vec Ideal S64x512 .f32) (x12 : Vec Ideal S256x512 .f32) (x13 : Vec Ideal S256x512 .f32) (xs0 : Vec Ideal S4096x512 .bf16) (r : Fin 128) (k : Fin 2048) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 xs0 (ix2 r k) = ov (promptParts i arg4 harg4 arg5 harg5 arg6 harg6 arg7 harg7 arg8 harg8 arg9 harg9 arg10 harg10 arg11 harg11 arg12 harg12 arg13 harg13 x2 x3 x4 x5 x6 x7 x8 x9 x10 x11) (r / 64) (k / 128) ⟨r % 64, by omega⟩ ⟨k % 128, by omega⟩ := by
  unfold out0_B_15
  rw [View.read_writes_junk_eq_canon, outputs_B, weights_B c i arg4 harg4 arg5 harg5 arg6 harg6 arg7 harg7 arg8 harg8 arg9 harg9 arg10 harg10 arg11 harg11 arg12 harg12 arg13 harg13 arg19 x2 x3 x4 x5 x6 x7 x8 x9 x10 x11, scores_B c i arg4 harg4 arg5 harg5 arg6 harg6 arg7 harg7 arg8 harg8 arg9 harg9 arg10 harg10 arg11 harg11 arg12 harg12 arg13 harg13 arg19 x2 x3 x4 x5 x6 x7 x8 x9 x10 x11]
  exact canon_outputs _ _ _ r k

theorem out15_C (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (hc0 : ¬cond0_0 i) (hc1 : ¬cond0_1 i) (hc2 : cond0_2 i) (hc3 : ¬cond0_3 i) (x0 : Vec Ideal S1024x4096 .bf16) (x1 : Vec Ideal S4096x512 .f32) (x2 : Vec Ideal S16x512 .f32) (x3 : Vec Ideal S128x2048 .f32) (x4 : Vec Ideal S64x512 .f32) (x5 : Vec Ideal S64x512 .f32) (x6 : Vec Ideal S64x512 .f32) (x7 : Vec Ideal S64x512 .f32) (x8 : Vec Ideal S64x512 .f32) (x9 : Vec Ideal S64x512 .f32) (x10 : Vec Ideal S64x512 .f32) (x11 : Vec Ideal S64x512 .f32) (x12 : Vec Ideal S256x512 .f32) (x13 : Vec Ideal S256x512 .f32) (xs0 : Vec Ideal S4096x512 .bf16) (r : Fin 128) (k : Fin 2048) :
    out0_C_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 xs0 (ix2 r k) = ov (sampleParts arg4 harg4 arg5 harg5 arg8 harg8 arg9 harg9 arg12 harg12 arg13 harg13 arg14 harg14 arg15 harg15 x2 x3 x6 x7 x10 x11 x12 x13) (r / 64) (k / 128) ⟨r % 64, by omega⟩ ⟨k % 128, by omega⟩ := by
  unfold out0_C_15
  rw [View.read_writes_junk_eq_canon, outputs_C, weights_C c arg4 harg4 arg5 harg5 arg8 harg8 arg9 harg9 arg12 harg12 arg13 harg13 arg14 harg14 arg15 harg15 arg19 x2 x3 x6 x7 x10 x11 x12 x13, scores_C c arg4 harg4 arg5 harg5 arg8 harg8 arg9 harg9 arg12 harg12 arg13 harg13 arg14 harg14 arg15 harg15 arg19 x2 x3 x6 x7 x10 x11 x12 x13]
  exact canon_outputs _ _ _ r k

variable (m : (ℓ : Loc nD τ sig) → Buf (Elt Ideal) ℓ) (c : Dev nD)

theorem bias_at (t : Fin cfg0.N) (arg4 : Memref sig .tc .vmem S16x512 .f32) (harg4 : arg4.IsWhole) (a : Nat) (ha : a < 16) (x : Nat) (hx : x < 2) (k : Fin 256) :
    biasRow arg4 harg4 (iblk m c 2 t) a (ix2 0 ⟨x * 256 + k, by omega⟩)
      = if (k : Nat) < 192 then (0 : EReal) else if (k : Nat) = 192 then (m ((c : Thread nD τ).loc main_arg5) : FVec Ideal S32 .f32) (ix1 ⟨2 * a + x, by omega⟩) else ⊥ := by
  rw [biasRow_apply arg4 harg4 _ a ha]
  refine (bias_block m c t ⟨a, ha⟩ ⟨x * 256 + k, by omega⟩).trans ?_
  rw [entry_v7]
  refine (biasTable_apply (m ((c : Thread nD τ).loc main_arg5)) ⟨a, ha⟩ ⟨x * 256 + k, by omega⟩).trans ?_
  have h1 : (x * 256 + (k : Nat)) % 256 = k := by omega
  have h2 : (x * 256 + (k : Nat)) / 256 = x := by omega
  simp only [h1, h2]

theorem masked (f : FVec Ideal S1x512 .f32) (n : BitVec 32) (N : Nat) (a x : Nat) (hx : x < 2) (k : Fin 256) (z s : EReal) (b : Nat)
    (hn : ∀ j : Fin 4, IntOp.cmpi .sge (IntOp.addi n (BitVec.ofNat 32 j)) 0#32 = if b ≤ N + j.val then 1#1 else 0#1) (hb : b ≤ N + 3)
    (hf : f (ix2 0 ⟨x * 256 + k, by omega⟩) = if (k : Nat) < 192 then (0 : EReal) else if (k : Nat) = 192 then s else ⊥) :
    addf f (chunkMask n) (ix2 0 ⟨x * 256 + k, by omega⟩)
      = if (k : Nat) < 192 then (if b * 64 ≤ N * 64 + k then 0 else ⊥) else if (k : Nat) = 192 then s else ⊥ := by
  show (f (ix2 0 ⟨x * 256 + k, _⟩) : EReal) + chunkMask (F := Ideal) n (ix2 0 ⟨x * 256 + k, _⟩) = _
  rw [hf, chunkMask_apply]
  have h1 : (x * 256 + (k : Nat)) % 256 / 64 = k / 64 := by omega
  have h2 := hn ⟨k / 64, by omega⟩
  simp only [h1]
  rw [h2]
  by_cases hk : (k : Nat) < 192
  · rw [if_pos hk, if_pos hk, zero_add]
    by_cases hb' : b ≤ N + (k : Nat) / 64
    · rw [if_pos hb', if_pos (by omega)]
      rfl
    · rw [if_neg hb', if_neg (by omega)]
      rfl
  · have hb' : b ≤ N + (k : Nat) / 64 := by omega
    rw [if_neg hk, if_neg hk, if_pos hb']
    exact add_zero _

theorem prompt_at (t : Fin cfg0.N) (ht : (t : Nat) < 64) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole)
    (S E : FVec Ideal Cert.ReferenceIdeal.S1x128x8x4x64x192 .f32) (T D : FVec Ideal Cert.ReferenceIdeal.S1x128x8x4x64x1 .f32)
    (hS : S = v59 (F := Ideal) (v51 (F := Ideal)) (v32 (F := Ideal) (v17 (F := Ideal) (m ((c : Thread nD τ).loc main_arg2)))) (v20 (F := Ideal) (v16 (F := Ideal) (m ((c : Thread nD τ).loc main_arg2)))))
    (hT : T = v65 (F := Ideal) S (m ((c : Thread nD τ).loc main_arg5))) (hE : E = v68 (F := Ideal) S T)
    (hD : D = v74 (F := Ideal) E (v61 (F := Ideal) (m ((c : Thread nD τ).loc main_arg5))) T)
    (fin2 : ∀ (t : Fin 9216) (c' : Fin 3072), (c' : Nat) < 2560 → Fin' ((m ((c : Thread nD τ).loc main_arg2) : FVec Ideal S9216x3072 .f32) (ix2 t c')))
    (fins : ∀ h, Fin' ((m ((c : Thread nD τ).loc main_arg5) : FVec Ideal S32 .f32) (ix1 h)))
    (r : Fin 128) (k : Fin 2048) :
    ov (promptParts (grid0.coords t) arg4 harg4 arg5 harg5 arg6 harg6 arg7 harg7 arg8 harg8 arg9 harg9 arg10 harg10 arg11 harg11 arg12 harg12 arg13 harg13 (iblk m c 2 t) (X0_3 m c t) (iblk m c 4 t) (iblk m c 5 t) (iblk m c 6 t) (iblk m c 7 t) (iblk m c 8 t) (iblk m c 9 t) (iblk m c 10 t) (iblk m c 11 t)) (r / 64) (k / 128) ⟨r % 64, by omega⟩ ⟨k % 128, by omega⟩
      = (v79 (F := Ideal) (v36 (F := Ideal) (v18 (F := Ideal) (m ((c : Thread nD τ).loc main_arg2)))) E D : FVec Ideal Cert.ReferenceIdeal.S1x8192x2048 .f32)
          (ix3 0 ⟨t * 128 + r, by omega⟩ k) := by
  have hr := r.2
  have hk := k.2
  refine (prompt_out (m ((c : Thread nD τ).loc main_arg2)) (m ((c : Thread nD τ).loc main_arg5)) S E T D hS hT hE hD fin2 fins _ t ht (r / 64) (by omega)
    (k / 128) (by omega) ?_ ?_ ?_ ?_ _ _).trans ?_
  · intro r' d
    exact (queryTile_apply _ _ _ _ _ (by omega) (by omega) r' d).trans (blk3 m c t _ _)
  · intro k e hok
    have hk' := k.2
    rcases (show (r : Nat) / 64 = 0 ∨ (r : Nat) / 64 = 1 by omega) with h0 | h0
    · simp only [h0] at hok ⊢
      refine (threeChunks_apply _ _ _ k e).trans ?_
      split
      · exact (chunk_apply _ _ _ ⟨k, _⟩ e).trans ((blk4 m c t ⟨k, _⟩ e).trans (at2 _ _ _ _ _ (by show (2 * (t : Nat) - 2) * 64 + (k : Nat) = (2 * (t : Nat) + 0) * 64 + k - 128; omega) rfl))
      · split
        · exact (chunk_apply _ _ _ ⟨k - 64, _⟩ e).trans ((blk5 m c t ⟨k - 64, _⟩ e).trans (at2 _ _ _ _ _ (by show (2 * (t : Nat) - 1) * 64 + ((k : Nat) - 64) = (2 * (t : Nat) + 0) * 64 + k - 128; omega) rfl))
        · exact (chunk_apply _ _ _ ⟨k - 64 - 64, _⟩ e).trans ((blk6 m c t ⟨k - 64 - 64, _⟩ e).trans (at2 _ _ _ _ _ (by show (2 * (t : Nat)) * 64 + ((k : Nat) - 64 - 64) = (2 * (t : Nat) + 0) * 64 + k - 128; omega) rfl))
    · simp only [h0] at hok ⊢
      refine (threeChunks_apply _ _ _ k e).trans ?_
      split
      · exact (chunk_apply _ _ _ ⟨k, _⟩ e).trans ((blk5 m c t ⟨k, _⟩ e).trans (at2 _ _ _ _ _ (by show (2 * (t : Nat) - 1) * 64 + (k : Nat) = (2 * (t : Nat) + 1) * 64 + k - 128; omega) rfl))
      · split
        · exact (chunk_apply _ _ _ ⟨k - 64, _⟩ e).trans ((blk6 m c t ⟨k - 64, _⟩ e).trans (at2 _ _ _ _ _ (by show (2 * (t : Nat)) * 64 + ((k : Nat) - 64) = (2 * (t : Nat) + 1) * 64 + k - 128; omega) rfl))
        · exact (chunk_apply _ _ _ ⟨k - 64 - 64, _⟩ e).trans ((blk7 m c t ⟨k - 64 - 64, _⟩ e).trans (at2 _ _ _ _ _ (by show (2 * (t : Nat) + 1) * 64 + ((k : Nat) - 64 - 64) = (2 * (t : Nat) + 1) * 64 + k - 128; omega) rfl))
  · intro k e hok
    have hk' := k.2
    rcases (show (r : Nat) / 64 = 0 ∨ (r : Nat) / 64 = 1 by omega) with h0 | h0
    · simp only [h0] at hok ⊢
      refine (threeChunks_apply _ _ _ k e).trans ?_
      split
      · exact (chunk_apply _ _ _ ⟨k, _⟩ e).trans ((blk8 m c t ⟨k, _⟩ e).trans (at2 _ _ _ _ _ (by show (2 * (t : Nat) - 2) * 64 + (k : Nat) = (2 * (t : Nat) + 0) * 64 + k - 128; omega) rfl))
      · split
        · exact (chunk_apply _ _ _ ⟨k - 64, _⟩ e).trans ((blk9 m c t ⟨k - 64, _⟩ e).trans (at2 _ _ _ _ _ (by show (2 * (t : Nat) - 1) * 64 + ((k : Nat) - 64) = (2 * (t : Nat) + 0) * 64 + k - 128; omega) rfl))
        · exact (chunk_apply _ _ _ ⟨k - 64 - 64, _⟩ e).trans ((blk10 m c t ⟨k - 64 - 64, _⟩ e).trans (at2 _ _ _ _ _ (by show (2 * (t : Nat)) * 64 + ((k : Nat) - 64 - 64) = (2 * (t : Nat) + 0) * 64 + k - 128; omega) rfl))
    · simp only [h0] at hok ⊢
      refine (threeChunks_apply _ _ _ k e).trans ?_
      split
      · exact (chunk_apply _ _ _ ⟨k, _⟩ e).trans ((blk9 m c t ⟨k, _⟩ e).trans (at2 _ _ _ _ _ (by show (2 * (t : Nat) - 1) * 64 + (k : Nat) = (2 * (t : Nat) + 1) * 64 + k - 128; omega) rfl))
      · split
        · exact (chunk_apply _ _ _ ⟨k - 64, _⟩ e).trans ((blk10 m c t ⟨k - 64, _⟩ e).trans (at2 _ _ _ _ _ (by show (2 * (t : Nat)) * 64 + ((k : Nat) - 64) = (2 * (t : Nat) + 1) * 64 + k - 128; omega) rfl))
        · exact (chunk_apply _ _ _ ⟨k - 64 - 64, _⟩ e).trans ((blk11 m c t ⟨k - 64 - 64, _⟩ e).trans (at2 _ _ _ _ _ (by show (2 * (t : Nat) + 1) * 64 + ((k : Nat) - 64 - 64) = (2 * (t : Nat) + 1) * 64 + k - 128; omega) rfl))
  · intro x hx k'
    rcases (show (r : Nat) / 64 = 0 ∨ (r : Nat) / 64 = 1 by omega) with h0 | h0
    · simp only [h0]
      refine (masked _ _ (2 * t) (k / 128) x hx k' 0 _ 2 (mask_first t) (by omega) (bias_at m c t _ _ _ (by omega) x hx k')).trans ?_
      rfl
    · simp only [h0]
      refine (masked _ _ (2 * t) (k / 128) x hx k' 0 _ 1 (mask_second t) (by omega) (bias_at m c t _ _ _ (by omega) x hx k')).trans ?_
      have : (1 * 64 ≤ 2 * (t : Nat) * 64 + k') = (128 ≤ (2 * (t : Nat) + 1) * 64 + k') := propext (by omega)
      simp only [this]
  · refine congrArg₂ (ix3 0 · ·) ?_ ?_ |> congrArg _
    · exact Fin.ext (by show (t : Nat) * 128 + ((r : Nat) / 64 * 64 + (r : Nat) % 64) = t * 128 + r; omega)
    · exact Fin.ext (by show (k : Nat) / 128 * 128 + (k : Nat) % 128 = k; omega)

theorem at4 {n k j l : Nat} (f : (⟨4, ![n, k, j, l]⟩ : Shape).Idx → EReal) {a a' b b' d d' e e' : Nat} (ha : a < n) (ha' : a' < n) (hb : b < k) (hb' : b' < k)
    (hd : d < j) (hd' : d' < j) (he : e < l) (he' : e' < l) (h1 : a = a') (h2 : b = b') (h3 : d = d') (h4 : e = e') :
    f (ix4 ⟨a, ha⟩ ⟨b, hb⟩ ⟨d, hd⟩ ⟨e, he⟩) = f (ix4 ⟨a', ha'⟩ ⟨b', hb'⟩ ⟨d', hd'⟩ ⟨e', he'⟩) := by
  subst h1 h2 h3 h4
  rfl

theorem sample_at (t : Fin cfg0.N) (ht : 64 ≤ (t : Nat)) (arg4 : Memref sig .tc .vmem S16x512 .f32) (harg4 : arg4.IsWhole) (arg5 : Memref sig .tc .vmem S128x2048 .f32) (harg5 : arg5.IsWhole) (arg8 : Memref sig .tc .vmem S64x512 .f32) (harg8 : arg8.IsWhole) (arg9 : Memref sig .tc .vmem S64x512 .f32) (harg9 : arg9.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole)
    (S E : FVec Ideal Cert.ReferenceIdeal.S16x1x8x4x64x192 .f32) (T D : FVec Ideal Cert.ReferenceIdeal.S16x1x8x4x64x1 .f32)
    (hS : S = v98 (F := Ideal) (v90 (F := Ideal)) (v87 (F := Ideal) (m ((c : Thread nD τ).loc main_arg3)) (v17 (F := Ideal) (m ((c : Thread nD τ).loc main_arg2)))) (v81 (F := Ideal) (v16 (F := Ideal) (m ((c : Thread nD τ).loc main_arg2)))))
    (hT : T = v104 (F := Ideal) S (m ((c : Thread nD τ).loc main_arg5))) (hE : E = v107 (F := Ideal) S T)
    (hD : D = v113 (F := Ideal) E (v100 (F := Ideal) (m ((c : Thread nD τ).loc main_arg5))) T)
    (fin2 : ∀ (t : Fin 9216) (c' : Fin 3072), (c' : Nat) < 2560 → Fin' ((m ((c : Thread nD τ).loc main_arg2) : FVec Ideal S9216x3072 .f32) (ix2 t c')))
    (fins : ∀ h, Fin' ((m ((c : Thread nD τ).loc main_arg5) : FVec Ideal S32 .f32) (ix1 h)))
    (fin3 : ∀ u k j d, Fin' ((m ((c : Thread nD τ).loc main_arg3) : FVec Ideal S16x128x8x64 .f32) (ix4 u k j d)))
    (r : Fin 128) (k : Fin 2048) :
    ov (sampleParts arg4 harg4 arg5 harg5 arg8 harg8 arg9 harg9 arg12 harg12 arg13 harg13 arg14 harg14 arg15 harg15 (iblk m c 2 t) (X0_3 m c t) (iblk m c 6 t) (iblk m c 7 t) (iblk m c 10 t) (iblk m c 11 t) (iblk m c 12 t) (iblk m c 13 t)) (r / 64) (k / 128) ⟨r % 64, by omega⟩ ⟨k % 128, by omega⟩
      = (v118 (F := Ideal) (v89 (F := Ideal) (m ((c : Thread nD τ).loc main_arg4)) (v18 (F := Ideal) (m ((c : Thread nD τ).loc main_arg2)))) E D : FVec Ideal Cert.ReferenceIdeal.S16x64x2048 .f32)
          (ix3 ⟨2 * (t - 64) + r / 64, by have := points t; omega⟩ ⟨r % 64, by omega⟩ k) := by
  have hr := r.2
  have hk := k.2
  have h72 := points t
  refine (sample_out (m ((c : Thread nD τ).loc main_arg2)) (m ((c : Thread nD τ).loc main_arg3)) (m ((c : Thread nD τ).loc main_arg4)) (m ((c : Thread nD τ).loc main_arg5)) S E T D hS hT hE hD fin2 fin3 fins _ (2 * (t - 64) + r / 64) (by omega) (r / 64) (by omega)
    (k / 128) (by omega) ?_ ?_ ?_ ?_ _ _).trans ?_
  · intro r' d
    exact (queryTile_apply _ _ _ _ _ (by omega) (by omega) r' d).trans ((blk3 m c t _ _).trans (at2 _ _ _ _ _
      (by show (t : Nat) * 128 + ((r : Nat) / 64 * 64 + (r' : Nat)) = 8192 + ((2 * ((t : Nat) - 64) + (r : Nat) / 64) * 64 + r'); omega) rfl))
  · intro k e
    have hk' := k.2
    rcases (show (r : Nat) / 64 = 0 ∨ (r : Nat) / 64 = 1 by omega) with h0 | h0
    · simp only [h0]
      refine (cacheChunk_apply _ _ _ 0 (by omega) _ k e).trans ?_
      split
      · refine (keys_block m c t ⟨0 * 128 + k, by omega⟩ e).trans ((entry_v0 m c _ e).trans ?_)
        refine at4 _ _ _ _ _ _ _ _ _ ?_ ?_ rfl rfl
        · show (((t : Nat) - 64) * 256 + (0 * 128 + (k : Nat))) / 128 = 2 * (t - 64) + 0
          omega
        · show (((t : Nat) - 64) * 256 + (0 * 128 + (k : Nat))) % 128 = k
          omega
      · exact (chunk_apply _ _ _ ⟨k - 128, _⟩ e).trans ((blk6 m c t ⟨k - 128, _⟩ e).trans (at2 _ _ _ _ _ (by show (2 * (t : Nat)) * 64 + ((k : Nat) - 128) = 8192 + ((2 * ((t : Nat) - 64) + 0) * 64 + (k - 128)); omega) rfl))
    · simp only [h0]
      refine (cacheChunk_apply _ _ _ 1 (by omega) _ k e).trans ?_
      split
      · refine (keys_block m c t ⟨1 * 128 + k, by omega⟩ e).trans ((entry_v0 m c _ e).trans ?_)
        refine at4 _ _ _ _ _ _ _ _ _ ?_ ?_ rfl rfl
        · show (((t : Nat) - 64) * 256 + (1 * 128 + (k : Nat))) / 128 = 2 * (t - 64) + 1
          omega
        · show (((t : Nat) - 64) * 256 + (1 * 128 + (k : Nat))) % 128 = k
          omega
      · exact (chunk_apply _ _ _ ⟨k - 128, _⟩ e).trans ((blk7 m c t ⟨k - 128, _⟩ e).trans (at2 _ _ _ _ _ (by show (2 * (t : Nat) + 1) * 64 + ((k : Nat) - 128) = 8192 + ((2 * ((t : Nat) - 64) + 1) * 64 + (k - 128)); omega) rfl))
  · intro k e
    have hk' := k.2
    rcases (show (r : Nat) / 64 = 0 ∨ (r : Nat) / 64 = 1 by omega) with h0 | h0
    · simp only [h0]
      refine (cacheChunk_apply _ _ _ 0 (by omega) _ k e).trans ?_
      split
      · refine (values_block m c t ⟨0 * 128 + k, by omega⟩ e).trans ((entry_v1 m c _ e).trans ?_)
        refine at4 _ _ _ _ _ _ _ _ _ ?_ ?_ rfl rfl
        · show (((t : Nat) - 64) * 256 + (0 * 128 + (k : Nat))) / 128 = 2 * (t - 64) + 0
          omega
        · show (((t : Nat) - 64) * 256 + (0 * 128 + (k : Nat))) % 128 = k
          omega
      · exact (chunk_apply _ _ _ ⟨k - 128, _⟩ e).trans ((blk10 m c t ⟨k - 128, _⟩ e).trans (at2 _ _ _ _ _ (by show (2 * (t : Nat)) * 64 + ((k : Nat) - 128) = 8192 + ((2 * ((t : Nat) - 64) + 0) * 64 + (k - 128)); omega) rfl))
    · simp only [h0]
      refine (cacheChunk_apply _ _ _ 1 (by omega) _ k e).trans ?_
      split
      · refine (values_block m c t ⟨1 * 128 + k, by omega⟩ e).trans ((entry_v1 m c _ e).trans ?_)
        refine at4 _ _ _ _ _ _ _ _ _ ?_ ?_ rfl rfl
        · show (((t : Nat) - 64) * 256 + (1 * 128 + (k : Nat))) / 128 = 2 * (t - 64) + 1
          omega
        · show (((t : Nat) - 64) * 256 + (1 * 128 + (k : Nat))) % 128 = k
          omega
      · exact (chunk_apply _ _ _ ⟨k - 128, _⟩ e).trans ((blk11 m c t ⟨k - 128, _⟩ e).trans (at2 _ _ _ _ _ (by show (2 * (t : Nat) + 1) * 64 + ((k : Nat) - 128) = 8192 + ((2 * ((t : Nat) - 64) + 1) * 64 + (k - 128)); omega) rfl))
  · intro x hx k'
    refine (bias_at m c t _ _ _ (by omega) x hx k').trans ?_
    rw [if_pos trivial]
  · exact congrArg _ (congrArg (ix3 _ _) (Fin.ext (by show (k : Nat) / 128 * 128 + (k : Nat) % 128 = k; omega)))

end Cert.Attn
-- ==== Proof.Gelu.lean ====
/- What a point writes of the gated product: the activation of its block of rows times its block of columns. -/
module

public import proofs.«01_k».proof.Proof.Points

@[expose] public section

set_option maxRecDepth 16384

noncomputable section

namespace Cert.Attn

open Idealize.ShloMosaic Idealize.ShloMosaic.TcCoe Idealize.ShloMosaic.Tactic
open Cert.KernelIdeal Cert.KernelIdeal.Gen
open Cert.RefRun

/-- The activation. -/
def act (z : EReal) : EReal :=
  z * (Ideal.ofBits .f32 1056964608#32 * (1 + Ideal.tanh (Ideal.ofBits .f32 1061962282#32 * (z + Ideal.ofBits .f32 1027024659#32 * (z * (z * z))))))

theorem pay7_apply (x : FVec Ideal S1024x4096 .bf16) (w : FVec Ideal S4096x512 .bf16) (r : Fin 1024) (k : Fin 512) :
    k0_pay7 (F := Ideal) x w (ix2 r k) = act (∑ e : Fin 4096, x (ix2 r e) * w (ix2 e k)) := by
  pointwise [k0_pay7]
  rfl

/-- The cast of a block of the weights is the identity. -/
theorem pay1_apply (v : FVec Ideal S256x512 .f32) (x : S256x512.Idx) : (k0_pay1 (F := Ideal) v : FVec Ideal S256x512 .bf16) x = v x := by
  pointwise [k0_pay1]

theorem ref_apply (a0 : FVec Ideal S9216x4096 .bf16) (a1 : FVec Ideal S4096x15360 .f32) (r : Fin 9216) (k : Fin 4096) :
    (v122 (F := Ideal) (v15 (F := Ideal) (v2 (F := Ideal) a0 a1)) : FVec Ideal S9216x4096 .bf16) (ix2 r k)
      = act (∑ e : Fin 4096, a0 (ix2 r e) * a1 (ix2 e ⟨k, by omega⟩)) := by
  have h : (v2 (F := Ideal) a0 a1 : FVec Ideal S9216x4096 .f32) (ix2 r k) = ∑ e : Fin 4096, a0 (ix2 r e) * a1 (ix2 e ⟨k, by omega⟩) := by
    pointwise [v2]
  rw [← h]
  generalize v2 (F := Ideal) a0 a1 = z
  pointwise [v122, v15]
  have e : ∀ u : EReal, u * (Ideal.ofBits .f32 1056964608#32 * (1 + Ideal.tanh (Ideal.ofBits .f32 1061962282#32 * (u + Ideal.ofBits .f32 1027024659#32 * (u * u * u))))) = act u := by
    intro u
    rw [mul_assoc u u u]
    rfl
  exact e _

theorem trip_pieces (𝒱 : Variants) (c : Dev nD) (bd : Option 𝒱.V) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (k0_h1 : k0_cond1 i = 1#1) (X_arg3 : BufTy.Contents (Elt Ideal) arg3.view.ty) (k : Fin k0_t1_loop.trips) (x1 : Vec Ideal S4096x512 .f32) (hX : X_arg3 = harg3.unread x1) :
    ∀ p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg3 k, ∀ x : p.1.shape.Idx, p.2 x = x1 (p.1.emb x) := by
  subst hX
  unfold tripL_k0_t1 trip_k0_t1
  intro p hp x
  simp only [List.mem_singleton] at hp
  subst hp
  exact (pay1_apply _ x).trans (Memref.IsWhole.readAt_unread harg3 x1 _ x)

theorem all_pieces (𝒱 : Variants) (c : Dev nD) (bd : Option 𝒱.V) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (k0_h1 : k0_cond1 i = 1#1) (X_arg3 : BufTy.Contents (Elt Ideal) arg3.view.ty) (x1 : Vec Ideal S4096x512 .f32) (hX : X_arg3 = harg3.unread x1) (n : Nat) :
    ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg3 n, ∀ x : p.1.shape.Idx, p.2 x = x1 (p.1.emb x) := by
  induction n with
  | zero =>
    intro p hp
    exact absurd hp List.not_mem_nil
  | succ n ih =>
    intro p hp
    unfold pb_k0_t1 pb_k0_t1Step at hp
    split at hp
    · rcases List.mem_append.mp hp with hp | hp
      · exact trip_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg3 _ x1 hX p hp
      · exact ih p hp
    · exact ih p hp

theorem zero_off : (![0, 0] : Fin 2 → Nat) = fun _ => 0 := funext fun b => match b with
  | ⟨0, _⟩ => rfl
  | ⟨1, _⟩ => rfl

theorem whole_x0 (arg2 : Memref sig .tc .vmem S1024x4096 .bf16) (harg2 : arg2.IsWhole) (x0 : Vec Ideal S1024x4096 .bf16) :
    View.readAt (Elt Ideal) arg2.view (Rect.unit (s := S1024x4096) ![0, 0] S1024x4096.size inb_S1024x4096_S1024x4096_0_0).toLoadRect (harg2.unread x0) = x0 := by
  funext y
  refine (Memref.IsWhole.readAt_unread harg2 x0 _ _).trans (congrArg x0 (funext fun b => ?_))
  match b with
  | ⟨0, _⟩ => exact Fin.ext (by show 0 + 1 * (y 0 : Nat) = y 0; omega)
  | ⟨1, _⟩ => exact Fin.ext (by show 0 + 1 * (y 1 : Nat) = y 1; omega)

theorem whole_w (arg18 : Memref sig .tc .vmem S4096x512 .bf16) (harg18 : arg18.IsWhole) (w : Vec Ideal S4096x512 .bf16) :
    View.readAt (Elt Ideal) arg18.view (Rect.unit (s := S4096x512) ![0, 0] S4096x512.size inb_S4096x512_S4096x512_0_0).toLoadRect (harg18.unread w) = w := by
  funext y
  refine (Memref.IsWhole.readAt_unread harg18 w _ _).trans (congrArg w (funext fun b => ?_))
  match b with
  | ⟨0, _⟩ => exact Fin.ext (by show 0 + 1 * (y 0 : Nat) = y 0; omega)
  | ⟨1, _⟩ => exact Fin.ext (by show 0 + 1 * (y 1 : Nat) = y 1; omega)

theorem scratch_A (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (hc0 : cond0_0 i) (hc1 : cond0_1 i) (hc2 : ¬cond0_2 i) (hc3 : ¬cond0_3 i) (x0 : Vec Ideal S1024x4096 .bf16) (x1 : Vec Ideal S4096x512 .f32) (x2 : Vec Ideal S16x512 .f32) (x3 : Vec Ideal S128x2048 .f32) (x4 : Vec Ideal S64x512 .f32) (x5 : Vec Ideal S64x512 .f32) (x6 : Vec Ideal S64x512 .f32) (x7 : Vec Ideal S64x512 .f32) (x8 : Vec Ideal S64x512 .f32) (x9 : Vec Ideal S64x512 .f32) (x10 : Vec Ideal S64x512 .f32) (x11 : Vec Ideal S64x512 .f32) (x12 : Vec Ideal S256x512 .f32) (x13 : Vec Ideal S256x512 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 = x1 := by
  funext y
  unfold sout0_A_0
  rw [View.read_writes_junk_apply_eq_canon]
  exact View.canon_apply_of_pieces (Val := Elt Ideal) (e := .bf16) x1 _ (all_pieces Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ (harg3.unread x1) x1 rfl _) y
    (scover0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 y)

theorem out14_A (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (hc0 : cond0_0 i) (hc1 : cond0_1 i) (hc2 : ¬cond0_2 i) (hc3 : ¬cond0_3 i) (x0 : Vec Ideal S1024x4096 .bf16) (x1 : Vec Ideal S4096x512 .f32) (x2 : Vec Ideal S16x512 .f32) (x3 : Vec Ideal S128x2048 .f32) (x4 : Vec Ideal S64x512 .f32) (x5 : Vec Ideal S64x512 .f32) (x6 : Vec Ideal S64x512 .f32) (x7 : Vec Ideal S64x512 .f32) (x8 : Vec Ideal S64x512 .f32) (x9 : Vec Ideal S64x512 .f32) (x10 : Vec Ideal S64x512 .f32) (x11 : Vec Ideal S64x512 .f32) (x12 : Vec Ideal S256x512 .f32) (x13 : Vec Ideal S256x512 .f32) (r : Fin 1024) (k : Fin 512) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 (ix2 r k) = act (∑ e : Fin 4096, x0 (ix2 r e) * x1 (ix2 e k)) := by
  have hw := scratch_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13
  unfold sout0_A_0 at hw
  rw [View.read_writes_junk_eq_canon] at hw
  unfold out0_A_14
  rw [View.read_writes_junk_eq_canon]
  refine (congrFun (View.canon_unit_zero zero_off _ _) _).trans ?_
  rw [whole_x0, View.readCov_eq_canon']
  refine (congrArg (fun w => k0_pay7 (F := Ideal) x0 w (ix2 r k)) (funext fun y => ?_)).trans (pay7_apply x0 x1 r k)
  refine (congrFun hw _).trans (congrArg x1 (funext fun b => ?_))
  match b with
  | ⟨0, _⟩ => exact Fin.ext (by show 0 + 1 * (y 0 : Nat) = y 0; omega)
  | ⟨1, _⟩ => exact Fin.ext (by show 0 + 1 * (y 1 : Nat) = y 1; omega)

theorem scratch_B (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (hc0 : ¬cond0_0 i) (hc1 : cond0_1 i) (hc2 : ¬cond0_2 i) (hc3 : ¬cond0_3 i) (x0 : Vec Ideal S1024x4096 .bf16) (x1 : Vec Ideal S4096x512 .f32) (x2 : Vec Ideal S16x512 .f32) (x3 : Vec Ideal S128x2048 .f32) (x4 : Vec Ideal S64x512 .f32) (x5 : Vec Ideal S64x512 .f32) (x6 : Vec Ideal S64x512 .f32) (x7 : Vec Ideal S64x512 .f32) (x8 : Vec Ideal S64x512 .f32) (x9 : Vec Ideal S64x512 .f32) (x10 : Vec Ideal S64x512 .f32) (x11 : Vec Ideal S64x512 .f32) (x12 : Vec Ideal S256x512 .f32) (x13 : Vec Ideal S256x512 .f32) (xs0 : Vec Ideal S4096x512 .bf16) : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 xs0 = xs0 := by
  rfl

theorem out14_B (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (hc0 : ¬cond0_0 i) (hc1 : cond0_1 i) (hc2 : ¬cond0_2 i) (hc3 : ¬cond0_3 i) (x0 : Vec Ideal S1024x4096 .bf16) (x1 : Vec Ideal S4096x512 .f32) (x2 : Vec Ideal S16x512 .f32) (x3 : Vec Ideal S128x2048 .f32) (x4 : Vec Ideal S64x512 .f32) (x5 : Vec Ideal S64x512 .f32) (x6 : Vec Ideal S64x512 .f32) (x7 : Vec Ideal S64x512 .f32) (x8 : Vec Ideal S64x512 .f32) (x9 : Vec Ideal S64x512 .f32) (x10 : Vec Ideal S64x512 .f32) (x11 : Vec Ideal S64x512 .f32) (x12 : Vec Ideal S256x512 .f32) (x13 : Vec Ideal S256x512 .f32) (xs0 : Vec Ideal S4096x512 .bf16) (r : Fin 1024) (k : Fin 512) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 xs0 (ix2 r k) = act (∑ e : Fin 4096, x0 (ix2 r e) * xs0 (ix2 e k)) := by
  unfold out0_B_14
  rw [View.read_writes_junk_eq_canon]
  refine (congrFun (View.canon_unit_zero zero_off _ _) _).trans ?_
  rw [whole_x0, whole_w]
  exact pay7_apply x0 xs0 r k

theorem scratch_C (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (hc0 : ¬cond0_0 i) (hc1 : ¬cond0_1 i) (hc2 : cond0_2 i) (hc3 : ¬cond0_3 i) (x0 : Vec Ideal S1024x4096 .bf16) (x1 : Vec Ideal S4096x512 .f32) (x2 : Vec Ideal S16x512 .f32) (x3 : Vec Ideal S128x2048 .f32) (x4 : Vec Ideal S64x512 .f32) (x5 : Vec Ideal S64x512 .f32) (x6 : Vec Ideal S64x512 .f32) (x7 : Vec Ideal S64x512 .f32) (x8 : Vec Ideal S64x512 .f32) (x9 : Vec Ideal S64x512 .f32) (x10 : Vec Ideal S64x512 .f32) (x11 : Vec Ideal S64x512 .f32) (x12 : Vec Ideal S256x512 .f32) (x13 : Vec Ideal S256x512 .f32) (xs0 : Vec Ideal S4096x512 .bf16) : sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 xs0 = xs0 := by
  rfl

theorem out14_C (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S16x512 .f32) (harg4 : arg4.IsWhole) (arg5 : Memref sig .tc .vmem S128x2048 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S1024x512 .bf16) (harg16 : arg16.IsWhole) (arg17 : Memref sig .tc .vmem S128x2048 .bf16) (harg17 : arg17.IsWhole) (arg18 : Memref sig .tc .vmem S4096x512 .bf16) (harg18 : arg18.IsWhole) (arg19 : Memref sig .tc .vmem S2x8x128x512 .f32) (harg19 : arg19.IsWhole) (arg20 : Memref sig .tc .vmem S2x8x128x512 .bf16) (harg20 : arg20.IsWhole) (hc0 : ¬cond0_0 i) (hc1 : ¬cond0_1 i) (hc2 : cond0_2 i) (hc3 : ¬cond0_3 i) (x0 : Vec Ideal S1024x4096 .bf16) (x1 : Vec Ideal S4096x512 .f32) (x2 : Vec Ideal S16x512 .f32) (x3 : Vec Ideal S128x2048 .f32) (x4 : Vec Ideal S64x512 .f32) (x5 : Vec Ideal S64x512 .f32) (x6 : Vec Ideal S64x512 .f32) (x7 : Vec Ideal S64x512 .f32) (x8 : Vec Ideal S64x512 .f32) (x9 : Vec Ideal S64x512 .f32) (x10 : Vec Ideal S64x512 .f32) (x11 : Vec Ideal S64x512 .f32) (x12 : Vec Ideal S256x512 .f32) (x13 : Vec Ideal S256x512 .f32) (xs0 : Vec Ideal S4096x512 .bf16) (r : Fin 1024) (k : Fin 512) :
    out0_C_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 xs0 (ix2 r k) = act (∑ e : Fin 4096, x0 (ix2 r e) * xs0 (ix2 e k)) := by
  unfold out0_C_14
  rw [View.read_writes_junk_eq_canon]
  refine (congrFun (View.canon_unit_zero zero_off _ _) _).trans ?_
  rw [whole_x0, whole_w]
  exact pay7_apply x0 xs0 r k

end Cert.Attn
-- ==== Proof.Arrays.lean ====
/- Both arrays the kernel leaves, in the arguments. -/
module

public import proofs.«01_k».proof.Proof.Gelu
public import proofs.«01_k».proof.Proof.Points
public import Idealize.ShloMosaic.Lib.Pipeline.ValueKit.Held

@[expose] public section

set_option maxRecDepth 16384

noncomputable section

namespace Cert.Attn

open Idealize.ShloMosaic Idealize.ShloMosaic.TcCoe Idealize.ShloMosaic.Tactic
open Cert.KernelIdeal Cert.KernelIdeal.Gen
open Cert.RefRun

variable (m : (ℓ : Loc nD τ sig) → Buf (Elt Ideal) ℓ) (c : Dev nD)

theorem first {α β γ : Type} {x : α × β × γ} {a : α} {b : β} {d : γ} (h : x = (a, b, d)) : x.1 = a := by rw [h]

theorem second {α β γ : Type} {x : α × β × γ} {a : α} {b : β} {d : γ} (h : x = (a, b, d)) : x.2.1 = b := by rw [h]

theorem third {α β γ : Type} {x : α × β × γ} {a : α} {b : β} {d : γ} (h : x = (a, b, d)) : x.2.2 = d := by rw [h]

/-- The scratch holds, through the nine points of a column, the cast block of the weights that the first of them wrote. -/
theorem held (t : Fin cfg0.N) (i : S4096x512.Idx) :
    (outsAt0 m c t.val t.isLt).2.2 i = iblk m c 1 ⟨9 * (t.val / 9), by have := points t; show _ < 72; omega⟩ i := by
  refine Pipeline.eq_of_write_hold_apply (fun n h (i : S4096x512.Idx) => (outsAt0 m c n h).2.2 i) 9 (fun t i => iblk m c 1 t i) ?_ ?_ t i
  · intro t h0 i
    have h72 := points t
    have h1 : t.val < 64 := by omega
    have h2 : ¬64 ≤ t.val := by omega
    exact (congrFun (third (outsAt0_A m c t h0 h1 h2)) i).trans (congrFun (scratch_A _ _ _ _ _ _ _ _ _ _ _ _ _ _ _ _ _ _ _ _ _ _ _ _ _ _ _ _ _ _ _ _ _ _ _ _ _ _ _ _ _ _ _ _ _ _ _ _ _ _ _ _ _ _ _ _ _ _) i)
  · intro t h0 i
    by_cases h1 : t.val < 64
    · have h2 : ¬64 ≤ t.val := by omega
      exact (congrFun (third (outsAt0_B m c t h0 h1 h2)) i).trans (congrFun (scratch_B _ _ _ _ _ _ _ _ _ _ _ _ _ _ _ _ _ _ _ _ _ _ _ _ _ _ _ _ _ _ _ _ _ _ _ _ _ _ _ _ _ _ _ _ _ _ _ _ _ _ _ _ _ _ _ _ _ _ _) i)
    · have h2 : 64 ≤ t.val := by omega
      exact (congrFun (third (outsAt0_C m c t h0 h1 h2)) i).trans (congrFun (scratch_C _ _ _ _ _ _ _ _ _ _ _ _ _ _ _ _ _ _ _ _ _ _ _ _ _ _ _ _ _ _ _ _ _ _ _ _ _ _ _ _ _ _ _ _ _ _ _ _ _ _ _ _ _ _ _ _ _ _ _) i)

/-- The scratch a later point of a column reads holds that column's weights. -/
theorem held_before (t : Fin cfg0.N) (h0 : ¬t.val % 9 = 0) (e : Fin 4096) (k : Fin 512) :
    (outsAt0 m c (t.val - 1) (Nat.lt_of_le_of_lt (Nat.sub_le _ _) t.isLt)).2.2 (ix2 e k)
      = m ((c : Thread nD τ).loc main_arg1) (ix2 e ⟨(t : Nat) / 9 * 512 + k, by have := points t; omega⟩) := by
  have h72 := points t
  refine (held m c ⟨t.val - 1, Nat.lt_of_le_of_lt (Nat.sub_le _ _) t.isLt⟩ (ix2 e k)).trans ((blk1 m c _ e k).trans (at2 _ _ _ _ _ rfl ?_))
  show 9 * ((t.val - 1) / 9) / 9 * 512 + (k : Nat) = t.val / 9 * 512 + k
  omega

theorem dots {x : FVec Ideal S1024x4096 .bf16} {w : FVec Ideal S4096x512 .bf16} {X : FVec Ideal S9216x4096 .bf16} {W : FVec Ideal S4096x15360 .f32}
    {r : Fin 1024} {k : Fin 512} {R : Fin 9216} {K : Fin 15360} (hx : ∀ e, x (ix2 r e) = X (ix2 R e)) (hw : ∀ e, w (ix2 e k) = W (ix2 e K)) :
    act (∑ e : Fin 4096, x (ix2 r e) * w (ix2 e k)) = act (∑ e : Fin 4096, X (ix2 R e) * W (ix2 e K)) := by
  simp only [hx, hw]

/-- One point's block of the first result is the reference's. -/
theorem gelu_point (t : Fin cfg0.N) (r : Fin 1024) (k : Fin 512) :
    (outsAt0 m c t.val t.isLt).1 (ix2 r k)
      = (v122 (F := Ideal) (v15 (F := Ideal) (v2 (F := Ideal) (m ((c : Thread nD τ).loc main_arg0)) (m ((c : Thread nD τ).loc main_arg1)))) : FVec Ideal S9216x4096 .bf16)
          (ix2 ⟨(t : Nat) % 9 * 1024 + r, by omega⟩ ⟨(t : Nat) / 9 * 512 + k, by have := points t; omega⟩) := by
  have h72 := points t
  refine Eq.trans ?_ (ref_apply _ _ _ _).symm
  by_cases h0 : t.val % 9 = 0
  · have h1 : t.val < 64 := by omega
    have h2 : ¬64 ≤ t.val := by omega
    refine (congrFun (first (outsAt0_A m c t h0 h1 h2)) (ix2 r k)).trans ((out14_A _ _ _ _ _ _ _ _ _ _ _ _ _ _ _ _ _ _ _ _ _ _ _ _ _ _ _ _ _ _ _ _ _ _ _ _ _ _ _ _ _ _ _ _ _ _ _ _ _ _ _ _ _ _ _ _ _ _ r k).trans ?_)
    exact dots (fun e => blk0 m c t r e) (fun e => blk1 m c t e k)
  · by_cases h1 : t.val < 64
    · have h2 : ¬64 ≤ t.val := by omega
      refine (congrFun (first (outsAt0_B m c t h0 h1 h2)) (ix2 r k)).trans ((out14_B _ _ _ _ _ _ _ _ _ _ _ _ _ _ _ _ _ _ _ _ _ _ _ _ _ _ _ _ _ _ _ _ _ _ _ _ _ _ _ _ _ _ _ _ _ _ _ _ _ _ _ _ _ _ _ _ _ _ _ r k).trans ?_)
      exact dots (fun e => blk0 m c t r e) (fun e => held_before m c t h0 e k)
    · have h2 : 64 ≤ t.val := by omega
      refine (congrFun (first (outsAt0_C m c t h0 h1 h2)) (ix2 r k)).trans ((out14_C _ _ _ _ _ _ _ _ _ _ _ _ _ _ _ _ _ _ _ _ _ _ _ _ _ _ _ _ _ _ _ _ _ _ _ _ _ _ _ _ _ _ _ _ _ _ _ _ _ _ _ _ _ _ _ _ _ _ _ r k).trans ?_)
      exact dots (fun e => blk0 m c t r e) (fun e => held_before m c t h0 e k)

/-- The first result's array ends at the reference's first result. -/
theorem gelu_array :
    (dats m 0 c).arrAt 14 cfg0.N = v122 (F := Ideal) (v15 (F := Ideal) (v2 (F := Ideal) (m ((c : Thread nD τ).loc main_arg0)) (m ((c : Thread nD τ).loc main_arg1)))) := by
  refine (dats m 0 c).arrAt_eq_of_covers 14 _ (by decide +kernel) fun t hf y => ?_
  have h72 := points t
  obtain ⟨r, k, rfl⟩ : ∃ (r : Fin 1024) (k : Fin 512), y = ix2 r k := ⟨y 0, y 1, funext fun b => by match b with | ⟨0, _⟩ => rfl | ⟨1, _⟩ => rfl⟩
  blk_simp
  rw [after0_14]
  refine (gelu_point m c t r k).trans (congrArg _ ?_)
  blk_ext [index_at t]

variable (S E : FVec Ideal Cert.ReferenceIdeal.S1x128x8x4x64x192 .f32) (T D : FVec Ideal Cert.ReferenceIdeal.S1x128x8x4x64x1 .f32)
    (S' E' : FVec Ideal Cert.ReferenceIdeal.S16x1x8x4x64x192 .f32) (T' D' : FVec Ideal Cert.ReferenceIdeal.S16x1x8x4x64x1 .f32)
    (hS : S = v59 (F := Ideal) (v51 (F := Ideal)) (v32 (F := Ideal) (v17 (F := Ideal) (m ((c : Thread nD τ).loc main_arg2)))) (v20 (F := Ideal) (v16 (F := Ideal) (m ((c : Thread nD τ).loc main_arg2)))))
    (hT : T = v65 (F := Ideal) S (m ((c : Thread nD τ).loc main_arg5))) (hE : E = v68 (F := Ideal) S T)
    (hD : D = v74 (F := Ideal) E (v61 (F := Ideal) (m ((c : Thread nD τ).loc main_arg5))) T)
    (hS' : S' = v98 (F := Ideal) (v90 (F := Ideal)) (v87 (F := Ideal) (m ((c : Thread nD τ).loc main_arg3)) (v17 (F := Ideal) (m ((c : Thread nD τ).loc main_arg2)))) (v81 (F := Ideal) (v16 (F := Ideal) (m ((c : Thread nD τ).loc main_arg2)))))
    (hT' : T' = v104 (F := Ideal) S' (m ((c : Thread nD τ).loc main_arg5))) (hE' : E' = v107 (F := Ideal) S' T')
    (hD' : D' = v113 (F := Ideal) E' (v100 (F := Ideal) (m ((c : Thread nD τ).loc main_arg5))) T')
    (fin2 : ∀ (t : Fin 9216) (c' : Fin 3072), (c' : Nat) < 2560 → Fin' ((m ((c : Thread nD τ).loc main_arg2) : FVec Ideal S9216x3072 .f32) (ix2 t c')))
    (fins : ∀ h, Fin' ((m ((c : Thread nD τ).loc main_arg5) : FVec Ideal S32 .f32) (ix1 h)))
    (fin3 : ∀ u k j d, Fin' ((m ((c : Thread nD τ).loc main_arg3) : FVec Ideal S16x128x8x64 .f32) (ix4 u k j d)))

include hS hT hE hD hS' hT' hE' hD' fin2 fins fin3

/-- One point's block of the second result is the reference's. -/
theorem attn_point (t : Fin cfg0.N) (r : Fin 128) (k : Fin 2048) :
    (outsAt0 m c t.val t.isLt).2.1 (ix2 r k)
      = (v123 (F := Ideal) (v79 (F := Ideal) (v36 (F := Ideal) (v18 (F := Ideal) (m ((c : Thread nD τ).loc main_arg2)))) E D)
          (v118 (F := Ideal) (v89 (F := Ideal) (m ((c : Thread nD τ).loc main_arg4)) (v18 (F := Ideal) (m ((c : Thread nD τ).loc main_arg2)))) E' D') : FVec Ideal S9216x2048 .bf16)
          (ix2 ⟨(t : Nat) * 128 + r, by have := points t; omega⟩ k) := by
  have h72 := points t
  have hr := r.2
  refine Eq.trans ?_ (rows_apply _ _ _ _).symm
  by_cases h1 : t.val < 64
  · have h2 : ¬64 ≤ t.val := by omega
    have h8 : ((⟨(t : Nat) * 128 + r, by omega⟩ : Fin 9216) : Nat) < 8192 := by show (t : Nat) * 128 + (r : Nat) < 8192; omega
    simp only [dif_pos h8]
    by_cases h0 : t.val % 9 = 0
    · exact (congrFun (second (outsAt0_A m c t h0 h1 h2)) (ix2 r k)).trans ((out15_A _ _ _ _ _ _ _ _ _ _ _ _ _ _ _ _ _ _ _ _ _ _ _ _ _ _ _ _ _ _ _ _ _ _ _ _ _ _ _ _ _ _ _ _ _ _ _ _ _ _ _ _ _ _ _ _ _ _ r k).trans (prompt_at m c t h1 _ _ _ _ _ _ _ _ _ _ _ _ _ _ _ _ _ _ _ _ S E T D hS hT hE hD fin2 fins r k))
    · exact (congrFun (second (outsAt0_B m c t h0 h1 h2)) (ix2 r k)).trans ((out15_B _ _ _ _ _ _ _ _ _ _ _ _ _ _ _ _ _ _ _ _ _ _ _ _ _ _ _ _ _ _ _ _ _ _ _ _ _ _ _ _ _ _ _ _ _ _ _ _ _ _ _ _ _ _ _ _ _ _ _ r k).trans (prompt_at m c t h1 _ _ _ _ _ _ _ _ _ _ _ _ _ _ _ _ _ _ _ _ S E T D hS hT hE hD fin2 fins r k))
  · have h2 : 64 ≤ t.val := by omega
    have h0 : ¬t.val % 9 = 0 := by omega
    have h8 : ¬((⟨(t : Nat) * 128 + r, by omega⟩ : Fin 9216) : Nat) < 8192 := by show ¬(t : Nat) * 128 + (r : Nat) < 8192; omega
    simp only [dif_neg h8]
    refine (congrFun (second (outsAt0_C m c t h0 h1 h2)) (ix2 r k)).trans ((out15_C _ _ _ _ _ _ _ _ _ _ _ _ _ _ _ _ _ _ _ _ _ _ _ _ _ _ _ _ _ _ _ _ _ _ _ _ _ _ _ _ _ _ _ _ _ _ _ _ _ _ _ _ _ _ _ _ _ _ _ r k).trans ((sample_at m c t h2 _ _ _ _ _ _ _ _ _ _ _ _ _ _ _ _ S' E' T' D' hS' hT' hE' hD' fin2 fins fin3 r k).trans (congrArg _ (funext fun b => ?_))))
    match b with
    | ⟨0, _⟩ => exact Fin.ext (by show 2 * ((t : Nat) - 64) + (r : Nat) / 64 = ((t : Nat) * 128 + (r : Nat) - 8192) / 64; omega)
    | ⟨1, _⟩ => exact Fin.ext (by show (r : Nat) % 64 = ((t : Nat) * 128 + (r : Nat) - 8192) % 64; omega)
    | ⟨2, _⟩ => rfl

/-- The second result's array ends at the reference's second result. -/
theorem attn_array :
    (dats m 0 c).arrAt 15 cfg0.N
      = v123 (F := Ideal) (v79 (F := Ideal) (v36 (F := Ideal) (v18 (F := Ideal) (m ((c : Thread nD τ).loc main_arg2)))) E D)
          (v118 (F := Ideal) (v89 (F := Ideal) (m ((c : Thread nD τ).loc main_arg4)) (v18 (F := Ideal) (m ((c : Thread nD τ).loc main_arg2)))) E' D') := by
  refine (dats m 0 c).arrAt_eq_of_covers 15 _ (by decide +kernel) fun t hf y => ?_
  have h72 := points t
  obtain ⟨r, k, rfl⟩ : ∃ (r : Fin 128) (k : Fin 2048), y = ix2 r k := ⟨y 0, y 1, funext fun b => by match b with | ⟨0, _⟩ => rfl | ⟨1, _⟩ => rfl⟩
  blk_simp
  rw [after0_15]
  refine (attn_point m c S E T D S' E' T' D' hS hT hE hD hS' hT' hE' hD' fin2 fins fin3 t r k).trans (congrArg _ ?_)
  blk_ext [index_at t]

end Cert.Attn
-- ==== Proof.Finite.lean ====
/- What the precondition says of the arguments: the queries, the keys, the cached keys and the sinks are finite. -/
module

public import proofs.«01_k».proof.Pre_finite_scores
public import proofs.«01_k».proof.Proof.Softmax
public import Idealize.ShloMosaic.Lib.Pointwise

@[expose] public section

set_option maxRecDepth 16384

noncomputable section

namespace Cert.Attn

open Idealize.ShloMosaic Idealize.ShloMosaic.TcCoe Idealize.ShloMosaic.Tactic
open Cert.Pre_finite_scores

theorem greatest : Ideal.ofBits .f32 2139095040#32 = ⊤ := by
  simp [Ideal.ofBits, Ideal.ieee]

theorem finite_of_lt {x : EReal} (h : max x (-x) < ⊤) : Fin' x := by
  induction x using EReal.rec with
  | bot => exact absurd h (by simp)
  | top => exact absurd h (by simp)
  | coe r => exact ⟨r, rfl⟩

variable [Facts]
variable (a0 : FVec Ideal S9216x4096 .bf16) (a1 : FVec Ideal S4096x15360 .f32) (a2 : FVec Ideal S9216x3072 .f32)
  (a3 a4 : FVec Ideal S16x128x8x64 .f32) (a5 : FVec Ideal S32 .f32)

/-- The three pieces the precondition lays end to end, at an index. -/
theorem pieces_apply (x : FVec Ideal S23592960 .f32) (y : FVec Ideal S1048576 .f32) (z : FVec Ideal S32 .f32) (j : Fin 24641568) :
    concatenate S24641568 0 [⟨S23592960, x⟩, ⟨S1048576, y⟩, ⟨S32, z⟩] Facts.concatenates_S23592960_S1048576_S32_S24641568_d0 (ix1 j)
      = if h : (j : Nat) < 23592960 then x (ix1 ⟨j, h⟩) else if h' : (j : Nat) - 23592960 < 1048576 then y (ix1 ⟨j - 23592960, h'⟩)
        else z (ix1 ⟨(j : Nat) - 23592960 - 1048576, by omega⟩) := by
  pointwise []

/-- Every entry of the concatenation is finite. -/
theorem entry_finite (h : fn (F := Ideal) a0 a1 a2 a3 a4 a5 = fun _ => 1#1) (j : S24641568.Idx) :
    Fin' (concatenate S24641568 0 [⟨S23592960, shapeCast S23592960 (extractStridedSlice S9216x2560 ![0, 0] a2 Facts.slices_S9216x3072_S9216x2560_0_0) Facts.shapeCasts_S9216x2560_S23592960⟩,
      ⟨S1048576, shapeCast S1048576 a3 Facts.shapeCasts_S16x128x8x64_S1048576⟩, ⟨S32, a5⟩] Facts.concatenates_S23592960_S1048576_S32_S24641568_d0 j) := by
  have e := congrFun h j
  apply finite_of_lt
  rw [← greatest]
  exact (Ideal.cmp_olt_eq_one _ _).mp e

theorem queries_keys (h : fn (F := Ideal) a0 a1 a2 a3 a4 a5 = fun _ => 1#1) (t : Fin 9216) (c : Fin 3072) (hc : (c : Nat) < 2560) : Fin' (a2 (ix2 t c)) := by
  let e := Shape.reshapeEquiv (s := S9216x2560) (s' := S23592960) Facts.shapeCasts_S9216x2560_S23592960
  have hj : ((e.symm (ix2 t ⟨c, hc⟩)) 0 : Nat) < 23592960 := ((e.symm (ix2 t ⟨c, hc⟩)) 0).2
  have k := entry_finite a0 a1 a2 a3 a4 a5 h (ix1 ⟨(e.symm (ix2 t ⟨c, hc⟩)) 0, by omega⟩)
  rw [pieces_apply, dif_pos hj] at k
  have q : (ix1 ⟨((e.symm (ix2 t ⟨c, hc⟩)) 0 : Nat), hj⟩ : S23592960.Idx) = e.symm (ix2 t ⟨c, hc⟩) := funext fun b => by
    match b with
    | ⟨0, _⟩ => rfl
  rw [q] at k
  have s : shapeCast S23592960 (extractStridedSlice S9216x2560 ![0, 0] a2 Facts.slices_S9216x3072_S9216x2560_0_0) Facts.shapeCasts_S9216x2560_S23592960 (e.symm (ix2 t ⟨c, hc⟩))
      = a2 (ix2 t c) := by
    refine (congrArg (extractStridedSlice S9216x2560 ![0, 0] a2 Facts.slices_S9216x3072_S9216x2560_0_0) (e.apply_symm_apply _)).trans ?_
    pointwise []
  rw [s] at k
  exact k

theorem cached_keys (h : fn (F := Ideal) a0 a1 a2 a3 a4 a5 = fun _ => 1#1) (i : S16x128x8x64.Idx) : Fin' (a3 i) := by
  let e := Shape.reshapeEquiv (s := S16x128x8x64) (s' := S1048576) Facts.shapeCasts_S16x128x8x64_S1048576
  have hj : ((e.symm i) 0 : Nat) < 1048576 := ((e.symm i) 0).2
  have k := entry_finite a0 a1 a2 a3 a4 a5 h (ix1 ⟨23592960 + (e.symm i) 0, by omega⟩)
  rw [pieces_apply, dif_neg (by show ¬ 23592960 + ((e.symm i) 0 : Nat) < 23592960; omega),
    dif_pos (show 23592960 + ((e.symm i) 0 : Nat) - 23592960 < 1048576 by omega)] at k
  have q : (ix1 ⟨23592960 + ((e.symm i) 0 : Nat) - 23592960, by omega⟩ : S1048576.Idx) = e.symm i := funext fun b => by
    match b with
    | ⟨0, _⟩ => exact Fin.ext (Nat.add_sub_cancel_left ..)
  rw [q] at k
  have s : shapeCast S1048576 a3 Facts.shapeCasts_S16x128x8x64_S1048576 (e.symm i) = a3 i := congrArg a3 (e.apply_symm_apply _)
  rw [s] at k
  exact k

theorem sinks (h : fn (F := Ideal) a0 a1 a2 a3 a4 a5 = fun _ => 1#1) (i : Fin 32) : Fin' (a5 (ix1 i)) := by
  have k := entry_finite a0 a1 a2 a3 a4 a5 h (ix1 ⟨24641536 + i, by omega⟩)
  rw [pieces_apply, dif_neg (by show ¬ 24641536 + (i : Nat) < 23592960; omega),
    dif_neg (show ¬ 24641536 + (i : Nat) - 23592960 < 1048576 by omega)] at k
  have q : (ix1 ⟨24641536 + (i : Nat) - 23592960 - 1048576, by omega⟩ : S32.Idx) = ix1 i := funext fun b => by
    match b with
    | ⟨0, _⟩ => exact Fin.ext (by show 24641536 + (i : Nat) - 23592960 - 1048576 = i; omega)
  rw [q] at k
  exact k

end Cert.Attn
-- ==== Proof.Value.lean ====
/- The value claim: on arguments whose queries, keys and sinks are finite, the kernel's two results are the reference's. -/
module

public import proofs.«01_k».proof.Defs
public import proofs.«01_k».proof.Proof.Arrays
public import proofs.«01_k».proof.Proof.Finite
public import proofs.«01_k».proof.Proof.RefRun
public import Idealize.ShloMosaic.Lib.Claim

@[expose] public section

set_option maxRecDepth 16384

noncomputable section

namespace Cert.Attn

open Idealize.ShloMosaic Idealize.SL.Sem Idealize.ShloMosaic.TcCoe Idealize.ShloMosaic.Tactic Idealize.ShloMosaic.StableHlo
open Cert.KernelIdeal Cert.KernelIdeal.Gen
open Cert.RefRun

/-- Both arrays, as the reference's results of any contents that agree with the kernel's arguments. -/
theorem both_arrays (m : (ℓ : Loc nD τ sig) → Buf (Elt Ideal) ℓ) (c : Dev nD)
    (V : Valuation Cert.ReferenceIdeal.τ Cert.ReferenceIdeal.sig (Elt Ideal))
    (h0 : V (Proc.devRef .tc Cert.ReferenceIdeal.main_arg0) = m ((c : Thread nD τ).loc main_arg0))
    (h1 : V (Proc.devRef .tc Cert.ReferenceIdeal.main_arg1) = m ((c : Thread nD τ).loc main_arg1))
    (h2 : V (Proc.devRef .tc Cert.ReferenceIdeal.main_arg2) = m ((c : Thread nD τ).loc main_arg2))
    (h3 : V (Proc.devRef .tc Cert.ReferenceIdeal.main_arg3) = m ((c : Thread nD τ).loc main_arg3))
    (h4 : V (Proc.devRef .tc Cert.ReferenceIdeal.main_arg4) = m ((c : Thread nD τ).loc main_arg4))
    (h5 : V (Proc.devRef .tc Cert.ReferenceIdeal.main_arg5) = m ((c : Thread nD τ).loc main_arg5))
    (fin2 : ∀ (t : Fin 9216) (c' : Fin 3072), (c' : Nat) < 2560 → Fin' ((m ((c : Thread nD τ).loc main_arg2) : FVec Ideal S9216x3072 .f32) (ix2 t c')))
    (fins : ∀ h, Fin' ((m ((c : Thread nD τ).loc main_arg5) : FVec Ideal S32 .f32) (ix1 h)))
    (fin3 : ∀ u k j d, Fin' ((m ((c : Thread nD τ).loc main_arg3) : FVec Ideal S16x128x8x64 .f32) (ix4 u k j d))) :
    (dats m 0 c).arrAt 14 cfg0.N = c_v122 (F := Ideal) V ∧ (dats m 0 c).arrAt 15 cfg0.N = c_v123 (F := Ideal) V := by
  constructor
  · refine (gelu_array m c).trans ?_
    exact congrArg₂ (fun a b => v122 (F := Ideal) (v15 (F := Ideal) (v2 (F := Ideal) a b))) h0.symm h1.symm
  · refine (attn_array m c (c_v59 V) (c_v68 V) (c_v65 V) (c_v74 V) (c_v98 V) (c_v107 V) (c_v104 V) (c_v113 V)
      (congrArg (fun a => v59 (F := Ideal) (v51 (F := Ideal)) (v32 (F := Ideal) (v17 (F := Ideal) a)) (v20 (F := Ideal) (v16 (F := Ideal) a))) h2)
      (congrArg (fun a => v65 (F := Ideal) (c_v59 V) a) h5) rfl
      (congrArg (fun a => v74 (F := Ideal) (c_v68 V) (v61 (F := Ideal) a) (c_v65 V)) h5)
      (congrArg₂ (fun b a => v98 (F := Ideal) (v90 (F := Ideal)) (v87 (F := Ideal) b (v17 (F := Ideal) a)) (v81 (F := Ideal) (v16 (F := Ideal) a))) h3 h2)
      (congrArg (fun a => v104 (F := Ideal) (c_v98 V) a) h5) rfl
      (congrArg (fun a => v113 (F := Ideal) (c_v107 V) (v100 (F := Ideal) a) (c_v104 V)) h5)
      fin2 fins fin3).trans ?_
    exact congrArg₂ (fun a b => v123 (F := Ideal) (v79 (F := Ideal) (v36 (F := Ideal) (v18 (F := Ideal) a)) (c_v68 V) (c_v74 V))
      (v118 (F := Ideal) (v89 (F := Ideal) b (v18 (F := Ideal) a)) (c_v107 V) (c_v113 V))) h2.symm h4.symm

/-- The kernel's run, with its two results and its arguments named. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8_0) = (dats m 0 c).arrAt 14 cfg0.N
      ∧ r.2.mem ((c.tc : Thread nD τ).loc main_v8_1) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 14, (h c).1 15,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 11).trans (((dats m 0 c).arrAt_in 11 rfl _).trans ((A_eq m c 11).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

theorem preFacts : Cert.Pre_finite_scores.Facts where
  slices_S9216x3072_S9216x2560_0_0 := by decide
  shapeCasts_S9216x2560_S23592960 := by decide
  shapeCasts_S16x128x8x64_S1048576 := by decide
  concatenates_S23592960_S1048576_S32_S24641568_d0 := by decide
  bcast_S_S24641568 := by decide

/-- The value claim. -/
theorem values : Cert.algebraic_KernelIdeal_ReferenceIdeal_pre_finite_scores (hPre_finite_scores := preFacts) := by
  intro m g m' g' hpre hargs
  have hb : ∀ c : Dev nD, (dats m 0 c).arrAt 14 cfg0.N = c_v122 (F := Ideal) (launchContents m' c)
      ∧ (dats m 0 c).arrAt 15 cfg0.N = c_v123 (F := Ideal) (launchContents m' c) := fun c =>
    both_arrays m c (launchContents m' c) (hargs c).1 (hargs c).2.1 (hargs c).2.2.1 (hargs c).2.2.2.1 (hargs c).2.2.2.2.1 (hargs c).2.2.2.2.2
      (fun t k hk => letI := preFacts; queries_keys _ _ _ _ _ _ (hpre c) t k hk)
      (fun h => letI := preFacts; sinks _ _ _ _ _ _ (hpre c) h)
      (fun u k j d => letI := preFacts; cached_keys _ _ _ _ _ _ (hpre c) (ix4 u k j d))
  refine ⟨fun c => c_v122 (F := Ideal) (launchContents m' c), fun c => c_v123 (F := Ideal) (launchContents m' c), ?_, Cert.RefRun.run m' g'⟩
  exact (θ_run defs _ _).mono (fun _ h c => ⟨(h c).1.trans (hb c).1, (h c).2.1.trans (hb c).2, (h c).2.2⟩) (kernel_run m g)

end Cert.Attn
-- ==== Proof.Whole.lean ====
/- Reads of whole buffers, and the scratch of a column: shared by the projections that cast their weights once per column of the grid. -/
module

public import proofs.«01_k».proof.Proof.Attend
public import Idealize.ShloMosaic.Lib.Pipeline.ValueKit.Held

@[expose] public section

noncomputable section

namespace Cert.Whole

open Idealize.ShloMosaic Idealize.ShloMosaic.TcCoe Idealize.ShloMosaic.Tactic

theorem zero_off : (![0, 0] : Fin 2 → Nat) = fun _ => 0 := funext fun b => match b with
  | ⟨0, _⟩ => rfl
  | ⟨1, _⟩ => rfl

/-- The box of a whole shape places an index at itself. -/
theorem box {S : Shape} {off : Fin S.rank → Nat} (h : off = fun _ => 0) (inb : ∀ a, off a + S.size a ≤ S.size a) (y : S.Idx) :
    (Rect.unit (s := S) off S.size inb).toLoadRect.idx y = y := by
  subst h
  exact funext fun b => Fin.ext (by show 0 + 1 * (y b : Nat) = y b; omega)

/-- A load of a whole buffer reads what it holds. -/
theorem load {sig : RefSig} {κ : Kind} {sp : Space} {S : Shape} {e : EltTy} {Val : EltTy → Type} {M : Memref sig κ sp S e} (hM : M.IsWhole) (x : S.Idx → Val e)
    {off : Fin S.rank → Nat} (h : off = fun _ => 0) (inb : ∀ a, off a + S.size a ≤ S.size a) :
    View.readAt Val M.view (Rect.unit (s := S) off S.size inb).toLoadRect (hM.unread x) = x :=
  funext fun y => (Memref.IsWhole.readAt_unread hM x _ _).trans (congrArg x (box h inb y))

/-- A load of a whole buffer reads the pieces written to it. -/
theorem load_pieces {sig : RefSig} {κ : Kind} {sp : Space} {S : Shape} {e : EltTy} {Val : EltTy → Type} [∀ e, Nonempty (Val e)] (v : View sig κ sp S e)
    (L : List (View.Piece Val S e)) {off : Fin S.rank → Nat} (h : off = fun _ => 0) (inb : ∀ a, off a + S.size a ≤ S.size a) :
    v.readCov L (Rect.unit (s := S) off S.size inb).toLoadRect = View.canon L := by
  rw [View.readCov_eq_canon']
  exact funext fun y => congrArg _ (box h inb y)

end Cert.Whole
-- ==== Proof.Merge.lean ====
/- The merge: each half of the gates times one branch's projection, added. -/
module

public import proofs.«01_k».proof.Defs
public import proofs.«01_k».proof.Proof.Whole
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Claim

@[expose] public section

set_option maxRecDepth 16384

noncomputable section

namespace Cert.Merge

open Idealize.ShloMosaic Idealize.SL.Sem Idealize.ShloMosaic.TcCoe Idealize.ShloMosaic.Tactic
open Cert.Kernel3Ideal Cert.Kernel3Ideal.Gen

/-- The cast of a block of the first branch's weights is the identity. -/
theorem cast_apply (v : FVec Ideal S256x512 .f32) (x : S256x512.Idx) : (k0_pay1 (F := Ideal) v : FVec Ideal S256x512 .bf16) x = v x := by
  pointwise [k0_pay1]

/-- One entry of a merged block, from the rows, the weights and the gates. -/
def entry (x y : FVec Ideal S1024x2048 .bf16) (p q : FVec Ideal S2048x512 .bf16) (a b : EReal) (r : Fin 1024) (k : Fin 512) : EReal :=
  a * (∑ e : Fin 2048, x (ix2 r e) * p (ix2 e k)) + b * ∑ e : Fin 2048, y (ix2 r e) * q (ix2 e k)

theorem merge_apply (x y : FVec Ideal S1024x2048 .bf16) (p q : FVec Ideal S2048x512 .bf16) (a b : FVec Ideal S1024x512 .bf16) (r : Fin 1024) (k : Fin 512) :
    k0_pay3 (F := Ideal) x p y q a b (ix2 r k) = entry x y p q (a (ix2 r k)) (b (ix2 r k)) r k := by
  pointwise [k0_pay3]
  rfl

/-- The merged values: each half of the gates times one branch's projection, added. -/
abbrev result (x y : FVec Ideal S9216x2048 .bf16) (p q : FVec Ideal S2048x4096 .f32) (g : FVec Ideal S9216x8192 .bf16) : FVec Ideal S9216x4096 .bf16 :=
  truncf .bf16 (addf (mulf (extractStridedSlice Cert.Reference3Ideal.S9216x4096 ![0, 0] (extf .f32 g Cert.Reference3Ideal.Facts₀.bitsLt_bf16_f32) Cert.Reference3Ideal.Facts₀.slices_S9216x8192_S9216x4096_0_0)
      (Host.dotGeneral Cert.Reference3Ideal.dot_S9216x2048_S2048x4096_S9216x4096_1_0_0_1_n_n none (extf .f32 x Cert.Reference3Ideal.Facts₀.bitsLt_bf16_f32) p))
    (mulf (extractStridedSlice Cert.Reference3Ideal.S9216x4096 ![0, 4096] (extf .f32 g Cert.Reference3Ideal.Facts₀.bitsLt_bf16_f32) Cert.Reference3Ideal.Facts₀.slices_S9216x8192_S9216x4096_0_4096)
      (Host.dotGeneral Cert.Reference3Ideal.dot_S9216x2048_S2048x4096_S9216x4096_1_0_0_1_n_n none (extf .f32 y Cert.Reference3Ideal.Facts₀.bitsLt_bf16_f32) q))) Cert.Reference3Ideal.Facts₀.bitsLt_bf16_f32

theorem ref_apply (x y : FVec Ideal S9216x2048 .bf16) (p q : FVec Ideal S2048x4096 .f32) (g : FVec Ideal S9216x8192 .bf16) (r : Fin 9216) (k : Fin 4096) :
    result x y p q g (ix2 r k)
      = g (ix2 r ⟨k, by omega⟩) * (∑ e : Fin 2048, x (ix2 r e) * p (ix2 e k)) + g (ix2 r ⟨4096 + k, by omega⟩) * ∑ e : Fin 2048, y (ix2 r e) * q (ix2 e k) := by
  pointwise [result]

/-! ## What a point leaves -/

section
variable (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .f32) (harg4 : arg4.IsWhole) (arg5 : Memref sig .tc .vmem S2048x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S2048x512 .bf16) (harg9 : arg9.IsWhole) (arg10 : Memref sig .tc .vmem S2048x512 .bf16) (harg10 : arg10.IsWhole)

theorem trip_pieces1 (𝒱 : Variants) (bd : Option 𝒱.V) (k0_h1 : k0_cond1 i = 1#1) (x2 : Vec Ideal S2048x512 .f32) (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 k0_h1 (harg4.unread x2) k, ∀ x : p.1.shape.Idx, p.2 x = x2 (p.1.emb x) := by
  unfold tripL_k0_t1 trip_k0_t1
  intro p hp x
  simp only [List.mem_singleton] at hp
  subst hp
  exact (cast_apply _ x).trans (Memref.IsWhole.readAt_unread harg4 x2 _ x)

theorem all_pieces1 (𝒱 : Variants) (bd : Option 𝒱.V) (k0_h1 : k0_cond1 i = 1#1) (x2 : Vec Ideal S2048x512 .f32) (n : Nat) :
    ∀ p ∈ pb_k0_t1 (F := Ideal) 𝒱 c bd i arg2 harg2 arg3 harg3 arg4 harg4 arg5 harg5 arg6 harg6 arg7 harg7 arg8 harg8 arg9 harg9 arg10 harg10 k0_h1 (harg4.unread x2) n, ∀ x : p.1.shape.Idx, p.2 x = x2 (p.1.emb x) := by
  induction n with
  | zero =>
    intro p hp
    exact absurd hp List.not_mem_nil
  | succ n ih =>
    intro p hp
    unfold pb_k0_t1 pb_k0_t1Step at hp
    split at hp
    · rcases List.mem_append.mp hp with hp | hp
      · exact trip_pieces1 c i arg2 harg2 arg3 harg3 arg4 harg4 arg5 harg5 arg6 harg6 arg7 harg7 arg8 harg8 arg9 harg9 arg10 harg10 𝒱 bd k0_h1 x2 _ p hp
      · exact ih p hp
    · exact ih p hp

theorem scratch1_A (hc0 : cond0_0 i) (x0 x1 : Vec Ideal S1024x2048 .bf16) (x2 x3 : Vec Ideal S2048x512 .f32) (x4 x5 : Vec Ideal S1024x512 .bf16) :
    sout0_A_0 (F := Ideal) c i arg2 harg2 arg3 harg3 arg4 harg4 arg5 harg5 arg6 harg6 arg7 harg7 arg8 harg8 arg9 harg9 arg10 harg10 hc0 x0 x1 x2 x3 x4 x5 = x2 := by
  funext y
  unfold sout0_A_0
  rw [View.read_writes_junk_apply_eq_canon]
  exact View.canon_apply_of_pieces (Val := Elt Ideal) (e := .bf16) x2 _ (all_pieces1 c i arg2 harg2 arg3 harg3 arg4 harg4 arg5 harg5 arg6 harg6 arg7 harg7 arg8 harg8 arg9 harg9 arg10 harg10 Variants.none none _ x2 _) y
    (scover0_A_0 (F := Ideal) c i arg2 harg2 arg3 harg3 arg4 harg4 arg5 harg5 arg6 harg6 arg7 harg7 arg8 harg8 arg9 harg9 arg10 harg10 hc0 x0 x1 x2 x3 x4 x5 y)

theorem trip_pieces2 (𝒱 : Variants) (bd : Option 𝒱.V) (k0_h1 : k0_cond1 i = 1#1) (x3 : Vec Ideal S2048x512 .f32) (k : Fin k0_t2_loop.trips) :
    ∀ p ∈ tripL_k0_t2 (F := Ideal) 𝒱 c bd i arg2 harg2 arg3 harg3 arg4 harg4 arg5 harg5 arg6 harg6 arg7 harg7 arg8 harg8 arg9 harg9 arg10 harg10 k0_h1 (harg5.unread x3) k, ∀ x : p.1.shape.Idx, p.2 x = x3 (p.1.emb x) := by
  unfold tripL_k0_t2 trip_k0_t2
  intro p hp x
  simp only [List.mem_singleton] at hp
  subst hp
  exact (cast_apply _ x).trans (Memref.IsWhole.readAt_unread harg5 x3 _ x)

theorem all_pieces2 (𝒱 : Variants) (bd : Option 𝒱.V) (k0_h1 : k0_cond1 i = 1#1) (x3 : Vec Ideal S2048x512 .f32) (n : Nat) :
    ∀ p ∈ pb_k0_t2 (F := Ideal) 𝒱 c bd i arg2 harg2 arg3 harg3 arg4 harg4 arg5 harg5 arg6 harg6 arg7 harg7 arg8 harg8 arg9 harg9 arg10 harg10 k0_h1 (harg5.unread x3) n, ∀ x : p.1.shape.Idx, p.2 x = x3 (p.1.emb x) := by
  induction n with
  | zero =>
    intro p hp
    exact absurd hp List.not_mem_nil
  | succ n ih =>
    intro p hp
    unfold pb_k0_t2 pb_k0_t2Step at hp
    split at hp
    · rcases List.mem_append.mp hp with hp | hp
      · exact trip_pieces2 c i arg2 harg2 arg3 harg3 arg4 harg4 arg5 harg5 arg6 harg6 arg7 harg7 arg8 harg8 arg9 harg9 arg10 harg10 𝒱 bd k0_h1 x3 _ p hp
      · exact ih p hp
    · exact ih p hp

theorem scratch2_A (hc0 : cond0_0 i) (x0 x1 : Vec Ideal S1024x2048 .bf16) (x2 x3 : Vec Ideal S2048x512 .f32) (x4 x5 : Vec Ideal S1024x512 .bf16) :
    sout0_A_1 (F := Ideal) c i arg2 harg2 arg3 harg3 arg4 harg4 arg5 harg5 arg6 harg6 arg7 harg7 arg8 harg8 arg9 harg9 arg10 harg10 hc0 x0 x1 x2 x3 x4 x5 = x3 := by
  funext y
  unfold sout0_A_1
  rw [View.read_writes_junk_apply_eq_canon]
  exact View.canon_apply_of_pieces (Val := Elt Ideal) (e := .bf16) x3 _ (all_pieces2 c i arg2 harg2 arg3 harg3 arg4 harg4 arg5 harg5 arg6 harg6 arg7 harg7 arg8 harg8 arg9 harg9 arg10 harg10 Variants.none none _ x3 _) y
    (scover0_A_1 (F := Ideal) c i arg2 harg2 arg3 harg3 arg4 harg4 arg5 harg5 arg6 harg6 arg7 harg7 arg8 harg8 arg9 harg9 arg10 harg10 hc0 x0 x1 x2 x3 x4 x5 y)

theorem out_A (hc0 : cond0_0 i) (x0 x1 : Vec Ideal S1024x2048 .bf16) (x2 x3 : Vec Ideal S2048x512 .f32) (x4 x5 : Vec Ideal S1024x512 .bf16) (r : Fin 1024) (k : Fin 512) :
    out0_A_6 (F := Ideal) c i arg2 harg2 arg3 harg3 arg4 harg4 arg5 harg5 arg6 harg6 arg7 harg7 arg8 harg8 arg9 harg9 arg10 harg10 hc0 x0 x1 x2 x3 x4 x5 (ix2 r k) = entry x0 x1 x2 x3 (x4 (ix2 r k)) (x5 (ix2 r k)) r k := by
  have hp := scratch1_A c i arg2 harg2 arg3 harg3 arg4 harg4 arg5 harg5 arg6 harg6 arg7 harg7 arg8 harg8 arg9 harg9 arg10 harg10 hc0 x0 x1 x2 x3 x4 x5
  have hq := scratch2_A c i arg2 harg2 arg3 harg3 arg4 harg4 arg5 harg5 arg6 harg6 arg7 harg7 arg8 harg8 arg9 harg9 arg10 harg10 hc0 x0 x1 x2 x3 x4 x5
  unfold sout0_A_0 at hp
  unfold sout0_A_1 at hq
  rw [View.read_writes_junk_eq_canon] at hp hq
  unfold out0_A_6
  rw [View.read_writes_junk_eq_canon]
  refine (congrFun (View.canon_unit_zero Whole.zero_off _ _) _).trans ?_
  rw [Whole.load harg2 x0 Whole.zero_off, Whole.load harg3 x1 Whole.zero_off, Whole.load harg6 x4 Whole.zero_off, Whole.load harg7 x5 Whole.zero_off,
    Whole.load_pieces _ _ Whole.zero_off, Whole.load_pieces _ _ Whole.zero_off]
  exact (congrArg₂ (fun p q => k0_pay3 (F := Ideal) x0 p x1 q x4 x5 (ix2 r k)) hp hq).trans (merge_apply x0 x1 x2 x3 x4 x5 r k)

theorem scratch1_B (hc0 : ¬cond0_0 i) (x0 x1 : Vec Ideal S1024x2048 .bf16) (x2 x3 : Vec Ideal S2048x512 .f32) (x4 x5 : Vec Ideal S1024x512 .bf16) (xs0 xs1 : Vec Ideal S2048x512 .bf16) :
    sout0_B_0 (F := Ideal) c i arg2 harg2 arg3 harg3 arg4 harg4 arg5 harg5 arg6 harg6 arg7 harg7 arg8 harg8 arg9 harg9 arg10 harg10 hc0 x0 x1 x2 x3 x4 x5 xs0 xs1 = xs0 :=
  rfl

theorem scratch2_B (hc0 : ¬cond0_0 i) (x0 x1 : Vec Ideal S1024x2048 .bf16) (x2 x3 : Vec Ideal S2048x512 .f32) (x4 x5 : Vec Ideal S1024x512 .bf16) (xs0 xs1 : Vec Ideal S2048x512 .bf16) :
    sout0_B_1 (F := Ideal) c i arg2 harg2 arg3 harg3 arg4 harg4 arg5 harg5 arg6 harg6 arg7 harg7 arg8 harg8 arg9 harg9 arg10 harg10 hc0 x0 x1 x2 x3 x4 x5 xs0 xs1 = xs1 :=
  rfl

theorem out_B (hc0 : ¬cond0_0 i) (x0 x1 : Vec Ideal S1024x2048 .bf16) (x2 x3 : Vec Ideal S2048x512 .f32) (x4 x5 : Vec Ideal S1024x512 .bf16) (xs0 xs1 : Vec Ideal S2048x512 .bf16) (r : Fin 1024) (k : Fin 512) :
    out0_B_6 (F := Ideal) c i arg2 harg2 arg3 harg3 arg4 harg4 arg5 harg5 arg6 harg6 arg7 harg7 arg8 harg8 arg9 harg9 arg10 harg10 hc0 x0 x1 x2 x3 x4 x5 xs0 xs1 (ix2 r k) = entry x0 x1 xs0 xs1 (x4 (ix2 r k)) (x5 (ix2 r k)) r k := by
  unfold out0_B_6
  rw [View.read_writes_junk_eq_canon]
  refine (congrFun (View.canon_unit_zero Whole.zero_off _ _) _).trans ?_
  rw [Whole.load harg2 x0 Whole.zero_off, Whole.load harg3 x1 Whole.zero_off, Whole.load harg6 x4 Whole.zero_off, Whole.load harg7 x5 Whole.zero_off,
    Whole.load harg9 xs0 Whole.zero_off, Whole.load harg10 xs1 Whole.zero_off]
  exact merge_apply x0 x1 xs0 xs1 x4 x5 r k

end

/-! ## The blocks of the arguments -/

theorem index_at : ∀ t : Fin cfg0.N, win0_0.index t = ![(t : Nat) % 9, 0] ∧ win0_1.index t = ![(t : Nat) % 9, 0]
    ∧ win0_2.index t = ![0, (t : Nat) / 9] ∧ win0_3.index t = ![0, (t : Nat) / 9] ∧ win0_4.index t = ![(t : Nat) % 9, (t : Nat) / 9]
    ∧ win0_5.index t = ![(t : Nat) % 9, (t : Nat) / 9 + 8] ∧ win0_6.index t = ![(t : Nat) % 9, (t : Nat) / 9] := by decide +kernel

theorem points (t : Fin cfg0.N) : (t : Nat) < 72 := t.2

variable (m : (ℓ : Loc nD τ sig) → Buf (Elt Ideal) ℓ) (c : Dev nD)

theorem blk0 (t : Fin cfg0.N) (r : Fin 1024) (k : Fin 2048) :
    iblk m c 0 t (ix2 r k) = m ((c : Thread nD τ).loc main_arg0) (ix2 ⟨(t : Nat) % 9 * 1024 + r, by omega⟩ k) := by
  have h := points t
  blk_ext [iblk, V_main_arg0, index_at t]

theorem blk1 (t : Fin cfg0.N) (r : Fin 1024) (k : Fin 2048) :
    iblk m c 1 t (ix2 r k) = m ((c : Thread nD τ).loc main_arg1) (ix2 ⟨(t : Nat) % 9 * 1024 + r, by omega⟩ k) := by
  have h := points t
  blk_ext [iblk, V_main_arg1, index_at t]

theorem blk2 (t : Fin cfg0.N) (r : Fin 2048) (k : Fin 512) :
    iblk m c 2 t (ix2 r k) = m ((c : Thread nD τ).loc main_arg2) (ix2 r ⟨(t : Nat) / 9 * 512 + k, by have := points t; omega⟩) := by
  have h := points t
  blk_ext [iblk, V_main_arg2, index_at t]

theorem blk3 (t : Fin cfg0.N) (r : Fin 2048) (k : Fin 512) :
    iblk m c 3 t (ix2 r k) = m ((c : Thread nD τ).loc main_arg3) (ix2 r ⟨(t : Nat) / 9 * 512 + k, by have := points t; omega⟩) := by
  have h := points t
  blk_ext [iblk, V_main_arg3, index_at t]

theorem blk4 (t : Fin cfg0.N) (r : Fin 1024) (k : Fin 512) :
    iblk m c 4 t (ix2 r k) = m ((c : Thread nD τ).loc main_arg4) (ix2 ⟨(t : Nat) % 9 * 1024 + r, by omega⟩ ⟨(t : Nat) / 9 * 512 + k, by have := points t; omega⟩) := by
  have h := points t
  blk_ext [iblk, V_main_arg4, index_at t]

theorem blk5 (t : Fin cfg0.N) (r : Fin 1024) (k : Fin 512) :
    iblk m c 5 t (ix2 r k) = m ((c : Thread nD τ).loc main_arg4) (ix2 ⟨(t : Nat) % 9 * 1024 + r, by omega⟩ ⟨4096 + ((t : Nat) / 9 * 512 + k), by have := points t; omega⟩) := by
  have h := points t
  blk_ext [iblk, V_main_arg4, index_at t]

theorem first {α β γ : Type} {x : α × β × γ} {a : α} {b : β} {d : γ} (h : x = (a, b, d)) : x.1 = a := by rw [h]

theorem second {α β γ : Type} {x : α × β × γ} {a : α} {b : β} {d : γ} (h : x = (a, b, d)) : x.2.1 = b := by rw [h]

theorem third {α β γ : Type} {x : α × β × γ} {a : α} {b : β} {d : γ} (h : x = (a, b, d)) : x.2.2 = d := by rw [h]

/-! Each scratch holds, through the nine points of a column, the cast block of the weights that the first of them wrote. -/

theorem held1 (t : Fin cfg0.N) (i : S2048x512.Idx) :
    (outsAt0 m c t.val t.isLt).2.1 i = iblk m c 2 ⟨9 * (t.val / 9), by have := points t; show _ < 72; omega⟩ i := by
  refine Pipeline.eq_of_write_hold_apply (fun n h (i : S2048x512.Idx) => (outsAt0 m c n h).2.1 i) 9 (fun t i => iblk m c 2 t i) ?_ ?_ t i
  · intro t h0 i
    exact (congrFun (second (outsAt0_A m c t h0)) i).trans (congrFun (scratch1_A _ _ _ _ _ _ _ _ _ _ _ _ _ _ _ _ _ _ _ _ _ _ _ _ _ _ _) i)
  · intro t h0 i
    exact (congrFun (second (outsAt0_B m c t h0)) i).trans (congrFun (scratch1_B _ _ _ _ _ _ _ _ _ _ _ _ _ _ _ _ _ _ _ _ _ _ _ _ _ _ _ _ _) i)

theorem held_before1 (t : Fin cfg0.N) (h0 : ¬t.val % 9 = 0) (e : Fin 2048) (k : Fin 512) :
    (outsAt0 m c (t.val - 1) (Nat.lt_of_le_of_lt (Nat.sub_le _ _) t.isLt)).2.1 (ix2 e k)
      = m ((c : Thread nD τ).loc main_arg2) (ix2 e ⟨(t : Nat) / 9 * 512 + k, by have := points t; omega⟩) := by
  have h72 := points t
  refine (held1 m c ⟨t.val - 1, Nat.lt_of_le_of_lt (Nat.sub_le _ _) t.isLt⟩ (ix2 e k)).trans ((blk2 m c _ e k).trans (Attn.at2 _ _ _ _ _ rfl ?_))
  show 9 * ((t.val - 1) / 9) / 9 * 512 + (k : Nat) = t.val / 9 * 512 + k
  omega

theorem held2 (t : Fin cfg0.N) (i : S2048x512.Idx) :
    (outsAt0 m c t.val t.isLt).2.2 i = iblk m c 3 ⟨9 * (t.val / 9), by have := points t; show _ < 72; omega⟩ i := by
  refine Pipeline.eq_of_write_hold_apply (fun n h (i : S2048x512.Idx) => (outsAt0 m c n h).2.2 i) 9 (fun t i => iblk m c 3 t i) ?_ ?_ t i
  · intro t h0 i
    exact (congrFun (third (outsAt0_A m c t h0)) i).trans (congrFun (scratch2_A _ _ _ _ _ _ _ _ _ _ _ _ _ _ _ _ _ _ _ _ _ _ _ _ _ _ _) i)
  · intro t h0 i
    exact (congrFun (third (outsAt0_B m c t h0)) i).trans (congrFun (scratch2_B _ _ _ _ _ _ _ _ _ _ _ _ _ _ _ _ _ _ _ _ _ _ _ _ _ _ _ _ _) i)

theorem held_before2 (t : Fin cfg0.N) (h0 : ¬t.val % 9 = 0) (e : Fin 2048) (k : Fin 512) :
    (outsAt0 m c (t.val - 1) (Nat.lt_of_le_of_lt (Nat.sub_le _ _) t.isLt)).2.2 (ix2 e k)
      = m ((c : Thread nD τ).loc main_arg3) (ix2 e ⟨(t : Nat) / 9 * 512 + k, by have := points t; omega⟩) := by
  have h72 := points t
  refine (held2 m c ⟨t.val - 1, Nat.lt_of_le_of_lt (Nat.sub_le _ _) t.isLt⟩ (ix2 e k)).trans ((blk3 m c _ e k).trans (Attn.at2 _ _ _ _ _ rfl ?_))
  show 9 * ((t.val - 1) / 9) / 9 * 512 + (k : Nat) = t.val / 9 * 512 + k
  omega

theorem entries {x y : FVec Ideal S1024x2048 .bf16} {p q : FVec Ideal S2048x512 .bf16} {X Y : FVec Ideal S9216x2048 .bf16} {P Q : FVec Ideal S2048x4096 .f32}
    {r : Fin 1024} {k : Fin 512} {R : Fin 9216} {K : Fin 4096} {a b a' b' : EReal} (ha : a = a') (hb : b = b') (hx : ∀ e, x (ix2 r e) = X (ix2 R e))
    (hp : ∀ e, p (ix2 e k) = P (ix2 e K)) (hy : ∀ e, y (ix2 r e) = Y (ix2 R e)) (hq : ∀ e, q (ix2 e k) = Q (ix2 e K)) :
    entry x y p q a b r k = a' * (∑ e : Fin 2048, X (ix2 R e) * P (ix2 e K)) + b' * ∑ e : Fin 2048, Y (ix2 R e) * Q (ix2 e K) := by
  unfold entry
  simp only [ha, hb, hx, hp, hy, hq]

/-- One point's block of the result is the reference's. -/
theorem point (t : Fin cfg0.N) (r : Fin 1024) (k : Fin 512) :
    (outsAt0 m c t.val t.isLt).1 (ix2 r k)
      = result (m ((c : Thread nD τ).loc main_arg0)) (m ((c : Thread nD τ).loc main_arg1)) (m ((c : Thread nD τ).loc main_arg2)) (m ((c : Thread nD τ).loc main_arg3)) (m ((c : Thread nD τ).loc main_arg4))
          (ix2 ⟨(t : Nat) % 9 * 1024 + r, by omega⟩ ⟨(t : Nat) / 9 * 512 + k, by have := points t; omega⟩) := by
  refine Eq.trans ?_ (ref_apply _ _ _ _ _ _ _).symm
  by_cases h0 : t.val % 9 = 0
  · refine (congrFun (first (outsAt0_A m c t h0)) (ix2 r k)).trans ((out_A _ _ _ _ _ _ _ _ _ _ _ _ _ _ _ _ _ _ _ _ _ _ _ _ _ _ _ r k).trans ?_)
    exact entries (blk4 m c t r k) (blk5 m c t r k) (fun e => blk0 m c t r e) (fun e => blk2 m c t e k) (fun e => blk1 m c t r e) (fun e => blk3 m c t e k)
  · refine (congrFun (first (outsAt0_B m c t h0)) (ix2 r k)).trans ((out_B _ _ _ _ _ _ _ _ _ _ _ _ _ _ _ _ _ _ _ _ _ _ _ _ _ _ _ _ _ r k).trans ?_)
    exact entries (blk4 m c t r k) (blk5 m c t r k) (fun e => blk0 m c t r e) (fun e => held_before1 m c t h0 e k) (fun e => blk1 m c t r e) (fun e => held_before2 m c t h0 e k)

/-- The array ends at the reference's result. -/
theorem array :
    (dats m 0 c).arrAt 6 cfg0.N
      = result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have h72 := points t
  obtain ⟨r, k, rfl⟩ : ∃ (r : Fin 1024) (k : Fin 512), y = ix2 r k := ⟨y 0, y 1, funext fun b => by match b with | ⟨0, _⟩ => rfl | ⟨1, _⟩ => rfl⟩
  blk_simp
  rw [after0_6]
  refine (point m c t r k).trans (congrArg _ ?_)
  blk_ext [index_at t]

/-- The value claim. -/
theorem values : Cert.algebraic_Kernel3Ideal_Reference3Ideal := by
  intro m g m' g' hpre hargs
  refine ⟨fun c => result (m' ((c.tc : Thread nD τ).loc Cert.Reference3Ideal.main_arg0)) (m' ((c.tc : Thread nD τ).loc Cert.Reference3Ideal.main_arg1)) (m' ((c.tc : Thread nD τ).loc Cert.Reference3Ideal.main_arg2))
    (m' ((c.tc : Thread nD τ).loc Cert.Reference3Ideal.main_arg3)) (m' ((c.tc : Thread nD τ).loc Cert.Reference3Ideal.main_arg4)), ?_, Cert.Reference3Ideal.Value.run m' g'⟩
  refine (θ_run defs _ _).mono (fun _ h c => ⟨(h c).1.trans ?_, (h c).2⟩) (Cert.Kernel3Ideal.Value.run m g)
  beta_reduce
  rw [(hargs c).1, (hargs c).2.1, (hargs c).2.2.1, (hargs c).2.2.2.1, (hargs c).2.2.2.2]
  exact (Cert.Kernel3Ideal.Value.final6 m c).symm.trans (array m c)

end Cert.Merge
-- ==== Proof.OutProj.lean ====
/- The output projection: every row of the merged values times the projection's weights, added to the residual stream. -/
module

public import proofs.«01_k».proof.Defs
public import proofs.«01_k».proof.Proof.Whole
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Lib.Claim

@[expose] public section

set_option maxRecDepth 16384

noncomputable section

namespace Cert.OutProj

open Idealize.ShloMosaic Idealize.SL.Sem Idealize.ShloMosaic.TcCoe Idealize.ShloMosaic.Tactic
open Cert.Kernel4Ideal Cert.Kernel4Ideal.Gen

/-- The cast of a block of the weights is the identity. -/
theorem cast_apply (v : FVec Ideal S256x512 .f32) (x : S256x512.Idx) : (k0_pay1 (F := Ideal) v : FVec Ideal S256x512 .bf16) x = v x := by
  pointwise [k0_pay1]

theorem prompt_apply (x : FVec Ideal S1024x4096 .bf16) (w : FVec Ideal S4096x512 .bf16) (p : FVec Ideal S1024x512 .f32) (r : Fin 1024) (k : Fin 512) :
    k0_pay3 (F := Ideal) x w p (ix2 r k) = p (ix2 r k) + ∑ e : Fin 4096, x (ix2 r e) * w (ix2 e k) := by
  pointwise [k0_pay3, k0_pay2]

theorem sample_apply (x : FVec Ideal S1024x4096 .bf16) (w : FVec Ideal S4096x512 .bf16) (p : FVec Ideal S1024x512 .f32) (r : Fin 1024) (k : Fin 512) :
    k0_pay4 (F := Ideal) x w p (ix2 r k) = p (ix2 r k) + ∑ e : Fin 4096, x (ix2 r e) * w (ix2 e k) :=
  prompt_apply x w p r k

/-- The reference's result, entry by entry. -/
theorem ref_apply (a : FVec Ideal S9216x4096 .bf16) (w : FVec Ideal S4096x4096 .f32) (p : FVec Ideal S8192x4096 .f32) (s : FVec Ideal S1024x4096 .f32) (r : Fin 9216) (k : Fin 4096) :
    (addf (concatenate Cert.Reference4Ideal.S9216x4096 0 [⟨Cert.Reference4Ideal.S8192x4096, p⟩, ⟨Cert.Reference4Ideal.S1024x4096, s⟩] Cert.Reference4Ideal.Facts₀.concatenates_S8192x4096_S1024x4096_S9216x4096_d0)
        (Host.dotGeneral Cert.Reference4Ideal.dot_S9216x4096_S4096x4096_S9216x4096_1_0_0_1_n_n none (extf .f32 a Cert.Reference4Ideal.Facts₀.bitsLt_bf16_f32) w) : FVec Ideal Cert.Reference4Ideal.S9216x4096 .f32) (ix2 r k)
      = (if h : (r : Nat) < 8192 then p (ix2 ⟨r, h⟩ k) else s (ix2 ⟨(r : Nat) - 8192, by omega⟩ k)) + ∑ e : Fin 4096, a (ix2 r e) * w (ix2 e k) := by
  pointwise

/-! ## What a point leaves -/

section
variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S4096x512 .bf16) (harg7 : arg7.IsWhole)

theorem trip_pieces (𝒱 : Variants) (bd : Option 𝒱.V) (k0_h1 : k0_cond1 i = 1#1) (x1 : Vec Ideal S4096x512 .f32) (k : Fin k0_t1_loop.trips) :
    ∀ p ∈ tripL_k0_t1 (F := Ideal) 𝒱 c bd i arg2 harg2 arg3 harg3 arg4 harg4 arg5 harg5 arg6 harg6 arg7 harg7 k0_h1 (harg3.unread x1) k, ∀ x : p.1.shape.Idx, p.2 x = x1 (p.1.emb x) := by
  unfold tripL_k0_t1 trip_k0_t1
  intro p hp x
  simp only [List.mem_singleton] at hp
  subst hp
  exact (cast_apply _ x).trans (Memref.IsWhole.readAt_unread harg3 x1 _ x)

theorem all_pieces (𝒱 : Variants) (bd : Option 𝒱.V) (k0_h1 : k0_cond1 i = 1#1) (x1 : Vec Ideal S4096x512 .f32) (n : Nat) :
    ∀ p ∈ pb_k0_t1 (F := Ideal) 𝒱 c bd i arg2 harg2 arg3 harg3 arg4 harg4 arg5 harg5 arg6 harg6 arg7 harg7 k0_h1 (harg3.unread x1) n, ∀ x : p.1.shape.Idx, p.2 x = x1 (p.1.emb x) := by
  induction n with
  | zero =>
    intro p hp
    exact absurd hp List.not_mem_nil
  | succ n ih =>
    intro p hp
    unfold pb_k0_t1 pb_k0_t1Step at hp
    split at hp
    · rcases List.mem_append.mp hp with hp | hp
      · exact trip_pieces c i arg2 harg2 arg3 harg3 arg4 harg4 arg5 harg5 arg6 harg6 arg7 harg7 𝒱 bd k0_h1 x1 _ p hp
      · exact ih p hp
    · exact ih p hp

theorem scratch_A (hc0 : cond0_0 i) (hc1 : cond0_1 i) (hc2 : ¬cond0_2 i) (x0 : Vec Ideal S1024x4096 .bf16) (x1 : Vec Ideal S4096x512 .f32) (x2 x3 : Vec Ideal S1024x512 .f32) :
    sout0_A_0 (F := Ideal) c i arg2 harg2 arg3 harg3 arg4 harg4 arg5 harg5 arg6 harg6 arg7 harg7 hc0 hc1 hc2 x0 x1 x2 x3 = x1 := by
  funext y
  unfold sout0_A_0
  rw [View.read_writes_junk_apply_eq_canon]
  exact View.canon_apply_of_pieces (Val := Elt Ideal) (e := .bf16) x1 _ (all_pieces c i arg2 harg2 arg3 harg3 arg4 harg4 arg5 harg5 arg6 harg6 arg7 harg7 Variants.none none _ x1 _) y
    (scover0_A_0 (F := Ideal) c i arg2 harg2 arg3 harg3 arg4 harg4 arg5 harg5 arg6 harg6 arg7 harg7 hc0 hc1 hc2 x0 x1 x2 x3 y)

theorem out_A (hc0 : cond0_0 i) (hc1 : cond0_1 i) (hc2 : ¬cond0_2 i) (x0 : Vec Ideal S1024x4096 .bf16) (x1 : Vec Ideal S4096x512 .f32) (x2 x3 : Vec Ideal S1024x512 .f32) (r : Fin 1024) (k : Fin 512) :
    out0_A_4 (F := Ideal) c i arg2 harg2 arg3 harg3 arg4 harg4 arg5 harg5 arg6 harg6 arg7 harg7 hc0 hc1 hc2 x0 x1 x2 x3 (ix2 r k) = x2 (ix2 r k) + ∑ e : Fin 4096, x0 (ix2 r e) * x1 (ix2 e k) := by
  have hw := scratch_A c i arg2 harg2 arg3 harg3 arg4 harg4 arg5 harg5 arg6 harg6 arg7 harg7 hc0 hc1 hc2 x0 x1 x2 x3
  unfold sout0_A_0 at hw
  rw [View.read_writes_junk_eq_canon] at hw
  unfold out0_A_4
  rw [View.read_writes_junk_eq_canon]
  refine (congrFun (View.canon_unit_zero Whole.zero_off _ _) _).trans ?_
  rw [Whole.load harg2 x0 Whole.zero_off, Whole.load harg4 x2 Whole.zero_off, Whole.load_pieces _ _ Whole.zero_off]
  exact (congrArg (fun w => k0_pay3 (F := Ideal) x0 w x2 (ix2 r k)) hw).trans (prompt_apply x0 x1 x2 r k)

theorem scratch_B (hc0 : ¬cond0_0 i) (hc1 : cond0_1 i) (hc2 : ¬cond0_2 i) (x0 : Vec Ideal S1024x4096 .bf16) (x1 : Vec Ideal S4096x512 .f32) (x2 x3 : Vec Ideal S1024x512 .f32) (xs0 : Vec Ideal S4096x512 .bf16) :
    sout0_B_0 (F := Ideal) c i arg2 harg2 arg3 harg3 arg4 harg4 arg5 harg5 arg6 harg6 arg7 harg7 hc0 hc1 hc2 x0 x1 x2 x3 xs0 = xs0 :=
  rfl

theorem out_B (hc0 : ¬cond0_0 i) (hc1 : cond0_1 i) (hc2 : ¬cond0_2 i) (x0 : Vec Ideal S1024x4096 .bf16) (x1 : Vec Ideal S4096x512 .f32) (x2 x3 : Vec Ideal S1024x512 .f32) (xs0 : Vec Ideal S4096x512 .bf16) (r : Fin 1024) (k : Fin 512) :
    out0_B_4 (F := Ideal) c i arg2 harg2 arg3 harg3 arg4 harg4 arg5 harg5 arg6 harg6 arg7 harg7 hc0 hc1 hc2 x0 x1 x2 x3 xs0 (ix2 r k) = x2 (ix2 r k) + ∑ e : Fin 4096, x0 (ix2 r e) * xs0 (ix2 e k) := by
  unfold out0_B_4
  rw [View.read_writes_junk_eq_canon]
  refine (congrFun (View.canon_unit_zero Whole.zero_off _ _) _).trans ?_
  rw [Whole.load harg2 x0 Whole.zero_off, Whole.load harg7 xs0 Whole.zero_off, Whole.load harg4 x2 Whole.zero_off]
  exact prompt_apply x0 xs0 x2 r k

theorem scratch_C (hc0 : ¬cond0_0 i) (hc1 : ¬cond0_1 i) (hc2 : cond0_2 i) (x0 : Vec Ideal S1024x4096 .bf16) (x1 : Vec Ideal S4096x512 .f32) (x2 x3 : Vec Ideal S1024x512 .f32) (xs0 : Vec Ideal S4096x512 .bf16) :
    sout0_C_0 (F := Ideal) c i arg2 harg2 arg3 harg3 arg4 harg4 arg5 harg5 arg6 harg6 arg7 harg7 hc0 hc1 hc2 x0 x1 x2 x3 xs0 = xs0 :=
  rfl

theorem out_C (hc0 : ¬cond0_0 i) (hc1 : ¬cond0_1 i) (hc2 : cond0_2 i) (x0 : Vec Ideal S1024x4096 .bf16) (x1 : Vec Ideal S4096x512 .f32) (x2 x3 : Vec Ideal S1024x512 .f32) (xs0 : Vec Ideal S4096x512 .bf16) (r : Fin 1024) (k : Fin 512) :
    out0_C_4 (F := Ideal) c i arg2 harg2 arg3 harg3 arg4 harg4 arg5 harg5 arg6 harg6 arg7 harg7 hc0 hc1 hc2 x0 x1 x2 x3 xs0 (ix2 r k) = x3 (ix2 r k) + ∑ e : Fin 4096, x0 (ix2 r e) * xs0 (ix2 e k) := by
  unfold out0_C_4
  rw [View.read_writes_junk_eq_canon]
  refine (congrFun (View.canon_unit_zero Whole.zero_off _ _) _).trans ?_
  rw [Whole.load harg2 x0 Whole.zero_off, Whole.load harg7 xs0 Whole.zero_off, Whole.load harg5 x3 Whole.zero_off]
  exact sample_apply x0 xs0 x3 r k

end

/-! ## The blocks of the arguments -/

theorem index_at : ∀ t : Fin cfg0.N, win0_0.index t = ![(t : Nat) % 9, 0] ∧ win0_1.index t = ![0, (t : Nat) / 9]
    ∧ win0_2.index t = ![min ((t : Nat) % 9) 7, (t : Nat) / 9] ∧ win0_3.index t = ![(t : Nat) % 9 - 8, (t : Nat) / 9]
    ∧ win0_4.index t = ![(t : Nat) % 9, (t : Nat) / 9] := by decide +kernel

theorem points (t : Fin cfg0.N) : (t : Nat) < 72 := t.2

variable (m : (ℓ : Loc nD τ sig) → Buf (Elt Ideal) ℓ) (c : Dev nD)

theorem blk0 (t : Fin cfg0.N) (r : Fin 1024) (k : Fin 4096) :
    iblk m c 0 t (ix2 r k) = m ((c : Thread nD τ).loc main_arg0) (ix2 ⟨(t : Nat) % 9 * 1024 + r, by omega⟩ k) := by
  have h := points t
  blk_ext [iblk, V_main_arg0, index_at t]

theorem blk1 (t : Fin cfg0.N) (r : Fin 4096) (k : Fin 512) :
    iblk m c 1 t (ix2 r k) = m ((c : Thread nD τ).loc main_arg1) (ix2 r ⟨(t : Nat) / 9 * 512 + k, by have := points t; omega⟩) := by
  have h := points t
  blk_ext [iblk, V_main_arg1, index_at t]

theorem blk2 (t : Fin cfg0.N) (r : Fin 1024) (k : Fin 512) :
    iblk m c 2 t (ix2 r k) = m ((c : Thread nD τ).loc main_arg2) (ix2 ⟨min ((t : Nat) % 9) 7 * 1024 + r, by omega⟩ ⟨(t : Nat) / 9 * 512 + k, by have := points t; omega⟩) := by
  have h := points t
  blk_ext [iblk, V_main_arg2, index_at t]

theorem blk3 (t : Fin cfg0.N) (r : Fin 1024) (k : Fin 512) :
    iblk m c 3 t (ix2 r k) = m ((c : Thread nD τ).loc main_arg3) (ix2 ⟨((t : Nat) % 9 - 8) * 1024 + r, by omega⟩ ⟨(t : Nat) / 9 * 512 + k, by have := points t; omega⟩) := by
  have h := points t
  blk_ext [iblk, V_main_arg3, index_at t]

theorem fst_of {α β : Type} {x : α × β} {a : α} {b : β} (h : x = (a, b)) : x.1 = a := by rw [h]

theorem snd_of {α β : Type} {x : α × β} {a : α} {b : β} (h : x = (a, b)) : x.2 = b := by rw [h]

/-- The scratch holds, through the nine points of a column, the cast block of the weights that the first of them wrote. -/
theorem held (t : Fin cfg0.N) (i : S4096x512.Idx) :
    (outsAt0 m c t.val t.isLt).2 i = iblk m c 1 ⟨9 * (t.val / 9), by have := points t; show _ < 72; omega⟩ i := by
  refine Pipeline.eq_of_write_hold_apply (fun n h (i : S4096x512.Idx) => (outsAt0 m c n h).2 i) 9 (fun t i => iblk m c 1 t i) ?_ ?_ t i
  · intro t h0 i
    have h1 : t.val % 9 ≤ 7 := by omega
    have h2 : ¬t.val % 9 = 8 := by omega
    exact (congrFun (snd_of (outsAt0_A m c t h0 h1 h2)) i).trans (congrFun (scratch_A _ _ _ _ _ _ _ _ _ _ _ _ _ _ _ _ _ _ _ _ _) i)
  · intro t h0 i
    by_cases h1 : t.val % 9 ≤ 7
    · have h2 : ¬t.val % 9 = 8 := by omega
      exact (congrFun (snd_of (outsAt0_B m c t h0 h1 h2)) i).trans (congrFun (scratch_B _ _ _ _ _ _ _ _ _ _ _ _ _ _ _ _ _ _ _ _ _ _) i)
    · have h2 : t.val % 9 = 8 := by omega
      exact (congrFun (snd_of (outsAt0_C m c t h0 h1 h2)) i).trans (congrFun (scratch_C _ _ _ _ _ _ _ _ _ _ _ _ _ _ _ _ _ _ _ _ _ _) i)

/-- The scratch a later point of a column reads holds that column's weights. -/
theorem held_before (t : Fin cfg0.N) (h0 : ¬t.val % 9 = 0) (e : Fin 4096) (k : Fin 512) :
    (outsAt0 m c (t.val - 1) (Nat.lt_of_le_of_lt (Nat.sub_le _ _) t.isLt)).2 (ix2 e k)
      = m ((c : Thread nD τ).loc main_arg1) (ix2 e ⟨(t : Nat) / 9 * 512 + k, by have := points t; omega⟩) := by
  have h72 := points t
  refine (held m c ⟨t.val - 1, Nat.lt_of_le_of_lt (Nat.sub_le _ _) t.isLt⟩ (ix2 e k)).trans ((blk1 m c _ e k).trans (Attn.at2 _ _ _ _ _ rfl ?_))
  show 9 * ((t.val - 1) / 9) / 9 * 512 + (k : Nat) = t.val / 9 * 512 + k
  omega

theorem dots {x : FVec Ideal S1024x4096 .bf16} {w : FVec Ideal S4096x512 .bf16} {X : FVec Ideal S9216x4096 .bf16} {W : FVec Ideal S4096x4096 .f32}
    {r : Fin 1024} {k : Fin 512} {R : Fin 9216} {K : Fin 4096} {a b : EReal} (h : a = b) (hx : ∀ e, x (ix2 r e) = X (ix2 R e)) (hw : ∀ e, w (ix2 e k) = W (ix2 e K)) :
    a + ∑ e : Fin 4096, x (ix2 r e) * w (ix2 e k) = b + ∑ e : Fin 4096, X (ix2 R e) * W (ix2 e K) := by
  simp only [h, hx, hw]

/-- The result: the residual stream, prompt rows before sample rows, plus the projection. -/
abbrev result (a : FVec Ideal S9216x4096 .bf16) (w : FVec Ideal S4096x4096 .f32) (p : FVec Ideal S8192x4096 .f32) (s : FVec Ideal S1024x4096 .f32) : FVec Ideal S9216x4096 .f32 :=
  addf (concatenate Cert.Reference4Ideal.S9216x4096 0 [⟨Cert.Reference4Ideal.S8192x4096, p⟩, ⟨Cert.Reference4Ideal.S1024x4096, s⟩] Cert.Reference4Ideal.Facts₀.concatenates_S8192x4096_S1024x4096_S9216x4096_d0)
    (Host.dotGeneral Cert.Reference4Ideal.dot_S9216x4096_S4096x4096_S9216x4096_1_0_0_1_n_n none (extf .f32 a Cert.Reference4Ideal.Facts₀.bitsLt_bf16_f32) w)

/-- One point's block of the result is the reference's. -/
theorem point (t : Fin cfg0.N) (r : Fin 1024) (k : Fin 512) :
    (outsAt0 m c t.val t.isLt).1 (ix2 r k)
      = result (m ((c : Thread nD τ).loc main_arg0)) (m ((c : Thread nD τ).loc main_arg1)) (m ((c : Thread nD τ).loc main_arg2)) (m ((c : Thread nD τ).loc main_arg3))
          (ix2 ⟨(t : Nat) % 9 * 1024 + r, by omega⟩ ⟨(t : Nat) / 9 * 512 + k, by have := points t; omega⟩) := by
  have h72 := points t
  have hr := r.2
  refine Eq.trans ?_ (ref_apply _ _ _ _ _ _).symm
  by_cases h1 : t.val % 9 ≤ 7
  · have h2 : ¬t.val % 9 = 8 := by omega
    have h8 : ((⟨(t : Nat) % 9 * 1024 + r, by omega⟩ : Fin 9216) : Nat) < 8192 := by show (t : Nat) % 9 * 1024 + (r : Nat) < 8192; omega
    have hp : min ((t : Nat) % 9) 7 * 1024 + (r : Nat) = (t : Nat) % 9 * 1024 + r := by omega
    rw [dif_pos h8]
    by_cases h0 : t.val % 9 = 0
    · refine (congrFun (fst_of (outsAt0_A m c t h0 h1 h2)) (ix2 r k)).trans ((out_A _ _ _ _ _ _ _ _ _ _ _ _ _ _ _ _ _ _ _ _ _ r k).trans ?_)
      exact dots ((blk2 m c t r k).trans (Attn.at2 _ _ _ _ _ hp rfl)) (fun e => blk0 m c t r e) (fun e => blk1 m c t e k)
    · refine (congrFun (fst_of (outsAt0_B m c t h0 h1 h2)) (ix2 r k)).trans ((out_B _ _ _ _ _ _ _ _ _ _ _ _ _ _ _ _ _ _ _ _ _ _ r k).trans ?_)
      exact dots ((blk2 m c t r k).trans (Attn.at2 _ _ _ _ _ hp rfl)) (fun e => blk0 m c t r e) (fun e => held_before m c t h0 e k)
  · have h2 : t.val % 9 = 8 := by omega
    have h0 : ¬t.val % 9 = 0 := by omega
    have h8 : ¬((⟨(t : Nat) % 9 * 1024 + r, by omega⟩ : Fin 9216) : Nat) < 8192 := by show ¬(t : Nat) % 9 * 1024 + (r : Nat) < 8192; omega
    have hs : ((t : Nat) % 9 - 8) * 1024 + (r : Nat) = (t : Nat) % 9 * 1024 + r - 8192 := by omega
    rw [dif_neg h8]
    refine (congrFun (fst_of (outsAt0_C m c t h0 h1 h2)) (ix2 r k)).trans ((out_C _ _ _ _ _ _ _ _ _ _ _ _ _ _ _ _ _ _ _ _ _ _ r k).trans ?_)
    exact dots ((blk3 m c t r k).trans (Attn.at2 _ _ _ _ _ hs rfl)) (fun e => blk0 m c t r e) (fun e => held_before m c t h0 e k)

/-- The array ends at the reference's result. -/
theorem array :
    (dats m 0 c).arrAt 4 cfg0.N
      = result (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h72 := points t
  obtain ⟨r, k, rfl⟩ : ∃ (r : Fin 1024) (k : Fin 512), y = ix2 r k := ⟨y 0, y 1, funext fun b => by match b with | ⟨0, _⟩ => rfl | ⟨1, _⟩ => rfl⟩
  blk_simp
  rw [after0_4]
  refine (point m c t r k).trans (congrArg _ ?_)
  blk_ext [index_at t]

/-- The value claim. -/
theorem values : Cert.algebraic_Kernel4Ideal_Reference4Ideal := by
  intro m g m' g' hpre hargs
  refine ⟨fun c => result (m' ((c.tc : Thread nD τ).loc Cert.Reference4Ideal.main_arg0)) (m' ((c.tc : Thread nD τ).loc Cert.Reference4Ideal.main_arg1))
    (m' ((c.tc : Thread nD τ).loc Cert.Reference4Ideal.main_arg2)) (m' ((c.tc : Thread nD τ).loc Cert.Reference4Ideal.main_arg3)), ?_, Cert.Reference4Ideal.Value.run m' g'⟩
  refine (θ_run defs _ _).mono (fun _ h c => ⟨(h c).1.trans ?_, (h c).2⟩) (Cert.Kernel4Ideal.Value.run m g)
  beta_reduce
  rw [(hargs c).1, (hargs c).2.1, (hargs c).2.2.1, (hargs c).2.2.2]
  exact (Cert.Kernel4Ideal.Value.final4 m c).symm.trans (array m c)

end Cert.OutProj
-- ==== Proof.QkvTile.lean ====
/- The projection to queries, keys and values: what one tile of the grid computes, entry by entry. -/
module

public import Idealize.ShloMosaic.Lib.Pointwise
public import Idealize.ShloMosaic.Lib.Claim
public import proofs.«01_k».proof.Proof.Gen.Kernel1Ideal
public import proofs.«01_k».proof.Proof.Gen.Kernel1Ideal.Skeleton

@[expose] public section

set_option maxRecDepth 16384

noncomputable section

namespace Cert.Qkv

open Idealize.ShloMosaic Idealize.SL.Sem Idealize.ShloMosaic.TcCoe Idealize.ShloMosaic.Tactic
open Cert.Kernel1Ideal Cert.Kernel1Ideal.Gen

/-- A row `Z` normalised over each head of 64 lanes, times the gain of the lane in its head. -/
def norm (Z G : Nat → EReal) (n : Nat) : EReal :=
  Z n * Ideal.rsqrt ((∑ e : Fin 64, Z (n / 64 * 64 + e) * Z (n / 64 * 64 + e)) * Ideal.ofBits .f32 1015021568#32 + Ideal.ofBits .f32 897988541#32) * G (n % 64)

/-- A row `Y` with the first sixteen lanes of each head turned: cosines `C`, sines `S`. -/
def turn (Y C S : Nat → EReal) (n : Nat) : EReal :=
  if n % 64 < 8 then Y n * C (n % 64) - Y (n + 8) * S (n % 64)
  else if n % 64 < 16 then Y n * C (n % 64 - 8) + Y (n - 8) * S (n % 64 - 8) else Y n

theorem cast_apply (v : FVec Ideal S256x512 .f32) (x : S256x512.Idx) : (k0_pay1 (F := Ideal) v : FVec Ideal S256x512 .bf16) x = v x := by
  pointwise [k0_pay1]

theorem product_apply (x : FVec Ideal S1024x4096 .bf16) (w : FVec Ideal S4096x512 .bf16) (r : Fin 1024) (k : Fin 512) :
    k0_pay3 (F := Ideal) x w (ix2 r k) = ∑ e : Fin 4096, x (ix2 r e) * w (ix2 e k) := by
  pointwise [k0_pay3]

theorem row_head (a b : Fin 256) : k0_pay5 (ix2 a b) = BitVec.ofNat 32 ((a : Nat) / 64) := by
  pointwise [k0_pay5]
  revert a
  decide +kernel

def lanes : IVec S256x256 32 := iota .tc S256x256 32 [1] Facts₀.iota_S256x256_d1_w32

def sign : BitVec 32 := Scalar.subi (Scalar.extui (Scalar.cmpi .sgt 64#32 0#32)) (Scalar.extui (Scalar.cmpi .slt 64#32 0#32))

def colHead : IVec S256x256 32 :=
  have v58 : IVec S256x256 1 := andi (cmpi .ne k0_pay7 (broadcast S256x256 sign)) (cmpi .ne (remsi lanes (broadcast S256x256 64#32)) (broadcast S256x256 0#32))
  select v58 (subi k0_pay6 (broadcast S256x256 1#32)) k0_pay6

theorem col_head (a b : Fin 256) : colHead (ix2 a b) = BitVec.ofNat 32 ((b : Nat) / 64) := by
  pointwise [colHead, k0_pay7, k0_pay6, lanes]
  revert b
  decide +kernel

/-- Whether two of 256 lanes are of the same head. -/
def same : FVec Ideal S256x256 .f32 := sitofp .f32 (extui 32 (cmpi .eq k0_pay5 colHead) Facts₀.natLt_1_32)

theorem heads_eq : ∀ i j : Fin 4, IntOp.cmpi CmpIPredicate.eq (BitVec.ofNat 32 (i : Nat)) (BitVec.ofNat 32 (j : Nat)) = if (i : Nat) = j then 1#1 else 0#1 := by
  decide +kernel

theorem same_apply (a b : Fin 256) : same (ix2 a b) = if (a : Nat) / 64 = (b : Nat) / 64 then 1 else 0 := by
  have h := heads_eq ⟨(a : Nat) / 64, by omega⟩ ⟨(b : Nat) / 64, by omega⟩
  pointwise [same]
  rw [row_head, col_head]
  simp only [] at h
  rw [h]
  by_cases e : (a : Nat) / 64 = (b : Nat) / 64 <;> simp [e, FloatOps.sitofp]

/-- A sum over 256 lanes that counts one head's lanes only. -/
theorem sum_head (f : Nat → EReal) (q : Nat) (hq : q < 4) :
    ∑ x : Fin 256, f x * (if (x : Nat) / 64 = q then 1 else 0) = ∑ e : Fin 64, f (q * 64 + e) := by
  simp only [mul_ite, mul_one, mul_zero]
  rw [← Finset.sum_filter]
  refine (Finset.sum_bij (fun (e : Fin 64) _ => (⟨q * 64 + e, by omega⟩ : Fin 256)) ?_ ?_ ?_ ?_).symm
  · intro e _
    simp only [Finset.mem_filter, Finset.mem_univ, true_and]
    omega
  · intro e _ e' _ h
    have := congrArg Fin.val h
    exact Fin.ext (by simpa using this)
  · intro x hx
    simp only [Finset.mem_filter, Finset.mem_univ, true_and] at hx
    exact ⟨⟨(x : Nat) - q * 64, by omega⟩, Finset.mem_univ _, Fin.ext (by show q * 64 + ((x : Nat) - q * 64) = x; omega)⟩
  · intro e _
    rfl

def normed (z : FVec Ideal S1024x512 .f32) (g : FVec Ideal S1x512 .f32) : FVec Ideal S1024x512 .f32 :=
  have v64 : FVec Ideal S256x256 .f32 := same
  have v65 : FVec Ideal S256x256 .bf16 := truncf .bf16 v64 Facts₀.bitsLt_bf16_f32
  have v66 : FVec Ideal S1024x512 .f32 := mulf z z
  have v67 : FVec Ideal S1024x512 .bf16 := truncf .bf16 v66 Facts₀.bitsLt_bf16_f32
  have v68 : FVec Ideal S1024x256 .bf16 := extractStridedSlice S1024x256 ![0, 0] v67 Facts₀.slices_S1024x512_o0_0_S1024x256
  have cst_19 : FVec Ideal S1024x256 .f32 := constant S1024x256 .f32 0x00000000#32
  have v69 : FVec Ideal S1024x256 .f32 := matmul dot_S1024x256_S256x256_S1024x256_1_0_0_1_n_n none v68 v65 cst_19
  have v70 : FVec Ideal S1024x256 .bf16 := extractStridedSlice S1024x256 ![0, 256] v67 Facts₀.slices_S1024x512_o0_256_S1024x256
  have v71 : FVec Ideal S1024x256 .f32 := matmul dot_S1024x256_S256x256_S1024x256_1_0_0_1_n_n none v70 v65 cst_19
  have v72 : FVec Ideal S1024x512 .f32 := concatenate S1024x512 1 [⟨S1024x256, v69⟩, ⟨S1024x256, v71⟩] Facts₀.concatenates_S1024x256_S1024x256_S1024x512_d1
  have v73 : FVec Ideal S1024x512 .f32 := broadcast S1024x512 (Scalar.ofBits .f32 0x3C800000#32)
  have v74 : FVec Ideal S1024x512 .f32 := mulf v72 v73
  have v75 : FVec Ideal S1024x512 .f32 := broadcast S1024x512 (Scalar.ofBits .f32 0x358637BD#32)
  have v76 : FVec Ideal S1024x512 .f32 := addf v74 v75
  have v77 : FVec Ideal S1024x512 .f32 := rsqrt v76
  have v78 : FVec Ideal S1024x512 .f32 := mulf z v77
  have v80 : FVec Ideal S1x512 .f32 := shapeCast S1x512 g Facts₀.shapeCasts_S1x512_S1x512
  mulf v78 (broadcastTo S1024x512 v80 Facts₀.broadcasts_S1x512_S1024x512)

def tiled (c : FVec Ideal S1024x128 .f32) : FVec Ideal S1024x512 .f32 :=
  have v84 : FVec Ideal S1024x128 .f32 := shapeCast S1024x128 c Facts₀.shapeCasts_S1024x128_S1024x128
  concatenate S1024x512 1 [⟨S1024x128, v84⟩, ⟨S1024x128, v84⟩, ⟨S1024x128, v84⟩, ⟨S1024x128, v84⟩] Facts₀.concatenates_S1024x128_S1024x128_S1024x128_S1024x128_S1024x512_d1

def turned (y : FVec Ideal S1024x512 .f32) (c s u : FVec Ideal S1024x128 .f32) : FVec Ideal S1024x512 .f32 :=
  addf (addf (mulf y (tiled c)) (mulf (dynamicRotate 1 504#32 none y Facts₀.rotates_S1024x512_d1) (tiled s))) (mulf (dynamicRotate 1 8#32 none y Facts₀.rotates_S1024x512_d1) (tiled u))

/-- What a normalised tile stores, of its product, gains and tables. -/
def tile (z : FVec Ideal S1024x512 .f32) (g : FVec Ideal S1x512 .f32) (c s u : FVec Ideal S1024x128 .f32) : FVec Ideal S1024x512 .f32 :=
  k0_pay2 (k0_pay8 z k0_pay5 lanes 64#32 k0_pay6 k0_pay7 sign g) (k0_pay9 u) (k0_pay10 z k0_pay5 lanes 64#32 k0_pay6 k0_pay7 sign g c s) 8#32

theorem tile_eq (z : FVec Ideal S1024x512 .f32) (g : FVec Ideal S1x512 .f32) (c s u : FVec Ideal S1024x128 .f32) :
    tile z g c s u = turned (normed z g) c s u := rfl

theorem normed_apply (z : FVec Ideal S1024x512 .f32) (g : FVec Ideal S1x512 .f32) (r : Fin 1024) (k : Fin 512) (o : Nat) (Z G : Nat → EReal)
    (hz : ∀ j : Fin 512, z (ix2 r j) = Z (o * 512 + j)) (hg : ∀ j : Fin 512, g (ix2 0 j) = G ((j : Nat) % 64)) :
    normed z g (ix2 r k) = norm Z G (o * 512 + k) := by
  have hs := same_apply
  unfold normed
  revert hs
  generalize same = M
  intro hs
  pointwise
  simp only [hz, hg, hs]
  unfold norm
  have hk := k.2
  have e3 : (o * 512 + (k : Nat)) % 64 = (k : Nat) % 64 := by omega
  rw [e3]
  by_cases h : (k : Nat) < 256
  · rw [dif_pos h]
    have e := sum_head (fun x => Z (o * 512 + x) * Z (o * 512 + x)) ((k : Nat) / 64) (by omega)
    have e2 : ∀ x : Nat, (o * 512 + (k : Nat)) / 64 * 64 + x = o * 512 + ((k : Nat) / 64 * 64 + x) := by intro x; omega
    simp only [e2]
    exact congrArg (fun a => Z (o * 512 + k) * Ideal.rsqrt (a * _ + _) * _) e
  · rw [dif_neg h]
    have e := sum_head (fun x => Z (o * 512 + (256 + x)) * Z (o * 512 + (256 + x))) (((k : Nat) - 256) / 64) (by omega)
    have e2 : ∀ x : Nat, (o * 512 + (k : Nat)) / 64 * 64 + x = o * 512 + (256 + (((k : Nat) - 256) / 64 * 64 + x)) := by intro x; omega
    simp only [e2]
    exact congrArg (fun a => Z (o * 512 + k) * Ideal.rsqrt (a * _ + _) * _) e

theorem tiled_apply (c : FVec Ideal S1024x128 .f32) (r : Fin 1024) (k : Fin 512) : tiled c (ix2 r k) = c (ix2 r ⟨(k : Nat) % 128, by omega⟩) := by
  have hk := k.2
  pointwise [tiled]
  split_ifs <;> exact congrArg (fun j => c (ix2 r j)) (Fin.ext (by show _ = (k : Nat) % 128; simp only []; omega))

theorem turned_apply (y : FVec Ideal S1024x512 .f32) (c s u : FVec Ideal S1024x128 .f32) (r : Fin 1024) (k : Fin 512) (o : Nat) (Y C S : Nat → EReal)
    (hy : ∀ j : Fin 512, y (ix2 r j) = Y (o * 512 + j))
    (hc : ∀ j : Fin 128, c (ix2 r j) = if (j : Nat) % 64 < 8 then C ((j : Nat) % 64) else if (j : Nat) % 64 < 16 then C ((j : Nat) % 64 - 8) else 1)
    (hs : ∀ j : Fin 128, s (ix2 r j) = if (j : Nat) % 64 < 8 then -S ((j : Nat) % 64) else 0)
    (hu : ∀ j : Fin 128, u (ix2 r j) = if (j : Nat) % 64 < 8 then 0 else if (j : Nat) % 64 < 16 then S ((j : Nat) % 64 - 8) else 0) :
    turned y c s u (ix2 r k) = turn Y C S (o * 512 + k) := by
  have hk := k.2
  have e0 : (k : Nat) % 128 % 64 = (k : Nat) % 64 := by omega
  have e1 : (o * 512 + (k : Nat)) % 64 = (k : Nat) % 64 := by omega
  pointwise [turned]
  simp only [tiled_apply, hy, hc, hs, hu, turn, e0, e1]
  by_cases h8 : (k : Nat) % 64 < 8
  · have e2 : (k : Nat) + 8 = ((k : Nat) + 512 - 504) % 512 := by omega
    simp only [if_pos h8, mul_neg, mul_zero, add_zero, ← e2, sub_eq_add_neg, Nat.add_assoc]
  · by_cases h16 : (k : Nat) % 64 < 16
    · have e2 : o * 512 + (k : Nat) - 8 = o * 512 + ((k : Nat) + 512 - 8) % 512 := by omega
      simp only [if_neg h8, if_pos h16, mul_zero, add_zero, e2]
    · simp only [if_neg h8, if_neg h16, mul_zero, add_zero, mul_one]

/-- A normalised tile, entry by entry. -/
theorem tile_apply (z : FVec Ideal S1024x512 .f32) (g : FVec Ideal S1x512 .f32) (c s u : FVec Ideal S1024x128 .f32) (r : Fin 1024) (k : Fin 512) (o : Nat) (Z G C S : Nat → EReal)
    (hz : ∀ j : Fin 512, z (ix2 r j) = Z (o * 512 + j)) (hg : ∀ j : Fin 512, g (ix2 0 j) = G ((j : Nat) % 64))
    (hc : ∀ j : Fin 128, c (ix2 r j) = if (j : Nat) % 64 < 8 then C ((j : Nat) % 64) else if (j : Nat) % 64 < 16 then C ((j : Nat) % 64 - 8) else 1)
    (hs : ∀ j : Fin 128, s (ix2 r j) = if (j : Nat) % 64 < 8 then -S ((j : Nat) % 64) else 0)
    (hu : ∀ j : Fin 128, u (ix2 r j) = if (j : Nat) % 64 < 8 then 0 else if (j : Nat) % 64 < 16 then S ((j : Nat) % 64 - 8) else 0) :
    tile z g c s u (ix2 r k) = turn (norm Z G) C S (o * 512 + k) := by
  rw [tile_eq]
  exact turned_apply _ c s u r k o _ C S (fun j => normed_apply z g r j o Z G hz hg) hc hs hu

end Cert.Qkv
-- ==== Proof.QkvRef.lean ====
/- The projection to queries, keys and values as the problem states it, entry by entry. -/
module

public import proofs.«01_k».proof.Proof.QkvTile
public import proofs.«01_k».proof.Proof.Finite
public import proofs.«01_k».proof.Proof.Gen.Reference1Ideal
public import proofs.«01_k».proof.Proof.Gen.Reference1Ideal.Run

@[expose] public section

set_option maxRecDepth 16384

noncomputable section

namespace Cert.Qkv

open Idealize.ShloMosaic Idealize.SL.Sem Idealize.ShloMosaic.TcCoe Idealize.ShloMosaic.Tactic
open Cert.Reference1Ideal Cert.Reference1Ideal.Facts₀

/-- The projection. -/
def product (h : FVec Ideal S9216x4096 .bf16) (w : FVec Ideal S4096x15360 .f32) : FVec Ideal S9216x3072 .f32 :=
  Host.dotGeneral dot_S9216x4096_S4096x3072_S9216x3072_1_0_0_1_n_n none (extf .f32 h bitsLt_bf16_f32) (extractStridedSlice S4096x3072 ![0, 4096] w slices_S4096x15360_S4096x3072_0_4096)

/-- The rotary angles: a row's position times a lane's frequency. -/
def angles : FVec Ideal S9216x8 .f32 :=
  mulf (broadcastInDim S9216x8 ![0, 1] bcast_S9216x1_S9216x8_0_1 (broadcastInDim S9216x1 ![0] bcast_S9216_S9216x1_0 (sitofp .f32 (concatenate S9216 0 [⟨S8192, (iotaInDim S8192 32 0)⟩, ⟨S1024, (shapeCast _ (broadcastInDim S16x64 ![0, 1] bcast_S1x64_S16x64_0_1 (shapeCast _ (addi (broadcastInDim S64 ![] bcast_S_S64 (constantI S_ 32 1024#32)) (iotaInDim S64 32 0)) shapeCasts_S64_S1x64)) shapeCasts_S16x64_S1024)⟩] concatenates_S8192_S1024_S9216_d0)))) (broadcastInDim S9216x8 ![0, 1] bcast_S1x8_S9216x8_0_1 (broadcastInDim S1x8 ![1] bcast_S8_S1x8_1 (Host.powf (broadcastInDim S8 ![] bcast_S_S8 (constant S_ .f32 0x48F42400#32)) (Host.divf (mulf (Host.negf (sitofp .f32 (iotaInDim S8 32 0))) (broadcastInDim S8 ![] bcast_S_S8 (constant S_ .f32 0x40000000#32))) (broadcastInDim S8 ![] bcast_S_S8 (constant S_ .f32 0x41800000#32))))))

/-- The queries, normalised per head. -/
def queries (z : FVec Ideal S9216x3072 .f32) (g : FVec Ideal S64 .f32) : FVec Ideal S9216x32x64 .f32 :=
  mulf (mulf (shapeCast _ (extractStridedSlice S9216x2048 ![0, 0] z slices_S9216x3072_S9216x2048_0_0) shapeCasts_S9216x2048_S9216x32x64) (broadcastInDim S9216x32x64 ![0, 1, 2] bcast_S9216x32x1_S9216x32x64_0_1_2 (Host.rsqrt (addf (Host.divf (broadcastInDim S9216x32x1 ![0, 1] bcast_S9216x32_S9216x32x1_0_1 (Host.reduceAdd (mulf (shapeCast _ (extractStridedSlice S9216x2048 ![0, 0] z slices_S9216x3072_S9216x2048_0_0) shapeCasts_S9216x2048_S9216x32x64) (shapeCast _ (extractStridedSlice S9216x2048 ![0, 0] z slices_S9216x3072_S9216x2048_0_0) shapeCasts_S9216x2048_S9216x32x64)) (constant S_ .f32 0x00000000#32) reducesTo_S9216x32x64_S9216x32_d2 h_S_)) (broadcastInDim S9216x32x1 ![] bcast_S_S9216x32x1 (constant S_ .f32 0x42800000#32))) (broadcastInDim S9216x32x1 ![] bcast_S_S9216x32x1 (constant S_ .f32 0x358637BD#32)))))) (broadcastInDim S9216x32x64 ![0, 1, 2] bcast_S1x1x64_S9216x32x64_0_1_2 (broadcastInDim S1x1x64 ![2] bcast_S64_S1x1x64_2 g))

/-- The keys, normalised per head. -/
def keys (z : FVec Ideal S9216x3072 .f32) (g : FVec Ideal S64 .f32) : FVec Ideal S9216x8x64 .f32 :=
  mulf (mulf (shapeCast _ (extractStridedSlice S9216x512 ![0, 2048] z slices_S9216x3072_S9216x512_0_2048) shapeCasts_S9216x512_S9216x8x64) (broadcastInDim S9216x8x64 ![0, 1, 2] bcast_S9216x8x1_S9216x8x64_0_1_2 (Host.rsqrt (addf (Host.divf (broadcastInDim S9216x8x1 ![0, 1] bcast_S9216x8_S9216x8x1_0_1 (Host.reduceAdd (mulf (shapeCast _ (extractStridedSlice S9216x512 ![0, 2048] z slices_S9216x3072_S9216x512_0_2048) shapeCasts_S9216x512_S9216x8x64) (shapeCast _ (extractStridedSlice S9216x512 ![0, 2048] z slices_S9216x3072_S9216x512_0_2048) shapeCasts_S9216x512_S9216x8x64)) (constant S_ .f32 0x00000000#32) reducesTo_S9216x8x64_S9216x8_d2 h_S_)) (broadcastInDim S9216x8x1 ![] bcast_S_S9216x8x1 (constant S_ .f32 0x42800000#32))) (broadcastInDim S9216x8x1 ![] bcast_S_S9216x8x1 (constant S_ .f32 0x358637BD#32)))))) (broadcastInDim S9216x8x64 ![0, 1, 2] bcast_S1x1x64_S9216x8x64_0_1_2 (broadcastInDim S1x1x64 ![2] bcast_S64_S1x1x64_2 g))

/-- The queries' first lanes turned by the rotary angles. -/
def turnedQueries (n : FVec Ideal S9216x32x64 .f32) (c s : FVec Ideal S9216x8 .f32) : FVec Ideal S9216x32x64 .f32 :=
  concatenate S9216x32x64 2 [⟨S9216x32x8, ((subf (mulf (extractStridedSlice S9216x32x8 ![0, 0, 0] n slices_S9216x32x64_S9216x32x8_0_0_0) (broadcastInDim S9216x32x8 ![0, 1, 2] bcast_S9216x1x8_S9216x32x8_0_1_2 (broadcastInDim S9216x1x8 ![0, 2] bcast_S9216x8_S9216x1x8_0_2 c))) (mulf (extractStridedSlice S9216x32x8 ![0, 0, 8] n slices_S9216x32x64_S9216x32x8_0_0_8) (broadcastInDim S9216x32x8 ![0, 1, 2] bcast_S9216x1x8_S9216x32x8_0_1_2 (broadcastInDim S9216x1x8 ![0, 2] bcast_S9216x8_S9216x1x8_0_2 s)))))⟩, ⟨S9216x32x8, ((addf (mulf (extractStridedSlice S9216x32x8 ![0, 0, 8] n slices_S9216x32x64_S9216x32x8_0_0_8) (broadcastInDim S9216x32x8 ![0, 1, 2] bcast_S9216x1x8_S9216x32x8_0_1_2 (broadcastInDim S9216x1x8 ![0, 2] bcast_S9216x8_S9216x1x8_0_2 c))) (mulf (extractStridedSlice S9216x32x8 ![0, 0, 0] n slices_S9216x32x64_S9216x32x8_0_0_0) (broadcastInDim S9216x32x8 ![0, 1, 2] bcast_S9216x1x8_S9216x32x8_0_1_2 (broadcastInDim S9216x1x8 ![0, 2] bcast_S9216x8_S9216x1x8_0_2 s)))))⟩, ⟨S9216x32x48, ((extractStridedSlice S9216x32x48 ![0, 0, 16] n slices_S9216x32x64_S9216x32x48_0_0_16))⟩] concatenates_S9216x32x8_S9216x32x8_S9216x32x48_S9216x32x64_d2

/-- The keys' first lanes turned by the rotary angles. -/
def turnedKeys (n : FVec Ideal S9216x8x64 .f32) (c s : FVec Ideal S9216x8 .f32) : FVec Ideal S9216x8x64 .f32 :=
  concatenate S9216x8x64 2 [⟨S9216x8x8, ((subf (mulf (extractStridedSlice S9216x8x8 ![0, 0, 0] n slices_S9216x8x64_S9216x8x8_0_0_0) (broadcastInDim S9216x8x8 ![0, 1, 2] bcast_S9216x1x8_S9216x8x8_0_1_2 (broadcastInDim S9216x1x8 ![0, 2] bcast_S9216x8_S9216x1x8_0_2 c))) (mulf (extractStridedSlice S9216x8x8 ![0, 0, 8] n slices_S9216x8x64_S9216x8x8_0_0_8) (broadcastInDim S9216x8x8 ![0, 1, 2] bcast_S9216x1x8_S9216x8x8_0_1_2 (broadcastInDim S9216x1x8 ![0, 2] bcast_S9216x8_S9216x1x8_0_2 s)))))⟩, ⟨S9216x8x8, ((addf (mulf (extractStridedSlice S9216x8x8 ![0, 0, 8] n slices_S9216x8x64_S9216x8x8_0_0_8) (broadcastInDim S9216x8x8 ![0, 1, 2] bcast_S9216x1x8_S9216x8x8_0_1_2 (broadcastInDim S9216x1x8 ![0, 2] bcast_S9216x8_S9216x1x8_0_2 c))) (mulf (extractStridedSlice S9216x8x8 ![0, 0, 0] n slices_S9216x8x64_S9216x8x8_0_0_0) (broadcastInDim S9216x8x8 ![0, 1, 2] bcast_S9216x1x8_S9216x8x8_0_1_2 (broadcastInDim S9216x1x8 ![0, 2] bcast_S9216x8_S9216x1x8_0_2 s)))))⟩, ⟨S9216x8x48, ((extractStridedSlice S9216x8x48 ![0, 0, 16] n slices_S9216x8x64_S9216x8x48_0_0_16))⟩] concatenates_S9216x8x8_S9216x8x8_S9216x8x48_S9216x8x64_d2

/-- Queries, keys and values side by side. -/
def joined (q : FVec Ideal S9216x32x64 .f32) (k : FVec Ideal S9216x8x64 .f32) (z : FVec Ideal S9216x3072 .f32) : FVec Ideal S9216x3072 .f32 :=
  concatenate S9216x3072 1 [⟨S9216x2048, ((shapeCast _ (q) shapeCasts_S9216x32x64_S9216x2048))⟩, ⟨S9216x512, ((shapeCast _ (k) shapeCasts_S9216x8x64_S9216x512))⟩, ⟨S9216x512, ((extractStridedSlice S9216x512 ![0, 2560] z slices_S9216x3072_S9216x512_0_2560))⟩] concatenates_S9216x2048_S9216x512_S9216x512_S9216x3072_d1

/-- The reference's result of its arguments. -/
def result (h : FVec Ideal S9216x4096 .bf16) (w : FVec Ideal S4096x15360 .f32) (gq gk : FVec Ideal S64 .f32) : FVec Ideal S9216x3072 .f32 :=
  joined (turnedQueries (queries (product h w) gq) (Host.cos angles) (Host.sin angles)) (turnedKeys (keys (product h w) gk) (Host.cos angles) (Host.sin angles)) (product h w)

theorem result_eq (m : (ℓ : Loc nD τ sig) → Buf (Elt Ideal) ℓ) (c : Dev nD) :
    Cert.Reference1Ideal.Value.res_out0 (F := Ideal) m c
      = result (m ((c.tc : Thread nD τ).loc main_arg0)) (m ((c.tc : Thread nD τ).loc main_arg1)) (m ((c.tc : Thread nD τ).loc main_arg2)) (m ((c.tc : Thread nD τ).loc main_arg3)) :=
  rfl

theorem product_at (h : FVec Ideal S9216x4096 .bf16) (w : FVec Ideal S4096x15360 .f32) (r : Fin 9216) (k : Fin 3072) :
    product h w (ix2 r k) = ∑ e : Fin 4096, h (ix2 r e) * w (ix2 e ⟨4096 + k, by omega⟩) := by
  pointwise [product]

/-- A row, by the number of the lane. -/
def row (z : FVec Ideal S9216x3072 .f32) (r : Fin 9216) (n : Nat) : EReal := if h : n < 3072 then z (ix2 r ⟨n, h⟩) else 0

/-- A row of the rotary cosines or sines, by the number of the lane. -/
def wave (c : FVec Ideal S9216x8 .f32) (r : Fin 9216) (n : Nat) : EReal := if h : n < 8 then c (ix2 r ⟨n, h⟩) else 0

/-- The gains, by the number of the lane. -/
def gain (g : FVec Ideal S64 .f32) (n : Nat) : EReal := if h : n < 64 then g (ix1 ⟨n, h⟩) else 0

theorem row_at (z : FVec Ideal S9216x3072 .f32) (r : Fin 9216) {n : Nat} (h : n < 3072) : z (ix2 r ⟨n, h⟩) = row z r n := by rw [row, dif_pos h]

theorem wave_at (c : FVec Ideal S9216x8 .f32) (r : Fin 9216) {n : Nat} (h : n < 8) : c (ix2 r ⟨n, h⟩) = wave c r n := by rw [wave, dif_pos h]

theorem gain_at (g : FVec Ideal S64 .f32) (d : Fin 64) : g (ix1 d) = gain g d := by rw [gain, dif_pos d.2]

/-- To divide by the number of a head's lanes is to multiply by its reciprocal. -/
theorem mean (x : EReal) : Ideal.div x (Ideal.ofBits .f32 1115684864#32) = x * Ideal.ofBits .f32 1015021568#32 := by
  have a : Ideal.ofBits .f32 1115684864#32 = ((64 : ℝ) : EReal) := by
    simp [Ideal.ofBits, Ideal.ieee, -EReal.coe_mul]
    norm_num
  have b : Ideal.ofBits .f32 1015021568#32 = ((1 / 64 : ℝ) : EReal) := by
    simp [Ideal.ofBits, Ideal.ieee, -EReal.coe_mul]
    norm_num
  rw [a, b, Ideal.div_coe (by norm_num : (64 : ℝ) ≠ 0)]

theorem queries_at (z : FVec Ideal S9216x3072 .f32) (g : FVec Ideal S64 .f32) (r : Fin 9216) (h : Fin 32) (d : Fin 64) :
    queries z g (ix3 r h d) = norm (row z r) (gain g) ((h : Nat) * 64 + d) := by
  have e1 : ((h : Nat) * 64 + d) / 64 = h := by omega
  have e2 : ((h : Nat) * 64 + d) % 64 = d := by omega
  pointwise [queries]
  simp only [row_at, gain_at, mean, norm, e1, e2]

theorem keys_at (z : FVec Ideal S9216x3072 .f32) (g : FVec Ideal S64 .f32) (r : Fin 9216) (h : Fin 8) (d : Fin 64) :
    keys z g (ix3 r h d) = norm (row z r) (gain g) (2048 + ((h : Nat) * 64 + d)) := by
  have e1 : ∀ x : Nat, (2048 + ((h : Nat) * 64 + d)) / 64 * 64 + x = 2048 + ((h : Nat) * 64 + x) := by intro x; omega
  have e2 : (2048 + ((h : Nat) * 64 + d)) % 64 = d := by omega
  pointwise [keys]
  simp only [row_at, gain_at, mean, norm, e1, e2]

theorem turnedQueries_at (n : FVec Ideal S9216x32x64 .f32) (c s : FVec Ideal S9216x8 .f32) (r : Fin 9216) (h : Fin 32) (d : Fin 64) (o : Nat) (Y : Nat → EReal)
    (hn : ∀ e : Fin 64, n (ix3 r h e) = Y (o * 64 + e)) :
    turnedQueries n c s (ix3 r h d) = turn Y (wave c r) (wave s r) (o * 64 + d) := by
  have hd := d.2
  have e1 : (o * 64 + (d : Nat)) % 64 = d := by omega
  pointwise [turnedQueries]
  simp only [hn, wave_at, turn, e1]
  by_cases h8 : (d : Nat) < 8
  · have e2 : o * 64 + (8 + (d : Nat)) = o * 64 + (d : Nat) + 8 := by omega
    simp only [dif_pos h8, if_pos h8, e2]
  · by_cases h16 : (d : Nat) < 16
    · have e2 : 8 + ((d : Nat) - 8) = d := by omega
      have e3 : o * 64 + (d : Nat) - 8 = o * 64 + ((d : Nat) - 8) := by omega
      have h' : (d : Nat) - 8 < 8 := by omega
      simp only [dif_neg h8, if_neg h8, if_pos h16, dif_pos h', e2, e3]
    · have h' : ¬(d : Nat) - 8 < 8 := by omega
      have e2 : 16 + ((d : Nat) - 8 - 8) = d := by omega
      simp only [dif_neg h8, if_neg h8, if_neg h16, dif_neg h', e2]

theorem turnedKeys_at (n : FVec Ideal S9216x8x64 .f32) (c s : FVec Ideal S9216x8 .f32) (r : Fin 9216) (h : Fin 8) (d : Fin 64) (o : Nat) (Y : Nat → EReal)
    (hn : ∀ e : Fin 64, n (ix3 r h e) = Y (o * 64 + e)) :
    turnedKeys n c s (ix3 r h d) = turn Y (wave c r) (wave s r) (o * 64 + d) := by
  have hd := d.2
  have e1 : (o * 64 + (d : Nat)) % 64 = d := by omega
  pointwise [turnedKeys]
  simp only [hn, wave_at, turn, e1]
  by_cases h8 : (d : Nat) < 8
  · have e2 : o * 64 + (8 + (d : Nat)) = o * 64 + (d : Nat) + 8 := by omega
    simp only [dif_pos h8, if_pos h8, e2]
  · by_cases h16 : (d : Nat) < 16
    · have e2 : 8 + ((d : Nat) - 8) = d := by omega
      have e3 : o * 64 + (d : Nat) - 8 = o * 64 + ((d : Nat) - 8) := by omega
      have h' : (d : Nat) - 8 < 8 := by omega
      simp only [dif_neg h8, if_neg h8, if_pos h16, dif_pos h', e2, e3]
    · have h' : ¬(d : Nat) - 8 < 8 := by omega
      have e2 : 16 + ((d : Nat) - 8 - 8) = d := by omega
      simp only [dif_neg h8, if_neg h8, if_neg h16, dif_neg h', e2]

/-- The reference's result, entry by entry. -/
theorem result_at (h : FVec Ideal S9216x4096 .bf16) (w : FVec Ideal S4096x15360 .f32) (gq gk : FVec Ideal S64 .f32) (r : Fin 9216) (n : Fin 3072) :
    result h w gq gk (ix2 r n)
      = if (n : Nat) < 2560 then
          turn (norm (row (product h w) r) (gain (if (n : Nat) < 2048 then gq else gk))) (wave (Host.cos angles) r) (wave (Host.sin angles) r) n
        else row (product h w) r n := by
  have hn := n.2
  unfold result
  generalize product h w = z
  generalize Host.cos angles = c
  generalize Host.sin angles = s
  pointwise [joined]
  by_cases h1 : (n : Nat) < 2048
  · have h2 : (n : Nat) < 2560 := by omega
    have e : (n : Nat) / 64 * 64 + (n : Nat) % 64 = n := by omega
    rw [dif_pos h1, if_pos h2, if_pos h1]
    refine (turnedQueries_at _ c s r _ _ ((n : Nat) / 64) _ fun d => queries_at z gq r ⟨(n : Nat) / 64, by omega⟩ d).trans ?_
    exact congrArg _ e
  · by_cases h2 : (n : Nat) < 2560
    · have h3 : (n : Nat) - 2048 < 512 := by omega
      have e : (32 + ((n : Nat) - 2048) / 64) * 64 + ((n : Nat) - 2048) % 64 = n := by omega
      rw [dif_neg h1, if_pos h2, if_neg h1, dif_pos h3]
      refine (turnedKeys_at _ c s r _ _ (32 + ((n : Nat) - 2048) / 64) _ fun d => (keys_at z gk r ⟨((n : Nat) - 2048) / 64, by omega⟩ d).trans (congrArg _ ?_)).trans ?_
      · show 2048 + (((n : Nat) - 2048) / 64 * 64 + (d : Nat)) = (32 + ((n : Nat) - 2048) / 64) * 64 + d
        omega
      · exact congrArg _ e
    · have h3 : ¬(n : Nat) - 2048 < 512 := by omega
      have e : 2560 + ((n : Nat) - 2048 - 512) = n := by omega
      rw [dif_neg h1, if_neg h2, dif_neg h3]
      exact (row_at z r _).trans (congrArg _ e)

end Cert.Qkv
-- ==== Proof.QkvEntry.lean ====
/- The arrays the projection's call is handed: the gains of every column and the rotary cosines and sines of every row, entry by entry. -/
module

public import Idealize.ShloMosaic.Lib.Pointwise
public import Idealize.ShloMosaic.Lib.StableHlo.RunRead
public import proofs.«01_k».proof.Proof.QkvRef
public import proofs.«01_k».proof.Proof.Gen.Kernel1Ideal
public import proofs.«01_k».proof.Proof.Gen.Kernel1Ideal.Frame.Runs

@[expose] public section

set_option maxRecDepth 16384

noncomputable section

namespace Cert.Qkv

open Idealize.ShloMosaic Idealize.SL.Sem Idealize.ShloMosaic.TcCoe Idealize.ShloMosaic.Tactic
open Cert.Kernel1Ideal Cert.Kernel1Ideal.Gen

/-- A table of one head's lanes, twice side by side. -/
def twice (x : FVec Ideal S9216x64 .f32) : FVec Ideal S9216x128 .f32 :=
  shapeCast S9216x128 (broadcastInDim S1x9216x2x64 ![0, 1, 2, 3] bcast_S1x9216x1x64_S1x9216x2x64_0_1_2_3 (shapeCast S1x9216x1x64 x shapeCasts_S9216x64_S1x9216x1x64)) shapeCasts_S1x9216x2x64_S9216x128

/-- A table of one head's lanes, from its first eight, its next eight and the rest. -/
def three (a b : FVec Ideal S9216x8 .f32) (z : FVec Ideal S9216x48 .f32) : FVec Ideal S9216x64 .f32 :=
  concatenate S9216x64 1 [⟨S9216x8, a⟩, ⟨S9216x8, b⟩, ⟨S9216x48, z⟩] concatenates_S9216x8_S9216x8_S9216x48_S9216x64_d1

/-- A table of one head's lanes, from its first eight and the rest. -/
def two (a : FVec Ideal S9216x8 .f32) (z : FVec Ideal S9216x56 .f32) : FVec Ideal S9216x64 .f32 :=
  concatenate S9216x64 1 [⟨S9216x8, a⟩, ⟨S9216x56, z⟩] concatenates_S9216x8_S9216x56_S9216x64_d1

/-- The gains of every column: the queries' heads, the keys' heads, and the values' columns. -/
def columns (q : FVec Ideal S2048 .f32) (k v : FVec Ideal S512 .f32) : FVec Ideal S1x3072 .f32 :=
  broadcastInDim S1x3072 ![1] bcast_S3072_S1x3072_1 (concatenate S3072 0 [⟨S2048, q⟩, ⟨S512, k⟩, ⟨S512, v⟩] concatenates_S2048_S512_S512_S3072_d0)

def queryGains (g : FVec Ideal S64 .f32) : FVec Ideal S2048 .f32 :=
  shapeCast S2048 (broadcastInDim S32x64 ![0, 1] bcast_S1x64_S32x64_0_1 (shapeCast S1x64 g shapeCasts_S64_S1x64)) shapeCasts_S32x64_S2048

def keyGains (g : FVec Ideal S64 .f32) : FVec Ideal S512 .f32 :=
  shapeCast S512 (broadcastInDim S8x64 ![0, 1] bcast_S1x64_S8x64_0_1 (shapeCast S1x64 g shapeCasts_S64_S1x64)) shapeCasts_S8x64_S512

theorem twice_at (x : FVec Ideal S9216x64 .f32) (r : Fin 9216) (j : Fin 128) : twice x (ix2 r j) = x (ix2 r ⟨(j : Nat) % 64, by omega⟩) := by
  pointwise [twice]

theorem three_at (a b : FVec Ideal S9216x8 .f32) (z : FVec Ideal S9216x48 .f32) (r : Fin 9216) (d : Fin 64) :
    three a b z (ix2 r d) = if h : (d : Nat) < 8 then a (ix2 r ⟨d, h⟩) else if h' : (d : Nat) - 8 < 8 then b (ix2 r ⟨(d : Nat) - 8, h'⟩) else z (ix2 r ⟨(d : Nat) - 8 - 8, by omega⟩) := by
  pointwise [three]

theorem two_at (a : FVec Ideal S9216x8 .f32) (z : FVec Ideal S9216x56 .f32) (r : Fin 9216) (d : Fin 64) :
    two a z (ix2 r d) = if h : (d : Nat) < 8 then a (ix2 r ⟨d, h⟩) else z (ix2 r ⟨(d : Nat) - 8, by omega⟩) := by
  pointwise [two]

theorem queryGains_at (g : FVec Ideal S64 .f32) (n : Fin 2048) : queryGains g (ix1 n) = g (ix1 ⟨(n : Nat) % 64, by omega⟩) := by
  pointwise [queryGains]

theorem keyGains_at (g : FVec Ideal S64 .f32) (n : Fin 512) : keyGains g (ix1 n) = g (ix1 ⟨(n : Nat) % 64, by omega⟩) := by
  pointwise [keyGains]

theorem columns_at (q : FVec Ideal S2048 .f32) (k v : FVec Ideal S512 .f32) (n : Fin 3072) :
    columns q k v (ix2 0 n) = if h : (n : Nat) < 2048 then q (ix1 ⟨n, h⟩) else if h' : (n : Nat) - 2048 < 512 then k (ix1 ⟨(n : Nat) - 2048, h'⟩) else v (ix1 ⟨(n : Nat) - 2048 - 512, by omega⟩) := by
  pointwise [columns]

variable (m : (ℓ : Loc nD τ sig) → Buf (Elt Ideal) ℓ) (c : Dev nD)

theorem cos_read : (StableHlo.upto hostOps0 (fun b => m (c, b)) 32 (Proc.tc.devRef main_v24_0) : FVec Ideal S9216x8 .f32) = Host.cos angles := by
  after_reads_simp
  rfl

theorem sin_read : (StableHlo.upto hostOps0 (fun b => m (c, b)) 41 (Proc.tc.devRef main_v24_1) : FVec Ideal S9216x8 .f32) = Host.sin angles := by
  after_reads_simp
  rfl

theorem neg_read : (StableHlo.upto hostOps0 (fun b => m (c, b)) 36 (Proc.tc.devRef main_v27) : FVec Ideal S9216x8 .f32) = Host.negf (Host.sin angles) := by
  after_reads_simp
  rfl

/-- Three equal pieces make equal tables. -/
theorem three_eq {a a' b b' : FVec Ideal S9216x8 .f32} {z z' : FVec Ideal S9216x48 .f32} (h1 : a = a') (h2 : b = b') (h3 : z = z') : twice (three a b z) = twice (three a' b' z') := by
  rw [h1, h2, h3]

theorem two_eq {a a' : FVec Ideal S9216x8 .f32} {z z' : FVec Ideal S9216x56 .f32} (h1 : a = a') (h3 : z = z') : twice (two a z) = twice (two a' z') := by
  rw [h1, h3]

theorem columns_eq {q q' : FVec Ideal S2048 .f32} {k k' v v' : FVec Ideal S512 .f32} (h1 : q = q') (h2 : k = k') (h3 : v = v') : columns q k v = columns q' k' v' := by
  rw [h1, h2, h3]

theorem cosines : (V m c main_v35 : FVec Ideal S9216x128 .f32)
    = twice (three (Host.cos angles) (Host.cos angles) (broadcastInDim S9216x48 ![] bcast_S_S9216x48 (constant S_ FTy.f32 1065353216#32))) := by
  unfold V
  after_reads_simp
  refine three_eq (cos_read m c) (cos_read m c) ?_
  show StableHlo.upto hostOps0 (fun b => m (c, b)) 32 (Proc.tc.devRef main_v25) = _
  after_reads_simp

theorem sinesA : (V m c main_v38 : FVec Ideal S9216x128 .f32)
    = twice (two (Host.negf (Host.sin angles)) (broadcastInDim S9216x56 ![] bcast_S_S9216x56 (constant S_ FTy.f32 0#32))) := by
  unfold V
  after_reads_simp
  refine two_eq (neg_read m c) ?_
  after_reads_simp

theorem sinesB : (V m c main_v41 : FVec Ideal S9216x128 .f32)
    = twice (three (broadcastInDim S9216x8 ![] bcast_S_S9216x8 (constant S_ FTy.f32 0#32)) (Host.sin angles) (broadcastInDim S9216x48 ![] bcast_S_S9216x48 (constant S_ FTy.f32 0#32))) := by
  unfold V
  after_reads_simp
  refine three_eq ?_ (sin_read m c) ?_
  · show StableHlo.upto hostOps0 (fun b => m (c, b)) 41 (Proc.tc.devRef main_v30) = _
    after_reads_simp
  · show StableHlo.upto hostOps0 (fun b => m (c, b)) 41 (Proc.tc.devRef main_v31) = _
    after_reads_simp

theorem gains : (V m c main_v50 : FVec Ideal S1x3072 .f32)
    = columns (queryGains (m ((c : Thread nD τ).loc main_arg2))) (keyGains (m ((c : Thread nD τ).loc main_arg3))) (broadcastInDim S512 ![] bcast_S_S512 (constant S_ FTy.f32 1065353216#32)) := by
  unfold V
  after_reads_simp
  refine columns_eq ?_ ?_ ?_
  · show StableHlo.upto hostOps0 (fun b => m (c, b)) 59 (Proc.tc.devRef main_v44) = _
    after_reads_simp
    rfl
  · show StableHlo.upto hostOps0 (fun b => m (c, b)) 59 (Proc.tc.devRef main_v47) = _
    after_reads_simp
    rfl
  · show StableHlo.upto hostOps0 (fun b => m (c, b)) 59 (Proc.tc.devRef main_v48) = _
    after_reads_simp

theorem one : Ideal.ofBits .f32 1065353216#32 = 1 := by
  simp [Ideal.ofBits, Ideal.ieee, -EReal.coe_mul]
  norm_num

theorem zero : Ideal.ofBits .f32 0#32 = 0 := Ideal.ofBits_zero .f32

theorem cosines_at (r : Fin 9216) (j : Fin 128) : (V m c main_v35 : FVec Ideal S9216x128 .f32) (ix2 r j)
    = if (j : Nat) % 64 < 8 then wave (Host.cos angles) r ((j : Nat) % 64) else if (j : Nat) % 64 < 16 then wave (Host.cos angles) r ((j : Nat) % 64 - 8) else 1 := by
  rw [cosines, twice_at, three_at]
  by_cases h8 : (j : Nat) % 64 < 8
  · rw [dif_pos h8, if_pos h8]
    exact wave_at _ r h8
  · rw [dif_neg h8, if_neg h8]
    by_cases h16 : (j : Nat) % 64 < 16
    · have h' : (j : Nat) % 64 - 8 < 8 := by omega
      rw [dif_pos h', if_pos h16]
      exact wave_at _ r h'
    · have h' : ¬(j : Nat) % 64 - 8 < 8 := by omega
      rw [dif_neg h', if_neg h16]
      exact one

theorem sinesA_at (r : Fin 9216) (j : Fin 128) : (V m c main_v38 : FVec Ideal S9216x128 .f32) (ix2 r j)
    = if (j : Nat) % 64 < 8 then -wave (Host.sin angles) r ((j : Nat) % 64) else 0 := by
  rw [sinesA, twice_at, two_at]
  by_cases h8 : (j : Nat) % 64 < 8
  · rw [dif_pos h8, if_pos h8]
    exact congrArg (fun x : EReal => -x) (wave_at (Host.sin angles) r h8)
  · rw [dif_neg h8, if_neg h8]
    exact zero

theorem sinesB_at (r : Fin 9216) (j : Fin 128) : (V m c main_v41 : FVec Ideal S9216x128 .f32) (ix2 r j)
    = if (j : Nat) % 64 < 8 then 0 else if (j : Nat) % 64 < 16 then wave (Host.sin angles) r ((j : Nat) % 64 - 8) else 0 := by
  rw [sinesB, twice_at, three_at]
  by_cases h8 : (j : Nat) % 64 < 8
  · rw [dif_pos h8, if_pos h8]
    exact zero
  · rw [dif_neg h8, if_neg h8]
    by_cases h16 : (j : Nat) % 64 < 16
    · have h' : (j : Nat) % 64 - 8 < 8 := by omega
      rw [dif_pos h', if_pos h16]
      exact wave_at _ r h'
    · have h' : ¬(j : Nat) % 64 - 8 < 8 := by omega
      rw [dif_neg h', if_neg h16]
      exact zero

theorem gains_at (n : Fin 3072) (hn : (n : Nat) < 2560) : (V m c main_v50 : FVec Ideal S1x3072 .f32) (ix2 0 n)
    = gain (if (n : Nat) < 2048 then m ((c : Thread nD τ).loc main_arg2) else m ((c : Thread nD τ).loc main_arg3)) ((n : Nat) % 64) := by
  rw [gains, columns_at]
  by_cases h : (n : Nat) < 2048
  · rw [dif_pos h, if_pos h, queryGains_at]
    exact gain_at _ _
  · have h' : (n : Nat) - 2048 < 512 := by omega
    have e : ((n : Nat) - 2048) % 64 = (n : Nat) % 64 := by omega
    rw [dif_neg h, if_neg h, dif_pos h', keyGains_at]
    exact (gain_at _ _).trans (congrArg _ e)

end Cert.Qkv
-- ==== Proof.Qkv.lean ====
/- The projection to queries, keys and values: one grid point's block, the array they make, and the value claim. -/
module

public import proofs.«01_k».proof.Defs
public import proofs.«01_k».proof.Proof.Whole
public import proofs.«01_k».proof.Proof.QkvEntry
public import proofs.«01_k».proof.Proof.Gen.Kernel1Ideal.Frame
public import proofs.«01_k».proof.Proof.Gen.Kernel1Ideal.Value
public import Idealize.ShloMosaic.Lib.Claim

@[expose] public section

set_option maxRecDepth 16384

noncomputable section

namespace Cert.Qkv

open Idealize.ShloMosaic Idealize.SL.Sem Idealize.ShloMosaic.TcCoe Idealize.ShloMosaic.Tactic
open Cert.Kernel1Ideal Cert.Kernel1Ideal.Gen

/-! ## What a point leaves -/

section
variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .f32) (harg8 : arg8.IsWhole) (arg9 : Memref sig .tc .vmem S4096x512 .bf16) (harg9 : arg9.IsWhole)

theorem trip_pieces (𝒱 : Variants) (bd : Option 𝒱.V) (k0_h1 : k0_cond1 i = 1#1) (x1 : Vec Ideal S4096x512 .f32) (k : Fin k0_t1_loop.trips) :
    ∀ p ∈ tripL_k0_t1 (F := Ideal) 𝒱 c bd i arg2 harg2 arg3 harg3 arg4 harg4 arg5 harg5 arg6 harg6 arg7 harg7 arg8 harg8 arg9 harg9 k0_h1 (harg3.unread x1) k, ∀ x : p.1.shape.Idx, p.2 x = x1 (p.1.emb x) := by
  unfold tripL_k0_t1 trip_k0_t1
  intro p hp x
  simp only [List.mem_singleton] at hp
  subst hp
  exact (cast_apply _ x).trans (Memref.IsWhole.readAt_unread harg3 x1 _ x)

theorem all_pieces (𝒱 : Variants) (bd : Option 𝒱.V) (k0_h1 : k0_cond1 i = 1#1) (x1 : Vec Ideal S4096x512 .f32) (n : Nat) :
    ∀ p ∈ pb_k0_t1 (F := Ideal) 𝒱 c bd i arg2 harg2 arg3 harg3 arg4 harg4 arg5 harg5 arg6 harg6 arg7 harg7 arg8 harg8 arg9 harg9 k0_h1 (harg3.unread x1) n, ∀ x : p.1.shape.Idx, p.2 x = x1 (p.1.emb x) := by
  induction n with
  | zero =>
    intro p hp
    exact absurd hp List.not_mem_nil
  | succ n ih =>
    intro p hp
    unfold pb_k0_t1 pb_k0_t1Step at hp
    split at hp
    · rcases List.mem_append.mp hp with hp | hp
      · exact trip_pieces c i arg2 harg2 arg3 harg3 arg4 harg4 arg5 harg5 arg6 harg6 arg7 harg7 arg8 harg8 arg9 harg9 𝒱 bd k0_h1 x1 _ p hp
      · exact ih p hp
    · exact ih p hp

theorem scratch_A (hc0 : cond0_0 i) (hc1 : cond0_1 i) (hc2 : ¬cond0_2 i) (x0 : Vec Ideal S1024x4096 .bf16) (x1 : Vec Ideal S4096x512 .f32) (x2 : Vec Ideal S1x512 .f32) (x3 x4 x5 : Vec Ideal S1024x128 .f32) :
    sout0_A_0 (F := Ideal) c i arg2 harg2 arg3 harg3 arg4 harg4 arg5 harg5 arg6 harg6 arg7 harg7 arg8 harg8 arg9 harg9 hc0 hc1 hc2 x0 x1 x2 x3 x4 x5 = x1 := by
  funext y
  unfold sout0_A_0
  rw [View.read_writes_junk_apply_eq_canon]
  exact View.canon_apply_of_pieces (Val := Elt Ideal) (e := .bf16) x1 _ (all_pieces c i arg2 harg2 arg3 harg3 arg4 harg4 arg5 harg5 arg6 harg6 arg7 harg7 arg8 harg8 arg9 harg9 Variants.none none _ x1 _) y
    (scover0_A_0 (F := Ideal) c i arg2 harg2 arg3 harg3 arg4 harg4 arg5 harg5 arg6 harg6 arg7 harg7 arg8 harg8 arg9 harg9 hc0 hc1 hc2 x0 x1 x2 x3 x4 x5 y)

theorem out_A (hc0 : cond0_0 i) (hc1 : cond0_1 i) (hc2 : ¬cond0_2 i) (x0 : Vec Ideal S1024x4096 .bf16) (x1 : Vec Ideal S4096x512 .f32) (x2 : Vec Ideal S1x512 .f32) (x3 x4 x5 : Vec Ideal S1024x128 .f32) (r : Fin 1024) (k : Fin 512) :
    out0_A_6 (F := Ideal) c i arg2 harg2 arg3 harg3 arg4 harg4 arg5 harg5 arg6 harg6 arg7 harg7 arg8 harg8 arg9 harg9 hc0 hc1 hc2 x0 x1 x2 x3 x4 x5 (ix2 r k) = tile (k0_pay3 (F := Ideal) x0 x1) x2 x3 x4 x5 (ix2 r k) := by
  have hw := scratch_A c i arg2 harg2 arg3 harg3 arg4 harg4 arg5 harg5 arg6 harg6 arg7 harg7 arg8 harg8 arg9 harg9 hc0 hc1 hc2 x0 x1 x2 x3 x4 x5
  unfold sout0_A_0 at hw
  rw [View.read_writes_junk_eq_canon] at hw
  unfold out0_A_6
  rw [View.read_writes_junk_eq_canon]
  refine (congrFun (View.canon_unit_zero Whole.zero_off _ _) _).trans ?_
  unfold kernelRun0_A.sl.r_1 kernelRun0_A.sl.r_2 kernelRun0_A.sl.r_3 kernelRun0_A.sl.r
  rw [Whole.load harg2 x0 Whole.zero_off, Whole.load harg4 x2 Whole.zero_off, Whole.load harg5 x3 Whole.zero_off, Whole.load harg6 x4 Whole.zero_off, Whole.load harg7 x5 Whole.zero_off, Whole.load_pieces _ _ Whole.zero_off]
  exact congrArg (fun w => tile (k0_pay3 (F := Ideal) x0 w) x2 x3 x4 x5 (ix2 r k)) hw

theorem scratch_B (hc0 : ¬cond0_0 i) (hc1 : cond0_1 i) (hc2 : ¬cond0_2 i) (x0 : Vec Ideal S1024x4096 .bf16) (x1 : Vec Ideal S4096x512 .f32) (x2 : Vec Ideal S1x512 .f32) (x3 x4 x5 : Vec Ideal S1024x128 .f32) (xs0 : Vec Ideal S4096x512 .bf16) :
    sout0_B_0 (F := Ideal) c i arg2 harg2 arg3 harg3 arg4 harg4 arg5 harg5 arg6 harg6 arg7 harg7 arg8 harg8 arg9 harg9 hc0 hc1 hc2 x0 x1 x2 x3 x4 x5 xs0 = xs0 :=
  rfl

theorem out_B (hc0 : ¬cond0_0 i) (hc1 : cond0_1 i) (hc2 : ¬cond0_2 i) (x0 : Vec Ideal S1024x4096 .bf16) (x1 : Vec Ideal S4096x512 .f32) (x2 : Vec Ideal S1x512 .f32) (x3 x4 x5 : Vec Ideal S1024x128 .f32) (xs0 : Vec Ideal S4096x512 .bf16) (r : Fin 1024) (k : Fin 512) :
    out0_B_6 (F := Ideal) c i arg2 harg2 arg3 harg3 arg4 harg4 arg5 harg5 arg6 harg6 arg7 harg7 arg8 harg8 arg9 harg9 hc0 hc1 hc2 x0 x1 x2 x3 x4 x5 xs0 (ix2 r k) = tile (k0_pay3 (F := Ideal) x0 xs0) x2 x3 x4 x5 (ix2 r k) := by
  unfold out0_B_6
  rw [View.read_writes_junk_eq_canon]
  refine (congrFun (View.canon_unit_zero Whole.zero_off _ _) _).trans ?_
  unfold kernelRun0_B.sl.r_1 kernelRun0_B.sl.r_2 kernelRun0_B.sl.r_3 kernelRun0_B.sl.r
  rw [Whole.load harg2 x0 Whole.zero_off, Whole.load harg4 x2 Whole.zero_off, Whole.load harg5 x3 Whole.zero_off, Whole.load harg6 x4 Whole.zero_off, Whole.load harg7 x5 Whole.zero_off, Whole.load harg9 xs0 Whole.zero_off]
  rfl

theorem scratch_C (hc0 : cond0_0 i) (hc1 : ¬cond0_1 i) (hc2 : cond0_2 i) (x0 : Vec Ideal S1024x4096 .bf16) (x1 : Vec Ideal S4096x512 .f32) (x2 : Vec Ideal S1x512 .f32) (x3 x4 x5 : Vec Ideal S1024x128 .f32) :
    sout0_C_0 (F := Ideal) c i arg2 harg2 arg3 harg3 arg4 harg4 arg5 harg5 arg6 harg6 arg7 harg7 arg8 harg8 arg9 harg9 hc0 hc1 hc2 x0 x1 x2 x3 x4 x5 = x1 := by
  funext y
  unfold sout0_C_0
  rw [View.read_writes_junk_apply_eq_canon]
  exact View.canon_apply_of_pieces (Val := Elt Ideal) (e := .bf16) x1 _ (all_pieces c i arg2 harg2 arg3 harg3 arg4 harg4 arg5 harg5 arg6 harg6 arg7 harg7 arg8 harg8 arg9 harg9 Variants.none none _ x1 _) y
    (scover0_C_0 (F := Ideal) c i arg2 harg2 arg3 harg3 arg4 harg4 arg5 harg5 arg6 harg6 arg7 harg7 arg8 harg8 arg9 harg9 hc0 hc1 hc2 x0 x1 x2 x3 x4 x5 y)

theorem out_C (hc0 : cond0_0 i) (hc1 : ¬cond0_1 i) (hc2 : cond0_2 i) (x0 : Vec Ideal S1024x4096 .bf16) (x1 : Vec Ideal S4096x512 .f32) (x2 : Vec Ideal S1x512 .f32) (x3 x4 x5 : Vec Ideal S1024x128 .f32) (r : Fin 1024) (k : Fin 512) :
    out0_C_6 (F := Ideal) c i arg2 harg2 arg3 harg3 arg4 harg4 arg5 harg5 arg6 harg6 arg7 harg7 arg8 harg8 arg9 harg9 hc0 hc1 hc2 x0 x1 x2 x3 x4 x5 (ix2 r k) = k0_pay4 (F := Ideal) x0 x1 (ix2 r k) := by
  have hw := scratch_C c i arg2 harg2 arg3 harg3 arg4 harg4 arg5 harg5 arg6 harg6 arg7 harg7 arg8 harg8 arg9 harg9 hc0 hc1 hc2 x0 x1 x2 x3 x4 x5
  unfold sout0_C_0 at hw
  rw [View.read_writes_junk_eq_canon] at hw
  unfold out0_C_6
  rw [View.read_writes_junk_eq_canon]
  refine (congrFun (View.canon_unit_zero Whole.zero_off _ _) _).trans ?_
  rw [Whole.load harg2 x0 Whole.zero_off, Whole.load_pieces _ _ Whole.zero_off]
  exact congrArg (fun w => k0_pay4 (F := Ideal) x0 w (ix2 r k)) hw

theorem scratch_D (hc0 : ¬cond0_0 i) (hc1 : ¬cond0_1 i) (hc2 : cond0_2 i) (x0 : Vec Ideal S1024x4096 .bf16) (x1 : Vec Ideal S4096x512 .f32) (x2 : Vec Ideal S1x512 .f32) (x3 x4 x5 : Vec Ideal S1024x128 .f32) (xs0 : Vec Ideal S4096x512 .bf16) :
    sout0_D_0 (F := Ideal) c i arg2 harg2 arg3 harg3 arg4 harg4 arg5 harg5 arg6 harg6 arg7 harg7 arg8 harg8 arg9 harg9 hc0 hc1 hc2 x0 x1 x2 x3 x4 x5 xs0 = xs0 :=
  rfl

theorem out_D (hc0 : ¬cond0_0 i) (hc1 : ¬cond0_1 i) (hc2 : cond0_2 i) (x0 : Vec Ideal S1024x4096 .bf16) (x1 : Vec Ideal S4096x512 .f32) (x2 : Vec Ideal S1x512 .f32) (x3 x4 x5 : Vec Ideal S1024x128 .f32) (xs0 : Vec Ideal S4096x512 .bf16) (r : Fin 1024) (k : Fin 512) :
    out0_D_6 (F := Ideal) c i arg2 harg2 arg3 harg3 arg4 harg4 arg5 harg5 arg6 harg6 arg7 harg7 arg8 harg8 arg9 harg9 hc0 hc1 hc2 x0 x1 x2 x3 x4 x5 xs0 (ix2 r k) = k0_pay4 (F := Ideal) x0 xs0 (ix2 r k) := by
  unfold out0_D_6
  rw [View.read_writes_junk_eq_canon]
  refine (congrFun (View.canon_unit_zero Whole.zero_off _ _) _).trans ?_
  rw [Whole.load harg2 x0 Whole.zero_off, Whole.load harg9 xs0 Whole.zero_off]
  rfl

end

/-! ## The blocks of the arguments -/

theorem index_at : ∀ t : Fin cfg0.N, win0_0.index t = ![(t : Nat) % 9, 0] ∧ win0_1.index t = ![0, (t : Nat) / 9 + 8]
    ∧ win0_2.index t = ![0, (t : Nat) / 9] ∧ win0_3.index t = ![(t : Nat) % 9, 0] ∧ win0_4.index t = ![(t : Nat) % 9, 0]
    ∧ win0_5.index t = ![(t : Nat) % 9, 0] ∧ win0_6.index t = ![(t : Nat) % 9, (t : Nat) / 9] := by decide +kernel

theorem points (t : Fin cfg0.N) : (t : Nat) < 54 := t.2

theorem at2 {α : Type} {n k : Nat} (f : (⟨2, ![n, k]⟩ : Shape).Idx → α) (a a' : Fin n) (b b' : Fin k) (h : (a : Nat) = (a' : Nat)) (h' : (b : Nat) = (b' : Nat)) : f (ix2 a b) = f (ix2 a' b') := by
  rw [Fin.ext h, Fin.ext h']

variable (m : (ℓ : Loc nD τ sig) → Buf (Elt Ideal) ℓ) (c : Dev nD)

theorem blk0 (t : Fin cfg0.N) (r : Fin 1024) (k : Fin 4096) :
    iblk m c 0 t (ix2 r k) = m ((c : Thread nD τ).loc main_arg0) (ix2 ⟨(t : Nat) % 9 * 1024 + r, by omega⟩ k) := by
  have h := points t
  blk_ext [iblk, V_main_arg0, index_at t]

theorem blk1 (t : Fin cfg0.N) (r : Fin 4096) (k : Fin 512) :
    iblk m c 1 t (ix2 r k) = m ((c : Thread nD τ).loc main_arg1) (ix2 r ⟨4096 + ((t : Nat) / 9 * 512 + k), by have := points t; omega⟩) := by
  have h := points t
  blk_ext [iblk, V_main_arg1, index_at t]

theorem blk2 (t : Fin cfg0.N) (k : Fin 512) :
    iblk m c 2 t (ix2 0 k) = (V m c main_v50 : FVec Ideal S1x3072 .f32) (ix2 0 ⟨(t : Nat) / 9 * 512 + k, by have := points t; omega⟩) := by
  have h := points t
  blk_ext [iblk, index_at t]

theorem blk3 (t : Fin cfg0.N) (r : Fin 1024) (j : Fin 128) :
    iblk m c 3 t (ix2 r j) = (V m c main_v35 : FVec Ideal S9216x128 .f32) (ix2 ⟨(t : Nat) % 9 * 1024 + r, by omega⟩ j) := by
  have h := points t
  blk_ext [iblk, index_at t]

theorem blk4 (t : Fin cfg0.N) (r : Fin 1024) (j : Fin 128) :
    iblk m c 4 t (ix2 r j) = (V m c main_v38 : FVec Ideal S9216x128 .f32) (ix2 ⟨(t : Nat) % 9 * 1024 + r, by omega⟩ j) := by
  have h := points t
  blk_ext [iblk, index_at t]

theorem blk5 (t : Fin cfg0.N) (r : Fin 1024) (j : Fin 128) :
    iblk m c 5 t (ix2 r j) = (V m c main_v41 : FVec Ideal S9216x128 .f32) (ix2 ⟨(t : Nat) % 9 * 1024 + r, by omega⟩ j) := by
  have h := points t
  blk_ext [iblk, index_at t]

theorem fst_of {α β : Type} {x : α × β} {a : α} {b : β} (h : x = (a, b)) : x.1 = a := by rw [h]

theorem snd_of {α β : Type} {x : α × β} {a : α} {b : β} (h : x = (a, b)) : x.2 = b := by rw [h]

/-- The scratch holds, through the nine points of a column, the cast block of the weights that the first of them wrote. -/
theorem held (t : Fin cfg0.N) (i : S4096x512.Idx) :
    (outsAt0 m c t.val t.isLt).2 i = iblk m c 1 ⟨9 * (t.val / 9), by have := points t; show _ < 54; omega⟩ i := by
  refine Pipeline.eq_of_write_hold_apply (fun n h (i : S4096x512.Idx) => (outsAt0 m c n h).2 i) 9 (fun t i => iblk m c 1 t i) ?_ ?_ t i
  · intro t h0 i
    by_cases h1 : t.val < 45
    · have h2 : ¬45 ≤ t.val := by omega
      exact (congrFun (snd_of (outsAt0_A m c t h0 h1 h2)) i).trans (congrFun (scratch_A _ _ _ _ _ _ _ _ _ _ _ _ _ _ _ _ _ _ _ _ _ _ _ _ _ _ _) i)
    · have h2 : 45 ≤ t.val := by omega
      exact (congrFun (snd_of (outsAt0_C m c t h0 h1 h2)) i).trans (congrFun (scratch_C _ _ _ _ _ _ _ _ _ _ _ _ _ _ _ _ _ _ _ _ _ _ _ _ _ _ _) i)
  · intro t h0 i
    by_cases h1 : t.val < 45
    · have h2 : ¬45 ≤ t.val := by omega
      exact (congrFun (snd_of (outsAt0_B m c t h0 h1 h2)) i).trans (congrFun (scratch_B _ _ _ _ _ _ _ _ _ _ _ _ _ _ _ _ _ _ _ _ _ _ _ _ _ _ _ _) i)
    · have h2 : 45 ≤ t.val := by omega
      exact (congrFun (snd_of (outsAt0_D m c t h0 h1 h2)) i).trans (congrFun (scratch_D _ _ _ _ _ _ _ _ _ _ _ _ _ _ _ _ _ _ _ _ _ _ _ _ _ _ _ _) i)

/-- The scratch a later point of a column reads holds that column's weights. -/
theorem held_before (t : Fin cfg0.N) (h0 : ¬t.val % 9 = 0) (e : Fin 4096) (k : Fin 512) :
    (outsAt0 m c (t.val - 1) (Nat.lt_of_le_of_lt (Nat.sub_le _ _) t.isLt)).2 (ix2 e k)
      = m ((c : Thread nD τ).loc main_arg1) (ix2 e ⟨4096 + ((t : Nat) / 9 * 512 + k), by have := points t; omega⟩) := by
  have h54 := points t
  refine (held m c ⟨t.val - 1, Nat.lt_of_le_of_lt (Nat.sub_le _ _) t.isLt⟩ (ix2 e k)).trans ((blk1 m c _ e k).trans (at2 _ _ _ _ _ rfl ?_))
  show 4096 + (9 * ((t.val - 1) / 9) / 9 * 512 + (k : Nat)) = 4096 + (t.val / 9 * 512 + k)
  omega

/-- A point's product is the reference's product at its rows and columns. -/
theorem products {x : FVec Ideal S1024x4096 .bf16} {w : FVec Ideal S4096x512 .bf16} {X : FVec Ideal S9216x4096 .bf16} {W : FVec Ideal S4096x15360 .f32}
    {r : Fin 1024} {k : Fin 512} {R : Fin 9216} {n : Nat} (hn : n < 3072) (hx : ∀ e, x (ix2 r e) = X (ix2 R e)) (hw : ∀ e, w (ix2 e k) = W (ix2 e ⟨4096 + n, by omega⟩)) :
    k0_pay3 (F := Ideal) x w (ix2 r k) = row (product X W) R n := by
  refine (product_apply x w r k).trans (Eq.trans ?_ (row_at _ R hn))
  refine Eq.trans ?_ (product_at X W R ⟨n, hn⟩).symm
  simp only [hx, hw]

/-- A point's normalised and turned block is the reference's at its rows and columns. -/
theorem turns (t : Fin cfg0.N) (h1 : (t : Nat) < 45) (w : FVec Ideal S4096x512 .bf16)
    (hw : ∀ e k, w (ix2 e k) = m ((c : Thread nD τ).loc main_arg1) (ix2 e ⟨4096 + ((t : Nat) / 9 * 512 + (k : Fin 512)), by have := points t; omega⟩)) (r : Fin 1024) (k : Fin 512) :
    tile (k0_pay3 (F := Ideal) (iblk m c 0 t) w) (iblk m c 2 t) (iblk m c 3 t) (iblk m c 4 t) (iblk m c 5 t) (ix2 r k)
      = turn (norm (row (product (m ((c : Thread nD τ).loc main_arg0)) (m ((c : Thread nD τ).loc main_arg1))) ⟨(t : Nat) % 9 * 1024 + r, by omega⟩)
          (gain (if (t : Nat) / 9 * 512 + (k : Nat) < 2048 then m ((c : Thread nD τ).loc main_arg2) else m ((c : Thread nD τ).loc main_arg3))))
          (wave (Host.cos angles) ⟨(t : Nat) % 9 * 1024 + r, by omega⟩) (wave (Host.sin angles) ⟨(t : Nat) % 9 * 1024 + r, by omega⟩) ((t : Nat) / 9 * 512 + k) := by
  have h54 := points t
  have hk := k.2
  refine tile_apply _ _ _ _ _ r k ((t : Nat) / 9) _ _ _ _ ?_ ?_ ?_ ?_ ?_
  · intro j
    exact products (by omega) (fun e => blk0 m c t r e) (fun e => hw e j)
  · intro j
    have hj := j.2
    refine (blk2 m c t j).trans ((gains_at m c _ (by show (t : Nat) / 9 * 512 + (j : Nat) < 2560; omega)).trans ?_)
    have e : ((t : Nat) / 9 * 512 + (j : Nat)) % 64 = (j : Nat) % 64 := by omega
    by_cases h : (t : Nat) / 9 * 512 + (k : Nat) < 2048
    · have h' : (t : Nat) / 9 * 512 + (j : Nat) < 2048 := by omega
      rw [if_pos h, if_pos h']
      exact congrArg _ e
    · have h' : ¬(t : Nat) / 9 * 512 + (j : Nat) < 2048 := by omega
      rw [if_neg h, if_neg h']
      exact congrArg _ e
  · intro j
    exact (blk3 m c t r j).trans (cosines_at m c _ j)
  · intro j
    exact (blk4 m c t r j).trans (sinesA_at m c _ j)
  · intro j
    exact (blk5 m c t r j).trans (sinesB_at m c _ j)

/-- One point's block of the result is the reference's. -/
theorem point (t : Fin cfg0.N) (r : Fin 1024) (k : Fin 512) :
    (outsAt0 m c t.val t.isLt).1 (ix2 r k)
      = result (m ((c : Thread nD τ).loc main_arg0)) (m ((c : Thread nD τ).loc main_arg1)) (m ((c : Thread nD τ).loc main_arg2)) (m ((c : Thread nD τ).loc main_arg3))
          (ix2 ⟨(t : Nat) % 9 * 1024 + r, by omega⟩ ⟨(t : Nat) / 9 * 512 + k, by have := points t; omega⟩) := by
  have h54 := points t
  have hk := k.2
  refine Eq.trans ?_ (result_at _ _ _ _ _ _).symm
  by_cases h1 : t.val < 45
  · have h2 : ¬45 ≤ t.val := by omega
    have hn : (t : Nat) / 9 * 512 + (k : Nat) < 2560 := by omega
    refine Eq.trans ?_ (if_pos hn).symm
    by_cases h0 : t.val % 9 = 0
    · exact (congrFun (fst_of (outsAt0_A m c t h0 h1 h2)) (ix2 r k)).trans ((out_A _ _ _ _ _ _ _ _ _ _ _ _ _ _ _ _ _ _ _ _ _ _ _ _ _ _ _ r k).trans (turns m c t h1 _ (fun e k => blk1 m c t e k) r k))
    · exact (congrFun (fst_of (outsAt0_B m c t h0 h1 h2)) (ix2 r k)).trans ((out_B _ _ _ _ _ _ _ _ _ _ _ _ _ _ _ _ _ _ _ _ _ _ _ _ _ _ _ _ r k).trans (turns m c t h1 _ (fun e k => held_before m c t h0 e k) r k))
  · have h2 : 45 ≤ t.val := by omega
    have hn : ¬(t : Nat) / 9 * 512 + (k : Nat) < 2560 := by omega
    refine Eq.trans ?_ (if_neg hn).symm
    by_cases h0 : t.val % 9 = 0
    · exact (congrFun (fst_of (outsAt0_C m c t h0 h1 h2)) (ix2 r k)).trans ((out_C _ _ _ _ _ _ _ _ _ _ _ _ _ _ _ _ _ _ _ _ _ _ _ _ _ _ _ r k).trans (products (by omega) (fun e => blk0 m c t r e) (fun e => blk1 m c t e k)))
    · exact (congrFun (fst_of (outsAt0_D m c t h0 h1 h2)) (ix2 r k)).trans ((out_D _ _ _ _ _ _ _ _ _ _ _ _ _ _ _ _ _ _ _ _ _ _ _ _ _ _ _ _ r k).trans (products (by omega) (fun e => blk0 m c t r e) (fun e => held_before m c t h0 e k)))

/-- The array ends at the reference's result. -/
theorem array :
    (dats m 0 c).arrAt 6 cfg0.N
      = result (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have h54 := points t
  obtain ⟨r, k, rfl⟩ : ∃ (r : Fin 1024) (k : Fin 512), y = ix2 r k := ⟨y 0, y 1, funext fun b => by match b with | ⟨0, _⟩ => rfl | ⟨1, _⟩ => rfl⟩
  blk_simp
  rw [after0_6]
  refine (point m c t r k).trans (congrArg _ ?_)
  blk_ext [index_at t]

/-- The value claim. -/
theorem values : Cert.algebraic_Kernel1Ideal_Reference1Ideal := by
  intro m g m' g' hpre hargs
  refine ⟨fun c => result (m' ((c.tc : Thread nD τ).loc Cert.Reference1Ideal.main_arg0)) (m' ((c.tc : Thread nD τ).loc Cert.Reference1Ideal.main_arg1))
    (m' ((c.tc : Thread nD τ).loc Cert.Reference1Ideal.main_arg2)) (m' ((c.tc : Thread nD τ).loc Cert.Reference1Ideal.main_arg3)), ?_, ?_⟩
  · refine (θ_run defs _ _).mono (fun _ h c => ⟨(h c).1.trans ?_, (h c).2⟩) (Cert.Kernel1Ideal.Value.run m g)
    beta_reduce
    rw [(hargs c).1, (hargs c).2.1, (hargs c).2.2.1, (hargs c).2.2.2]
    exact (Cert.Kernel1Ideal.Value.final6 m c).symm.trans (array m c)
  · exact (θ_run Cert.Reference1Ideal.defs _ _).mono (fun _ h c => ⟨(h c).1.trans (result_eq m' c), (h c).2⟩) (Cert.Reference1Ideal.Value.run m' g')

end Cert.Qkv
-- ==== Proof.lean ====
/-
  The claims, assembled. The kernels' frames are their generated runs; each reference is a line of host operations; the values are
  Proof/Value.lean's for the first call, Proof/Merge.lean's for the merge, Proof/OutProj.lean's for the output projection
  and Proof/Qkv.lean's for the projection to queries, keys and values.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Merge
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.OutProj
public import proofs.«01_k».proof.Proof.Gen.Kernel1
public import proofs.«01_k».proof.Proof.Gen.Kernel1.Frame
public import proofs.«01_k».proof.Proof.Gen.Kernel1Ideal
public import proofs.«01_k».proof.Proof.Gen.Kernel1Ideal.Frame
public import proofs.«01_k».proof.Proof.Gen.Kernel1Ideal.Value
public import proofs.«01_k».proof.Proof.Gen.Reference1Ideal
public import proofs.«01_k».proof.Proof.Gen.Reference1Ideal.Run
public import proofs.«01_k».proof.Proof.Qkv
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel's frame at machine words. -/
theorem frame_kernel : Cert.quiescent_Kernel := fun m ρ _ => Cert.Kernel.Gen.frame m ρ

/-- The ideal kernel's frame. -/
theorem frame_ideal : Cert.quiescent_KernelIdeal := fun m ρ _ => Cert.KernelIdeal.Gen.frame m ρ

/-- The reference's frame: its program has no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩) (Cert.RefRun.run m ρ)

/-- The merge's reference's frame. -/
theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

/-- The output projection's reference's frame. -/
theorem frame_reference4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

/-- The frame of the reference of the projection to queries, keys and values. -/
theorem frame_reference1 : Cert.quiescent_Reference1Ideal := fun m ρ _ =>
  (θ_run Cert.Reference1Ideal.defs _ _).mono
    (fun r h => ⟨fun c => (h c).2, sem_eq_zero_of_no_sems (by decide) r.2⟩) (Cert.Reference1Ideal.Value.run m ρ)

/-- The certificate's claim. -/
theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel1.Gen.facts, Cert.Kernel1Ideal.Gen.facts, Cert.Reference1Ideal.Gen.facts, Cert.Attn.preFacts,
  frame_kernel, frame_ideal, fun m ρ _ => Cert.KernelIdeal.Gen.frame m ρ, frame_reference, fun m ρ _ => frame_reference m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel1.Gen.frame m ρ, fun m ρ _ => Cert.Kernel1Ideal.Gen.frame m ρ, frame_reference1,
  trivial, Cert.Attn.values, trivial, Cert.Merge.values, trivial, Cert.OutProj.values,
  trivial, Cert.Qkv.values⟩

end Cert.Proof

end
